-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)) (v3 : (c : Dev Cert.KernelIdeal.nD) → Buf (Elt Ideal) ((c.tc : Thread Cert.KernelIdeal.nD Cert.KernelIdeal.τ).loc Cert.KernelIdeal.main_v70_3)) (v4 : (c : Dev Cert.KernelIdeal.nD) → Buf (Elt Ideal) ((c.tc : Thread Cert.KernelIdeal.nD Cert.KernelIdeal.τ).loc Cert.KernelIdeal.main_v70_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70_0) = v0 c
          ∧ r.2.mem ((c.tc : Thread Cert.KernelIdeal.nD Cert.KernelIdeal.τ).loc Cert.KernelIdeal.main_v70_1) = v1 c
          ∧ r.2.mem ((c.tc : Thread Cert.KernelIdeal.nD Cert.KernelIdeal.τ).loc Cert.KernelIdeal.main_v70_2) = v2 c
          ∧ r.2.mem ((c.tc : Thread Cert.KernelIdeal.nD Cert.KernelIdeal.τ).loc Cert.KernelIdeal.main_v70_3) = v3 c
          ∧ r.2.mem ((c.tc : Thread Cert.KernelIdeal.nD Cert.KernelIdeal.τ).loc Cert.KernelIdeal.main_v70_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v83) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_v7) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v5) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v30) = v1 c
          ∧ r.2.mem ((c.tc : Thread Cert.Reference20Ideal.nD Cert.Reference20Ideal.τ).loc Cert.Reference20Ideal.main_v11) = v2 c
          ∧ r.2.mem ((c.tc : Thread Cert.Reference20Ideal.nD Cert.Reference20Ideal.τ).loc Cert.Reference20Ideal.main_v17) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_v30) = v1 c
          ∧ r.2.mem ((c.tc : Thread Cert.Reference21Ideal.nD Cert.Reference21Ideal.τ).loc Cert.Reference21Ideal.main_v11) = v2 c
          ∧ r.2.mem ((c.tc : Thread Cert.Reference21Ideal.nD Cert.Reference21Ideal.τ).loc Cert.Reference21Ideal.main_v17) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_v30) = v1 c
          ∧ r.2.mem ((c.tc : Thread Cert.Reference22Ideal.nD Cert.Reference22Ideal.τ).loc Cert.Reference22Ideal.main_v11) = v2 c
          ∧ r.2.mem ((c.tc : Thread Cert.Reference22Ideal.nD Cert.Reference22Ideal.τ).loc Cert.Reference22Ideal.main_v17) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_v30) = v1 c
          ∧ r.2.mem ((c.tc : Thread Cert.Reference23Ideal.nD Cert.Reference23Ideal.τ).loc Cert.Reference23Ideal.main_v11) = v2 c
          ∧ r.2.mem ((c.tc : Thread Cert.Reference23Ideal.nD Cert.Reference23Ideal.τ).loc Cert.Reference23Ideal.main_v17) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_v30) = v1 c
          ∧ r.2.mem ((c.tc : Thread Cert.Reference24Ideal.nD Cert.Reference24Ideal.τ).loc Cert.Reference24Ideal.main_v11) = v2 c
          ∧ r.2.mem ((c.tc : Thread Cert.Reference24Ideal.nD Cert.Reference24Ideal.τ).loc Cert.Reference24Ideal.main_v17) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_v30) = v1 c
          ∧ r.2.mem ((c.tc : Thread Cert.Reference25Ideal.nD Cert.Reference25Ideal.τ).loc Cert.Reference25Ideal.main_v11) = v2 c
          ∧ r.2.mem ((c.tc : Thread Cert.Reference25Ideal.nD Cert.Reference25Ideal.τ).loc Cert.Reference25Ideal.main_v17) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_v24) = v1 c
          ∧ r.2.mem ((c.tc : Thread Cert.Reference26Ideal.nD Cert.Reference26Ideal.τ).loc Cert.Reference26Ideal.main_v5) = v2 c
          ∧ r.2.mem ((c.tc : Thread Cert.Reference26Ideal.nD Cert.Reference26Ideal.τ).loc Cert.Reference26Ideal.main_v11) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_v28) = v1 c
          ∧ r.2.mem ((c.tc : Thread Cert.Reference27Ideal.nD Cert.Reference27Ideal.τ).loc Cert.Reference27Ideal.main_v9) = v2 c
          ∧ r.2.mem ((c.tc : Thread Cert.Reference27Ideal.nD Cert.Reference27Ideal.τ).loc Cert.Reference27Ideal.main_v15) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v5) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v6) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v6) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v3) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v5) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v4) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v5) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite.lean ====
abbrev S4352x1024 : Shape := ⟨2, ![4352, 1024]⟩
abbrev S4352x128 : Shape := ⟨2, ![4352, 128]⟩
abbrev S_ : Shape := ⟨0, ![]⟩

class Facts : Prop where
  bitsLt_bf16_f32 : FTy.bits .bf16 < FTy.bits .f32
  bcast_S_S4352x1024 : S_.BroadcastsInDim S4352x1024 (![] : Fin 0 → Fin S4352x1024.rank)
  bcast_S_S4352x128 : S_.BroadcastsInDim S4352x128 (![] : Fin 0 → Fin S4352x128.rank)

variable [Facts]

def fn_part1 {F : FTy → Type} [FloatOps F] (main_arg5 : FVec F S4352x1024 .bf16) (main_v3 : IVec S4352x1024 1) (main_v7 : IVec S4352x1024 1) (main_v11 : IVec S4352x1024 1) (main_v15 : IVec S4352x128 1) (main_v17 : FVec F S4352x1024 .f32) (main_v18 : FVec F S4352x1024 .f32) : IVec S4352x1024 1 × IVec S4352x1024 1 × IVec S4352x1024 1 × IVec S4352x128 1 × IVec S4352x1024 1 × IVec S4352x1024 1 :=
  let main_v19 : IVec S4352x1024 1 := cmpf .olt main_v17 main_v18
  let main_v20 : FVec F S4352x1024 .f32 := (extf .f32 · bitsLt_bf16_f32) main_arg5
  let main_v21 : FVec F S4352x1024 .f32 := Host.absf main_v20
  let main_cst_4 : FVec F S_ .f32 := constant S_ .f32 0x7F800000#32
  let main_v22 : FVec F S4352x1024 .f32 := broadcastInDim S4352x1024 ![] bcast_S_S4352x1024 main_cst_4
  let main_v23 : IVec S4352x1024 1 := cmpf .olt main_v21 main_v22
  (main_v3, main_v7, main_v11, main_v15, main_v19, main_v23)

def fn {F : FTy → Type} [FloatOps F] (main_arg0 : FVec F S4352x1024 .bf16) (main_arg1 : FVec F S4352x1024 .bf16) (main_arg2 : FVec F S4352x1024 .bf16) (main_arg3 : FVec F S4352x128 .bf16) (main_arg4 : FVec F S4352x1024 .bf16) (main_arg5 : FVec F S4352x1024 .bf16) : IVec S4352x1024 1 × IVec S4352x1024 1 × IVec S4352x1024 1 × IVec S4352x128 1 × IVec S4352x1024 1 × IVec S4352x1024 1 :=
  let main_v0 : FVec F S4352x1024 .f32 := (extf .f32 · bitsLt_bf16_f32) main_arg0
  let main_v1 : FVec F S4352x1024 .f32 := Host.absf main_v0
  let main_cst : FVec F S_ .f32 := constant S_ .f32 0x7F800000#32
  let main_v2 : FVec F S4352x1024 .f32 := broadcastInDim S4352x1024 ![] bcast_S_S4352x1024 main_cst
  let main_v3 : IVec S4352x1024 1 := cmpf .olt main_v1 main_v2
  let main_v4 : FVec F S4352x1024 .f32 := (extf .f32 · bitsLt_bf16_f32) main_arg1
  let main_v5 : FVec F S4352x1024 .f32 := Host.absf main_v4
  let main_cst_0 : FVec F S_ .f32 := constant S_ .f32 0x7F800000#32
  let main_v6 : FVec F S4352x1024 .f32 := broadcastInDim S4352x1024 ![] bcast_S_S4352x1024 main_cst_0
  let main_v7 : IVec S4352x1024 1 := cmpf .olt main_v5 main_v6
  let main_v8 : FVec F S4352x1024 .f32 := (extf .f32 · bitsLt_bf16_f32) main_arg2
  let main_v9 : FVec F S4352x1024 .f32 := Host.absf main_v8
  let main_cst_1 : FVec F S_ .f32 := constant S_ .f32 0x7F800000#32
  let main_v10 : FVec F S4352x1024 .f32 := broadcastInDim S4352x1024 ![] bcast_S_S4352x1024 main_cst_1
  let main_v11 : IVec S4352x1024 1 := cmpf .olt main_v9 main_v10
  let main_v12 : FVec F S4352x128 .f32 := (extf .f32 · bitsLt_bf16_f32) main_arg3
  let main_v13 : FVec F S4352x128 .f32 := Host.absf main_v12
  let main_cst_2 : FVec F S_ .f32 := constant S_ .f32 0x7F800000#32
  let main_v14 : FVec F S4352x128 .f32 := broadcastInDim S4352x128 ![] bcast_S_S4352x128 main_cst_2
  let main_v15 : IVec S4352x128 1 := cmpf .olt main_v13 main_v14
  let main_v16 : FVec F S4352x1024 .f32 := (extf .f32 · bitsLt_bf16_f32) main_arg4
  let main_v17 : FVec F S4352x1024 .f32 := Host.absf main_v16
  let main_cst_3 : FVec F S_ .f32 := constant S_ .f32 0x7F800000#32
  let main_v18 : FVec F S4352x1024 .f32 := broadcastInDim S4352x1024 ![] bcast_S_S4352x1024 main_cst_3
  fn_part1 (F := F) main_arg5 main_v3 main_v7 main_v11 main_v15 main_v17 main_v18
-- ==== Kernel.lean ====
abbrev S4352x1024 : Shape := ⟨2, ![4352, 1024]⟩
abbrev S4352x128 : Shape := ⟨2, ![4352, 128]⟩
abbrev S4352x1x128 : Shape := ⟨3, ![4352, 1, 128]⟩
abbrev S4352x8x128 : Shape := ⟨3, ![4352, 8, 128]⟩
abbrev S2x2176x8x128 : Shape := ⟨4, ![2, 2176, 8, 128]⟩
abbrev S2x8x2176x2176 : Shape := ⟨4, ![2, 8, 2176, 2176]⟩
abbrev S_ : Shape := ⟨0, ![]⟩
abbrev S2176x2176 : Shape := ⟨2, ![2176, 2176]⟩
abbrev S2x8x2176 : Shape := ⟨3, ![2, 8, 2176]⟩
abbrev S2x8x2176x1 : Shape := ⟨4, ![2, 8, 2176, 1]⟩
abbrev S2x8x128x2176 : Shape := ⟨4, ![2, 8, 128, 2176]⟩
abbrev S2x8x128 : Shape := ⟨3, ![2, 8, 128]⟩
abbrev S2x8x1024 : Shape := ⟨3, ![2, 8, 1024]⟩
abbrev S2x8x1x1024 : Shape := ⟨4, ![2, 8, 1, 1024]⟩
abbrev S2x8x3x1024 : Shape := ⟨4, ![2, 8, 3, 1024]⟩
abbrev S2x8x3x1x1024 : Shape := ⟨5, ![2, 8, 3, 1, 1024]⟩
abbrev S2x8x3x8x1024 : Shape := ⟨5, ![2, 8, 3, 8, 1024]⟩
abbrev S2176x128 : Shape := ⟨2, ![2176, 128]⟩
abbrev S1x1x3x8x1024 : Shape := ⟨5, ![1, 1, 3, 8, 1024]⟩
abbrev S2176x256 : Shape := ⟨2, ![2176, 256]⟩
abbrev S3x8x1024 : Shape := ⟨3, ![3, 8, 1024]⟩
abbrev S128x128 : Shape := ⟨2, ![128, 128]⟩
abbrev S128 : Shape := ⟨1, ![128]⟩
abbrev S128x1 : Shape := ⟨2, ![128, 1]⟩
abbrev S8x128 : Shape := ⟨2, ![8, 128]⟩
abbrev S1x8x128 : Shape := ⟨3, ![1, 8, 128]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S8x1024 : Shape := ⟨2, ![8, 1024]⟩
abbrev S1x8x1024 : Shape := ⟨3, ![1, 8, 1024]⟩
abbrev S128x256 : Shape := ⟨2, ![128, 256]⟩
abbrev S128x2176 : Shape := ⟨2, ![128, 2176]⟩
abbrev S128x2048 : Shape := ⟨2, ![128, 2048]⟩
abbrev S1x128 : Shape := ⟨2, ![1, 128]⟩
abbrev S1x1024 : Shape := ⟨2, ![1, 1024]⟩
abbrev S1x2176 : Shape := ⟨2, ![1, 2176]⟩
abbrev S1024x256 : Shape := ⟨2, ![1024, 256]⟩
abbrev S2048x256 : Shape := ⟨2, ![2048, 256]⟩
abbrev S2048x128 : Shape := ⟨2, ![2048, 128]⟩
abbrev S1024x2048 : Shape := ⟨2, ![1024, 2048]⟩
abbrev S1024x1024 : Shape := ⟨2, ![1024, 1024]⟩
abbrev S1x2048 : Shape := ⟨2, ![1, 2048]⟩

abbrev nBuf : Space → Nat
  | .hbm => 98
  | .vmem => 28
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x128, .bf16⟩
  | .hbm, ⟨4, _⟩ => ⟨S4352x1024, .bf16⟩
  | .hbm, ⟨5, _⟩ => ⟨S4352x1024, .bf16⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S4352x128, .f32⟩
  | .hbm, ⟨10, _⟩ => ⟨S4352x1x128, .f32⟩
  | .hbm, ⟨11, _⟩ => ⟨S4352x8x128, .f32⟩
  | .hbm, ⟨12, _⟩ => ⟨S4352x1024, .f32⟩
  | .hbm, ⟨13, _⟩ => ⟨S4352x1024, .f32⟩
  | .hbm, ⟨14, _⟩ => ⟨S2x2176x8x128, .f32⟩
  | .hbm, ⟨15, _⟩ => ⟨S2x2176x8x128, .f32⟩
  | .hbm, ⟨16, _⟩ => ⟨S2x2176x8x128, .f32⟩
  | .hbm, ⟨17, _⟩ => ⟨S2x2176x8x128, .f32⟩
  | .hbm, ⟨18, _⟩ => ⟨S2x8x2176x2176, .f32⟩
  | .hbm, ⟨19, _⟩ => ⟨S2x8x2176x2176, .f32⟩
  | .hbm, ⟨20, _⟩ => ⟨S2x8x2176x2176, .f32⟩
  | .hbm, ⟨21, _⟩ => ⟨S_, .f32⟩
  | .hbm, ⟨22, _⟩ => ⟨S2x8x2176x2176, .f32⟩
  | .hbm, ⟨23, _⟩ => ⟨S2x8x2176x2176, .f32⟩
  | .hbm, ⟨24, _⟩ => ⟨S2176x2176, .i32⟩
  | .hbm, ⟨25, _⟩ => ⟨S2176x2176, .i32⟩
  | .hbm, ⟨26, _⟩ => ⟨S2176x2176, .i1⟩
  | .hbm, ⟨27, _⟩ => ⟨S_, .f32⟩
  | .hbm, ⟨28, _⟩ => ⟨S_, .f32⟩
  | .hbm, ⟨29, _⟩ => ⟨S2x8x2176x2176, .i1⟩
  | .hbm, ⟨30, _⟩ => ⟨S2x8x2176x2176, .f32⟩
  | .hbm, ⟨31, _⟩ => ⟨S2x8x2176x2176, .f32⟩
  | .hbm, ⟨32, _⟩ => ⟨S_, .f32⟩
  | .hbm, ⟨33, _⟩ => ⟨S2x8x2176, .f32⟩
  | .hbm, ⟨34, _⟩ => ⟨S_, .f32⟩
  | .hbm, ⟨35, _⟩ => ⟨S2x8x2176, .f32⟩
  | .hbm, ⟨36, _⟩ => ⟨S2x8x2176, .f32⟩
  | .hbm, ⟨37, _⟩ => ⟨S2x8x2176x1, .f32⟩
  | .hbm, ⟨38, _⟩ => ⟨S2x8x2176x2176, .f32⟩
  | .hbm, ⟨39, _⟩ => ⟨S2x8x2176x2176, .f32⟩
  | .hbm, ⟨40, _⟩ => ⟨S2x8x2176x2176, .f32⟩
  | .hbm, ⟨41, _⟩ => ⟨S_, .f32⟩
  | .hbm, ⟨42, _⟩ => ⟨S2x8x2176, .f32⟩
  | .hbm, ⟨43, _⟩ => ⟨S2x8x2176x1, .f32⟩
  | .hbm, ⟨44, _⟩ => ⟨S2x8x2176x2176, .f32⟩
  | .hbm, ⟨45, _⟩ => ⟨S2x8x2176x2176, .f32⟩
  | .hbm, ⟨46, _⟩ => ⟨S2x2176x8x128, .f32⟩
  | .hbm, ⟨47, _⟩ => ⟨S2x8x128x2176, .f32⟩
  | .hbm, ⟨48, _⟩ => ⟨S2x2176x8x128, .f32⟩
  | .hbm, ⟨49, _⟩ => ⟨S4352x1024, .f32⟩
  | .hbm, ⟨50, _⟩ => ⟨S4352x1024, .bf16⟩
  | .hbm, ⟨51, _⟩ => ⟨S2x2176x8x128, .f32⟩
  | .hbm, ⟨52, _⟩ => ⟨S2x2176x8x128, .f32⟩
  | .hbm, ⟨53, _⟩ => ⟨S2x2176x8x128, .f32⟩
  | .hbm, ⟨54, _⟩ => ⟨S2x2176x8x128, .f32⟩
  | .hbm, ⟨55, _⟩ => ⟨S2x8x2176x2176, .f32⟩
  | .hbm, ⟨56, _⟩ => ⟨S2x8x2176x2176, .f32⟩
  | .hbm, ⟨57, _⟩ => ⟨S2x8x2176x2176, .f32⟩
  | .hbm, ⟨58, _⟩ => ⟨S_, .f32⟩
  | .hbm, ⟨59, _⟩ => ⟨S2x8x2176x2176, .f32⟩
  | .hbm, ⟨60, _⟩ => ⟨S2x8x2176x2176, .f32⟩
  | .hbm, ⟨61, _⟩ => ⟨S2176x2176, .i32⟩
  | .hbm, ⟨62, _⟩ => ⟨S2176x2176, .i32⟩
  | .hbm, ⟨63, _⟩ => ⟨S2176x2176, .i1⟩
  | .hbm, ⟨64, _⟩ => ⟨S_, .f32⟩
  | .hbm, ⟨65, _⟩ => ⟨S_, .f32⟩
  | .hbm, ⟨66, _⟩ => ⟨S2x8x2176x2176, .i1⟩
  | .hbm, ⟨67, _⟩ => ⟨S2x8x2176x2176, .f32⟩
  | .hbm, ⟨68, _⟩ => ⟨S2x8x2176x2176, .f32⟩
  | .hbm, ⟨69, _⟩ => ⟨S_, .f32⟩
  | .hbm, ⟨70, _⟩ => ⟨S2x8x2176, .f32⟩
  | .hbm, ⟨71, _⟩ => ⟨S2x8x2176x1, .f32⟩
  | .hbm, ⟨72, _⟩ => ⟨S2x8x2176x2176, .f32⟩
  | .hbm, ⟨73, _⟩ => ⟨S2x8x2176x2176, .f32⟩
  | .hbm, ⟨74, _⟩ => ⟨S2x8x2176x2176, .f32⟩
  | .hbm, ⟨75, _⟩ => ⟨S_, .f32⟩
  | .hbm, ⟨76, _⟩ => ⟨S2x8x2176, .f32⟩
  | .hbm, ⟨77, _⟩ => ⟨S2x8x2176x1, .f32⟩
  | .hbm, ⟨78, _⟩ => ⟨S2x8x2176x1, .f32⟩
  | .hbm, ⟨79, _⟩ => ⟨S2x8x2176x1, .f32⟩
  | .hbm, ⟨80, _⟩ => ⟨S2x8x2176, .f32⟩
  | .hbm, ⟨81, _⟩ => ⟨S2x8x128, .f32⟩
  | .hbm, ⟨82, _⟩ => ⟨S_, .i32⟩
  | .hbm, ⟨83, _⟩ => ⟨S_, .f32⟩
  | .hbm, ⟨84, _⟩ => ⟨S2x8x1024, .f32⟩
  | .hbm, ⟨85, _⟩ => ⟨S2x8x1024, .f32⟩
  | .hbm, ⟨86, _⟩ => ⟨S2x8x1024, .f32⟩
  | .hbm, ⟨87, _⟩ => ⟨S2x8x1x1024, .f32⟩
  | .hbm, ⟨88, _⟩ => ⟨S2x8x1x1024, .f32⟩
  | .hbm, ⟨89, _⟩ => ⟨S2x8x1x1024, .f32⟩
  | .hbm, ⟨90, _⟩ => ⟨S2x8x3x1024, .f32⟩
  | .hbm, ⟨91, _⟩ => ⟨S2x8x3x1x1024, .f32⟩
  | .hbm, ⟨92, _⟩ => ⟨S2x8x3x8x1024, .f32⟩
  | .hbm, ⟨93, _⟩ => ⟨S4352x1024, .f32⟩
  | .hbm, ⟨94, _⟩ => ⟨S4352x1024, .f32⟩
  | .hbm, ⟨95, _⟩ => ⟨S4352x1024, .bf16⟩
  | .hbm, ⟨96, _⟩ => ⟨S4352x1024, .f32⟩
  | .hbm, ⟨97, _⟩ => ⟨S4352x1024, .bf16⟩
  | .local _ .vmem, ⟨0, _⟩ => ⟨S2176x128, .bf16⟩
  | .local _ .vmem, ⟨1, _⟩ => ⟨S2176x128, .bf16⟩
  | .local _ .vmem, ⟨2, _⟩ => ⟨S2176x128, .bf16⟩
  | .local _ .vmem, ⟨3, _⟩ => ⟨S2176x128, .bf16⟩
  | .local _ .vmem, ⟨4, _⟩ => ⟨S2176x128, .bf16⟩
  | .local _ .vmem, ⟨5, _⟩ => ⟨S2176x128, .bf16⟩
  | .local _ .vmem, ⟨6, _⟩ => ⟨S2176x128, .bf16⟩
  | .local _ .vmem, ⟨7, _⟩ => ⟨S2176x128, .bf16⟩
  | .local _ .vmem, ⟨8, _⟩ => ⟨S2176x128, .bf16⟩
  | .local _ .vmem, ⟨9, _⟩ => ⟨S2176x128, .bf16⟩
  | .local _ .vmem, ⟨10, _⟩ => ⟨S2176x128, .bf16⟩
  | .local _ .vmem, ⟨11, _⟩ => ⟨S2176x128, .bf16⟩
  | .local _ .vmem, ⟨12, _⟩ => ⟨S2176x128, .bf16⟩
  | .local _ .vmem, ⟨13, _⟩ => ⟨S2176x128, .bf16⟩
  | .local _ .vmem, ⟨14, _⟩ => ⟨S1x1x3x8x1024, .f32⟩
  | .local _ .vmem, ⟨15, _⟩ => ⟨S1x1x3x8x1024, .f32⟩
  | .local _ .vmem, ⟨16, _⟩ => ⟨S2176x128, .f32⟩
  | .local _ .vmem, ⟨17, _⟩ => ⟨S2176x128, .f32⟩
  | .local _ .vmem, ⟨18, _⟩ => ⟨S2176x128, .f32⟩
  | .local _ .vmem, ⟨19, _⟩ => ⟨S2176x128, .f32⟩
  | .local _ .vmem, ⟨20, _⟩ => ⟨S2176x128, .bf16⟩
  | .local _ .vmem, ⟨21, _⟩ => ⟨S2176x128, .bf16⟩
  | .local _ .vmem, ⟨22, _⟩ => ⟨S2176x128, .f32⟩
  | .local _ .vmem, ⟨23, _⟩ => ⟨S2176x128, .f32⟩
  | .local _ .vmem, ⟨24, _⟩ => ⟨S2176x128, .bf16⟩
  | .local _ .vmem, ⟨25, _⟩ => ⟨S2176x128, .bf16⟩
  | .local _ .vmem, ⟨26, _⟩ => ⟨S2176x256, .bf16⟩
  | .local _ .vmem, ⟨27, _⟩ => ⟨S3x8x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v49 : Ref sig .tc := ⟨.hbm, 68, rfl⟩
abbrev main_cst_6 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_call2_v0 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70_0 : Ref sig .tc := ⟨.hbm, 93, rfl⟩
abbrev main_v70_1 : Ref sig .tc := ⟨.hbm, 94, rfl⟩
abbrev main_v70_2 : Ref sig .tc := ⟨.hbm, 95, rfl⟩
abbrev main_v70_3 : Ref sig .tc := ⟨.hbm, 96, rfl⟩
abbrev main_v70_4 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 8, 3], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2176x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2176x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2176x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2176x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x3x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2176x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2176x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2176x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S2176x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S2176x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ReferenceIdeal.lean ====
abbrev S4352x1024 : Shape := ⟨2, ![4352, 1024]⟩
abbrev S4352x128 : Shape := ⟨2, ![4352, 128]⟩
abbrev S4352x1x128 : Shape := ⟨3, ![4352, 1, 128]⟩
abbrev S4352x8x128 : Shape := ⟨3, ![4352, 8, 128]⟩
abbrev S2x2176x8x128 : Shape := ⟨4, ![2, 2176, 8, 128]⟩
abbrev S2x8x2176x2176 : Shape := ⟨4, ![2, 8, 2176, 2176]⟩
abbrev S_ : Shape := ⟨0, ![]⟩
abbrev S2176x2176 : Shape := ⟨2, ![2176, 2176]⟩
abbrev S2x8x2176 : Shape := ⟨3, ![2, 8, 2176]⟩
abbrev S2x8x2176x1 : Shape := ⟨4, ![2, 8, 2176, 1]⟩
abbrev S2x8x128x2176 : Shape := ⟨4, ![2, 8, 128, 2176]⟩
abbrev S2x8x2176x128 : Shape := ⟨4, ![2, 8, 2176, 128]⟩

abbrev nBuf : Space → Nat
  | .hbm => 117
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S4352x1024, .bf16⟩
  | .hbm, ⟨3, _⟩ => ⟨S4352x128, .bf16⟩
  | .hbm, ⟨4, _⟩ => ⟨S4352x1024, .bf16⟩
  | .hbm, ⟨5, _⟩ => ⟨S4352x1024, .bf16⟩
  | .hbm, ⟨6, _⟩ => ⟨S4352x1024, .f32⟩
  | .hbm, ⟨7, _⟩ => ⟨S4352x1024, .f32⟩
  | .hbm, ⟨8, _⟩ => ⟨S4352x1024, .f32⟩
  | .hbm, ⟨9, _⟩ => ⟨S4352x128, .f32⟩
  | .hbm, ⟨10, _⟩ => ⟨S4352x1x128, .f32⟩
  | .hbm, ⟨11, _⟩ => ⟨S4352x8x128, .f32⟩
  | .hbm, ⟨12, _⟩ => ⟨S4352x1024, .f32⟩
  | .hbm, ⟨13, _⟩ => ⟨S4352x1024, .f32⟩
  | .hbm, ⟨14, _⟩ => ⟨S2x2176x8x128, .f32⟩
  | .hbm, ⟨15, _⟩ => ⟨S2x2176x8x128, .f32⟩
  | .hbm, ⟨16, _⟩ => ⟨S2x2176x8x128, .f32⟩
  | .hbm, ⟨17, _⟩ => ⟨S2x2176x8x128, .f32⟩
  | .hbm, ⟨18, _⟩ => ⟨S2x8x2176x2176, .f32⟩
  | .hbm, ⟨19, _⟩ => ⟨S2x8x2176x2176, .f32⟩
  | .hbm, ⟨20, _⟩ => ⟨S2x8x2176x2176, .f32⟩
  | .hbm, ⟨21, _⟩ => ⟨S_, .f32⟩
  | .hbm, ⟨22, _⟩ => ⟨S2x8x2176x2176, .f32⟩
  | .hbm, ⟨23, _⟩ => ⟨S2x8x2176x2176, .f32⟩
  | .hbm, ⟨24, _⟩ => ⟨S2176x2176, .i32⟩
  | .hbm, ⟨25, _⟩ => ⟨S2176x2176, .i32⟩
  | .hbm, ⟨26, _⟩ => ⟨S2176x2176, .i1⟩
  | .hbm, ⟨27, _⟩ => ⟨S_, .f32⟩
  | .hbm, ⟨28, _⟩ => ⟨S_, .f32⟩
  | .hbm, ⟨29, _⟩ => ⟨S2x8x2176x2176, .i1⟩
  | .hbm, ⟨30, _⟩ => ⟨S2x8x2176x2176, .f32⟩
  | .hbm, ⟨31, _⟩ => ⟨S2x8x2176x2176, .f32⟩
  | .hbm, ⟨32, _⟩ => ⟨S_, .f32⟩
  | .hbm, ⟨33, _⟩ => ⟨S2x8x2176x2176, .f32⟩
  | .hbm, ⟨34, _⟩ => ⟨S_, .f32⟩
  | .hbm, ⟨35, _⟩ => ⟨S2x8x2176, .f32⟩
  | .hbm, ⟨36, _⟩ => ⟨S2x8x2176x1, .f32⟩
  | .hbm, ⟨37, _⟩ => ⟨S2x8x2176x2176, .f32⟩
  | .hbm, ⟨38, _⟩ => ⟨S2x8x2176x2176, .i1⟩
  | .hbm, ⟨39, _⟩ => ⟨S2x8x2176x2176, .f32⟩
  | .hbm, ⟨40, _⟩ => ⟨S_, .f32⟩
  | .hbm, ⟨41, _⟩ => ⟨S2x8x2176, .f32⟩
  | .hbm, ⟨42, _⟩ => ⟨S_, .f32⟩
  | .hbm, ⟨43, _⟩ => ⟨S2x8x2176, .f32⟩
  | .hbm, ⟨44, _⟩ => ⟨S2x8x2176, .f32⟩
  | .hbm, ⟨45, _⟩ => ⟨S_, .f32⟩
  | .hbm, ⟨46, _⟩ => ⟨S2x8x2176, .f32⟩
  | .hbm, ⟨47, _⟩ => ⟨S2x8x2176, .i1⟩
  | .hbm, ⟨48, _⟩ => ⟨S_, .f32⟩
  | .hbm, ⟨49, _⟩ => ⟨S2x8x2176, .f32⟩
  | .hbm, ⟨50, _⟩ => ⟨S2x8x2176, .i1⟩
  | .hbm, ⟨51, _⟩ => ⟨S_, .f32⟩
  | .hbm, ⟨52, _⟩ => ⟨S2x8x2176, .f32⟩
  | .hbm, ⟨53, _⟩ => ⟨S_, .f32⟩
  | .hbm, ⟨54, _⟩ => ⟨S2x8x2176, .f32⟩
  | .hbm, ⟨55, _⟩ => ⟨S_, .f32⟩
  | .hbm, ⟨56, _⟩ => ⟨S2x8x2176, .f32⟩
  | .hbm, ⟨57, _⟩ => ⟨S2x8x2176, .f32⟩
  | .hbm, ⟨58, _⟩ => ⟨S2x8x2176, .f32⟩
  | .hbm, ⟨59, _⟩ => ⟨S2x8x2176x1, .f32⟩
  | .hbm, ⟨60, _⟩ => ⟨S2x8x2176x2176, .f32⟩
  | .hbm, ⟨61, _⟩ => ⟨S2x8x2176x2176, .f32⟩
  | .hbm, ⟨62, _⟩ => ⟨S2x8x2176x2176, .f32⟩
  | .hbm, ⟨63, _⟩ => ⟨S_, .f32⟩
  | .hbm, ⟨64, _⟩ => ⟨S2x8x2176, .f32⟩
  | .hbm, ⟨65, _⟩ => ⟨S2x8x2176x1, .f32⟩
  | .hbm, ⟨66, _⟩ => ⟨S2x8x2176x2176, .f32⟩
  | .hbm, ⟨67, _⟩ => ⟨S2x8x2176x2176, .f32⟩
  | .hbm, ⟨68, _⟩ => ⟨S2x8x2176x1, .f32⟩
  | .hbm, ⟨69, _⟩ => ⟨S_, .f32⟩
  | .hbm, ⟨70, _⟩ => ⟨S2x8x2176x1, .f32⟩
  | .hbm, ⟨71, _⟩ => ⟨S2x8x2176x1, .f32⟩
  | .hbm, ⟨72, _⟩ => ⟨S2x2176x8x128, .f32⟩
  | .hbm, ⟨73, _⟩ => ⟨S2x8x128x2176, .f32⟩
  | .hbm, ⟨74, _⟩ => ⟨S2x2176x8x128, .f32⟩
  | .hbm, ⟨75, _⟩ => ⟨S4352x1024, .f32⟩
  | .hbm, ⟨76, _⟩ => ⟨S4352x1024, .f32⟩
  | .hbm, ⟨77, _⟩ => ⟨S2x2176x8x128, .f32⟩
  | .hbm, ⟨78, _⟩ => ⟨S2x8x128x2176, .f32⟩
  | .hbm, ⟨79, _⟩ => ⟨S2x8x2176x2176, .f32⟩
  | .hbm, ⟨80, _⟩ => ⟨S2x8x128x2176, .f32⟩
  | .hbm, ⟨81, _⟩ => ⟨S2x2176x8x128, .f32⟩
  | .hbm, ⟨82, _⟩ => ⟨S4352x1024, .f32⟩
  | .hbm, ⟨83, _⟩ => ⟨S2x8x2176x2176, .f32⟩
  | .hbm, ⟨84, _⟩ => ⟨S2x8x2176x2176, .f32⟩
  | .hbm, ⟨85, _⟩ => ⟨S2x8x2176x2176, .f32⟩
  | .hbm, ⟨86, _⟩ => ⟨S_, .f32⟩
  | .hbm, ⟨87, _⟩ => ⟨S2x8x2176, .f32⟩
  | .hbm, ⟨88, _⟩ => ⟨S2x8x2176x1, .f32⟩
  | .hbm, ⟨89, _⟩ => ⟨S2x8x2176x1, .f32⟩
  | .hbm, ⟨90, _⟩ => ⟨S2x8x2176x2176, .f32⟩
  | .hbm, ⟨91, _⟩ => ⟨S2x8x2176x2176, .f32⟩
  | .hbm, ⟨92, _⟩ => ⟨S_, .f32⟩
  | .hbm, ⟨93, _⟩ => ⟨S2x8x2176, .f32⟩
  | .hbm, ⟨94, _⟩ => ⟨S2x8x2176x2176, .f32⟩
  | .hbm, ⟨95, _⟩ => ⟨S2x8x2176x2176, .f32⟩
  | .hbm, ⟨96, _⟩ => ⟨S2x8x2176x2176, .f32⟩
  | .hbm, ⟨97, _⟩ => ⟨S_, .f32⟩
  | .hbm, ⟨98, _⟩ => ⟨S2x8x2176x2176, .f32⟩
  | .hbm, ⟨99, _⟩ => ⟨S2x8x2176x2176, .f32⟩
  | .hbm, ⟨100, _⟩ => ⟨S_, .f32⟩
  | .hbm, ⟨101, _⟩ => ⟨S2x8x2176x2176, .f32⟩
  | .hbm, ⟨102, _⟩ => ⟨S2x8x2176x2176, .f32⟩
  | .hbm, ⟨103, _⟩ => ⟨S2x8x2176x128, .f32⟩
  | .hbm, ⟨104, _⟩ => ⟨S2x2176x8x128, .f32⟩
  | .hbm, ⟨105, _⟩ => ⟨S2x8x2176x128, .f32⟩
  | .hbm, ⟨106, _⟩ => ⟨S2x2176x8x128, .f32⟩
  | .hbm, ⟨107, _⟩ => ⟨S2x8x2176x128, .f32⟩
  | .hbm, ⟨108, _⟩ => ⟨S2x2176x8x128, .f32⟩
  | .hbm, ⟨109, _⟩ => ⟨S2x8x2176x128, .f32⟩
  | .hbm, ⟨110, _⟩ => ⟨S2x2176x8x128, .f32⟩
  | .hbm, ⟨111, _⟩ => ⟨S4352x1024, .f32⟩
  | .hbm, ⟨112, _⟩ => ⟨S4352x1024, .f32⟩
  | .hbm, ⟨113, _⟩ => ⟨S4352x1024, .f32⟩
  | .hbm, ⟨114, _⟩ => ⟨S4352x1024, .f32⟩
  | .hbm, ⟨115, _⟩ => ⟨S4352x1024, .bf16⟩
  | .hbm, ⟨116, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_call0_v0 : Ref sig .tc := ⟨.hbm, 28, rfl⟩
abbrev main_v20_1 : Ref sig .tc := ⟨.hbm, 29, rfl⟩
abbrev main_call0_v2 : Ref sig .tc := ⟨.hbm, 30, rfl⟩
abbrev main_v20_0 : Ref sig .tc := ⟨.hbm, 31, rfl⟩
abbrev main_call0_cst : Ref sig .tc := ⟨.hbm, 32, rfl⟩
abbrev main_v20_2 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call1_cst : Ref sig .tc := ⟨.hbm, 97, rfl⟩
abbrev main_call1_v0 : Ref sig .tc := ⟨.hbm, 98, rfl⟩
abbrev main_v72 : Ref sig .tc := ⟨.hbm, 99, rfl⟩
abbrev main_cst_13 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]
-- ==== Kernel2.lean ====
abbrev S4352x1024 : Shape := ⟨2, ![4352, 1024]⟩
abbrev S4096x1024 : Shape := ⟨2, ![4096, 1024]⟩
abbrev S4352x4096 : Shape := ⟨2, ![4352, 4096]⟩
abbrev S1088x1024 : Shape := ⟨2, ![1088, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x1024, .f32⟩
  | .hbm, ⟨1, _⟩ => ⟨S4096x1024, .bf16⟩
  | .hbm, ⟨2, _⟩ => ⟨S4352x4096, .bf16⟩
  | .hbm, ⟨3, _⟩ => ⟨S4352x4096, .bf16⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | .local _ .vmem, ⟨8, _⟩ => ⟨S1088x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4352x1024 : Shape := ⟨2, ![4352, 1024]⟩
abbrev S4096x1024 : Shape := ⟨2, ![4096, 1024]⟩
abbrev S4352x4096 : Shape := ⟨2, ![4352, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S4096x1024, .bf16⟩
  | .hbm, ⟨2, _⟩ => ⟨S4352x4096, .bf16⟩
  | .hbm, ⟨3, _⟩ => ⟨S4352x4096, .f32⟩
  | .hbm, ⟨4, _⟩ => ⟨S_, .f32⟩
  | .hbm, ⟨5, _⟩ => ⟨S4352x4096, .f32⟩
  | .hbm, ⟨6, _⟩ => ⟨S4352x4096, .f32⟩
  | .hbm, ⟨7, _⟩ => ⟨S_, .f32⟩
  | .hbm, ⟨8, _⟩ => ⟨S4352x4096, .f32⟩
  | .hbm, ⟨9, _⟩ => ⟨S4352x4096, .i1⟩
  | .hbm, ⟨10, _⟩ => ⟨S_, .f32⟩
  | .hbm, ⟨11, _⟩ => ⟨S4352x4096, .f32⟩
  | .hbm, ⟨12, _⟩ => ⟨S4352x4096, .i1⟩
  | .hbm, ⟨13, _⟩ => ⟨S_, .f32⟩
  | .hbm, ⟨14, _⟩ => ⟨S4352x4096, .f32⟩
  | .hbm, ⟨15, _⟩ => ⟨S_, .f32⟩
  | .hbm, ⟨16, _⟩ => ⟨S4352x4096, .f32⟩
  | .hbm, ⟨17, _⟩ => ⟨S_, .f32⟩
  | .hbm, ⟨18, _⟩ => ⟨S4352x4096, .f32⟩
  | .hbm, ⟨19, _⟩ => ⟨S4352x4096, .f32⟩
  | .hbm, ⟨20, _⟩ => ⟨S4352x4096, .f32⟩
  | .hbm, ⟨21, _⟩ => ⟨S4352x4096, .f32⟩
  | .hbm, ⟨22, _⟩ => ⟨S_, .f32⟩
  | .hbm, ⟨23, _⟩ => ⟨S4352x4096, .f32⟩
  | .hbm, ⟨24, _⟩ => ⟨S4352x4096, .f32⟩
  | .hbm, ⟨25, _⟩ => ⟨S4096x1024, .f32⟩
  | .hbm, ⟨26, _⟩ => ⟨S4352x1024, .f32⟩
  | .hbm, ⟨27, _⟩ => ⟨S4352x4096, .f32⟩
  | .hbm, ⟨28, _⟩ => ⟨S4352x4096, .f32⟩
  | .hbm, ⟨29, _⟩ => ⟨S4352x4096, .f32⟩
  | .hbm, ⟨30, _⟩ => ⟨S4352x4096, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel3.lean ====
abbrev S4352x4096 : Shape := ⟨2, ![4352, 4096]⟩
abbrev S4352x1024 : Shape := ⟨2, ![4352, 1024]⟩
abbrev S4096x1024 : Shape := ⟨2, ![4096, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x4096, .bf16⟩
  | .hbm, ⟨1, _⟩ => ⟨S4352x1024, .f32⟩
  | .hbm, ⟨2, _⟩ => ⟨S4096x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .f32⟩
  | .local _ .vmem, ⟨3, _⟩ => ⟨S1088x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4352x4096 : Shape := ⟨2, ![4352, 4096]⟩
abbrev S4352x1024 : Shape := ⟨2, ![4352, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x1024, .f32⟩
  | .hbm, ⟨2, _⟩ => ⟨S_, .f32⟩
  | .hbm, ⟨3, _⟩ => ⟨S4096x1024, .f32⟩
  | .hbm, ⟨4, _⟩ => ⟨S4352x4096, .f32⟩
  | .hbm, ⟨5, _⟩ => ⟨S4352x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4352x1024 : Shape := ⟨2, ![4352, 1024]⟩
abbrev S4352x4096 : Shape := ⟨2, ![4352, 4096]⟩
abbrev S1024x4096 : Shape := ⟨2, ![1024, 4096]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S1024x4096, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x1024 : Shape := ⟨2, ![4352, 1024]⟩
abbrev S4352x4096 : Shape := ⟨2, ![4352, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x4096, .bf16⟩
  | .hbm, ⟨2, _⟩ => ⟨S_, .f32⟩
  | .hbm, ⟨3, _⟩ => ⟨S1024x4096, .f32⟩
  | .hbm, ⟨4, _⟩ => ⟨S4352x1024, .f32⟩
  | .hbm, ⟨5, _⟩ => ⟨S4352x4096, .f32⟩
  | .hbm, ⟨6, _⟩ => ⟨S4352x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4352x4096 : Shape := ⟨2, ![4352, 4096]⟩
abbrev S1024x4096 : Shape := ⟨2, ![1024, 4096]⟩
abbrev S4352x1024 : Shape := ⟨2, ![4352, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x4096, .bf16⟩
  | .hbm, ⟨1, _⟩ => ⟨S1024x4096, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x4096 : Shape := ⟨2, ![4352, 4096]⟩
abbrev S1024x4096 : Shape := ⟨2, ![1024, 4096]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S1024x4096, .bf16⟩
  | .hbm, ⟨2, _⟩ => ⟨S_, .f32⟩
  | .hbm, ⟨3, _⟩ => ⟨S4352x1024, .f32⟩
  | .hbm, ⟨4, _⟩ => ⟨S1024x4096, .f32⟩
  | .hbm, ⟨5, _⟩ => ⟨S4352x4096, .f32⟩
  | .hbm, ⟨6, _⟩ => ⟨S4352x4096, .f32⟩
  | .hbm, ⟨7, _⟩ => ⟨S4352x1024, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4352x8192 : Shape := ⟨2, ![4352, 8192]⟩
abbrev S4352x1024 : Shape := ⟨2, ![4352, 1024]⟩
abbrev S8192x1024 : Shape := ⟨2, ![8192, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x8192, .bf16⟩
  | .hbm, ⟨1, _⟩ => ⟨S4352x1024, .bf16⟩
  | .hbm, ⟨2, _⟩ => ⟨S8192x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x8192 : Shape := ⟨2, ![4352, 8192]⟩
abbrev S4352x1024 : Shape := ⟨2, ![4352, 1024]⟩
abbrev S_ : Shape := ⟨0, ![]⟩
abbrev S8192x1024 : Shape := ⟨2, ![8192, 1024]⟩
abbrev S1024x8192 : Shape := ⟨2, ![1024, 8192]⟩

abbrev nBuf : Space → Nat
  | .hbm => 12
  | .vmem => 0
  | .smem => 0
  | _ => 0

abbrev bufTy : (tb : Table) → Fin (tcTables nBuf tb) → BufTy
  | .hbm, ⟨0, _⟩ => ⟨S4352x8192, .bf16⟩
  | .hbm, ⟨1, _⟩ => ⟨S4352x1024, .bf16⟩
  | .hbm, ⟨2, _⟩ => ⟨S_, .f32⟩
  | .hbm, ⟨3, _⟩ => ⟨S8192x1024, .f32⟩
  | .hbm, ⟨4, _⟩ => ⟨S4352x1024, .f32⟩
  | .hbm, ⟨5, _⟩ => ⟨S1024x8192, .f32⟩
  | .hbm, ⟨6, _⟩ => ⟨S4352x8192, .f32⟩
  | .hbm, ⟨7, _⟩ => ⟨S4352x8192, .f32⟩
  | .hbm, ⟨8, _⟩ => ⟨S8192x1024, .f32⟩
  | .hbm, ⟨9, _⟩ => ⟨S1024x8192, .f32⟩
  | .hbm, ⟨10, _⟩ => ⟨S8192x1024, .f32⟩
  | .hbm, ⟨11, _⟩ => ⟨S8192x1024, .bf16⟩
  | _, _ => ⟨S4352x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4352x8192 : Shape := ⟨2, ![4352, 8192]⟩
abbrev S8192x1024 : Shape := ⟨2, ![8192, 1024]⟩
abbrev S4352x1024 : Shape := ⟨2, ![4352, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x8192, .bf16⟩
  | .hbm, ⟨1, _⟩ => ⟨S8192x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | _, _ => ⟨S4352x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x8192 : Shape := ⟨2, ![4352, 8192]⟩
abbrev S8192x1024 : Shape := ⟨2, ![8192, 1024]⟩
abbrev S_ : Shape := ⟨0, ![]⟩
abbrev S4352x1024 : Shape := ⟨2, ![4352, 1024]⟩
abbrev S1024x8192 : Shape := ⟨2, ![1024, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4352x8192, .bf16⟩
  | .hbm, ⟨1, _⟩ => ⟨S8192x1024, .bf16⟩
  | .hbm, ⟨2, _⟩ => ⟨S_, .f32⟩
  | .hbm, ⟨3, _⟩ => ⟨S4352x1024, .f32⟩
  | .hbm, ⟨4, _⟩ => ⟨S8192x1024, .f32⟩
  | .hbm, ⟨5, _⟩ => ⟨S1024x8192, .f32⟩
  | .hbm, ⟨6, _⟩ => ⟨S4352x8192, .f32⟩
  | .hbm, ⟨7, _⟩ => ⟨S4352x8192, .f32⟩
  | .hbm, ⟨8, _⟩ => ⟨S4352x1024, .f32⟩
  | _, _ => ⟨S4352x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S1024x1024, .bf16⟩
  | .hbm, ⟨2, _⟩ => ⟨S4352x1024, .bf16⟩
  | .local _ .vmem, ⟨0, _⟩ => ⟨S1088x1024, .f32⟩
  | .local _ .vmem, ⟨1, _⟩ => ⟨S1088x1024, .f32⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S1024x1024, .bf16⟩
  | .hbm, ⟨2, _⟩ => ⟨S_, .f32⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S4352x1024, .bf16⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S1024x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .f32⟩
  | .local _ .vmem, ⟨3, _⟩ => ⟨S1088x1024, .f32⟩
  | .local _ .vmem, ⟨4, _⟩ => ⟨S1024x1024, .bf16⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .f32⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4352x2048 : Shape := ⟨2, ![4352, 2048]⟩
abbrev S4352x1024 : Shape := ⟨2, ![4352, 1024]⟩
abbrev S2048x1024 : Shape := ⟨2, ![2048, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S2048x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x2048 : Shape := ⟨2, ![4352, 2048]⟩
abbrev S4352x1024 : Shape := ⟨2, ![4352, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x1024, .bf16⟩
  | .hbm, ⟨2, _⟩ => ⟨S_, .f32⟩
  | .hbm, ⟨3, _⟩ => ⟨S2048x1024, .f32⟩
  | .hbm, ⟨4, _⟩ => ⟨S4352x2048, .f32⟩
  | .hbm, ⟨5, _⟩ => ⟨S4352x1024, .f32⟩
  | .hbm, ⟨6, _⟩ => ⟨S4352x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4352x1024 : Shape := ⟨2, ![4352, 1024]⟩
abbrev S2048x1024 : Shape := ⟨2, ![2048, 1024]⟩
abbrev S4352x2048 : Shape := ⟨2, ![4352, 2048]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S2048x1024, .bf16⟩
  | .hbm, ⟨2, _⟩ => ⟨S4352x2048, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x1024 : Shape := ⟨2, ![4352, 1024]⟩
abbrev S2048x1024 : Shape := ⟨2, ![2048, 1024]⟩
abbrev S_ : Shape := ⟨0, ![]⟩
abbrev S4352x2048 : Shape := ⟨2, ![4352, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2048x1024, .bf16⟩
  | .hbm, ⟨2, _⟩ => ⟨S_, .f32⟩
  | .hbm, ⟨3, _⟩ => ⟨S4352x2048, .f32⟩
  | .hbm, ⟨4, _⟩ => ⟨S2048x1024, .f32⟩
  | .hbm, ⟨5, _⟩ => ⟨S4352x1024, .f32⟩
  | .hbm, ⟨6, _⟩ => ⟨S4352x1024, .f32⟩
  | .hbm, ⟨7, _⟩ => ⟨S4352x2048, .f32⟩
  | .hbm, ⟨8, _⟩ => ⟨S4352x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1088x1024, .bf16⟩
  | .local _ .vmem, ⟨3, _⟩ => ⟨S1088x1024, .bf16⟩
  | .local _ .vmem, ⟨4, _⟩ => ⟨S1024x1024, .bf16⟩
  | .local _ .vmem, ⟨5, _⟩ => ⟨S1024x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S_, .f32⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4352x1024 : Shape := ⟨2, ![4352, 1024]⟩
abbrev S1024x4096 : Shape := ⟨2, ![1024, 4096]⟩
abbrev S4352x4096 : Shape := ⟨2, ![4352, 4096]⟩
abbrev S1088x1024 : Shape := ⟨2, ![1088, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x4096, .bf16⟩
  | .hbm, ⟨3, _⟩ => ⟨S4352x4096, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .bf16⟩
  | .local _ .vmem, ⟨7, _⟩ => ⟨S1088x1024, .bf16⟩
  | .local _ .vmem, ⟨8, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S4352x1024 : Shape := ⟨2, ![4352, 1024]⟩
abbrev S1024x4096 : Shape := ⟨2, ![1024, 4096]⟩
abbrev S4352x4096 : Shape := ⟨2, ![4352, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x4096, .bf16⟩
  | .hbm, ⟨2, _⟩ => ⟨S4352x1024, .f32⟩
  | .hbm, ⟨3, _⟩ => ⟨S1024x4096, .f32⟩
  | .hbm, ⟨4, _⟩ => ⟨S4352x4096, .f32⟩
  | .hbm, ⟨5, _⟩ => ⟨S4352x4096, .bf16⟩
  | .hbm, ⟨6, _⟩ => ⟨S_, .f32⟩
  | .hbm, ⟨7, _⟩ => ⟨S4352x4096, .f32⟩
  | .hbm, ⟨8, _⟩ => ⟨S4352x4096, .f32⟩
  | .hbm, ⟨9, _⟩ => ⟨S4352x4096, .f32⟩
  | .hbm, ⟨10, _⟩ => ⟨S4352x4096, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4352x4096 : Shape := ⟨2, ![4352, 4096]⟩
abbrev S4096x1024 : Shape := ⟨2, ![4096, 1024]⟩
abbrev S4352x1024 : Shape := ⟨2, ![4352, 1024]⟩
abbrev S1088x1024 : Shape := ⟨2, ![1088, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4352x4096, .bf16⟩
  | .hbm, ⟨1, _⟩ => ⟨S4096x1024, .bf16⟩
  | .hbm, ⟨2, _⟩ => ⟨S4352x1024, .f32⟩
  | .hbm, ⟨3, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4352x4096 : Shape := ⟨2, ![4352, 4096]⟩
abbrev S4096x1024 : Shape := ⟨2, ![4096, 1024]⟩
abbrev S4352x1024 : Shape := ⟨2, ![4352, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x1024, .bf16⟩
  | .hbm, ⟨2, _⟩ => ⟨S4352x1024, .f32⟩
  | .hbm, ⟨3, _⟩ => ⟨S4352x4096, .f32⟩
  | .hbm, ⟨4, _⟩ => ⟨S4096x1024, .f32⟩
  | .hbm, ⟨5, _⟩ => ⟨S4352x1024, .f32⟩
  | .hbm, ⟨6, _⟩ => ⟨S4352x1024, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4352x1024 : Shape := ⟨2, ![4352, 1024]⟩
abbrev S8192x1024 : Shape := ⟨2, ![8192, 1024]⟩
abbrev S4352x8192 : Shape := ⟨2, ![4352, 8192]⟩
abbrev S4352x128 : Shape := ⟨2, ![4352, 128]⟩
abbrev S1088x1024 : Shape := ⟨2, ![1088, 1024]⟩
abbrev S1024x1024 : Shape := ⟨2, ![1024, 1024]⟩
abbrev S1088x128 : Shape := ⟨2, ![1088, 128]⟩

abbrev nBuf : Space → Nat
  | .hbm => 4
  | .vmem => 9
  | .smem => 0
  | _ => 0

abbrev bufTy : (tb : Table) → Fin (tcTables nBuf tb) → BufTy
  | .hbm, ⟨0, _⟩ => ⟨S4352x1024, .bf16⟩
  | .hbm, ⟨1, _⟩ => ⟨S8192x1024, .bf16⟩
  | .hbm, ⟨2, _⟩ => ⟨S4352x8192, .bf16⟩
  | .hbm, ⟨3, _⟩ => ⟨S4352x128, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x128, .f32⟩
  | .local _ .vmem, ⟨7, _⟩ => ⟨S1088x128, .f32⟩
  | .local _ .vmem, ⟨8, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def k0_cond3 (i : grid0.Coords) : BitVec 1 :=
  let arg2 : BitVec 32 := BitVec.ofNat 32 (i 2).val
  let c0_i32_10 : BitVec 32 := 0#32
  let v14 : BitVec 1 := Scalar.cmpi .eq arg2 c0_i32_10
  let arg1 : BitVec 32 := BitVec.ofNat 32 (i 1).val
  let c7_i32 : BitVec 32 := 7#32
  let v15 : BitVec 1 := Scalar.cmpi .eq arg1 c7_i32
  let v16 : BitVec 1 := Scalar.andi v14 v15
  let v17 : BitVec 32 := Scalar.extui v16
  let c0_i32_11 : BitVec 32 := 0#32
  let v18 : BitVec 1 := Scalar.cmpi .ne v17 c0_i32_11
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference16Ideal.lean ====
abbrev S4352x1024 : Shape := ⟨2, ![4352, 1024]⟩
abbrev S8192x1024 : Shape := ⟨2, ![8192, 1024]⟩
abbrev S1024x8192 : Shape := ⟨2, ![1024, 8192]⟩
abbrev S4352x8192 : Shape := ⟨2, ![4352, 8192]⟩
abbrev S4352x128 : Shape := ⟨2, ![4352, 128]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S8192x1024, .bf16⟩
  | .hbm, ⟨2, _⟩ => ⟨S4352x1024, .f32⟩
  | .hbm, ⟨3, _⟩ => ⟨S8192x1024, .f32⟩
  | .hbm, ⟨4, _⟩ => ⟨S1024x8192, .f32⟩
  | .hbm, ⟨5, _⟩ => ⟨S4352x8192, .f32⟩
  | .hbm, ⟨6, _⟩ => ⟨S4352x8192, .bf16⟩
  | .hbm, ⟨7, _⟩ => ⟨S4352x128, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel17.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4352x1024 : Shape := ⟨2, ![4352, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4352x2048 : Shape := ⟨2, ![4352, 2048]⟩
abbrev S2048x1024 : Shape := ⟨2, ![2048, 1024]⟩
abbrev S4352x1024 : Shape := ⟨2, ![4352, 1024]⟩
abbrev S1088x1024 : Shape := ⟨2, ![1088, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1088x1024, .bf16⟩
  | .local _ .vmem, ⟨5, _⟩ => ⟨S1088x1024, .bf16⟩
  | .local _ .vmem, ⟨6, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4352x2048 : Shape := ⟨2, ![4352, 2048]⟩
abbrev S2048x1024 : Shape := ⟨2, ![2048, 1024]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x1024, .bf16⟩
  | .hbm, ⟨2, _⟩ => ⟨S4352x2048, .f32⟩
  | .hbm, ⟨3, _⟩ => ⟨S2048x1024, .f32⟩
  | .hbm, ⟨4, _⟩ => ⟨S4352x1024, .f32⟩
  | .hbm, ⟨5, _⟩ => ⟨S4352x1024, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4352x1024 : Shape := ⟨2, ![4352, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | .hbm, ⟨5, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8x512x1024 : Shape := ⟨3, ![8, 512, 1024]⟩
abbrev S2x512x1024 : Shape := ⟨3, ![2, 512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S8x512x1024 : Shape := ⟨3, ![8, 512, 1024]⟩
abbrev S2x512x1024 : Shape := ⟨3, ![2, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S8x512x1024, .f32⟩
  | .hbm, ⟨6, _⟩ => ⟨S_, .f32⟩
  | .hbm, ⟨7, _⟩ => ⟨S512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S1x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S_, .f32⟩
  | .hbm, ⟨18, _⟩ => ⟨S2x512x1024, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S_, .f32⟩
  | .hbm, ⟨33, _⟩ => ⟨S2x512x1024, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel21.lean ====
abbrev S8x1024x512 : Shape := ⟨3, ![8, 1024, 512]⟩
abbrev S2x1024x512 : Shape := ⟨3, ![2, 1024, 512]⟩
abbrev S8x128x512 : Shape := ⟨3, ![8, 128, 512]⟩
abbrev S1x128x512 : Shape := ⟨3, ![1, 128, 512]⟩
abbrev S128x512 : Shape := ⟨2, ![128, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S8x128x512, .bf16⟩
  | .local _ .vmem, ⟨1, _⟩ => ⟨S8x128x512, .bf16⟩
  | .local _ .vmem, ⟨2, _⟩ => ⟨S8x128x512, .bf16⟩
  | .local _ .vmem, ⟨3, _⟩ => ⟨S8x128x512, .bf16⟩
  | .local _ .vmem, ⟨4, _⟩ => ⟨S1x128x512, .f32⟩
  | .local _ .vmem, ⟨5, _⟩ => ⟨S1x128x512, .f32⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x128x512, .f32⟩
  | .local _ .vmem, ⟨16, _⟩ => ⟨S1x128x512, .f32⟩
  | .local _ .vmem, ⟨17, _⟩ => ⟨S1x128x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S8x1024x512, .f32⟩
  | .hbm, ⟨6, _⟩ => ⟨S_, .f32⟩
  | .hbm, ⟨7, _⟩ => ⟨S1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1x1024x512, .f32⟩
  | .hbm, ⟨13, _⟩ => ⟨S2x1024x512, .f32⟩
  | .hbm, ⟨14, _⟩ => ⟨S_, .f32⟩
  | .hbm, ⟨15, _⟩ => ⟨S2x1024x512, .f32⟩
  | .hbm, ⟨16, _⟩ => ⟨S2x1024x512, .f32⟩
  | .hbm, ⟨17, _⟩ => ⟨S_, .f32⟩
  | .hbm, ⟨18, _⟩ => ⟨S2x1024x512, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S_, .f32⟩
  | .hbm, ⟨33, _⟩ => ⟨S2x1024x512, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel22.lean ====
abbrev S8x256x1024 : Shape := ⟨3, ![8, 256, 1024]⟩
abbrev S2x256x1024 : Shape := ⟨3, ![2, 256, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference22Ideal.lean ====
abbrev S8x256x1024 : Shape := ⟨3, ![8, 256, 1024]⟩
abbrev S2x256x1024 : Shape := ⟨3, ![2, 256, 1024]⟩
abbrev S_ : Shape := ⟨0, ![]⟩
abbrev S256x1024 : Shape := ⟨2, ![256, 1024]⟩
abbrev S1x256x1024 : Shape := ⟨3, ![1, 256, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S8x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S8x256x1024, .f32⟩
  | .hbm, ⟨9, _⟩ => ⟨S_, .f32⟩
  | .hbm, ⟨10, _⟩ => ⟨S256x1024, .f32⟩
  | .hbm, ⟨11, _⟩ => ⟨S1x256x1024, .f32⟩
  | .hbm, ⟨12, _⟩ => ⟨S1x256x1024, .f32⟩
  | .hbm, ⟨13, _⟩ => ⟨S2x256x1024, .f32⟩
  | .hbm, ⟨14, _⟩ => ⟨S_, .f32⟩
  | .hbm, ⟨15, _⟩ => ⟨S2x256x1024, .f32⟩
  | .hbm, ⟨16, _⟩ => ⟨S2x256x1024, .f32⟩
  | .hbm, ⟨17, _⟩ => ⟨S_, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S_, .f32⟩
  | .hbm, ⟨22, _⟩ => ⟨S2x256x1024, .f32⟩
  | .hbm, ⟨23, _⟩ => ⟨S2x256x1024, .f32⟩
  | .hbm, ⟨24, _⟩ => ⟨S2x256x1024, .f32⟩
  | .hbm, ⟨25, _⟩ => ⟨S_, .f32⟩
  | .hbm, ⟨26, _⟩ => ⟨S2x256x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S2x256x1024, .f32⟩
  | .hbm, ⟨31, _⟩ => ⟨S2x256x1024, .f32⟩
  | .hbm, ⟨32, _⟩ => ⟨S_, .f32⟩
  | .hbm, ⟨33, _⟩ => ⟨S2x256x1024, .f32⟩
  | .hbm, ⟨34, _⟩ => ⟨S2x256x1024, .f32⟩
  | .hbm, ⟨35, _⟩ => ⟨S2x256x1024, .f32⟩
  | .hbm, ⟨36, _⟩ => ⟨S_, .f32⟩
  | .hbm, ⟨37, _⟩ => ⟨S2x256x1024, .f32⟩
  | .hbm, ⟨38, _⟩ => ⟨S2x256x1024, .f32⟩
  | .hbm, ⟨39, _⟩ => ⟨S2x256x1024, .f32⟩
  | .hbm, ⟨40, _⟩ => ⟨S_, .f32⟩
  | .hbm, ⟨41, _⟩ => ⟨S2x256x1024, .f32⟩
  | .hbm, ⟨42, _⟩ => ⟨S2x256x1024, .f32⟩
  | .hbm, ⟨43, _⟩ => ⟨S2x256x1024, .f32⟩
  | .hbm, ⟨44, _⟩ => ⟨S_, .f32⟩
  | .hbm, ⟨45, _⟩ => ⟨S2x256x1024, .f32⟩
  | .hbm, ⟨46, _⟩ => ⟨S2x256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel23.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel24.lean ====
abbrev S8x512x192 : Shape := ⟨3, ![8, 512, 192]⟩
abbrev S2x512x192 : Shape := ⟨3, ![2, 512, 192]⟩
abbrev S8x128x192 : Shape := ⟨3, ![8, 128, 192]⟩
abbrev S1x128x192 : Shape := ⟨3, ![1, 128, 192]⟩
abbrev S128x192 : Shape := ⟨2, ![128, 192]⟩

abbrev nBuf : Space → Nat
  | .hbm => 9
  | .vmem => 18
  | .smem => 0
  | _ => 0

abbrev bufTy : (tb : Table) → Fin (tcTables nBuf tb) → BufTy
  | .hbm, ⟨0, _⟩ => ⟨S8x512x192, .bf16⟩
  | .hbm, ⟨1, _⟩ => ⟨S8x512x192, .bf16⟩
  | .hbm, ⟨2, _⟩ => ⟨S2x512x192, .f32⟩
  | .hbm, ⟨3, _⟩ => ⟨S2x512x192, .f32⟩
  | .hbm, ⟨4, _⟩ => ⟨S2x512x192, .f32⟩
  | .hbm, ⟨5, _⟩ => ⟨S2x512x192, .f32⟩
  | .hbm, ⟨6, _⟩ => ⟨S2x512x192, .f32⟩
  | .hbm, ⟨7, _⟩ => ⟨S2x512x192, .f32⟩
  | .hbm, ⟨8, _⟩ => ⟨S2x512x192, .f32⟩
  | .local _ .vmem, ⟨0, _⟩ => ⟨S8x128x192, .bf16⟩
  | .local _ .vmem, ⟨1, _⟩ => ⟨S8x128x192, .bf16⟩
  | .local _ .vmem, ⟨2, _⟩ => ⟨S8x128x192, .bf16⟩
  | .local _ .vmem, ⟨3, _⟩ => ⟨S8x128x192, .bf16⟩
  | .local _ .vmem, ⟨4, _⟩ => ⟨S1x128x192, .f32⟩
  | .local _ .vmem, ⟨5, _⟩ => ⟨S1x128x192, .f32⟩
  | .local _ .vmem, ⟨6, _⟩ => ⟨S1x128x192, .f32⟩
  | .local _ .vmem, ⟨7, _⟩ => ⟨S1x128x192, .f32⟩
  | .local _ .vmem, ⟨8, _⟩ => ⟨S1x128x192, .f32⟩
  | .local _ .vmem, ⟨9, _⟩ => ⟨S1x128x192, .f32⟩
  | .local _ .vmem, ⟨10, _⟩ => ⟨S1x128x192, .f32⟩
  | .local _ .vmem, ⟨11, _⟩ => ⟨S1x128x192, .f32⟩
  | .local _ .vmem, ⟨12, _⟩ => ⟨S1x128x192, .f32⟩
  | .local _ .vmem, ⟨13, _⟩ => ⟨S1x128x192, .f32⟩
  | .local _ .vmem, ⟨14, _⟩ => ⟨S1x128x192, .f32⟩
  | .local _ .vmem, ⟨15, _⟩ => ⟨S1x128x192, .f32⟩
  | .local _ .vmem, ⟨16, _⟩ => ⟨S1x128x192, .f32⟩
  | .local _ .vmem, ⟨17, _⟩ => ⟨S1x128x192, .f32⟩
  | _, _ => ⟨S8x512x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x128x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference24Ideal.lean ====
abbrev S8x512x192 : Shape := ⟨3, ![8, 512, 192]⟩
abbrev S2x512x192 : Shape := ⟨3, ![2, 512, 192]⟩
abbrev S_ : Shape := ⟨0, ![]⟩
abbrev S512x192 : Shape := ⟨2, ![512, 192]⟩
abbrev S1x512x192 : Shape := ⟨3, ![1, 512, 192]⟩

abbrev nBuf : Space → Nat
  | .hbm => 47
  | .vmem => 0
  | .smem => 0
  | _ => 0

abbrev bufTy : (tb : Table) → Fin (tcTables nBuf tb) → BufTy
  | .hbm, ⟨0, _⟩ => ⟨S8x512x192, .bf16⟩
  | .hbm, ⟨1, _⟩ => ⟨S8x512x192, .bf16⟩
  | .hbm, ⟨2, _⟩ => ⟨S2x512x192, .f32⟩
  | .hbm, ⟨3, _⟩ => ⟨S2x512x192, .f32⟩
  | .hbm, ⟨4, _⟩ => ⟨S2x512x192, .f32⟩
  | .hbm, ⟨5, _⟩ => ⟨S8x512x192, .f32⟩
  | .hbm, ⟨6, _⟩ => ⟨S_, .f32⟩
  | .hbm, ⟨7, _⟩ => ⟨S512x192, .f32⟩
  | .hbm, ⟨8, _⟩ => ⟨S8x512x192, .f32⟩
  | .hbm, ⟨9, _⟩ => ⟨S_, .f32⟩
  | .hbm, ⟨10, _⟩ => ⟨S512x192, .f32⟩
  | .hbm, ⟨11, _⟩ => ⟨S1x512x192, .f32⟩
  | .hbm, ⟨12, _⟩ => ⟨S1x512x192, .f32⟩
  | .hbm, ⟨13, _⟩ => ⟨S2x512x192, .f32⟩
  | .hbm, ⟨14, _⟩ => ⟨S_, .f32⟩
  | .hbm, ⟨15, _⟩ => ⟨S2x512x192, .f32⟩
  | .hbm, ⟨16, _⟩ => ⟨S2x512x192, .f32⟩
  | .hbm, ⟨17, _⟩ => ⟨S_, .f32⟩
  | .hbm, ⟨18, _⟩ => ⟨S2x512x192, .f32⟩
  | .hbm, ⟨19, _⟩ => ⟨S2x512x192, .f32⟩
  | .hbm, ⟨20, _⟩ => ⟨S2x512x192, .f32⟩
  | .hbm, ⟨21, _⟩ => ⟨S_, .f32⟩
  | .hbm, ⟨22, _⟩ => ⟨S2x512x192, .f32⟩
  | .hbm, ⟨23, _⟩ => ⟨S2x512x192, .f32⟩
  | .hbm, ⟨24, _⟩ => ⟨S2x512x192, .f32⟩
  | .hbm, ⟨25, _⟩ => ⟨S_, .f32⟩
  | .hbm, ⟨26, _⟩ => ⟨S2x512x192, .f32⟩
  | .hbm, ⟨27, _⟩ => ⟨S2x512x192, .f32⟩
  | .hbm, ⟨28, _⟩ => ⟨S2x512x192, .f32⟩
  | .hbm, ⟨29, _⟩ => ⟨S_, .f32⟩
  | .hbm, ⟨30, _⟩ => ⟨S2x512x192, .f32⟩
  | .hbm, ⟨31, _⟩ => ⟨S2x512x192, .f32⟩
  | .hbm, ⟨32, _⟩ => ⟨S_, .f32⟩
  | .hbm, ⟨33, _⟩ => ⟨S2x512x192, .f32⟩
  | .hbm, ⟨34, _⟩ => ⟨S2x512x192, .f32⟩
  | .hbm, ⟨35, _⟩ => ⟨S2x512x192, .f32⟩
  | .hbm, ⟨36, _⟩ => ⟨S_, .f32⟩
  | .hbm, ⟨37, _⟩ => ⟨S2x512x192, .f32⟩
  | .hbm, ⟨38, _⟩ => ⟨S2x512x192, .f32⟩
  | .hbm, ⟨39, _⟩ => ⟨S2x512x192, .f32⟩
  | .hbm, ⟨40, _⟩ => ⟨S_, .f32⟩
  | .hbm, ⟨41, _⟩ => ⟨S2x512x192, .f32⟩
  | .hbm, ⟨42, _⟩ => ⟨S2x512x192, .f32⟩
  | .hbm, ⟨43, _⟩ => ⟨S2x512x192, .f32⟩
  | .hbm, ⟨44, _⟩ => ⟨S_, .f32⟩
  | .hbm, ⟨45, _⟩ => ⟨S2x512x192, .f32⟩
  | .hbm, ⟨46, _⟩ => ⟨S2x512x192, .f32⟩
  | _, _ => ⟨S8x512x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel25.lean ====
abbrev S8x256x256 : Shape := ⟨3, ![8, 256, 256]⟩
abbrev S2x256x256 : Shape := ⟨3, ![2, 256, 256]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .local _ .vmem, ⟨0, _⟩ => ⟨S8x128x256, .bf16⟩
  | .local _ .vmem, ⟨1, _⟩ => ⟨S8x128x256, .bf16⟩
  | .local _ .vmem, ⟨2, _⟩ => ⟨S8x128x256, .bf16⟩
  | .local _ .vmem, ⟨3, _⟩ => ⟨S8x128x256, .bf16⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference25Ideal.lean ====
abbrev S8x256x256 : Shape := ⟨3, ![8, 256, 256]⟩
abbrev S2x256x256 : Shape := ⟨3, ![2, 256, 256]⟩
abbrev S_ : Shape := ⟨0, ![]⟩
abbrev S256x256 : Shape := ⟨2, ![256, 256]⟩
abbrev S1x256x256 : Shape := ⟨3, ![1, 256, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S8x256x256, .f32⟩
  | .hbm, ⟨6, _⟩ => ⟨S_, .f32⟩
  | .hbm, ⟨7, _⟩ => ⟨S256x256, .f32⟩
  | .hbm, ⟨8, _⟩ => ⟨S8x256x256, .f32⟩
  | .hbm, ⟨9, _⟩ => ⟨S_, .f32⟩
  | .hbm, ⟨10, _⟩ => ⟨S256x256, .f32⟩
  | .hbm, ⟨11, _⟩ => ⟨S1x256x256, .f32⟩
  | .hbm, ⟨12, _⟩ => ⟨S1x256x256, .f32⟩
  | .hbm, ⟨13, _⟩ => ⟨S2x256x256, .f32⟩
  | .hbm, ⟨14, _⟩ => ⟨S_, .f32⟩
  | .hbm, ⟨15, _⟩ => ⟨S2x256x256, .f32⟩
  | .hbm, ⟨16, _⟩ => ⟨S2x256x256, .f32⟩
  | .hbm, ⟨17, _⟩ => ⟨S_, .f32⟩
  | .hbm, ⟨18, _⟩ => ⟨S2x256x256, .f32⟩
  | .hbm, ⟨19, _⟩ => ⟨S2x256x256, .f32⟩
  | .hbm, ⟨20, _⟩ => ⟨S2x256x256, .f32⟩
  | .hbm, ⟨21, _⟩ => ⟨S_, .f32⟩
  | .hbm, ⟨22, _⟩ => ⟨S2x256x256, .f32⟩
  | .hbm, ⟨23, _⟩ => ⟨S2x256x256, .f32⟩
  | .hbm, ⟨24, _⟩ => ⟨S2x256x256, .f32⟩
  | .hbm, ⟨25, _⟩ => ⟨S_, .f32⟩
  | .hbm, ⟨26, _⟩ => ⟨S2x256x256, .f32⟩
  | .hbm, ⟨27, _⟩ => ⟨S2x256x256, .f32⟩
  | .hbm, ⟨28, _⟩ => ⟨S2x256x256, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S_, .f32⟩
  | .hbm, ⟨33, _⟩ => ⟨S2x256x256, .f32⟩
  | .hbm, ⟨34, _⟩ => ⟨S2x256x256, .f32⟩
  | .hbm, ⟨35, _⟩ => ⟨S2x256x256, .f32⟩
  | .hbm, ⟨36, _⟩ => ⟨S_, .f32⟩
  | .hbm, ⟨37, _⟩ => ⟨S2x256x256, .f32⟩
  | .hbm, ⟨38, _⟩ => ⟨S2x256x256, .f32⟩
  | .hbm, ⟨39, _⟩ => ⟨S2x256x256, .f32⟩
  | .hbm, ⟨40, _⟩ => ⟨S_, .f32⟩
  | .hbm, ⟨41, _⟩ => ⟨S2x256x256, .f32⟩
  | .hbm, ⟨42, _⟩ => ⟨S2x256x256, .f32⟩
  | .hbm, ⟨43, _⟩ => ⟨S2x256x256, .f32⟩
  | .hbm, ⟨44, _⟩ => ⟨S_, .f32⟩
  | .hbm, ⟨45, _⟩ => ⟨S2x256x256, .f32⟩
  | .hbm, ⟨46, _⟩ => ⟨S2x256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel26.lean ====
abbrev S8x24x1024 : Shape := ⟨3, ![8, 24, 1024]⟩
abbrev S24x1024 : Shape := ⟨2, ![24, 1024]⟩
abbrev S8x8x1024 : Shape := ⟨3, ![8, 8, 1024]⟩
abbrev S8x1024 : Shape := ⟨2, ![8, 1024]⟩
abbrev S1x8x1024 : Shape := ⟨3, ![1, 8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S8x8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | .local _ .vmem, ⟨14, _⟩ => ⟨S8x1024, .f32⟩
  | .local _ .vmem, ⟨15, _⟩ => ⟨S8x1024, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference26Ideal.lean ====
abbrev S8x24x1024 : Shape := ⟨3, ![8, 24, 1024]⟩
abbrev S24x1024 : Shape := ⟨2, ![24, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S_, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S_, .f32⟩
  | .hbm, ⟨18, _⟩ => ⟨S24x1024, .f32⟩
  | .hbm, ⟨19, _⟩ => ⟨S24x1024, .f32⟩
  | .hbm, ⟨20, _⟩ => ⟨S24x1024, .f32⟩
  | .hbm, ⟨21, _⟩ => ⟨S_, .f32⟩
  | .hbm, ⟨22, _⟩ => ⟨S24x1024, .f32⟩
  | .hbm, ⟨23, _⟩ => ⟨S24x1024, .f32⟩
  | .hbm, ⟨24, _⟩ => ⟨S_, .f32⟩
  | .hbm, ⟨25, _⟩ => ⟨S24x1024, .f32⟩
  | .hbm, ⟨26, _⟩ => ⟨S24x1024, .f32⟩
  | .hbm, ⟨27, _⟩ => ⟨S24x1024, .f32⟩
  | .hbm, ⟨28, _⟩ => ⟨S_, .f32⟩
  | .hbm, ⟨29, _⟩ => ⟨S24x1024, .f32⟩
  | .hbm, ⟨30, _⟩ => ⟨S24x1024, .f32⟩
  | .hbm, ⟨31, _⟩ => ⟨S24x1024, .f32⟩
  | .hbm, ⟨32, _⟩ => ⟨S_, .f32⟩
  | .hbm, ⟨33, _⟩ => ⟨S24x1024, .f32⟩
  | .hbm, ⟨34, _⟩ => ⟨S24x1024, .f32⟩
  | .hbm, ⟨35, _⟩ => ⟨S24x1024, .f32⟩
  | .hbm, ⟨36, _⟩ => ⟨S_, .f32⟩
  | .hbm, ⟨37, _⟩ => ⟨S24x1024, .f32⟩
  | .hbm, ⟨38, _⟩ => ⟨S24x1024, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel27.lean ====
abbrev S8x4x384 : Shape := ⟨3, ![8, 4, 384]⟩
abbrev S2x4x384 : Shape := ⟨3, ![2, 4, 384]⟩
abbrev S1x4x384 : Shape := ⟨3, ![1, 4, 384]⟩
abbrev S4x384 : Shape := ⟨2, ![4, 384]⟩

abbrev nBuf : Space → Nat
  | .hbm => 9
  | .vmem => 16
  | .smem => 0
  | _ => 0

abbrev bufTy : (tb : Table) → Fin (tcTables nBuf tb) → BufTy
  | .hbm, ⟨0, _⟩ => ⟨S8x4x384, .f32⟩
  | .hbm, ⟨1, _⟩ => ⟨S8x4x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .hbm, ⟨7, _⟩ => ⟨S2x4x384, .f32⟩
  | .hbm, ⟨8, _⟩ => ⟨S2x4x384, .f32⟩
  | .local _ .vmem, ⟨0, _⟩ => ⟨S8x4x384, .f32⟩
  | .local _ .vmem, ⟨1, _⟩ => ⟨S8x4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .vmem, ⟨9, _⟩ => ⟨S1x4x384, .f32⟩
  | .local _ .vmem, ⟨10, _⟩ => ⟨S1x4x384, .f32⟩
  | .local _ .vmem, ⟨11, _⟩ => ⟨S1x4x384, .f32⟩
  | .local _ .vmem, ⟨12, _⟩ => ⟨S1x4x384, .f32⟩
  | .local _ .vmem, ⟨13, _⟩ => ⟨S1x4x384, .f32⟩
  | .local _ .vmem, ⟨14, _⟩ => ⟨S1x4x384, .f32⟩
  | .local _ .vmem, ⟨15, _⟩ => ⟨S1x4x384, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S8x4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S8x4x384 : Shape := ⟨3, ![8, 4, 384]⟩
abbrev S2x4x384 : Shape := ⟨3, ![2, 4, 384]⟩
abbrev S_ : Shape := ⟨0, ![]⟩
abbrev S4x384 : Shape := ⟨2, ![4, 384]⟩
abbrev S1x4x384 : Shape := ⟨3, ![1, 4, 384]⟩

abbrev nBuf : Space → Nat
  | .hbm => 45
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S8x4x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S_, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S1x4x384, .f32⟩
  | .hbm, ⟨10, _⟩ => ⟨S1x4x384, .f32⟩
  | .hbm, ⟨11, _⟩ => ⟨S2x4x384, .f32⟩
  | .hbm, ⟨12, _⟩ => ⟨S_, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S2x4x384, .f32⟩
  | .hbm, ⟨23, _⟩ => ⟨S_, .f32⟩
  | .hbm, ⟨24, _⟩ => ⟨S2x4x384, .f32⟩
  | .hbm, ⟨25, _⟩ => ⟨S2x4x384, .f32⟩
  | .hbm, ⟨26, _⟩ => ⟨S2x4x384, .f32⟩
  | .hbm, ⟨27, _⟩ => ⟨S_, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | .hbm, ⟨37, _⟩ => ⟨S2x4x384, .f32⟩
  | .hbm, ⟨38, _⟩ => ⟨S_, .f32⟩
  | .hbm, ⟨39, _⟩ => ⟨S2x4x384, .f32⟩
  | .hbm, ⟨40, _⟩ => ⟨S2x4x384, .f32⟩
  | .hbm, ⟨41, _⟩ => ⟨S2x4x384, .f32⟩
  | .hbm, ⟨42, _⟩ => ⟨S_, .f32⟩
  | .hbm, ⟨43, _⟩ => ⟨S2x4x384, .f32⟩
  | .hbm, ⟨44, _⟩ => ⟨S2x4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel28.lean ====
abbrev S8x16x128 : Shape := ⟨3, ![8, 16, 128]⟩
abbrev S1x16x128 : Shape := ⟨3, ![1, 16, 128]⟩
abbrev S16x128 : Shape := ⟨2, ![16, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S1x16x128, .f32⟩
  | .hbm, ⟨5, _⟩ => ⟨S1x16x128, .f32⟩
  | .hbm, ⟨6, _⟩ => ⟨S1x16x128, .f32⟩
  | .hbm, ⟨7, _⟩ => ⟨S1x16x128, .f32⟩
  | .local _ .vmem, ⟨0, _⟩ => ⟨S8x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference28Ideal.lean ====
abbrev S8x16x128 : Shape := ⟨3, ![8, 16, 128]⟩
abbrev S1x16x128 : Shape := ⟨3, ![1, 16, 128]⟩
abbrev S_ : Shape := ⟨0, ![]⟩
abbrev S16x128 : Shape := ⟨2, ![16, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S_, .f32⟩
  | .hbm, ⟨5, _⟩ => ⟨S16x128, .f32⟩
  | .hbm, ⟨6, _⟩ => ⟨S1x16x128, .f32⟩
  | .hbm, ⟨7, _⟩ => ⟨S_, .f32⟩
  | .hbm, ⟨8, _⟩ => ⟨S1x16x128, .f32⟩
  | .hbm, ⟨9, _⟩ => ⟨S1x16x128, .f32⟩
  | .hbm, ⟨10, _⟩ => ⟨S_, .f32⟩
  | .hbm, ⟨11, _⟩ => ⟨S1x16x128, .f32⟩
  | .hbm, ⟨12, _⟩ => ⟨S1x16x128, .f32⟩
  | .hbm, ⟨13, _⟩ => ⟨S1x16x128, .f32⟩
  | .hbm, ⟨14, _⟩ => ⟨S_, .f32⟩
  | .hbm, ⟨15, _⟩ => ⟨S1x16x128, .f32⟩
  | .hbm, ⟨16, _⟩ => ⟨S1x16x128, .f32⟩
  | .hbm, ⟨17, _⟩ => ⟨S1x16x128, .f32⟩
  | .hbm, ⟨18, _⟩ => ⟨S_, .f32⟩
  | .hbm, ⟨19, _⟩ => ⟨S1x16x128, .f32⟩
  | .hbm, ⟨20, _⟩ => ⟨S1x16x128, .f32⟩
  | .hbm, ⟨21, _⟩ => ⟨S1x16x128, .f32⟩
  | .hbm, ⟨22, _⟩ => ⟨S_, .f32⟩
  | .hbm, ⟨23, _⟩ => ⟨S1x16x128, .f32⟩
  | .hbm, ⟨24, _⟩ => ⟨S1x16x128, .f32⟩
  | .hbm, ⟨25, _⟩ => ⟨S_, .f32⟩
  | .hbm, ⟨26, _⟩ => ⟨S1x16x128, .f32⟩
  | .hbm, ⟨27, _⟩ => ⟨S1x16x128, .f32⟩
  | .hbm, ⟨28, _⟩ => ⟨S1x16x128, .f32⟩
  | .hbm, ⟨29, _⟩ => ⟨S_, .f32⟩
  | .hbm, ⟨30, _⟩ => ⟨S1x16x128, .f32⟩
  | .hbm, ⟨31, _⟩ => ⟨S1x16x128, .f32⟩
  | .hbm, ⟨32, _⟩ => ⟨S1x16x128, .f32⟩
  | .hbm, ⟨33, _⟩ => ⟨S_, .f32⟩
  | .hbm, ⟨34, _⟩ => ⟨S1x16x128, .f32⟩
  | .hbm, ⟨35, _⟩ => ⟨S1x16x128, .f32⟩
  | .hbm, ⟨36, _⟩ => ⟨S1x16x128, .f32⟩
  | .hbm, ⟨37, _⟩ => ⟨S_, .f32⟩
  | .hbm, ⟨38, _⟩ => ⟨S1x16x128, .f32⟩
  | .hbm, ⟨39, _⟩ => ⟨S1x16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S4352x512 : Shape := ⟨2, ![4352, 512]⟩
abbrev S4352x1024 : Shape := ⟨2, ![4352, 1024]⟩
abbrev S512x1024 : Shape := ⟨2, ![512, 1024]⟩
abbrev S1088x512 : Shape := ⟨2, ![1088, 512]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S4352x1024, .f32⟩
  | .hbm, ⟨2, _⟩ => ⟨S512x1024, .bf16⟩
  | .local _ .vmem, ⟨0, _⟩ => ⟨S1088x512, .bf16⟩
  | .local _ .vmem, ⟨1, _⟩ => ⟨S1088x512, .bf16⟩
  | .local _ .vmem, ⟨2, _⟩ => ⟨S1088x1024, .f32⟩
  | .local _ .vmem, ⟨3, _⟩ => ⟨S1088x1024, .f32⟩
  | .local _ .vmem, ⟨4, _⟩ => ⟨S512x1024, .bf16⟩
  | .local _ .vmem, ⟨5, _⟩ => ⟨S512x1024, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference29Ideal.lean ====
abbrev S4352x512 : Shape := ⟨2, ![4352, 512]⟩
abbrev S4352x1024 : Shape := ⟨2, ![4352, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x1024, .f32⟩
  | .hbm, ⟨2, _⟩ => ⟨S_, .f32⟩
  | .hbm, ⟨3, _⟩ => ⟨S512x1024, .f32⟩
  | .hbm, ⟨4, _⟩ => ⟨S4352x512, .f32⟩
  | .hbm, ⟨5, _⟩ => ⟨S4352x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel30.lean ====
abbrev S4352x512 : Shape := ⟨2, ![4352, 512]⟩
abbrev S4352x1024 : Shape := ⟨2, ![4352, 1024]⟩
abbrev S512x1024 : Shape := ⟨2, ![512, 1024]⟩
abbrev S1088x512 : Shape := ⟨2, ![1088, 512]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S512x1024, .bf16⟩
  | .local _ .vmem, ⟨0, _⟩ => ⟨S1088x512, .bf16⟩
  | .local _ .vmem, ⟨1, _⟩ => ⟨S1088x512, .bf16⟩
  | .local _ .vmem, ⟨2, _⟩ => ⟨S1088x1024, .bf16⟩
  | .local _ .vmem, ⟨3, _⟩ => ⟨S1088x1024, .bf16⟩
  | .local _ .vmem, ⟨4, _⟩ => ⟨S512x1024, .bf16⟩
  | .local _ .vmem, ⟨5, _⟩ => ⟨S512x1024, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference30Ideal.lean ====
abbrev S4352x512 : Shape := ⟨2, ![4352, 512]⟩
abbrev S4352x1024 : Shape := ⟨2, ![4352, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S4352x1024, .bf16⟩
  | .hbm, ⟨2, _⟩ => ⟨S_, .f32⟩
  | .hbm, ⟨3, _⟩ => ⟨S512x1024, .f32⟩
  | .hbm, ⟨4, _⟩ => ⟨S4352x512, .f32⟩
  | .hbm, ⟨5, _⟩ => ⟨S4352x1024, .f32⟩
  | .hbm, ⟨6, _⟩ => ⟨S4352x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel31.lean ====
abbrev S4352x256 : Shape := ⟨2, ![4352, 256]⟩
abbrev S4352x1024 : Shape := ⟨2, ![4352, 1024]⟩
abbrev S256x1024 : Shape := ⟨2, ![256, 1024]⟩
abbrev S1088x256 : Shape := ⟨2, ![1088, 256]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x256, .bf16⟩
  | .hbm, ⟨1, _⟩ => ⟨S4352x1024, .bf16⟩
  | .hbm, ⟨2, _⟩ => ⟨S256x1024, .bf16⟩
  | .local _ .vmem, ⟨0, _⟩ => ⟨S1088x256, .bf16⟩
  | .local _ .vmem, ⟨1, _⟩ => ⟨S1088x256, .bf16⟩
  | .local _ .vmem, ⟨2, _⟩ => ⟨S1088x1024, .bf16⟩
  | .local _ .vmem, ⟨3, _⟩ => ⟨S1088x1024, .bf16⟩
  | .local _ .vmem, ⟨4, _⟩ => ⟨S256x1024, .bf16⟩
  | .local _ .vmem, ⟨5, _⟩ => ⟨S256x1024, .f32⟩
  | _, _ => ⟨S4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1088x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference31Ideal.lean ====
abbrev S4352x256 : Shape := ⟨2, ![4352, 256]⟩
abbrev S4352x1024 : Shape := ⟨2, ![4352, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4352x256, .bf16⟩
  | .hbm, ⟨1, _⟩ => ⟨S4352x1024, .bf16⟩
  | .hbm, ⟨2, _⟩ => ⟨S_, .f32⟩
  | .hbm, ⟨3, _⟩ => ⟨S256x1024, .f32⟩
  | .hbm, ⟨4, _⟩ => ⟨S4352x256, .f32⟩
  | .hbm, ⟨5, _⟩ => ⟨S4352x1024, .f32⟩
  | .hbm, ⟨6, _⟩ => ⟨S4352x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel32.lean ====
abbrev S4352x512 : Shape := ⟨2, ![4352, 512]⟩
abbrev S512x1024 : Shape := ⟨2, ![512, 1024]⟩
abbrev S4352x1024 : Shape := ⟨2, ![4352, 1024]⟩
abbrev S1088x512 : Shape := ⟨2, ![1088, 512]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S512x1024, .bf16⟩
  | .hbm, ⟨2, _⟩ => ⟨S4352x1024, .bf16⟩
  | .local _ .vmem, ⟨0, _⟩ => ⟨S1088x512, .bf16⟩
  | .local _ .vmem, ⟨1, _⟩ => ⟨S1088x512, .bf16⟩
  | .local _ .vmem, ⟨2, _⟩ => ⟨S512x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S4352x512 : Shape := ⟨2, ![4352, 512]⟩
abbrev S512x1024 : Shape := ⟨2, ![512, 1024]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S512x1024, .bf16⟩
  | .hbm, ⟨2, _⟩ => ⟨S4352x512, .f32⟩
  | .hbm, ⟨3, _⟩ => ⟨S512x1024, .f32⟩
  | .hbm, ⟨4, _⟩ => ⟨S4352x1024, .f32⟩
  | .hbm, ⟨5, _⟩ => ⟨S4352x1024, .bf16⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel33.lean ====
abbrev S4352x512 : Shape := ⟨2, ![4352, 512]⟩
abbrev S512x1024 : Shape := ⟨2, ![512, 1024]⟩
abbrev S4352x1024 : Shape := ⟨2, ![4352, 1024]⟩
abbrev S1088x512 : Shape := ⟨2, ![1088, 512]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x512, .bf16⟩
  | .hbm, ⟨1, _⟩ => ⟨S512x1024, .bf16⟩
  | .hbm, ⟨2, _⟩ => ⟨S4352x1024, .f32⟩
  | .local _ .vmem, ⟨0, _⟩ => ⟨S1088x512, .bf16⟩
  | .local _ .vmem, ⟨1, _⟩ => ⟨S1088x512, .bf16⟩
  | .local _ .vmem, ⟨2, _⟩ => ⟨S512x1024, .bf16⟩
  | .local _ .vmem, ⟨3, _⟩ => ⟨S1088x1024, .f32⟩
  | .local _ .vmem, ⟨4, _⟩ => ⟨S1088x1024, .f32⟩
  | .local _ .vmem, ⟨5, _⟩ => ⟨S1088x1024, .f32⟩
  | _, _ => ⟨S4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S4352x512 : Shape := ⟨2, ![4352, 512]⟩
abbrev S512x1024 : Shape := ⟨2, ![512, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x512, .bf16⟩
  | .hbm, ⟨1, _⟩ => ⟨S512x1024, .bf16⟩
  | .hbm, ⟨2, _⟩ => ⟨S4352x512, .f32⟩
  | .hbm, ⟨3, _⟩ => ⟨S512x1024, .f32⟩
  | .hbm, ⟨4, _⟩ => ⟨S4352x1024, .f32⟩
  | _, _ => ⟨S4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel34.lean ====
abbrev S4352x256 : Shape := ⟨2, ![4352, 256]⟩
abbrev S256x1024 : Shape := ⟨2, ![256, 1024]⟩
abbrev S4352x1024 : Shape := ⟨2, ![4352, 1024]⟩
abbrev S1088x256 : Shape := ⟨2, ![1088, 256]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x256, .bf16⟩
  | .hbm, ⟨1, _⟩ => ⟨S256x1024, .bf16⟩
  | .hbm, ⟨2, _⟩ => ⟨S4352x1024, .bf16⟩
  | .local _ .vmem, ⟨0, _⟩ => ⟨S1088x256, .bf16⟩
  | .local _ .vmem, ⟨1, _⟩ => ⟨S1088x256, .bf16⟩
  | .local _ .vmem, ⟨2, _⟩ => ⟨S256x1024, .bf16⟩
  | .local _ .vmem, ⟨3, _⟩ => ⟨S1088x1024, .bf16⟩
  | .local _ .vmem, ⟨4, _⟩ => ⟨S1088x1024, .bf16⟩
  | .local _ .vmem, ⟨5, _⟩ => ⟨S1088x1024, .f32⟩
  | _, _ => ⟨S4352x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S4352x256 : Shape := ⟨2, ![4352, 256]⟩
abbrev S256x1024 : Shape := ⟨2, ![256, 1024]⟩
abbrev S4352x1024 : Shape := ⟨2, ![4352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4352x256, .bf16⟩
  | .hbm, ⟨1, _⟩ => ⟨S256x1024, .bf16⟩
  | .hbm, ⟨2, _⟩ => ⟨S4352x256, .f32⟩
  | .hbm, ⟨3, _⟩ => ⟨S256x1024, .f32⟩
  | .hbm, ⟨4, _⟩ => ⟨S4352x1024, .f32⟩
  | .hbm, ⟨5, _⟩ => ⟨S4352x1024, .bf16⟩
  | _, _ => ⟨S4352x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel35.lean ====
abbrev S4352x1024 : Shape := ⟨2, ![4352, 1024]⟩
abbrev S512x1024 : Shape := ⟨2, ![512, 1024]⟩
abbrev S4352x512 : Shape := ⟨2, ![4352, 512]⟩
abbrev S1088x1024 : Shape := ⟨2, ![1088, 1024]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .f32⟩
  | .hbm, ⟨1, _⟩ => ⟨S512x1024, .bf16⟩
  | .hbm, ⟨2, _⟩ => ⟨S4352x512, .f32⟩
  | .local _ .vmem, ⟨0, _⟩ => ⟨S1088x1024, .f32⟩
  | .local _ .vmem, ⟨1, _⟩ => ⟨S1088x1024, .f32⟩
  | .local _ .vmem, ⟨2, _⟩ => ⟨S512x1024, .bf16⟩
  | .local _ .vmem, ⟨3, _⟩ => ⟨S1088x512, .f32⟩
  | .local _ .vmem, ⟨4, _⟩ => ⟨S1088x512, .f32⟩
  | .local _ .vmem, ⟨5, _⟩ => ⟨S1088x512, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S4352x1024 : Shape := ⟨2, ![4352, 1024]⟩
abbrev S512x1024 : Shape := ⟨2, ![512, 1024]⟩
abbrev S_ : Shape := ⟨0, ![]⟩
abbrev S4352x512 : Shape := ⟨2, ![4352, 512]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .f32⟩
  | .hbm, ⟨1, _⟩ => ⟨S512x1024, .bf16⟩
  | .hbm, ⟨2, _⟩ => ⟨S_, .f32⟩
  | .hbm, ⟨3, _⟩ => ⟨S4352x512, .f32⟩
  | .hbm, ⟨4, _⟩ => ⟨S512x1024, .f32⟩
  | .hbm, ⟨5, _⟩ => ⟨S4352x1024, .f32⟩
  | .hbm, ⟨6, _⟩ => ⟨S4352x512, .f32⟩
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel36.lean ====
abbrev S4352x1024 : Shape := ⟨2, ![4352, 1024]⟩
abbrev S512x1024 : Shape := ⟨2, ![512, 1024]⟩
abbrev S4352x512 : Shape := ⟨2, ![4352, 512]⟩
abbrev S1088x1024 : Shape := ⟨2, ![1088, 1024]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S512x1024, .bf16⟩
  | .hbm, ⟨2, _⟩ => ⟨S4352x512, .f32⟩
  | .hbm, ⟨3, _⟩ => ⟨S4352x512, .f32⟩
  | .local _ .vmem, ⟨0, _⟩ => ⟨S1088x1024, .bf16⟩
  | .local _ .vmem, ⟨1, _⟩ => ⟨S1088x1024, .bf16⟩
  | .local _ .vmem, ⟨2, _⟩ => ⟨S512x1024, .bf16⟩
  | .local _ .vmem, ⟨3, _⟩ => ⟨S1088x512, .f32⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference36Ideal.lean ====
abbrev S4352x1024 : Shape := ⟨2, ![4352, 1024]⟩
abbrev S512x1024 : Shape := ⟨2, ![512, 1024]⟩
abbrev S4352x512 : Shape := ⟨2, ![4352, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S512x1024, .bf16⟩
  | .hbm, ⟨2, _⟩ => ⟨S4352x512, .f32⟩
  | .hbm, ⟨3, _⟩ => ⟨S_, .f32⟩
  | .hbm, ⟨4, _⟩ => ⟨S4352x512, .f32⟩
  | .hbm, ⟨5, _⟩ => ⟨S512x1024, .f32⟩
  | .hbm, ⟨6, _⟩ => ⟨S4352x1024, .f32⟩
  | .hbm, ⟨7, _⟩ => ⟨S4352x1024, .f32⟩
  | .hbm, ⟨8, _⟩ => ⟨S4352x512, .f32⟩
  | .hbm, ⟨9, _⟩ => ⟨S4352x512, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel37.lean ====
abbrev S4352x1024 : Shape := ⟨2, ![4352, 1024]⟩
abbrev S256x1024 : Shape := ⟨2, ![256, 1024]⟩
abbrev S4352x256 : Shape := ⟨2, ![4352, 256]⟩
abbrev S1088x1024 : Shape := ⟨2, ![1088, 1024]⟩
abbrev S1088x256 : Shape := ⟨2, ![1088, 256]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S256x1024, .bf16⟩
  | .hbm, ⟨2, _⟩ => ⟨S4352x256, .f32⟩
  | .local _ .vmem, ⟨0, _⟩ => ⟨S1088x1024, .bf16⟩
  | .local _ .vmem, ⟨1, _⟩ => ⟨S1088x1024, .bf16⟩
  | .local _ .vmem, ⟨2, _⟩ => ⟨S256x1024, .bf16⟩
  | .local _ .vmem, ⟨3, _⟩ => ⟨S1088x256, .f32⟩
  | .local _ .vmem, ⟨4, _⟩ => ⟨S1088x256, .f32⟩
  | .local _ .vmem, ⟨5, _⟩ => ⟨S1088x256, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference37Ideal.lean ====
abbrev S4352x1024 : Shape := ⟨2, ![4352, 1024]⟩
abbrev S256x1024 : Shape := ⟨2, ![256, 1024]⟩
abbrev S_ : Shape := ⟨0, ![]⟩
abbrev S4352x256 : Shape := ⟨2, ![4352, 256]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S256x1024, .bf16⟩
  | .hbm, ⟨2, _⟩ => ⟨S_, .f32⟩
  | .hbm, ⟨3, _⟩ => ⟨S4352x256, .f32⟩
  | .hbm, ⟨4, _⟩ => ⟨S256x1024, .f32⟩
  | .hbm, ⟨5, _⟩ => ⟨S4352x1024, .f32⟩
  | .hbm, ⟨6, _⟩ => ⟨S4352x1024, .f32⟩
  | .hbm, ⟨7, _⟩ => ⟨S4352x256, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel38.lean ====
abbrev S4352x1024 : Shape := ⟨2, ![4352, 1024]⟩
abbrev S256x1024 : Shape := ⟨2, ![256, 1024]⟩
abbrev S4352x256 : Shape := ⟨2, ![4352, 256]⟩
abbrev S1088x1024 : Shape := ⟨2, ![1088, 1024]⟩
abbrev S1088x256 : Shape := ⟨2, ![1088, 256]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S256x1024, .bf16⟩
  | .hbm, ⟨2, _⟩ => ⟨S4352x256, .f32⟩
  | .hbm, ⟨3, _⟩ => ⟨S4352x256, .f32⟩
  | .local _ .vmem, ⟨0, _⟩ => ⟨S1088x1024, .bf16⟩
  | .local _ .vmem, ⟨1, _⟩ => ⟨S1088x1024, .bf16⟩
  | .local _ .vmem, ⟨2, _⟩ => ⟨S256x1024, .bf16⟩
  | .local _ .vmem, ⟨3, _⟩ => ⟨S1088x256, .f32⟩
  | .local _ .vmem, ⟨4, _⟩ => ⟨S1088x256, .f32⟩
  | .local _ .vmem, ⟨5, _⟩ => ⟨S1088x256, .f32⟩
  | .local _ .vmem, ⟨6, _⟩ => ⟨S1088x256, .f32⟩
  | .local _ .vmem, ⟨7, _⟩ => ⟨S1088x256, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference38Ideal.lean ====
abbrev S4352x1024 : Shape := ⟨2, ![4352, 1024]⟩
abbrev S256x1024 : Shape := ⟨2, ![256, 1024]⟩
abbrev S4352x256 : Shape := ⟨2, ![4352, 256]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S256x1024, .bf16⟩
  | .hbm, ⟨2, _⟩ => ⟨S4352x256, .f32⟩
  | .hbm, ⟨3, _⟩ => ⟨S_, .f32⟩
  | .hbm, ⟨4, _⟩ => ⟨S4352x256, .f32⟩
  | .hbm, ⟨5, _⟩ => ⟨S256x1024, .f32⟩
  | .hbm, ⟨6, _⟩ => ⟨S4352x1024, .f32⟩
  | .hbm, ⟨7, _⟩ => ⟨S4352x1024, .f32⟩
  | .hbm, ⟨8, _⟩ => ⟨S4352x256, .f32⟩
  | .hbm, ⟨9, _⟩ => ⟨S4352x256, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Fr.Kit.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

/-! # What the runs of the body share

The frame of the attention's gradient names nothing of what the outputs hold. -/

noncomputable section

namespace Cert.Kernel.Fr

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes an argument: the region finds each as launched. -/
theorem V_args (c : Dev nD) :
    V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5) := by
  refine ⟨StableHlo.after_of_forall_not_mem (b := Proc.devRef .tc main_arg0) _ _ (List.forall_iff_forall_mem.mp ?_),
    StableHlo.after_of_forall_not_mem (b := Proc.devRef .tc main_arg1) _ _ (List.forall_iff_forall_mem.mp ?_),
    StableHlo.after_of_forall_not_mem (b := Proc.devRef .tc main_arg2) _ _ (List.forall_iff_forall_mem.mp ?_),
    StableHlo.after_of_forall_not_mem (b := Proc.devRef .tc main_arg3) _ _ (List.forall_iff_forall_mem.mp ?_),
    StableHlo.after_of_forall_not_mem (b := Proc.devRef .tc main_arg4) _ _ (List.forall_iff_forall_mem.mp ?_),
    StableHlo.after_of_forall_not_mem (b := Proc.devRef .tc main_arg5) _ _ (List.forall_iff_forall_mem.mp ?_)⟩ <;>
  · simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)
theorem V_main_arg0 (c : Dev nD) : V m c main_arg0 = m ((c : Thread nD τ).loc main_arg0) := (V_args m c).1
theorem V_main_arg1 (c : Dev nD) : V m c main_arg1 = m ((c : Thread nD τ).loc main_arg1) := (V_args m c).2.1
theorem V_main_arg2 (c : Dev nD) : V m c main_arg2 = m ((c : Thread nD τ).loc main_arg2) := (V_args m c).2.2.1
theorem V_main_arg3 (c : Dev nD) : V m c main_arg3 = m ((c : Thread nD τ).loc main_arg3) := (V_args m c).2.2.2.1
theorem V_main_arg4 (c : Dev nD) : V m c main_arg4 = m ((c : Thread nD τ).loc main_arg4) := (V_args m c).2.2.2.2.1
theorem V_main_arg5 (c : Dev nD) : V m c main_arg5 = m ((c : Thread nD τ).loc main_arg5) := (V_args m c).2.2.2.2.2

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for ANY proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 3) — by arithmetic of the point. -/
theorem hcond0_0 : ∀ t : Fin cfg0.N, cond0_0 (grid0.coords t) ↔ t.val % 3 = 0 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [cond0_0, k0_cond1, e0, e1, e2]
    word_cmp
   : ∀ t : Fin grid0.N, cond0_0 (grid0.coords t) ↔ t.val % 3 = 0)

/-- The condition of the body's `scf.if` 1 (`k0_h2`), from the grid coordinates (the skeleton's scalar
    chain substituted). -/
abbrev cond0_1 (i : grid0.Coords) : Prop := k0_cond2 i = 1#1
/-- It holds at the points ≡ 0 (mod 3) — by arithmetic of the point. -/
theorem hcond0_1 : ∀ t : Fin cfg0.N, cond0_1 (grid0.coords t) ↔ t.val % 3 = 0 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [cond0_1, k0_cond2, e0, e1, e2]
    word_cmp
   : ∀ t : Fin grid0.N, cond0_1 (grid0.coords t) ↔ t.val % 3 = 0)

/-- The condition of the body's `scf.if` 2 (`k0_h3`), from the grid coordinates (the skeleton's scalar
    chain substituted). -/
abbrev cond0_2 (i : grid0.Coords) : Prop := k0_cond3 i = 1#1
/-- It holds at the points ≡ 1 (mod 3) — by arithmetic of the point. -/
theorem hcond0_2 : ∀ t : Fin cfg0.N, cond0_2 (grid0.coords t) ↔ t.val % 3 = 1 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [cond0_2, k0_cond3, e0, e1, e2]
    word_cmp
   : ∀ t : Fin grid0.N, cond0_2 (grid0.coords t) ↔ t.val % 3 = 1)

/-- The condition of the body's `scf.if` 3 (`k0_h4`), from the grid coordinates (the skeleton's scalar
    chain substituted). -/
abbrev cond0_3 (i : grid0.Coords) : Prop := k0_cond4 i = 1#1
/-- It holds at the points ≡ 2 (mod 3) — by arithmetic of the point. -/
theorem hcond0_3 : ∀ t : Fin cfg0.N, cond0_3 (grid0.coords t) ↔ t.val % 3 = 2 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [cond0_3, k0_cond4, e0, e1, e2]
    word_cmp
   : ∀ t : Fin grid0.N, cond0_3 (grid0.coords t) ↔ t.val % 3 = 2)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2176x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2176x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2176x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2176x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2176x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2176x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2176x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x3x8x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2176x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2176x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2176x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2176x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2176x128 .bf16 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S2176x256 .bf16 := Memref.whole cc0_scratch0
abbrev scM0_1 : Memref sig .tc .vmem S3x8x1024 .f32 := Memref.whole cc0_scratch1

/-- The frame kit's invariant with the scratch operands as memrefs owned at some contents (`scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.Fr.RunA.lean ====
module

public import proofs.«01_k».proof.Proof.Fr.Kit

@[expose] public section

-- membership in a rectangle of production extents (`View.cover_of_tiled`): the elaborator's structural look
-- recurses once per coordinate of the long axes
set_option maxRecDepth 16384

/-! # The body at the points of a first key tile

The frame of the attention's gradient names nothing of what the outputs hold. -/

noncomputable section

namespace Cert.Kernel.Fr

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 taken, `scf.if` 2 not taken, `scf.if` 3 not taken: points 0, 3, … 45: 16 of 48): on whole staging memrefs — the inputs' at their contents,
    the FORGOTTEN outputs' (8, 9, 10, 11, 12) at anything, handed back at some contents nothing names —
    the body runs to the continuation holding the inputs' as they were, the scratch at some contents: the printed functions are their skeletons (`*_eq_skeleton`),
    which `sl_exec` runs () — each `scf.if` decided by the case's hypotheses `hc·`. -/
theorem kernelRun0_A (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : cond0_0 i) (hc1 : cond0_1 i) (hc2 : ¬cond0_2 i) (hc3 : ¬cond0_3 i)
    (x0 x1 x2 x3 x4 x5 x6 : Vec F S2176x128 .bf16) (x7 : Vec F S1x1x3x8x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_attn_bwd_eq_skeleton]; unfold cc0_attn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    iexists _, _; isplitr; swap; · iexact HS1
    ipureintro; rfl

end Cert.Kernel.Fr

end
-- ==== Proof.Fr.RunB.lean ====
module

public import proofs.«01_k».proof.Proof.Fr.RunA

@[expose] public section

-- membership in a rectangle of production extents (`View.cover_of_tiled`): the elaborator's structural look
-- recurses once per coordinate of the long axes
set_option maxRecDepth 16384

/-! # The body at the points of a second key tile

The frame of the attention's gradient names nothing of what the outputs hold. -/

noncomputable section

namespace Cert.Kernel.Fr

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 not taken, `scf.if` 2 taken, `scf.if` 3 not taken: points 1, 4, … 46: 16 of 48): on whole staging memrefs — the inputs' at their contents,
    the FORGOTTEN outputs' (8, 9, 10, 11, 12) at anything, handed back at some contents nothing names —
    the body runs to the continuation holding the inputs' as they were, the scratch at some contents: the printed functions are their skeletons (`*_eq_skeleton`),
    which `sl_exec` runs () — each `scf.if` decided by the case's hypotheses `hc·`. -/
theorem kernelRun0_B (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : ¬cond0_0 i) (hc1 : ¬cond0_1 i) (hc2 : cond0_2 i) (hc3 : ¬cond0_3 i)
    (x0 x1 x2 x3 x4 x5 x6 : Vec F S2176x128 .bf16) (x7 : Vec F S1x1x3x8x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_attn_bwd_eq_skeleton]; unfold cc0_attn_bwd_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    iexists _, _; isplitr; swap; · iexact HS1
    ipureintro; rfl

end Cert.Kernel.Fr

end
-- ==== Proof.Fr.RunC.lean ====
module

public import proofs.«01_k».proof.Proof.Fr.RunB

@[expose] public section

-- membership in a rectangle of production extents (`View.cover_of_tiled`): the elaborator's structural look
-- recurses once per coordinate of the long axes
set_option maxRecDepth 16384

/-! # The body at the points of a third key tile

The frame of the attention's gradient names nothing of what the outputs hold. -/

noncomputable section

namespace Cert.Kernel.Fr

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE C (`scf.if` 0 not taken, `scf.if` 1 not taken, `scf.if` 2 not taken, `scf.if` 3 taken: points 2, 5, … 47: 16 of 48): on whole staging memrefs — the inputs' at their contents,
    the FORGOTTEN outputs' (8, 9, 10, 11, 12) at anything, handed back at some contents nothing names —
    the body runs to the continuation holding the inputs' as they were, the scratch at some contents: the printed functions are their skeletons (`*_eq_skeleton`),
    which `sl_exec` runs () — each `scf.if` decided by the case's hypotheses `hc·`. -/
theorem kernelRun0_C (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : ¬cond0_0 i) (hc1 : ¬cond0_1 i) (hc2 : ¬cond0_2 i) (hc3 : cond0_3 i)
    (x0 x1 x2 x3 x4 x5 x6 : Vec F S2176x128 .bf16) (x7 : Vec F S1x1x3x8x1024 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_attn_bwd_eq_skeleton]; unfold cc0_attn_bwd_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    iexists _, _; isplitr; swap; · iexact HS1
    ipureintro; rfl

end Cert.Kernel.Fr

end
-- ==== Proof.Fr.Run.lean ====
module

public import proofs.«01_k».proof.Proof.Fr.RunC
public import Idealize.ShloMosaic.Lib.Claim

@[expose] public section

-- membership in a rectangle of production extents (`View.cover_of_tiled`): the elaborator's structural look
-- recurses once per coordinate of the long axes
set_option maxRecDepth 16384

/-! # The frame of the program read at bits

The frame of the attention's gradient names nothing of what the outputs hold. -/

noncomputable section

namespace Cert.Kernel.Fr

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8, 9, 10, 11, 12): nothing reads what the kernel leaves in them, so nothing
    of it is named (`Dat.toRForget`). -/
def forgets0 : Fin 13 → Bool := fun w => w.val == 8 || w.val == 9 || w.val == 10 || w.val == 11 || w.val == 12

/-- The proof data of the one pipeline on core `c`: the arrays as the region finds them (`V`); after the body at
    point `t` each input's buffer at its block and the outputs, FORGOTTEN, at `Dat.unnamed`; the invariant the class's
    (`ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! What the body leaves in an input window's buffer. -/

theorem leaves_0 (c : Dev nD) (t : Fin cfg0.N) : (dats m 0 c).leavesExact 0 t = owns (c : Thread nD τ) (ms0_0 t) fullShare (iblk m c 0 t) := by
  rw [← after0_0]
theorem leaves_1 (c : Dev nD) (t : Fin cfg0.N) : (dats m 0 c).leavesExact 1 t = owns (c : Thread nD τ) (ms0_1 t) fullShare (iblk m c 1 t) := by
  rw [← after0_1]
theorem leaves_2 (c : Dev nD) (t : Fin cfg0.N) : (dats m 0 c).leavesExact 2 t = owns (c : Thread nD τ) (ms0_2 t) fullShare (iblk m c 2 t) := by
  rw [← after0_2]
theorem leaves_3 (c : Dev nD) (t : Fin cfg0.N) : (dats m 0 c).leavesExact 3 t = owns (c : Thread nD τ) (ms0_3 t) fullShare (iblk m c 3 t) := by
  rw [← after0_3]
theorem leaves_4 (c : Dev nD) (t : Fin cfg0.N) : (dats m 0 c).leavesExact 4 t = owns (c : Thread nD τ) (ms0_4 t) fullShare (iblk m c 4 t) := by
  rw [← after0_4]
theorem leaves_5 (c : Dev nD) (t : Fin cfg0.N) : (dats m 0 c).leavesExact 5 t = owns (c : Thread nD τ) (ms0_5 t) fullShare (iblk m c 5 t) := by
  rw [← after0_5]
theorem leaves_6 (c : Dev nD) (t : Fin cfg0.N) : (dats m 0 c).leavesExact 6 t = owns (c : Thread nD τ) (ms0_6 t) fullShare (iblk m c 6 t) := by
  rw [← after0_6]
theorem leaves_7 (c : Dev nD) (t : Fin cfg0.N) : (dats m 0 c).leavesExact 7 t = owns (c : Thread nD τ) (ms0_7 t) fullShare (iblk m c 7 t) := by
  rw [← after0_7]

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 3600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 48 := lt_of_lt_of_eq t.isLt (show cfg0.N = 48 from N_0)
  by_cases h0 : t.val % 3 = 0
  · by_cases h1 : t.val % 3 = 0
    · by_cases h2 : t.val % 3 = 1
      · exfalso; omega
      · by_cases h3 : t.val % 3 = 2
        · exfalso; omega
        · rw [leaves_0, leaves_1, leaves_2, leaves_3, leaves_4, leaves_5, leaves_6, leaves_7]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_A c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          iintro ⟨H0, H1, H2, H3, H4, H5, H6, H7, H8, H9, H10, H11, H12, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
    · exfalso; omega
  · by_cases h1 : t.val % 3 = 0
    · exfalso; omega
    · by_cases h2 : t.val % 3 = 1
      · by_cases h3 : t.val % 3 = 2
        · exfalso; omega
        · rw [leaves_0, leaves_1, leaves_2, leaves_3, leaves_4, leaves_5, leaves_6, leaves_7]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          iintro ⟨H0, H1, H2, H3, H4, H5, H6, H7, H8, H9, H10, H11, H12, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
      · by_cases h3 : t.val % 3 = 2
        · rw [leaves_0, leaves_1, leaves_2, leaves_3, leaves_4, leaves_5, leaves_6, leaves_7]
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
          iapply ((kernelRun0_C c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [H9]; · iexists _; iexact H9
          isplitl [H10]; · iexists _; iexact H10
          isplitl [H11]; · iexists _; iexact H11
          isplitl [H12]; · iexists _; iexact H12
          isplitl [HS0]; · iexact HS0
          isplitl [HS1]; · iexact HS1
          iintro ⟨H0, H1, H2, H3, H4, H5, H6, H7, H8, H9, H10, H11, H12, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          iexact H12
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10, 11, 12) (`RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Fr

end
-- ==== Proof.Bwd.Conds.lean ====
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition 1 holds exactly at the points whose key tile is number 0. -/
theorem hcond1 : ∀ t : Fin cfg0.N, k0_cond1 (grid0.coords t) = 1#1 ↔ t.val % 3 = 0 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [k0_cond1, e0, e1, e2]
    word_cmp
   : ∀ t : Fin grid0.N, k0_cond1 (grid0.coords t) = 1#1 ↔ t.val % 3 = 0)

/-- The body's condition 2 holds exactly at the points whose key tile is number 0. -/
theorem hcond2 : ∀ t : Fin cfg0.N, k0_cond2 (grid0.coords t) = 1#1 ↔ t.val % 3 = 0 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [k0_cond2, e0, e1, e2]
    word_cmp
   : ∀ t : Fin grid0.N, k0_cond2 (grid0.coords t) = 1#1 ↔ t.val % 3 = 0)

/-- The body's condition 3 holds exactly at the points whose key tile is number 1. -/
theorem hcond3 : ∀ t : Fin cfg0.N, k0_cond3 (grid0.coords t) = 1#1 ↔ t.val % 3 = 1 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [k0_cond3, e0, e1, e2]
    word_cmp
   : ∀ t : Fin grid0.N, k0_cond3 (grid0.coords t) = 1#1 ↔ t.val % 3 = 1)

/-- The body's condition 4 holds exactly at the points whose key tile is number 2. -/
theorem hcond4 : ∀ t : Fin cfg0.N, k0_cond4 (grid0.coords t) = 1#1 ↔ t.val % 3 = 2 :=
  (fun t => by
    have ht : t.val < 48 := Nat.lt_of_lt_of_eq t.isLt N_0
    have e0 : (grid0.coords t 0).val = t.val / 24 % 2 := Pipeline.Grid.coords_val t 0 (by decide) rfl
    have e1 : (grid0.coords t 1).val = t.val / 3 % 8 := Pipeline.Grid.coords_val t 1 (by decide) rfl
    have e2 : (grid0.coords t 2).val = t.val / 1 % 3 := Pipeline.Grid.coords_val t 2 (by decide) rfl
    simp only [k0_cond4, e0, e1, e2]
    word_cmp
   : ∀ t : Fin grid0.N, k0_cond4 (grid0.coords t) = 1#1 ↔ t.val % 3 = 2)

/-- What the launch hands the pipeline besides the staging buffers: the two scratch buffers at some contents and the
generator register at some state. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

end Cert.KernelIdeal.Bwd

end
-- ==== Proof.Bwd.RunA.lean ====
module

public import proofs.«01_k».proof.Proof.Bwd.Conds

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose key tile is the first one: from staging buffers and scratch at known contents to the same inputs, and the outputs and the scratch with the listed pieces written over what they held. -/
noncomputable def runA (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : k0_cond1 i = 1#1) (hc1 : k0_cond2 i = 1#1) (hc2 : ¬k0_cond3 i = 1#1) (hc3 : ¬k0_cond4 i = 1#1)
    (x0 x1 x2 x3 x4 x5 x6 : Vec F S2176x128 .bf16) (x7 : Vec F S1x1x3x8x1024 .f32) (x8 x9 : Vec F S2176x128 .f32) (x10 : Vec F S2176x128 .bf16) (x11 : Vec F S2176x128 .f32) (x12 : Vec F S2176x128 .bf16) (x13 : Vec F S2176x256 .bf16) (x14 : Vec F S3x8x1024 .f32) :
    Σ' (L8 : List (View.Piece (Elt F) S2176x128 .f32)), Σ' (L9 : List (View.Piece (Elt F) S2176x128 .f32)), Σ' (L10 : List (View.Piece (Elt F) S2176x128 .bf16)), Σ' (L11 : List (View.Piece (Elt F) S2176x128 .f32)), Σ' (L12 : List (View.Piece (Elt F) S2176x128 .bf16)), Σ' (L13 : List (View.Piece (Elt F) S2176x256 .bf16)), { L14 : List (View.Piece (Elt F) S3x8x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (arg11.view.loc (c : Thread nD τ) ↦[arg11.view.set]{fullShare} arg11.view.writes (Elt F) (harg11.unread x8) L8) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread x10) L10) ∗ (arg14.view.loc (c : Thread nD τ) ↦[arg14.view.set]{fullShare} arg14.view.writes (Elt F) (harg14.unread x11) L11) ∗ (arg15.view.loc (c : Thread nD τ) ↦[arg15.view.set]{fullShare} arg15.view.writes (Elt F) (harg15.unread x12) L12) ∗ (arg16.view.loc (c : Thread nD τ) ↦[arg16.view.set]{fullShare} arg16.view.writes (Elt F) (harg16.unread x13) L13) ∗ (arg17.view.loc (c : Thread nD τ) ↦[arg17.view.set]{fullShare} arg17.view.writes (Elt F) (harg17.unread x14) L14)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexact H8
    isplitl [H9]
    · iexact H9
    isplitl [H10]
    · iexact H10
    isplitl [H11]
    · iexact H11
    isplitl [H12]
    · iexact H12
    isplitl [H13]
    · iexact H13
    iexact H14

end Cert.KernelIdeal.Bwd

end
-- ==== Proof.Bwd.Spec.lean ====
module
public import proofs.«01_k».proof.Proof.Gen.KernelIdeal.Skeleton
public import Idealize.ShloMosaic.Lib.Pointwise
@[expose] public section
set_option maxRecDepth 16384

/-! # The gradient of the causal attention of one head, row by row

The arrays one grid step sees (one batch row and one head) and, from them, the sums the kernel's body accumulates.
`D` is the gradient of the scores (scaled); `P` the softmax weights; the kernel's tiles are ranges of the 2176 rows. -/

namespace Cert.KernelIdeal.Bwd
open Cert.KernelIdeal.Gen
open Idealize.ShloMosaic Idealize.ShloMosaic.TcCoe Idealize.ShloMosaic.Tactic

/-- The scale of the scores. -/
noncomputable abbrev scl : EReal := Ideal.ofBits FTy.f32 1033096506#32

/-- The eight arrays of one head: queries, keys (each in two halves), values, the cotangent, the output of the forward pass
and the logarithms of its row sums, the last in three tiles. -/
structure Blk where
  qn : Vec Ideal S2176x128 .bf16
  qp : Vec Ideal S2176x128 .bf16
  kn : Vec Ideal S2176x128 .bf16
  kp : Vec Ideal S2176x128 .bf16
  vv : Vec Ideal S2176x128 .bf16
  dO : Vec Ideal S2176x128 .bf16
  o : Vec Ideal S2176x128 .bf16
  lse : Vec Ideal S1x1x3x8x1024 .f32

/-- Row `o + k`. -/
def up (o n : ℕ) (h : o + n ≤ 2176) (k : Fin n) : Fin 2176 := ⟨o + k.1, by omega⟩

namespace Blk
variable (B : Blk)

/-- The logarithm of the row sum of query `q`. -/
noncomputable def L (q : Fin 2176) : EReal :=
  if h : q.1 < 128 then B.lse (ix5 0 0 0 0 ⟨q.1, by omega⟩)
  else if h' : q.1 - 128 < 1024 then B.lse (ix5 0 0 1 0 ⟨q.1 - 128, h'⟩)
  else B.lse (ix5 0 0 2 0 ⟨q.1 - 128 - 1024, by omega⟩)

/-- The product of the cotangent and the output of query `q`, summed over the row. -/
noncomputable def dl (q : Fin 2176) : EReal := ∑ e, B.dO (ix2 q e) * B.o (ix2 q e)

/-- The scaled score of key `k` at query `q`. -/
noncomputable def S (k q : Fin 2176) : EReal :=
  (∑ e, B.kn (ix2 k e) * B.qn (ix2 q e) + ∑ e, B.kp (ix2 k e) * B.qp (ix2 q e)) * scl

/-- The weight of key `k` at query `q`: zero for keys past the query. -/
noncomputable def P (k q : Fin 2176) : EReal := if k ≤ q then Ideal.exp (B.S k q - B.L q) else 0

/-- The gradient of the scaled score of key `k` at query `q`, times the scale. -/
noncomputable def D (k q : Fin 2176) : EReal := B.P k q * (∑ e, B.vv (ix2 k e) * B.dO (ix2 q e) - B.dl q) * scl

/-- What the keys below `e` give the gradient of one half `K` of the queries. -/
noncomputable def dq (K : Vec Ideal S2176x128 .bf16) (e : ℕ) (q : Fin 2176) (d : Fin 128) : EReal :=
  ∑ k : Fin 2176, if k.1 < e then B.D k q * K (ix2 k d) else 0

/-- The gradient of one half of the keys, from that half `Q` of the queries. -/
noncomputable def dk (Q : Vec Ideal S2176x128 .bf16) (k : Fin 2176) (d : Fin 128) : EReal :=
  ∑ q : Fin 2176, B.D k q * Q (ix2 q d)

/-- The gradient of the values. -/
noncomputable def dv (k : Fin 2176) (d : Fin 128) : EReal := ∑ q : Fin 2176, B.P k q * B.dO (ix2 q d)

theorem P_of_lt {k q : Fin 2176} (h : q.1 < k.1) : B.P k q = 0 := if_neg (fun h' : k.1 ≤ q.1 => by omega)
theorem D_of_lt {k q : Fin 2176} (h : q.1 < k.1) : B.D k q = 0 := by rw [D, B.P_of_lt h, zero_mul, zero_mul]
end Blk

/-- The constant of the mask is the bottom element. -/
theorem mask_eq : Ideal.ofBits FTy.f32 4286578688#32 = (⊥ : EReal) := by
  simp [Ideal.ofBits, Ideal.ieee]

/-- A sum over the rows below `o + n` is the sum over those below `o` and the `n` rows after them. -/
theorem sum_tile (f : Fin 2176 → EReal) (o n : ℕ) (h : o + n ≤ 2176) :
    (∑ k : Fin 2176, if k.1 < o + n then f k else 0)
      = (∑ k : Fin 2176, if k.1 < o then f k else 0) + ∑ x : Fin n, f (up o n h x) := by
  obtain ⟨m, hm⟩ : ∃ m, 2176 = o + n + m := ⟨2176 - (o + n), by omega⟩
  let g : ℕ → EReal := fun i => if hi : i < 2176 then f ⟨i, hi⟩ else 0
  have e1 : ∀ t : ℕ, t ≤ 2176 → (∑ k : Fin 2176, if k.1 < t then f k else 0) = ∑ i ∈ Finset.range t, g i := by
    intro t ht
    rw [Finset.sum_ite, Finset.sum_const_zero, add_zero]
    refine Finset.sum_bij (fun a _ => a.1) (by simp) (fun a _ b _ => Fin.ext) ?_ ?_
    · intro b hb
      have hb' := Finset.mem_range.1 hb
      exact ⟨⟨b, by omega⟩, by simpa using hb', rfl⟩
    · intro a _
      simp only [g, a.2, dif_pos]
  rw [e1 _ h, e1 _ (by omega), Finset.sum_range_add, Finset.sum_range (n := n)]
  congr 1
  refine Finset.sum_congr rfl fun x _ => ?_
  show g (o + x.1) = _
  rw [show g (o + x.1) = f ⟨o + x.1, by omega⟩ from dif_pos _]
  rfl

/-- A sum over all rows of terms that are zero below `o` is the sum over the rows from `o` on. -/
theorem sum_from (f : Fin 2176 → EReal) (o n : ℕ) (h : o + n = 2176) (hz : ∀ q, q.1 < o → f q = 0) :
    ∑ q, f q = ∑ x : Fin n, f (up o n h.le x) := by
  have h1 := sum_tile f o n h.le
  rw [show (∑ k : Fin 2176, if k.1 < o + n then f k else 0) = ∑ q, f q from
    Finset.sum_congr rfl fun k _ => if_pos (by omega)] at h1
  rw [h1, Finset.sum_eq_zero, zero_add]
  intro k _
  split
  · exact hz _ ‹_›
  · rfl

/-- Signed comparison of two small row numbers. -/
theorem select_sle {α : Type} (a b : ℕ) (ha : a < 4000) (hb : b < 4000) (x y : α) :
    Scalar.select (IntOp.cmpi CmpIPredicate.sle (BitVec.ofNat 32 a) (BitVec.ofNat 32 b)) x y = if a ≤ b then x else y := by
  have : (BitVec.ofNat 32 a).sle (BitVec.ofNat 32 b) = decide (a ≤ b) := by
    rw [BitVec.sle_eq_decide, BitVec.toInt_ofNat', BitVec.toInt_ofNat']
    simp only [Int.bmod]
    congr 1
    apply propext
    constructor <;> intro h <;> omega
  unfold Scalar.select IntOp.cmpi
  simp only [this]
  by_cases h : a ≤ b <;> simp [h]

/-- The masked weight. -/
theorem exp_mask (c : Prop) [Decidable c] (x l : EReal) :
    Ideal.exp ((if c then x else Ideal.ofBits FTy.f32 4286578688#32) - l) = if c then Ideal.exp (x - l) else 0 := by
  split
  · rfl
  · rw [mask_eq, EReal.bot_sub, Ideal.exp_bot]
end Cert.KernelIdeal.Bwd
end
-- ==== Proof.Bwd.Pay.lean ====
module
public import proofs.«01_k».proof.Proof.Bwd.Spec
@[expose] public section
set_option maxRecDepth 16384

/-! # What the kernel's intermediate arrays read, given what the loaded arrays read

One section for each of the three tiles of keys. -/

namespace Cert.KernelIdeal.Bwd
open Cert.KernelIdeal.Gen
open Idealize.ShloMosaic Idealize.ShloMosaic.TcCoe Idealize.ShloMosaic.Tactic

set_option maxHeartbeats 2000000

variable (B : Blk)

/-! ## Keys 0 to 128 -/

/-- The weights. -/
theorem P_A {v12 v13 : Vec Ideal S128x128 .bf16} (h12 : ∀ k d, v12 (ix2 k d) = B.kn (ix2 (up 0 128 (by omega) k) d)) (h13 : ∀ k d, v13 (ix2 k d) = B.kp (ix2 (up 0 128 (by omega) k) d))
    {v16 : Vec Ideal S2176x256 .bf16}
    (h16 : ∀ q (d : Fin 128), v16 (ix2 q ⟨d.1, by omega⟩) = B.qn (ix2 q d)) (h16' : ∀ q (d : Fin 128), v16 (ix2 q ⟨128 + d.1, by omega⟩) = B.qp (ix2 q d))
    {v31 v36 v41 : Vec Ideal S1x8x1024 .f32} (hv31 : ∀ j, v31 (ix3 0 0 j) = B.lse (ix5 0 0 0 0 j)) (hv36 : ∀ j, v36 (ix3 0 0 j) = B.lse (ix5 0 0 1 0 j)) (hv41 : ∀ j, v41 (ix3 0 0 j) = B.lse (ix5 0 0 2 0 j))
    (k : Fin 128) (q : Fin 2176) : k0_pay24 (k0_pay21 v12 v13 v16) (k0_pay22 v31) (k0_pay23 v36) v41 (ix2 k q) = B.P (up 0 128 (by omega) k) q := by
  pointwise [k0_pay24, k0_pay21, k0_pay20, k0_pay22, k0_pay23]
  simp only [select_sle k.1 _ (by omega) (show q.1 < 4000 by omega)]
  by_cases hq : q.1 < 128
  · simp only [dif_pos hq, h12, h13, h16, h16', hv31, hv36, hv41]
    rw [exp_mask]
    unfold Blk.P Blk.S Blk.L
    rw [dif_pos hq]
    exact if_congr (show k.1 ≤ q.1 ↔ 0 + k.1 ≤ q.1 by omega) rfl rfl
  · have e : (⟨128 + (q.1 - 128), by omega⟩ : Fin 2176) = q := Fin.ext (show 128 + (q.1 - 128) = q.1 by omega)
    simp only [dif_neg hq, e, h12, h13, h16, h16', hv31, hv36, hv41]
    unfold Blk.P Blk.S Blk.L
    rw [if_pos (show up 0 128 (by omega) k ≤ q from (show 0 + k.1 ≤ q.1 by omega))]
    simp only [dif_neg hq]

/-- The gradient of the scores. -/
theorem D_A {v28 : FVec Ideal S128x2176 .f32} {v33 : FVec Ideal S1x128 .f32} {v38 : FVec Ideal S1x1024 .f32} {v41 : Vec Ideal S1x8x1024 .f32} (hP : ∀ k q, k0_pay24 v28 v33 v38 v41 (ix2 k q) = B.P (up 0 128 (by omega) k) q)
    {v15 : Vec Ideal S128x128 .bf16} (h15 : ∀ k d, v15 (ix2 k d) = B.vv (ix2 (up 0 128 (by omega) k) d)) {v17 : Vec Ideal S2176x128 .bf16} (h17 : ∀ q d, v17 (ix2 q d) = B.dO (ix2 q d))
    {v49 v52 v55 : Vec Ideal S1x8x1024 .f32} (hv49 : ∀ j : Fin 128, v49 (ix3 0 0 ⟨j.1, by omega⟩) = B.dl (up 0 128 (by omega) j)) (hv52 : ∀ j, v52 (ix3 0 0 j) = B.dl (up 128 1024 (by omega) j)) (hv55 : ∀ j, v55 (ix3 0 0 j) = B.dl (up 1152 1024 (by omega) j))
    (k : Fin 128) (q : Fin 2176) : k0_pay25 v15 v17 v28 v33 v38 v41 v49 v52 v55 (ix2 k q) = B.D (up 0 128 (by omega) k) q := by
  pointwise [k0_pay25]
  simp only [h15, h17]
  unfold Blk.D
  rw [hP]
  congr 3
  by_cases hq : q.1 < 128
  · rw [dif_pos hq]
    refine (hv49 ⟨q.1, hq⟩).trans ?_
    exact congrArg B.dl <| Fin.ext (show 0 + q.1 = q.1 by omega)
  · rw [dif_neg hq]
    by_cases hq' : q.1 - 128 < 1024
    · rw [dif_pos hq', hv52]
      exact congrArg B.dl <| Fin.ext (show 128 + (q.1 - 128) = q.1 by omega)
    · rw [dif_neg hq', hv55]
      exact congrArg B.dl <| Fin.ext (show 1152 + (q.1 - 128 - 1024) = q.1 by omega)

/-- The gradient of one half of the queries, this tile's part added. -/
theorem dqn_A {v12 v13 : Vec Ideal S128x128 .bf16} (h12 : ∀ k d, v12 (ix2 k d) = B.kn (ix2 (up 0 128 (by omega) k) d)) (h13 : ∀ k d, v13 (ix2 k d) = B.kp (ix2 (up 0 128 (by omega) k) d))
    {v17 : Vec Ideal S2176x128 .bf16} {v15 : Vec Ideal S128x128 .bf16} {v28 : FVec Ideal S128x2176 .f32} {v33 : FVec Ideal S1x128 .f32} {v38 : FVec Ideal S1x1024 .f32} {v41 v49 v52 v55 : Vec Ideal S1x8x1024 .f32} (hD : ∀ k q, k0_pay25 v15 v17 v28 v33 v38 v41 v49 v52 v55 (ix2 k q) = B.D (up 0 128 (by omega) k) q)
    {v66 : Vec Ideal S2176x128 .f32} (q : Fin 2176) (d : Fin 128) (hv : v66 (ix2 q d) = 0) :
    k0_pay27 (k0_pay20 v12 v13) v15 v17 v28 v33 v38 v41 v49 v52 v55 v66 (ix2 q d) = B.dq B.kn 128 q d := by
  have e := sum_tile (fun k => B.D k q * B.kn (ix2 k d)) 0 128 (by omega)
  pointwise [k0_pay27, k0_pay26, k0_pay20]
  simp only [hD, hv, h12]
  unfold Blk.dq
  rw [zero_add]
  refine (Eq.trans e ?_).symm
  rw [Finset.sum_eq_zero (fun k _ => if_neg (Nat.not_lt_zero _)), zero_add]

/-- The gradient of one half of the queries, this tile's part added. -/
theorem dqp_A {v12 v13 : Vec Ideal S128x128 .bf16} (h12 : ∀ k d, v12 (ix2 k d) = B.kn (ix2 (up 0 128 (by omega) k) d)) (h13 : ∀ k d, v13 (ix2 k d) = B.kp (ix2 (up 0 128 (by omega) k) d))
    {v17 : Vec Ideal S2176x128 .bf16} {v15 : Vec Ideal S128x128 .bf16} {v28 : FVec Ideal S128x2176 .f32} {v33 : FVec Ideal S1x128 .f32} {v38 : FVec Ideal S1x1024 .f32} {v41 v49 v52 v55 : Vec Ideal S1x8x1024 .f32} (hD : ∀ k q, k0_pay25 v15 v17 v28 v33 v38 v41 v49 v52 v55 (ix2 k q) = B.D (up 0 128 (by omega) k) q)
    {v71 : Vec Ideal S2176x128 .f32} (q : Fin 2176) (d : Fin 128) (hv : v71 (ix2 q d) = 0) :
    k0_pay28 (k0_pay20 v12 v13) v15 v17 v28 v33 v38 v41 v49 v52 v55 v71 (ix2 q d) = B.dq B.kp 128 q d := by
  have e := sum_tile (fun k => B.D k q * B.kp (ix2 k d)) 0 128 (by omega)
  pointwise [k0_pay28, k0_pay26, k0_pay20]
  simp only [hD, hv, h13]
  unfold Blk.dq
  rw [zero_add]
  refine (Eq.trans e ?_).symm
  rw [Finset.sum_eq_zero (fun k _ => if_neg (Nat.not_lt_zero _)), zero_add]

/-- The gradient of one half of the keys, on this tile's rows. -/
theorem dkn_A {v16 : Vec Ideal S2176x256 .bf16}
    (h16 : ∀ q (d : Fin 128), v16 (ix2 q ⟨d.1, by omega⟩) = B.qn (ix2 q d)) (h16' : ∀ q (d : Fin 128), v16 (ix2 q ⟨128 + d.1, by omega⟩) = B.qp (ix2 q d))
    {v63 : FVec Ideal S128x2176 .f32} (hD : ∀ k q, v63 (ix2 k q) = B.D (up 0 128 (by omega) k) q) (k : Fin 128) (d : Fin 128) : k0_pay4 v16 v63 (ix2 k d) = B.dk B.qn (up 0 128 (by omega) k) d := by
  pointwise [k0_pay4, k0_pay3]
  simp only [hD, h16]
  rfl
/-- The gradient of one half of the keys, on this tile's rows. -/
theorem dkp_A {v16 : Vec Ideal S2176x256 .bf16}
    (h16 : ∀ q (d : Fin 128), v16 (ix2 q ⟨d.1, by omega⟩) = B.qn (ix2 q d)) (h16' : ∀ q (d : Fin 128), v16 (ix2 q ⟨128 + d.1, by omega⟩) = B.qp (ix2 q d))
    {v63 : FVec Ideal S128x2176 .f32} (hD : ∀ k q, v63 (ix2 k q) = B.D (up 0 128 (by omega) k) q) (k : Fin 128) (d : Fin 128) : k0_pay5 v16 v63 (ix2 k d) = B.dk B.qp (up 0 128 (by omega) k) d := by
  pointwise [k0_pay5, k0_pay3]
  simp only [hD, h16']
  rfl
/-- The gradient of the values, on this tile's rows. -/
theorem dv_A {v17 : Vec Ideal S2176x128 .bf16} (h17 : ∀ q d, v17 (ix2 q d) = B.dO (ix2 q d))
    {v47 : FVec Ideal S128x2176 .f32} (hP : ∀ k q, v47 (ix2 k q) = B.P (up 0 128 (by omega) k) q)  (k : Fin 128) (d : Fin 128) :
    k0_pay6 v17 v47 (ix2 k d) = B.dv (up 0 128 (by omega) k) d := by
  pointwise [k0_pay6]
  simp only [hP, h17]
  rfl
/-! ## Keys 128 to 1152 -/

/-- The weights. -/
theorem P_B {v12 v13 : Vec Ideal S1024x128 .bf16} (h12 : ∀ k d, v12 (ix2 k d) = B.kn (ix2 (up 128 1024 (by omega) k) d)) (h13 : ∀ k d, v13 (ix2 k d) = B.kp (ix2 (up 128 1024 (by omega) k) d))
    {v16 : Vec Ideal S2048x256 .bf16}
    (h16 : ∀ q (d : Fin 128), v16 (ix2 q ⟨d.1, by omega⟩) = B.qn (ix2 (up 128 2048 (by omega) q) d)) (h16' : ∀ q (d : Fin 128), v16 (ix2 q ⟨128 + d.1, by omega⟩) = B.qp (ix2 (up 128 2048 (by omega) q) d))
    {v31 v36 : Vec Ideal S1x8x1024 .f32} (hv31 : ∀ j, v31 (ix3 0 0 j) = B.lse (ix5 0 0 1 0 j)) (hv36 : ∀ j, v36 (ix3 0 0 j) = B.lse (ix5 0 0 2 0 j))
    (k : Fin 1024) (q : Fin 2048) : k0_pay30 v12 v13 v16 v31 v36 (ix2 k q) = B.P (up 128 1024 (by omega) k) (up 128 2048 (by omega) q) := by
  pointwise [k0_pay30, k0_pay29]
  simp only [select_sle k.1 _ (by omega) (show q.1 < 4000 by omega)]
  have hL : B.L (up 128 2048 (by omega) q) = if h : q.1 < 1024 then B.lse (ix5 0 0 1 0 ⟨q.1, h⟩) else B.lse (ix5 0 0 2 0 ⟨q.1 - 1024, by omega⟩) := by
    unfold Blk.L
    rw [dif_neg (show ¬ (up 128 2048 (by omega) q).1 < 128 from (show ¬ 128 + q.1 < 128 by omega))]
    by_cases hq : q.1 < 1024
    · rw [dif_pos hq, dif_pos (show (up 128 2048 (by omega) q).1 - 128 < 1024 from (show 128 + q.1 - 128 < 1024 by omega))]
      exact congrArg (fun j => B.lse (ix5 0 0 1 0 j)) (Fin.ext (show 128 + q.1 - 128 = q.1 by omega))
    · rw [dif_neg hq, dif_neg (show ¬ (up 128 2048 (by omega) q).1 - 128 < 1024 from (show ¬ 128 + q.1 - 128 < 1024 by omega))]
      exact congrArg (fun j => B.lse (ix5 0 0 2 0 j)) (Fin.ext (show 128 + q.1 - 128 - 1024 = q.1 - 1024 by omega))
  unfold Blk.P
  rw [hL]
  unfold Blk.S
  by_cases hq : q.1 < 1024
  · simp only [dif_pos hq, h12, h13, h16, h16', hv31, hv36]
    rw [exp_mask]
    exact if_congr (show k.1 ≤ q.1 ↔ 128 + k.1 ≤ 128 + q.1 by omega) rfl rfl
  · have e : (⟨1024 + (q.1 - 1024), by omega⟩ : Fin 2048) = q := Fin.ext (show 1024 + (q.1 - 1024) = q.1 by omega)
    simp only [dif_neg hq, e, h12, h13, h16, h16', hv31, hv36]
    rw [if_pos (show up 128 1024 (by omega) k ≤ up 128 2048 (by omega) q from (show 128 + k.1 ≤ 128 + q.1 by omega))]

/-- The gradient of the scores. -/
theorem D_B {v42 : FVec Ideal S1024x2048 .f32} (hP : ∀ k q, v42 (ix2 k q) = B.P (up 128 1024 (by omega) k) (up 128 2048 (by omega) q))
    {v15 : Vec Ideal S1024x128 .bf16} (h15 : ∀ k d, v15 (ix2 k d) = B.vv (ix2 (up 128 1024 (by omega) k) d)) {v17 : Vec Ideal S2048x128 .bf16} (h17 : ∀ q d, v17 (ix2 q d) = B.dO (ix2 (up 128 2048 (by omega) q) d))
    {v44 v47 : Vec Ideal S1x8x1024 .f32} (hv44 : ∀ j, v44 (ix3 0 0 j) = B.dl (up 128 1024 (by omega) j)) (hv47 : ∀ j, v47 (ix3 0 0 j) = B.dl (up 1152 1024 (by omega) j))
    (k : Fin 1024) (q : Fin 2048) : k0_pay31 v15 v17 v42 v44 v47 (ix2 k q) = B.D (up 128 1024 (by omega) k) (up 128 2048 (by omega) q) := by
  pointwise [k0_pay31]
  simp only [h15, h17]
  unfold Blk.D
  rw [hP]
  congr 3
  by_cases hq : q.1 < 1024
  · rw [dif_pos hq, hv44]; rfl
  · rw [dif_neg hq, hv47]
    exact congrArg B.dl <| Fin.ext (show 1152 + (q.1 - 1024) = 128 + q.1 by omega)

/-- The gradient of one half of the queries, this tile's part added. -/
theorem dqn_B {v12 v13 : Vec Ideal S1024x128 .bf16} (h12 : ∀ k d, v12 (ix2 k d) = B.kn (ix2 (up 128 1024 (by omega) k) d)) (h13 : ∀ k d, v13 (ix2 k d) = B.kp (ix2 (up 128 1024 (by omega) k) d))
    {v17 : Vec Ideal S2048x128 .bf16} {v15 : Vec Ideal S1024x128 .bf16} {v42 : FVec Ideal S1024x2048 .f32} {v44 v47 : Vec Ideal S1x8x1024 .f32} (hD : ∀ k q, k0_pay31 v15 v17 v42 v44 v47 (ix2 k q) = B.D (up 128 1024 (by omega) k) (up 128 2048 (by omega) q))
    {v58 : Vec Ideal S2048x128 .f32} (q : Fin 2048) (d : Fin 128) (hv : v58 (ix2 q d) = B.dq B.kn 128 (up 128 2048 (by omega) q) d) :
    k0_pay33 (k0_pay29 v12 v13) v15 v17 v42 v44 v47 v58 (ix2 q d) = B.dq B.kn 1152 (up 128 2048 (by omega) q) d := by
  have e := sum_tile (fun k => B.D k (up 128 2048 (by omega) q) * B.kn (ix2 k d)) 128 1024 (by omega)
  pointwise [k0_pay33, k0_pay32, k0_pay29]
  simp only [hD, hv, h12]
  unfold Blk.dq
  exact e.symm

/-- The gradient of one half of the queries, this tile's part added. -/
theorem dqp_B {v12 v13 : Vec Ideal S1024x128 .bf16} (h12 : ∀ k d, v12 (ix2 k d) = B.kn (ix2 (up 128 1024 (by omega) k) d)) (h13 : ∀ k d, v13 (ix2 k d) = B.kp (ix2 (up 128 1024 (by omega) k) d))
    {v17 : Vec Ideal S2048x128 .bf16} {v15 : Vec Ideal S1024x128 .bf16} {v42 : FVec Ideal S1024x2048 .f32} {v44 v47 : Vec Ideal S1x8x1024 .f32} (hD : ∀ k q, k0_pay31 v15 v17 v42 v44 v47 (ix2 k q) = B.D (up 128 1024 (by omega) k) (up 128 2048 (by omega) q))
    {v63 : Vec Ideal S2048x128 .f32} (q : Fin 2048) (d : Fin 128) (hv : v63 (ix2 q d) = B.dq B.kp 128 (up 128 2048 (by omega) q) d) :
    k0_pay34 (k0_pay29 v12 v13) v15 v17 v42 v44 v47 v63 (ix2 q d) = B.dq B.kp 1152 (up 128 2048 (by omega) q) d := by
  have e := sum_tile (fun k => B.D k (up 128 2048 (by omega) q) * B.kp (ix2 k d)) 128 1024 (by omega)
  pointwise [k0_pay34, k0_pay32, k0_pay29]
  simp only [hD, hv, h13]
  unfold Blk.dq
  exact e.symm

/-- The gradient of one half of the keys, on this tile's rows. -/
theorem dkn_B {v16 : Vec Ideal S2048x256 .bf16}
    (h16 : ∀ q (d : Fin 128), v16 (ix2 q ⟨d.1, by omega⟩) = B.qn (ix2 (up 128 2048 (by omega) q) d)) (h16' : ∀ q (d : Fin 128), v16 (ix2 q ⟨128 + d.1, by omega⟩) = B.qp (ix2 (up 128 2048 (by omega) q) d))
    {v17 : Vec Ideal S2048x128 .bf16} {v15 : Vec Ideal S1024x128 .bf16} {v42 : FVec Ideal S1024x2048 .f32} {v44 v47 : Vec Ideal S1x8x1024 .f32} (hD : ∀ k q, k0_pay31 v15 v17 v42 v44 v47 (ix2 k q) = B.D (up 128 1024 (by omega) k) (up 128 2048 (by omega) q)) (k : Fin 1024) (d : Fin 128) : k0_pay36 v15 v16 v17 v42 v44 v47 (ix2 k d) = B.dk B.qn (up 128 1024 (by omega) k) d := by
  pointwise [k0_pay36, k0_pay35]
  simp only [hD, h16]
  refine (sum_from (fun q => B.D (up 128 1024 (by omega) k) q * B.qn (ix2 q d)) 128 2048 rfl fun q hq => ?_).symm
  rw [B.D_of_lt (show q.1 < 128 + k.1 by omega), zero_mul]

/-- The gradient of one half of the keys, on this tile's rows. -/
theorem dkp_B {v16 : Vec Ideal S2048x256 .bf16}
    (h16 : ∀ q (d : Fin 128), v16 (ix2 q ⟨d.1, by omega⟩) = B.qn (ix2 (up 128 2048 (by omega) q) d)) (h16' : ∀ q (d : Fin 128), v16 (ix2 q ⟨128 + d.1, by omega⟩) = B.qp (ix2 (up 128 2048 (by omega) q) d))
    {v17 : Vec Ideal S2048x128 .bf16} {v15 : Vec Ideal S1024x128 .bf16} {v42 : FVec Ideal S1024x2048 .f32} {v44 v47 : Vec Ideal S1x8x1024 .f32} (hD : ∀ k q, k0_pay31 v15 v17 v42 v44 v47 (ix2 k q) = B.D (up 128 1024 (by omega) k) (up 128 2048 (by omega) q)) (k : Fin 1024) (d : Fin 128) : k0_pay37 v15 v16 v17 v42 v44 v47 (ix2 k d) = B.dk B.qp (up 128 1024 (by omega) k) d := by
  pointwise [k0_pay37, k0_pay35]
  simp only [hD, h16']
  refine (sum_from (fun q => B.D (up 128 1024 (by omega) k) q * B.qp (ix2 q d)) 128 2048 rfl fun q hq => ?_).symm
  rw [B.D_of_lt (show q.1 < 128 + k.1 by omega), zero_mul]

/-- The gradient of the values, on this tile's rows. -/
theorem dv_B {v17 : Vec Ideal S2048x128 .bf16} (h17 : ∀ q d, v17 (ix2 q d) = B.dO (ix2 (up 128 2048 (by omega) q) d))
    {v47 : FVec Ideal S1024x2048 .f32} (hP : ∀ k q, v47 (ix2 k q) = B.P (up 128 1024 (by omega) k) (up 128 2048 (by omega) q)) {cst : FVec Ideal S1024x128 .f32} (hc : ∀ k d, cst (ix2 k d) = 0) (k : Fin 1024) (d : Fin 128) :
    k0_pay7 v17 (k0_pay38 v47) cst (ix2 k d) = B.dv (up 128 1024 (by omega) k) d := by
  pointwise [k0_pay7, k0_pay38]
  simp only [hP, h17, hc, zero_add]
  refine (sum_from (fun q => B.P (up 128 1024 (by omega) k) q * B.dO (ix2 q d)) 128 2048 rfl fun q hq => ?_).symm
  rw [B.P_of_lt (show q.1 < 128 + k.1 by omega), zero_mul]

/-! ## Keys 1152 to 2176 -/

/-- The weights. -/
theorem P_C {v12 v13 : Vec Ideal S1024x128 .bf16} (h12 : ∀ k d, v12 (ix2 k d) = B.kn (ix2 (up 1152 1024 (by omega) k) d)) (h13 : ∀ k d, v13 (ix2 k d) = B.kp (ix2 (up 1152 1024 (by omega) k) d))
    {v16 : Vec Ideal S1024x256 .bf16}
    (h16 : ∀ q (d : Fin 128), v16 (ix2 q ⟨d.1, by omega⟩) = B.qn (ix2 (up 1152 1024 (by omega) q) d)) (h16' : ∀ q (d : Fin 128), v16 (ix2 q ⟨128 + d.1, by omega⟩) = B.qp (ix2 (up 1152 1024 (by omega) q) d))
    {v28 : Vec Ideal S1x8x1024 .f32} (hv28 : ∀ j, v28 (ix3 0 0 j) = B.lse (ix5 0 0 2 0 j))
    (k q : Fin 1024) : k0_pay40 v12 v13 v16 v28 (ix2 k q) = B.P (up 1152 1024 (by omega) k) (up 1152 1024 (by omega) q) := by
  pointwise [k0_pay40, k0_pay39]
  simp only [select_sle k.1 _ (by omega) (show q.1 < 4000 by omega)]
  have hL : B.L (up 1152 1024 (by omega) q) = B.lse (ix5 0 0 2 0 q) := by
    unfold Blk.L
    rw [dif_neg (show ¬ (up 1152 1024 (by omega) q).1 < 128 from (show ¬ 1152 + q.1 < 128 by omega)), dif_neg (show ¬ (up 1152 1024 (by omega) q).1 - 128 < 1024 from (show ¬ 1152 + q.1 - 128 < 1024 by omega))]
    exact congrArg (fun j => B.lse (ix5 0 0 2 0 j)) (Fin.ext (show 1152 + q.1 - 128 - 1024 = q.1 by omega))
  unfold Blk.P
  rw [hL]
  unfold Blk.S
  simp only [h12, h13, h16, h16', hv28]
  rw [exp_mask]
  exact if_congr (show k.1 ≤ q.1 ↔ 1152 + k.1 ≤ 1152 + q.1 by omega) rfl rfl

/-- The gradient of the scores. -/
theorem D_C {v12 v13 : Vec Ideal S1024x128 .bf16} {v16 : Vec Ideal S1024x256 .bf16} {v28 : Vec Ideal S1x8x1024 .f32} (hP : ∀ k q, k0_pay40 v12 v13 v16 v28 (ix2 k q) = B.P (up 1152 1024 (by omega) k) (up 1152 1024 (by omega) q))
    {v15 : Vec Ideal S1024x128 .bf16} (h15 : ∀ k d, v15 (ix2 k d) = B.vv (ix2 (up 1152 1024 (by omega) k) d)) {v17 : Vec Ideal S1024x128 .bf16} (h17 : ∀ q d, v17 (ix2 q d) = B.dO (ix2 (up 1152 1024 (by omega) q) d))
    {v35 : Vec Ideal S1x8x1024 .f32} (hv35 : ∀ j, v35 (ix3 0 0 j) = B.dl (up 1152 1024 (by omega) j))
    (k q : Fin 1024) : k0_pay41 v12 v13 v15 v16 v17 v28 v35 (ix2 k q) = B.D (up 1152 1024 (by omega) k) (up 1152 1024 (by omega) q) := by
  pointwise [k0_pay41]
  simp only [h15, h17]
  rw [hP, hv35]; rfl

/-- The gradient of one half of the queries, this tile's part added. -/
theorem dqn_C {v12 v13 : Vec Ideal S1024x128 .bf16} (h12 : ∀ k d, v12 (ix2 k d) = B.kn (ix2 (up 1152 1024 (by omega) k) d)) (h13 : ∀ k d, v13 (ix2 k d) = B.kp (ix2 (up 1152 1024 (by omega) k) d))
    {v17 v15 : Vec Ideal S1024x128 .bf16} {v16 : Vec Ideal S1024x256 .bf16} {v28 v35 : Vec Ideal S1x8x1024 .f32} (hD : ∀ k q, k0_pay41 v12 v13 v15 v16 v17 v28 v35 (ix2 k q) = B.D (up 1152 1024 (by omega) k) (up 1152 1024 (by omega) q))
    {v45 : Vec Ideal S1024x128 .f32} (q : Fin 1024) (d : Fin 128) (hv : v45 (ix2 q d) = B.dq B.kn 1152 (up 1152 1024 (by omega) q) d) :
    k0_pay8 (k0_pay42 v12 v13 v15 v16 v17 v28 v35) v45 (ix2 q d) = B.dq B.kn 2176 (up 1152 1024 (by omega) q) d := by
  have e := sum_tile (fun k => B.D k (up 1152 1024 (by omega) q) * B.kn (ix2 k d)) 1152 1024 (by omega)
  pointwise [k0_pay8, k0_pay42, k0_pay39]
  simp only [hD, hv, h12]
  unfold Blk.dq
  exact e.symm

/-- The gradient of one half of the queries, this tile's part added. -/
theorem dqp_C {v12 v13 : Vec Ideal S1024x128 .bf16} (h12 : ∀ k d, v12 (ix2 k d) = B.kn (ix2 (up 1152 1024 (by omega) k) d)) (h13 : ∀ k d, v13 (ix2 k d) = B.kp (ix2 (up 1152 1024 (by omega) k) d))
    {v17 v15 : Vec Ideal S1024x128 .bf16} {v16 : Vec Ideal S1024x256 .bf16} {v28 v35 : Vec Ideal S1x8x1024 .f32} (hD : ∀ k q, k0_pay41 v12 v13 v15 v16 v17 v28 v35 (ix2 k q) = B.D (up 1152 1024 (by omega) k) (up 1152 1024 (by omega) q))
    {v50 : Vec Ideal S1024x128 .f32} (q : Fin 1024) (d : Fin 128) (hv : v50 (ix2 q d) = B.dq B.kp 1152 (up 1152 1024 (by omega) q) d) :
    k0_pay9 (k0_pay42 v12 v13 v15 v16 v17 v28 v35) v50 (ix2 q d) = B.dq B.kp 2176 (up 1152 1024 (by omega) q) d := by
  have e := sum_tile (fun k => B.D k (up 1152 1024 (by omega) q) * B.kp (ix2 k d)) 1152 1024 (by omega)
  pointwise [k0_pay9, k0_pay42, k0_pay39]
  simp only [hD, hv, h13]
  unfold Blk.dq
  exact e.symm

/-- The gradient of one half of the keys, on this tile's rows. -/
theorem dkn_C {v16 : Vec Ideal S1024x256 .bf16}
    (h16 : ∀ q (d : Fin 128), v16 (ix2 q ⟨d.1, by omega⟩) = B.qn (ix2 (up 1152 1024 (by omega) q) d)) (h16' : ∀ q (d : Fin 128), v16 (ix2 q ⟨128 + d.1, by omega⟩) = B.qp (ix2 (up 1152 1024 (by omega) q) d))
    {v42 : FVec Ideal S1024x1024 .f32} (hD : ∀ k q, v42 (ix2 k q) = B.D (up 1152 1024 (by omega) k) (up 1152 1024 (by omega) q)) (k : Fin 1024) (d : Fin 128) : k0_pay11 v16 v42 (ix2 k d) = B.dk B.qn (up 1152 1024 (by omega) k) d := by
  pointwise [k0_pay11, k0_pay10]
  simp only [hD, h16]
  refine (sum_from (fun q => B.D (up 1152 1024 (by omega) k) q * B.qn (ix2 q d)) 1152 1024 rfl fun q hq => ?_).symm
  rw [B.D_of_lt (show q.1 < 1152 + k.1 by omega), zero_mul]

/-- The gradient of one half of the keys, on this tile's rows. -/
theorem dkp_C {v16 : Vec Ideal S1024x256 .bf16}
    (h16 : ∀ q (d : Fin 128), v16 (ix2 q ⟨d.1, by omega⟩) = B.qn (ix2 (up 1152 1024 (by omega) q) d)) (h16' : ∀ q (d : Fin 128), v16 (ix2 q ⟨128 + d.1, by omega⟩) = B.qp (ix2 (up 1152 1024 (by omega) q) d))
    {v42 : FVec Ideal S1024x1024 .f32} (hD : ∀ k q, v42 (ix2 k q) = B.D (up 1152 1024 (by omega) k) (up 1152 1024 (by omega) q)) (k : Fin 1024) (d : Fin 128) : k0_pay12 v16 v42 (ix2 k d) = B.dk B.qp (up 1152 1024 (by omega) k) d := by
  pointwise [k0_pay12, k0_pay10]
  simp only [hD, h16']
  refine (sum_from (fun q => B.D (up 1152 1024 (by omega) k) q * B.qp (ix2 q d)) 1152 1024 rfl fun q hq => ?_).symm
  rw [B.D_of_lt (show q.1 < 1152 + k.1 by omega), zero_mul]

/-- The gradient of the values, on this tile's rows. -/
theorem dv_C {v17 : Vec Ideal S1024x128 .bf16} (h17 : ∀ q d, v17 (ix2 q d) = B.dO (ix2 (up 1152 1024 (by omega) q) d))
    {v47 : FVec Ideal S1024x1024 .f32} (hP : ∀ k q, v47 (ix2 k q) = B.P (up 1152 1024 (by omega) k) (up 1152 1024 (by omega) q))  (k : Fin 1024) (d : Fin 128) :
    k0_pay13 v17 v47 (ix2 k d) = B.dv (up 1152 1024 (by omega) k) d := by
  pointwise [k0_pay13]
  simp only [hP, h17]
  refine (sum_from (fun q => B.P (up 1152 1024 (by omega) k) q * B.dO (ix2 q d)) 1152 1024 rfl fun q hq => ?_).symm
  rw [B.P_of_lt (show q.1 < 1152 + k.1 by omega), zero_mul]

end Cert.KernelIdeal.Bwd
end
-- ==== Proof.Bwd.Loads.lean ====
module
public import proofs.«01_k».proof.Proof.Bwd.Conds
public import proofs.«01_k».proof.Proof.Bwd.Pay
public import Idealize.ShloMosaic.Lib.WritesUnit
public import Idealize.ShloMosaic.Lib.WholeRead
@[expose] public section
set_option maxRecDepth 16384
set_option maxHeartbeats 2000000
noncomputable section

/-! # What the loads read, and what each grid step leaves true of the buffers -/

namespace Cert.KernelIdeal.Bwd
open Cert.KernelIdeal Cert.KernelIdeal.Gen Idealize.ShloMosaic Idealize.ShloMosaic.TcCoe Idealize.ShloMosaic.Tactic

/-- Rows `o …` of a whole buffer. -/
theorem rows_read {m w : ℕ} {e : EltTy} {M : Memref sig .tc .vmem ⟨2, ![m, w]⟩ e} (h : M.IsWhole) (X : Vec Ideal ⟨2, ![m, w]⟩ e) (o n : ℕ)
    (inb : ∀ a, (![o, 0] : Fin 2 → ℕ) a + (![n, w] : Fin 2 → ℕ) a ≤ (⟨2, ![m, w]⟩ : Shape).size a) (k : Fin n) (d : Fin w) (hk : o + k.1 < m) :
    View.readAt (Elt Ideal) M.view (Rect.unit (s := ⟨2, ![m, w]⟩) ![o, 0] ![n, w] inb).toLoadRect (h.unread X) (ix2 k d)
      = X (ix2 ⟨o + k.1, hk⟩ d) := by
  refine (h.readAt_unread X _ _).trans (congrArg X (funext fun a => Fin.ext ?_))
  fin_cases a
  · show o + 1 * k.1 = o + k.1; omega
  · show 0 + 1 * d.1 = d.1; omega

/-- Row 0 of the tiled logarithms. -/
theorem lse_read0 {arg10 : Memref sig .tc .vmem S1x1x3x8x1024 .f32} (h : arg10.IsWhole) (X : Vec Ideal S1x1x3x8x1024 .f32) (j : Fin 1024) :
    View.readAt (Elt Ideal) ((arg10.slice (Rect.unit ![0, 0, 0, 0, 0] S1x1x3x8x1024.size inb_S1x1x3x8x1024_S1x1x3x8x1024_0_0_0_0_0)
      (fun _ => rfl)).squeeze S3x8x1024 squeezes_S1x1x3x8x1024_S3x8x1024).view
      (Rect.unit (s := S3x8x1024) ![0, 0, 0] S1x8x1024.size inb_S3x8x1024_S1x8x1024_0_0_0).toLoadRect (h.unread X) (ix3 0 0 j)
      = X (ix5 0 0 0 0 j) := by
  refine (h.readAt_slice_reshape_unread X _ _ _ _).trans (congrArg X ?_)
  pointwise []
  funext a
  refine Fin.ext ?_
  fin_cases a <;> simp [Rect.emb, Rect.unit, ix5]

/-- Row 1 of the tiled logarithms. -/
theorem lse_read1 {arg10 : Memref sig .tc .vmem S1x1x3x8x1024 .f32} (h : arg10.IsWhole) (X : Vec Ideal S1x1x3x8x1024 .f32) (j : Fin 1024) :
    View.readAt (Elt Ideal) ((arg10.slice (Rect.unit ![0, 0, 0, 0, 0] S1x1x3x8x1024.size inb_S1x1x3x8x1024_S1x1x3x8x1024_0_0_0_0_0)
      (fun _ => rfl)).squeeze S3x8x1024 squeezes_S1x1x3x8x1024_S3x8x1024).view
      (Rect.unit (s := S3x8x1024) ![1, 0, 0] S1x8x1024.size inb_S3x8x1024_S1x8x1024_1_0_0).toLoadRect (h.unread X) (ix3 0 0 j)
      = X (ix5 0 0 1 0 j) := by
  refine (h.readAt_slice_reshape_unread X _ _ _ _).trans (congrArg X ?_)
  pointwise []
  funext a
  refine Fin.ext ?_
  fin_cases a <;> simp [Rect.emb, Rect.unit, ix5]

/-- Row 2 of the tiled logarithms. -/
theorem lse_read2 {arg10 : Memref sig .tc .vmem S1x1x3x8x1024 .f32} (h : arg10.IsWhole) (X : Vec Ideal S1x1x3x8x1024 .f32) (j : Fin 1024) :
    View.readAt (Elt Ideal) ((arg10.slice (Rect.unit ![0, 0, 0, 0, 0] S1x1x3x8x1024.size inb_S1x1x3x8x1024_S1x1x3x8x1024_0_0_0_0_0)
      (fun _ => rfl)).squeeze S3x8x1024 squeezes_S1x1x3x8x1024_S3x8x1024).view
      (Rect.unit (s := S3x8x1024) ![2, 0, 0] S1x8x1024.size inb_S3x8x1024_S1x8x1024_2_0_0).toLoadRect (h.unread X) (ix3 0 0 j)
      = X (ix5 0 0 2 0 j) := by
  refine (h.readAt_slice_reshape_unread X _ _ _ _).trans (congrArg X ?_)
  pointwise []
  funext a
  refine Fin.ext ?_
  fin_cases a <;> simp [Rect.emb, Rect.unit, ix5]

/-- The place of row 0 of the row sums' scratch. -/
theorem tile_idx0 (j : Fin 1024) : (Rect.unit (s := S3x8x1024) ![0, 0, 0] S1x8x1024.size inb_S3x8x1024_S1x8x1024_0_0_0).toLoadRect.idx (ix3 0 0 j) = ix3 0 0 j := by
  funext a
  refine Fin.ext ?_
  fin_cases a
  · rfl
  · rfl
  · show 0 + 1 * j.1 = j.1; omega

/-- Row 0 of the row sums' scratch. -/
theorem tile_read0 {M : Memref sig .tc .vmem S3x8x1024 .f32} (h : M.IsWhole) (X : Vec Ideal S3x8x1024 .f32) (j : Fin 1024) :
    View.readAt (Elt Ideal) M.view (Rect.unit (s := S3x8x1024) ![0, 0, 0] S1x8x1024.size inb_S3x8x1024_S1x8x1024_0_0_0).toLoadRect (h.unread X) (ix3 0 0 j)
      = X (ix3 0 0 j) := by
  refine (h.readAt_unread X _ _).trans (congrArg X (funext fun a => Fin.ext ?_))
  fin_cases a
  · rfl
  · rfl
  · show 0 + 1 * j.1 = j.1; omega

/-- The place of row 1 of the row sums' scratch. -/
theorem tile_idx1 (j : Fin 1024) : (Rect.unit (s := S3x8x1024) ![1, 0, 0] S1x8x1024.size inb_S3x8x1024_S1x8x1024_1_0_0).toLoadRect.idx (ix3 0 0 j) = ix3 1 0 j := by
  funext a
  refine Fin.ext ?_
  fin_cases a
  · rfl
  · rfl
  · show 0 + 1 * j.1 = j.1; omega

/-- Row 1 of the row sums' scratch. -/
theorem tile_read1 {M : Memref sig .tc .vmem S3x8x1024 .f32} (h : M.IsWhole) (X : Vec Ideal S3x8x1024 .f32) (j : Fin 1024) :
    View.readAt (Elt Ideal) M.view (Rect.unit (s := S3x8x1024) ![1, 0, 0] S1x8x1024.size inb_S3x8x1024_S1x8x1024_1_0_0).toLoadRect (h.unread X) (ix3 0 0 j)
      = X (ix3 1 0 j) := by
  refine (h.readAt_unread X _ _).trans (congrArg X (funext fun a => Fin.ext ?_))
  fin_cases a
  · rfl
  · rfl
  · show 0 + 1 * j.1 = j.1; omega

/-- The place of row 2 of the row sums' scratch. -/
theorem tile_idx2 (j : Fin 1024) : (Rect.unit (s := S3x8x1024) ![2, 0, 0] S1x8x1024.size inb_S3x8x1024_S1x8x1024_2_0_0).toLoadRect.idx (ix3 0 0 j) = ix3 2 0 j := by
  funext a
  refine Fin.ext ?_
  fin_cases a
  · rfl
  · rfl
  · show 0 + 1 * j.1 = j.1; omega

/-- Row 2 of the row sums' scratch. -/
theorem tile_read2 {M : Memref sig .tc .vmem S3x8x1024 .f32} (h : M.IsWhole) (X : Vec Ideal S3x8x1024 .f32) (j : Fin 1024) :
    View.readAt (Elt Ideal) M.view (Rect.unit (s := S3x8x1024) ![2, 0, 0] S1x8x1024.size inb_S3x8x1024_S1x8x1024_2_0_0).toLoadRect (h.unread X) (ix3 0 0 j)
      = X (ix3 2 0 j) := by
  refine (h.readAt_unread X _ _).trans (congrArg X (funext fun a => Fin.ext ?_))
  fin_cases a
  · rfl
  · rfl
  · show 0 + 1 * j.1 = j.1; omega

/-- The arrays of one head, listed. -/
abbrev blk (x0 x1 x2 x3 x4 x5 x6 : Vec Ideal S2176x128 .bf16) (x7 : Vec Ideal S1x1x3x8x1024 .f32) : Blk := ⟨x0, x1, x2, x3, x4, x5, x6, x7⟩

/-- The two scratch buffers after the first tile: the queries' halves side by side, and the row sums of the cotangent
against the output, in three tiles. -/
structure Scr (B : Blk) (X13 : Vec Ideal S2176x256 .bf16) (X14 : Vec Ideal S3x8x1024 .f32) : Prop where
  qn : ∀ q (d : Fin 128), X13 (ix2 q ⟨d.1, by omega⟩) = B.qn (ix2 q d)
  qp : ∀ q (d : Fin 128), X13 (ix2 q ⟨128 + d.1, by omega⟩) = B.qp (ix2 q d)
  d0 : ∀ j : Fin 128, X14 (ix3 0 0 ⟨j.1, by omega⟩) = B.dl (up 0 128 (by omega) j)
  d1 : ∀ j : Fin 1024, X14 (ix3 1 0 j) = B.dl (up 128 1024 (by omega) j)
  d2 : ∀ j : Fin 1024, X14 (ix3 2 0 j) = B.dl (up 1152 1024 (by omega) j)

/-- The gradient of one half of the queries holds the parts of the keys below `e`. -/
def QOk (B : Blk) (K : Vec Ideal S2176x128 .bf16) (e : ℕ) (X : S2176x128.Idx → EReal) : Prop := ∀ q d, X (ix2 q d) = B.dq K e q d

/-- The rows below `e` hold their final values `G`. -/
def KOk (G : Fin 2176 → Fin 128 → EReal) (e : ℕ) (X : S2176x128.Idx → EReal) : Prop := ∀ k d, k.1 < e → X (ix2 k d) = G k d

/-- Keys past a query add nothing to its gradient. -/
theorem Blk.dq_eq (B : Blk) (K : Vec Ideal S2176x128 .bf16) {e e' : ℕ} (h : e ≤ e') (q : Fin 2176) (hq : q.1 < e) (d : Fin 128) : B.dq K e q d = B.dq K e' q d := by
  refine Finset.sum_congr rfl fun k _ => ?_
  by_cases hk : k.1 < e
  · rw [if_pos hk, if_pos (by omega)]
  · rw [if_neg hk, B.D_of_lt (show q.1 < k.1 by omega), zero_mul, ite_self]

/-- A row from `o` on, below `o + n`. -/
theorem exists_up (o n : ℕ) (h : o + n ≤ 2176) (q : Fin 2176) (h1 : ¬ q.1 < o) (h2 : q.1 < o + n) : ∃ q', q = up o n h q' :=
  ⟨⟨q.1 - o, by omega⟩, Fin.ext (show q.1 = o + (q.1 - o) by omega)⟩

/-- A buffer of zeros reads zero. -/
theorem zero_read (v : View sig .tc .vmem S2176x128 .f32) (q : Fin 2176) (d : Fin 128) :
    v.readCov (Val := Elt Ideal) [⟨Rect.unit (s := S2176x128) ![0, 0] S2176x128.size inb_S2176x128_S2176x128_0_0, k0_pay16 (F := Ideal)⟩]
      (Rect.unit (s := S2176x128) ![0, 0] S2176x128.size inb_S2176x128_S2176x128_0_0).toLoadRect (ix2 q d) = 0 := by
  refine (View.read_writes_cons_unit_of_mem _ _ _ _ _ _ (ix2 q d) rfl ?_).trans ?_
  · intro a
    fin_cases a
    · show 0 + 1 * q.1 = 0 + q.1; omega
    · show 0 + 1 * d.1 = 0 + d.1; omega
  · exact Ideal.ofBits_zero_f32

/-- Under a piece of rows. -/
theorem piece_mem {w : ℕ} {e : EltTy} (v : View sig .tc .vmem ⟨2, ![2176, w]⟩ e) (f : v.ty.Contents (Elt Ideal)) (o n : ℕ)
    (inb : ∀ a, (![o, 0] : Fin 2 → ℕ) a + (![n, w] : Fin 2 → ℕ) a ≤ (⟨2, ![2176, w]⟩ : Shape).size a)
    (W : (Rect.unit (s := ⟨2, ![2176, w]⟩) ![o, 0] ![n, w] inb).shape.Idx → Elt Ideal e) (L) (h : o + n ≤ 2176) (k : Fin n) (d : Fin w) :
    v.read (Elt Ideal) (v.writes (Elt Ideal) f (⟨Rect.unit (s := ⟨2, ![2176, w]⟩) ![o, 0] ![n, w] inb, W⟩ :: L)) (ix2 (up o n h k) d) = W (ix2 k d) :=
  View.read_writes_cons_rows_of_mem (o := o) v f inb W L (ix2 (up o n h k) d) (ix2 k d) rfl rfl rfl

/-- Off a piece of rows. -/
theorem piece_not_mem {w : ℕ} {e : EltTy} (v : View sig .tc .vmem ⟨2, ![2176, w]⟩ e) (f : v.ty.Contents (Elt Ideal)) (o n : ℕ)
    (inb : ∀ a, (![o, 0] : Fin 2 → ℕ) a + (![n, w] : Fin 2 → ℕ) a ≤ (⟨2, ![2176, w]⟩ : Shape).size a)
    (W : (Rect.unit (s := ⟨2, ![2176, w]⟩) ![o, 0] ![n, w] inb).shape.Idx → Elt Ideal e) (q : Fin 2176) (hq : q.1 < o) (d : Fin w) :
    v.read (Elt Ideal) (v.writes (Elt Ideal) f [⟨Rect.unit (s := ⟨2, ![2176, w]⟩) ![o, 0] ![n, w] inb, W⟩]) (ix2 q d) = v.read (Elt Ideal) f (ix2 q d) :=
  View.read_writes_cons_rows_of_not_mem (o := o) (W := n) v f inb W [] (ix2 q d) rfl rfl (.inl hq)
end Cert.KernelIdeal.Bwd
end
-- ==== Proof.Bwd.ReadA.lean ====
module
public import proofs.«01_k».proof.Proof.Bwd.RunA
public import proofs.«01_k».proof.Proof.Bwd.Loads
@[expose] public section
set_option maxRecDepth 16384
set_option maxHeartbeats 2000000
noncomputable section

/-! # The first tile of keys -/

namespace Cert.KernelIdeal.Bwd
open Cert.KernelIdeal Cert.KernelIdeal.Gen Idealize.ShloMosaic Idealize.ShloMosaic.TcCoe Idealize.ShloMosaic.Tactic

/-- The queries' halves side by side. -/
theorem scrA (c : Dev nD) (arg3 : Memref sig .tc .vmem S2176x128 .bf16) (harg3 : arg3.IsWhole) (arg4 : Memref sig .tc .vmem S2176x128 .bf16) (harg4 : arg4.IsWhole) (arg16 : Memref sig .tc .vmem S2176x256 .bf16) (x0 x1 : Vec Ideal S2176x128 .bf16) (f : arg16.view.ty.Contents (Elt Ideal)) (q : Fin 2176) (d : Fin 128) :
    arg16.view.read (Elt Ideal) (arg16.view.writes (Elt Ideal) f (runA.sl.H13_2 (F := Ideal) c arg3 harg3 arg4 harg4 x0 x1)) (ix2 q ⟨d.1, by omega⟩) = x0 (ix2 q d)
      ∧ arg16.view.read (Elt Ideal) (arg16.view.writes (Elt Ideal) f (runA.sl.H13_2 (F := Ideal) c arg3 harg3 arg4 harg4 x0 x1)) (ix2 q ⟨128 + d.1, by omega⟩) = x1 (ix2 q d) := by
  have e0 : ∀ q : Fin 2176, (⟨0 + q.1, by omega⟩ : Fin 2176) = q := fun q => Fin.ext (Nat.zero_add _)
  constructor
  · refine (View.read_writes_cons_unit_of_not_mem _ _ _ _ _ _ rfl 1 (.inl ?_)).trans ?_
    · exact d.2
    refine (View.read_writes_cons_unit_of_mem _ _ _ _ _ _ (ix2 q d) rfl ?_).trans ?_
    · intro a
      fin_cases a
      · show q.1 = 0 + q.1; omega
      · show d.1 = 0 + d.1; omega
    · pointwise [k0_pay14]
      refine (rows_read harg3 x0 0 2176 _ q d (by omega)).trans ?_
      rw [e0]
  · refine (View.read_writes_cons_unit_of_mem _ _ _ _ _ _ (ix2 q d) rfl ?_).trans ?_
    · intro a
      fin_cases a
      · show q.1 = 0 + q.1; omega
      · rfl
    · pointwise [k0_pay15]
      refine (rows_read harg4 x1 0 2176 _ q d (by omega)).trans ?_
      rw [e0]

/-- The row sums of the cotangent against the output, in three tiles. -/
theorem scrA' (c : Dev nD) (arg8 : Memref sig .tc .vmem S2176x128 .bf16) (harg8 : arg8.IsWhole) (arg9 : Memref sig .tc .vmem S2176x128 .bf16) (harg9 : arg9.IsWhole) (arg17 : Memref sig .tc .vmem S3x8x1024 .f32) (harg17 : arg17.IsWhole) (x5 x6 : Vec Ideal S2176x128 .bf16) (x14 : Vec Ideal S3x8x1024 .f32) (f : arg17.view.ty.Contents (Elt Ideal)) :
    (∀ j : Fin 128, arg17.view.read (Elt Ideal) (arg17.view.writes (Elt Ideal) f (runA.sl.H14_3 (F := Ideal) c arg8 harg8 arg9 harg9 x5 x6)) (ix3 0 0 ⟨j.1, by omega⟩) = ∑ e, x5 (ix2 (up 0 128 (by omega) j) e) * x6 (ix2 (up 0 128 (by omega) j) e))
      ∧ (∀ j : Fin 1024, arg17.view.read (Elt Ideal) (arg17.view.writes (Elt Ideal) f (runA.sl.H14_3 (F := Ideal) c arg8 harg8 arg9 harg9 x5 x6)) (ix3 1 0 j) = ∑ e, x5 (ix2 (up 128 1024 (by omega) j) e) * x6 (ix2 (up 128 1024 (by omega) j) e))
      ∧ (∀ j : Fin 1024, arg17.view.read (Elt Ideal) (arg17.view.writes (Elt Ideal) f (runA.sl.H14_3 (F := Ideal) c arg8 harg8 arg9 harg9 x5 x6)) (ix3 2 0 j) = ∑ e, x5 (ix2 (up 1152 1024 (by omega) j) e) * x6 (ix2 (up 1152 1024 (by omega) j) e)) := by
  refine ⟨fun j => ?_, fun j => ?_, fun j => ?_⟩
  · refine (View.read_writes_cons_unit_of_not_mem _ _ _ _ _ _ rfl 0 (.inl ?_)).trans ?_
    · exact Nat.zero_lt_two
    refine (View.read_writes_cons_unit_of_not_mem _ _ _ _ _ _ rfl 0 (.inl ?_)).trans ?_
    · exact Nat.zero_lt_one
    refine (View.read_writes_cons_unit_of_mem _ _ _ _ _ _ (ix3 0 0 j) rfl ?_).trans ?_
    · intro a
      fin_cases a
      · rfl
      · rfl
      · show j.1 = 0 + j.1; omega
    · pointwise [k0_pay18]
      exact Finset.sum_congr rfl fun e _ => congrArg₂ (· * ·) (rows_read harg8 x5 0 128 _ j e _) (rows_read harg9 x6 0 128 _ j e _)
  · refine (View.read_writes_cons_unit_of_not_mem _ _ _ _ _ _ rfl 0 (.inl ?_)).trans ?_
    · exact Nat.one_lt_two
    refine (View.read_writes_cons_unit_of_mem _ _ _ _ _ _ (ix3 0 0 j) rfl ?_).trans ?_
    · intro a
      fin_cases a
      · rfl
      · rfl
      · show j.1 = 0 + j.1; omega
    · pointwise [k0_pay1]
      exact Finset.sum_congr rfl fun e _ => congrArg₂ (· * ·) (rows_read harg8 x5 128 1024 _ j e _) (rows_read harg9 x6 128 1024 _ j e _)
  · refine (View.read_writes_cons_unit_of_mem _ _ _ _ _ _ (ix3 0 0 j) rfl ?_).trans ?_
    · intro a
      fin_cases a
      · rfl
      · rfl
      · show j.1 = 0 + j.1; omega
    · pointwise [k0_pay2]
      exact Finset.sum_congr rfl fun e _ => congrArg₂ (· * ·) (rows_read harg8 x5 1152 1024 _ j e _) (rows_read harg9 x6 1152 1024 _ j e _)

/-- A step at the first tile: the scratch is filled and the gradients hold the parts of the keys below 128. -/
theorem outA (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : k0_cond1 i = 1#1) (hc1 : k0_cond2 i = 1#1) (hc2 : ¬k0_cond3 i = 1#1) (hc3 : ¬k0_cond4 i = 1#1) (x0 x1 x2 x3 x4 x5 x6 : Vec Ideal S2176x128 .bf16) (x7 : Vec Ideal S1x1x3x8x1024 .f32) (x8 x9 : Vec Ideal S2176x128 .f32) (x10 : Vec Ideal S2176x128 .bf16) (x11 : Vec Ideal S2176x128 .f32) (x12 : Vec Ideal S2176x128 .bf16) (x13 : Vec Ideal S2176x256 .bf16) (x14 : Vec Ideal S3x8x1024 .f32)
    (R) (hR : R = runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 x14) :
    QOk (blk x0 x1 x2 x3 x4 x5 x6 x7) x2 128 (arg11.view.read (Elt Ideal) (arg11.view.writes (Elt Ideal) (harg11.unread x8) R.1))
      ∧ QOk (blk x0 x1 x2 x3 x4 x5 x6 x7) x3 128 (arg12.view.read (Elt Ideal) (arg12.view.writes (Elt Ideal) (harg12.unread x9) R.2.1))
      ∧ KOk ((blk x0 x1 x2 x3 x4 x5 x6 x7).dk x0) 128 (arg13.view.read (Elt Ideal) (arg13.view.writes (Elt Ideal) (harg13.unread x10) R.2.2.1))
      ∧ KOk ((blk x0 x1 x2 x3 x4 x5 x6 x7).dk x1) 128 (arg14.view.read (Elt Ideal) (arg14.view.writes (Elt Ideal) (harg14.unread x11) R.2.2.2.1))
      ∧ KOk (blk x0 x1 x2 x3 x4 x5 x6 x7).dv 128 (arg15.view.read (Elt Ideal) (arg15.view.writes (Elt Ideal) (harg15.unread x12) R.2.2.2.2.1))
      ∧ Scr (blk x0 x1 x2 x3 x4 x5 x6 x7) (arg16.view.read (Elt Ideal) (arg16.view.writes (Elt Ideal) (harg16.unread x13) R.2.2.2.2.2.1)) (arg17.view.read (Elt Ideal) (arg17.view.writes (Elt Ideal) (harg17.unread x14) R.2.2.2.2.2.2.1)) := by
  subst hR
  have e0 : ∀ q : Fin 2176, (⟨0 + q.1, by omega⟩ : Fin 2176) = q := fun q => Fin.ext (Nat.zero_add _)
  have ix : ∀ q (d : Fin 256), (Rect.unit (s := S2176x256) ![0, 0] S2176x256.size inb_S2176x256_S2176x256_0_0).toLoadRect.idx (ix2 q d) = ix2 q d := by
    intro q d
    funext a
    refine Fin.ext ?_
    fin_cases a
    · show 0 + 1 * q.1 = q.1; omega
    · show 0 + 1 * d.1 = d.1; omega
  have h16 : ∀ q (d : Fin 128), runA.sl.v16 (F := Ideal) c arg3 harg3 arg4 harg4 arg16 x0 x1 (ix2 q ⟨d.1, by omega⟩) = x0 (ix2 q d) := fun q d =>
    (congrArg (arg16.view.read (Elt Ideal) (arg16.view.writes (Elt Ideal) arg16.view.junk (runA.sl.H13_2 (F := Ideal) c arg3 harg3 arg4 harg4 x0 x1))) (ix q _)).trans (scrA c arg3 harg3 arg4 harg4 arg16 x0 x1 arg16.view.junk q d).1
  have h16' : ∀ q (d : Fin 128), runA.sl.v16 (F := Ideal) c arg3 harg3 arg4 harg4 arg16 x0 x1 (ix2 q ⟨128 + d.1, by omega⟩) = x1 (ix2 q d) := fun q d =>
    (congrArg (arg16.view.read (Elt Ideal) (arg16.view.writes (Elt Ideal) arg16.view.junk (runA.sl.H13_2 (F := Ideal) c arg3 harg3 arg4 harg4 x0 x1))) (ix q _)).trans (scrA c arg3 harg3 arg4 harg4 arg16 x0 x1 arg16.view.junk q d).2
  have hP : ∀ k q, k0_pay24 (runA.sl.r_4 (F := Ideal) c arg3 harg3 arg4 harg4 arg5 harg5 arg6 harg6 arg16 x0 x1 x2 x3) (runA.sl.r_5 (F := Ideal) c arg10 harg10 x7) (runA.sl.r_6 (F := Ideal) c arg10 harg10 x7) (runA.sl.v41 (F := Ideal) c arg10 harg10 x7) (ix2 k q) = (blk x0 x1 x2 x3 x4 x5 x6 x7).P (up 0 128 (by omega) k) q := by
    refine P_A (blk x0 x1 x2 x3 x4 x5 x6 x7) ?_ ?_ h16 h16' ?_ ?_ ?_
    · exact fun k d => rows_read harg5 x2 0 128 _ k d _
    · exact fun k d => rows_read harg6 x3 0 128 _ k d _
    · exact fun j => lse_read0 harg10 x7 j
    · exact fun j => lse_read1 harg10 x7 j
    · exact fun j => lse_read2 harg10 x7 j
  have hP' : ∀ k q, runA.sl.r_7 (F := Ideal) c arg3 harg3 arg4 harg4 arg5 harg5 arg6 harg6 arg10 harg10 arg16 x0 x1 x2 x3 x7 (ix2 k q) = (blk x0 x1 x2 x3 x4 x5 x6 x7).P (up 0 128 (by omega) k) q := hP
  have ho : ∀ q d, runA.sl.r_3 (F := Ideal) c arg8 harg8 x5 (ix2 q d) = x5 (ix2 q d) := fun q d =>
    (rows_read harg8 x5 0 2176 _ q d (by omega)).trans (by rw [e0])
  have hv49 : ∀ j : Fin 128, runA.sl.v49 (F := Ideal) c arg8 harg8 arg9 harg9 arg17 harg17 x5 x6 x14 (ix3 0 0 ⟨j.1, by omega⟩) = (blk x0 x1 x2 x3 x4 x5 x6 x7).dl (up 0 128 (by omega) j) := fun j =>
    (congrArg (arg17.view.read (Elt Ideal) (arg17.view.writes (Elt Ideal) (harg17.unread x14) (runA.sl.H14_3 (F := Ideal) c arg8 harg8 arg9 harg9 x5 x6))) (tile_idx0 ⟨j.1, by omega⟩)).trans
      ((scrA' c arg8 harg8 arg9 harg9 arg17 harg17 x5 x6 x14 (harg17.unread x14)).1 j)
  have hv52 : ∀ j : Fin 1024, runA.sl.v52 (F := Ideal) c arg8 harg8 arg9 harg9 arg17 x5 x6 (ix3 0 0 j) = (blk x0 x1 x2 x3 x4 x5 x6 x7).dl (up 128 1024 (by omega) j) := fun j =>
    (congrArg (arg17.view.read (Elt Ideal) (arg17.view.writes (Elt Ideal) arg17.view.junk (runA.sl.H14_3 (F := Ideal) c arg8 harg8 arg9 harg9 x5 x6))) (tile_idx1 j)).trans
      ((scrA' c arg8 harg8 arg9 harg9 arg17 harg17 x5 x6 x14 arg17.view.junk).2.1 j)
  have hv55 : ∀ j : Fin 1024, runA.sl.v55 (F := Ideal) c arg8 harg8 arg9 harg9 arg17 x5 x6 (ix3 0 0 j) = (blk x0 x1 x2 x3 x4 x5 x6 x7).dl (up 1152 1024 (by omega) j) := fun j =>
    (congrArg (arg17.view.read (Elt Ideal) (arg17.view.writes (Elt Ideal) arg17.view.junk (runA.sl.H14_3 (F := Ideal) c arg8 harg8 arg9 harg9 x5 x6))) (tile_idx2 j)).trans
      ((scrA' c arg8 harg8 arg9 harg9 arg17 harg17 x5 x6 x14 arg17.view.junk).2.2 j)
  have hD : ∀ k q, runA.sl.r_8 (F := Ideal) c arg3 harg3 arg4 harg4 arg5 harg5 arg6 harg6 arg7 harg7 arg8 harg8 arg9 harg9 arg10 harg10 arg16 arg17 harg17 x0 x1 x2 x3 x4 x5 x6 x7 x14 (ix2 k q) = (blk x0 x1 x2 x3 x4 x5 x6 x7).D (up 0 128 (by omega) k) q := by
    refine D_A (blk x0 x1 x2 x3 x4 x5 x6 x7) hP ?_ ho ?_ ?_ ?_
    · exact fun k d => rows_read harg7 x4 0 128 _ k d _
    · exact hv49
    · exact hv52
    · exact hv55
  refine ⟨?_, ?_, ?_, ?_, ?_, ?_⟩
  · intro q d
    obtain ⟨q', rfl⟩ := exists_up 0 2176 (by decide) q (by omega) (by omega)
    refine (piece_mem _ _ 0 2176 _ _ _ _ q' d).trans ?_
    rw [show up 0 2176 (by decide) q' = q' from e0 q']
    refine dqn_A (blk x0 x1 x2 x3 x4 x5 x6 x7) ?_ ?_ ?_ q' d ?_
    · exact fun k d => rows_read harg5 x2 0 128 _ k d _
    · exact fun k d => rows_read harg6 x3 0 128 _ k d _
    · exact hD
    · exact zero_read arg11.view q' d
  · intro q d
    obtain ⟨q', rfl⟩ := exists_up 0 2176 (by decide) q (by omega) (by omega)
    refine (piece_mem _ _ 0 2176 _ _ _ _ q' d).trans ?_
    rw [show up 0 2176 (by decide) q' = q' from e0 q']
    refine dqp_A (blk x0 x1 x2 x3 x4 x5 x6 x7) ?_ ?_ ?_ q' d ?_
    · exact fun k d => rows_read harg5 x2 0 128 _ k d _
    · exact fun k d => rows_read harg6 x3 0 128 _ k d _
    · exact hD
    · exact zero_read arg12.view q' d
  · intro k d hk
    obtain ⟨k', rfl⟩ := exists_up 0 128 (by decide) k (by omega) (by omega)
    refine (piece_mem _ _ 0 128 _ _ _ _ k' d).trans ?_
    exact dkn_A (blk x0 x1 x2 x3 x4 x5 x6 x7) h16 h16' hD k' d
  · intro k d hk
    obtain ⟨k', rfl⟩ := exists_up 0 128 (by decide) k (by omega) (by omega)
    refine (piece_mem _ _ 0 128 _ _ _ _ k' d).trans ?_
    exact dkp_A (blk x0 x1 x2 x3 x4 x5 x6 x7) h16 h16' hD k' d
  · intro k d hk
    obtain ⟨k', rfl⟩ := exists_up 0 128 (by decide) k (by omega) (by omega)
    refine (piece_mem _ _ 0 128 _ _ _ _ k' d).trans ?_
    exact dv_A (blk x0 x1 x2 x3 x4 x5 x6 x7) ho hP' k' d
  · exact ⟨fun q d => (scrA c arg3 harg3 arg4 harg4 arg16 x0 x1 _ q d).1, fun q d => (scrA c arg3 harg3 arg4 harg4 arg16 x0 x1 _ q d).2,
      (scrA' c arg8 harg8 arg9 harg9 arg17 harg17 x5 x6 x14 _).1, (scrA' c arg8 harg8 arg9 harg9 arg17 harg17 x5 x6 x14 _).2.1,
      (scrA' c arg8 harg8 arg9 harg9 arg17 harg17 x5 x6 x14 _).2.2⟩
end Cert.KernelIdeal.Bwd
end
-- ==== Proof.Bwd.RunB.lean ====
module

public import proofs.«01_k».proof.Proof.Bwd.RunA

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose key tile is the second one: the scratch is only read, the outputs get the listed pieces. -/
noncomputable def runB (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : ¬k0_cond1 i = 1#1) (hc1 : ¬k0_cond2 i = 1#1) (hc2 : k0_cond3 i = 1#1) (hc3 : ¬k0_cond4 i = 1#1)
    (x0 x1 x2 x3 x4 x5 x6 : Vec F S2176x128 .bf16) (x7 : Vec F S1x1x3x8x1024 .f32) (x8 x9 : Vec F S2176x128 .f32) (x10 : Vec F S2176x128 .bf16) (x11 : Vec F S2176x128 .f32) (x12 : Vec F S2176x128 .bf16) (x13 : Vec F S2176x256 .bf16) (x14 : Vec F S3x8x1024 .f32) :
    Σ' (L8 : List (View.Piece (Elt F) S2176x128 .f32)), Σ' (L9 : List (View.Piece (Elt F) S2176x128 .f32)), Σ' (L10 : List (View.Piece (Elt F) S2176x128 .bf16)), Σ' (L11 : List (View.Piece (Elt F) S2176x128 .f32)), { L12 : List (View.Piece (Elt F) S2176x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (arg11.view.loc (c : Thread nD τ) ↦[arg11.view.set]{fullShare} arg11.view.writes (Elt F) (harg11.unread x8) L8) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread x10) L10) ∗ (arg14.view.loc (c : Thread nD τ) ↦[arg14.view.set]{fullShare} arg14.view.writes (Elt F) (harg14.unread x11) L11) ∗ (arg15.view.loc (c : Thread nD τ) ↦[arg15.view.set]{fullShare} arg15.view.writes (Elt F) (harg15.unread x12) L12) ∗ owns (c : Thread nD τ) arg16 fullShare x13 ∗ owns (c : Thread nD τ) arg17 fullShare x14) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_attn_bwd_eq_skeleton]; unfold cc0_attn_bwd_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexact H8
    isplitl [H9]
    · iexact H9
    isplitl [H10]
    · iexact H10
    isplitl [H11]
    · iexact H11
    isplitl [H12]
    · iexact H12
    isplitl [H13]
    · iexists _; isplitr; · ipureintro; exact harg16.read_unread _
      iexact H13
    iexists _; isplitr; · ipureintro; exact harg17.read_unread _
    iexact H14

end Cert.KernelIdeal.Bwd

end
-- ==== Proof.Bwd.ReadB.lean ====
module
public import proofs.«01_k».proof.Proof.Bwd.RunB
public import proofs.«01_k».proof.Proof.Bwd.Loads
@[expose] public section
set_option maxRecDepth 16384
set_option maxHeartbeats 2000000
noncomputable section

/-! # The second tile of keys -/

namespace Cert.KernelIdeal.Bwd
open Cert.KernelIdeal Cert.KernelIdeal.Gen Idealize.ShloMosaic Idealize.ShloMosaic.TcCoe Idealize.ShloMosaic.Tactic

/-- A step at the second tile: the gradients hold the parts of the keys below 1152. -/
theorem outB (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : ¬k0_cond1 i = 1#1) (hc1 : ¬k0_cond2 i = 1#1) (hc2 : k0_cond3 i = 1#1) (hc3 : ¬k0_cond4 i = 1#1) (x0 x1 x2 x3 x4 x5 x6 : Vec Ideal S2176x128 .bf16) (x7 : Vec Ideal S1x1x3x8x1024 .f32) (x8 x9 : Vec Ideal S2176x128 .f32) (x10 : Vec Ideal S2176x128 .bf16) (x11 : Vec Ideal S2176x128 .f32) (x12 : Vec Ideal S2176x128 .bf16) (x13 : Vec Ideal S2176x256 .bf16) (x14 : Vec Ideal S3x8x1024 .f32) (hs : Scr (blk x0 x1 x2 x3 x4 x5 x6 x7) x13 x14) (h8 : QOk (blk x0 x1 x2 x3 x4 x5 x6 x7) x2 128 x8) (h9 : QOk (blk x0 x1 x2 x3 x4 x5 x6 x7) x3 128 x9)
    (h10 : KOk ((blk x0 x1 x2 x3 x4 x5 x6 x7).dk x0) 128 x10) (h11 : KOk ((blk x0 x1 x2 x3 x4 x5 x6 x7).dk x1) 128 x11) (h12 : KOk (blk x0 x1 x2 x3 x4 x5 x6 x7).dv 128 x12)
    (R) (hR : R = runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 x14) :
    QOk (blk x0 x1 x2 x3 x4 x5 x6 x7) x2 1152 (arg11.view.read (Elt Ideal) (arg11.view.writes (Elt Ideal) (harg11.unread x8) R.1))
      ∧ QOk (blk x0 x1 x2 x3 x4 x5 x6 x7) x3 1152 (arg12.view.read (Elt Ideal) (arg12.view.writes (Elt Ideal) (harg12.unread x9) R.2.1))
      ∧ KOk ((blk x0 x1 x2 x3 x4 x5 x6 x7).dk x0) 1152 (arg13.view.read (Elt Ideal) (arg13.view.writes (Elt Ideal) (harg13.unread x10) R.2.2.1))
      ∧ KOk ((blk x0 x1 x2 x3 x4 x5 x6 x7).dk x1) 1152 (arg14.view.read (Elt Ideal) (arg14.view.writes (Elt Ideal) (harg14.unread x11) R.2.2.2.1))
      ∧ KOk (blk x0 x1 x2 x3 x4 x5 x6 x7).dv 1152 (arg15.view.read (Elt Ideal) (arg15.view.writes (Elt Ideal) (harg15.unread x12) R.2.2.2.2.1)) := by
  subst hR
  have hP : ∀ k q, runB.sl.r_4 (F := Ideal) c arg5 harg5 arg6 harg6 arg10 harg10 arg16 harg16 x2 x3 x7 x13 (ix2 k q) = (blk x0 x1 x2 x3 x4 x5 x6 x7).P (up 128 1024 (by omega) k) (up 128 2048 (by omega) q) := by
    refine P_B (blk x0 x1 x2 x3 x4 x5 x6 x7) ?_ ?_ ?_ ?_ ?_ ?_
    · exact fun k d => rows_read harg5 x2 128 1024 _ k d _
    · exact fun k d => rows_read harg6 x3 128 1024 _ k d _
    · exact fun q d => (rows_read harg16 x13 128 2048 _ q _ _).trans (hs.qn _ d)
    · exact fun q d => (rows_read harg16 x13 128 2048 _ q _ _).trans (hs.qp _ d)
    · exact fun j => lse_read1 harg10 x7 j
    · exact fun j => lse_read2 harg10 x7 j
  have hv : ∀ k d, runB.sl.r_1 (F := Ideal) c arg7 harg7 x4 (ix2 k d) = x4 (ix2 (up 128 1024 (by omega) k) d) := fun k d => rows_read harg7 x4 128 1024 _ k d _
  have ho : ∀ q d, runB.sl.r_3 (F := Ideal) c arg8 harg8 x5 (ix2 q d) = x5 (ix2 (up 128 2048 (by omega) q) d) := fun q d => rows_read harg8 x5 128 2048 _ q d _
  have hD := D_B (blk x0 x1 x2 x3 x4 x5 x6 x7) hP hv ho (fun j => (tile_read1 harg17 x14 j).trans (hs.d1 j)) (fun j => (tile_read2 harg17 x14 j).trans (hs.d2 j))
  refine ⟨?_, ?_, ?_, ?_, ?_⟩
  · intro q d
    by_cases hq : q.1 < 128
    · refine (piece_not_mem _ _ 128 2048 _ _ q hq d).trans ?_
      rw [harg11.read_unread]
      exact (h8 q d).trans ((blk x0 x1 x2 x3 x4 x5 x6 x7).dq_eq x2 (by omega) q hq d)
    · obtain ⟨q', rfl⟩ := exists_up 128 2048 (by decide) q hq (by omega)
      refine (piece_mem _ _ 128 2048 _ _ _ _ q' d).trans ?_
      refine dqn_B (blk x0 x1 x2 x3 x4 x5 x6 x7) ?_ ?_ ?_ q' d ?_
      · exact fun k d => rows_read harg5 x2 128 1024 _ k d _
      · exact fun k d => rows_read harg6 x3 128 1024 _ k d _
      · exact hD
      · exact (rows_read harg11 x8 128 2048 _ q' d _).trans (h8 _ d)
  · intro q d
    by_cases hq : q.1 < 128
    · refine (piece_not_mem _ _ 128 2048 _ _ q hq d).trans ?_
      rw [harg12.read_unread]
      exact (h9 q d).trans ((blk x0 x1 x2 x3 x4 x5 x6 x7).dq_eq x3 (by omega) q hq d)
    · obtain ⟨q', rfl⟩ := exists_up 128 2048 (by decide) q hq (by omega)
      refine (piece_mem _ _ 128 2048 _ _ _ _ q' d).trans ?_
      refine dqp_B (blk x0 x1 x2 x3 x4 x5 x6 x7) ?_ ?_ ?_ q' d ?_
      · exact fun k d => rows_read harg5 x2 128 1024 _ k d _
      · exact fun k d => rows_read harg6 x3 128 1024 _ k d _
      · exact hD
      · exact (rows_read harg12 x9 128 2048 _ q' d _).trans (h9 _ d)
  · intro k d hk
    by_cases hq : k.1 < 128
    · refine (piece_not_mem _ _ 128 1024 _ _ k hq d).trans ?_
      rw [harg13.read_unread]
      exact h10 k d hq
    · obtain ⟨k', rfl⟩ := exists_up 128 1024 (by decide) k hq hk
      refine (piece_mem _ _ 128 1024 _ _ _ _ k' d).trans ?_
      refine dkn_B (blk x0 x1 x2 x3 x4 x5 x6 x7) ?_ ?_ ?_ k' d
      · exact fun q d => (rows_read harg16 x13 128 2048 _ q _ _).trans (hs.qn _ d)
      · exact fun q d => (rows_read harg16 x13 128 2048 _ q _ _).trans (hs.qp _ d)
      · exact hD
  · intro k d hk
    by_cases hq : k.1 < 128
    · refine (piece_not_mem _ _ 128 1024 _ _ k hq d).trans ?_
      rw [harg14.read_unread]
      exact h11 k d hq
    · obtain ⟨k', rfl⟩ := exists_up 128 1024 (by decide) k hq hk
      refine (piece_mem _ _ 128 1024 _ _ _ _ k' d).trans ?_
      refine dkp_B (blk x0 x1 x2 x3 x4 x5 x6 x7) ?_ ?_ ?_ k' d
      · exact fun q d => (rows_read harg16 x13 128 2048 _ q _ _).trans (hs.qn _ d)
      · exact fun q d => (rows_read harg16 x13 128 2048 _ q _ _).trans (hs.qp _ d)
      · exact hD
  · intro k d hk
    by_cases hq : k.1 < 128
    · refine (piece_not_mem _ _ 128 1024 _ _ k hq d).trans ?_
      rw [harg15.read_unread]
      exact h12 k d hq
    · obtain ⟨k', rfl⟩ := exists_up 128 1024 (by decide) k hq hk
      refine (piece_mem _ _ 128 1024 _ _ _ _ k' d).trans ?_
      refine dv_B (blk x0 x1 x2 x3 x4 x5 x6 x7) ?_ ?_ ?_ k' d
      · exact ho
      · exact hP
      · intro k d; exact Ideal.ofBits_zero_f32
end Cert.KernelIdeal.Bwd
end
-- ==== Proof.Bwd.RunC.lean ====
module

public import proofs.«01_k».proof.Proof.Bwd.RunB

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run at a point whose key tile is the third one: the scratch is only read, the outputs get the listed pieces. -/
noncomputable def runC (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : ¬k0_cond1 i = 1#1) (hc1 : ¬k0_cond2 i = 1#1) (hc2 : ¬k0_cond3 i = 1#1) (hc3 : k0_cond4 i = 1#1)
    (x0 x1 x2 x3 x4 x5 x6 : Vec F S2176x128 .bf16) (x7 : Vec F S1x1x3x8x1024 .f32) (x8 x9 : Vec F S2176x128 .f32) (x10 : Vec F S2176x128 .bf16) (x11 : Vec F S2176x128 .f32) (x12 : Vec F S2176x128 .bf16) (x13 : Vec F S2176x256 .bf16) (x14 : Vec F S3x8x1024 .f32) :
    Σ' (L8 : List (View.Piece (Elt F) S2176x128 .f32)), Σ' (L9 : List (View.Piece (Elt F) S2176x128 .f32)), Σ' (L10 : List (View.Piece (Elt F) S2176x128 .bf16)), Σ' (L11 : List (View.Piece (Elt F) S2176x128 .f32)), { L12 : List (View.Piece (Elt F) S2176x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (arg11.view.loc (c : Thread nD τ) ↦[arg11.view.set]{fullShare} arg11.view.writes (Elt F) (harg11.unread x8) L8) ∗ (arg12.view.loc (c : Thread nD τ) ↦[arg12.view.set]{fullShare} arg12.view.writes (Elt F) (harg12.unread x9) L9) ∗ (arg13.view.loc (c : Thread nD τ) ↦[arg13.view.set]{fullShare} arg13.view.writes (Elt F) (harg13.unread x10) L10) ∗ (arg14.view.loc (c : Thread nD τ) ↦[arg14.view.set]{fullShare} arg14.view.writes (Elt F) (harg14.unread x11) L11) ∗ (arg15.view.loc (c : Thread nD τ) ↦[arg15.view.set]{fullShare} arg15.view.writes (Elt F) (harg15.unread x12) L12) ∗ owns (c : Thread nD τ) arg16 fullShare x13 ∗ owns (c : Thread nD τ) arg17 fullShare x14) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    simp only [cc0_attn_bwd_eq_skeleton]; unfold cc0_attn_bwd_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexact H8
    isplitl [H9]
    · iexact H9
    isplitl [H10]
    · iexact H10
    isplitl [H11]
    · iexact H11
    isplitl [H12]
    · iexact H12
    isplitl [H13]
    · iexists _; isplitr; · ipureintro; exact harg16.read_unread _
      iexact H13
    iexists _; isplitr; · ipureintro; exact harg17.read_unread _
    iexact H14

end Cert.KernelIdeal.Bwd

end
-- ==== Proof.Bwd.ReadC.lean ====
module
public import proofs.«01_k».proof.Proof.Bwd.RunC
public import proofs.«01_k».proof.Proof.Bwd.Loads
@[expose] public section
set_option maxRecDepth 16384
set_option maxHeartbeats 2000000
noncomputable section

/-! # The last tile of keys -/

namespace Cert.KernelIdeal.Bwd
open Cert.KernelIdeal Cert.KernelIdeal.Gen Idealize.ShloMosaic Idealize.ShloMosaic.TcCoe Idealize.ShloMosaic.Tactic

/-- A step at the last tile: the gradients are complete. -/
theorem outC (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : ¬k0_cond1 i = 1#1) (hc1 : ¬k0_cond2 i = 1#1) (hc2 : ¬k0_cond3 i = 1#1) (hc3 : k0_cond4 i = 1#1) (x0 x1 x2 x3 x4 x5 x6 : Vec Ideal S2176x128 .bf16) (x7 : Vec Ideal S1x1x3x8x1024 .f32) (x8 x9 : Vec Ideal S2176x128 .f32) (x10 : Vec Ideal S2176x128 .bf16) (x11 : Vec Ideal S2176x128 .f32) (x12 : Vec Ideal S2176x128 .bf16) (x13 : Vec Ideal S2176x256 .bf16) (x14 : Vec Ideal S3x8x1024 .f32) (hs : Scr (blk x0 x1 x2 x3 x4 x5 x6 x7) x13 x14) (h8 : QOk (blk x0 x1 x2 x3 x4 x5 x6 x7) x2 1152 x8) (h9 : QOk (blk x0 x1 x2 x3 x4 x5 x6 x7) x3 1152 x9)
    (h10 : KOk ((blk x0 x1 x2 x3 x4 x5 x6 x7).dk x0) 1152 x10) (h11 : KOk ((blk x0 x1 x2 x3 x4 x5 x6 x7).dk x1) 1152 x11) (h12 : KOk (blk x0 x1 x2 x3 x4 x5 x6 x7).dv 1152 x12)
    (R) (hR : R = runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 x14) :
    QOk (blk x0 x1 x2 x3 x4 x5 x6 x7) x2 2176 (arg11.view.read (Elt Ideal) (arg11.view.writes (Elt Ideal) (harg11.unread x8) R.1))
      ∧ QOk (blk x0 x1 x2 x3 x4 x5 x6 x7) x3 2176 (arg12.view.read (Elt Ideal) (arg12.view.writes (Elt Ideal) (harg12.unread x9) R.2.1))
      ∧ KOk ((blk x0 x1 x2 x3 x4 x5 x6 x7).dk x0) 2176 (arg13.view.read (Elt Ideal) (arg13.view.writes (Elt Ideal) (harg13.unread x10) R.2.2.1))
      ∧ KOk ((blk x0 x1 x2 x3 x4 x5 x6 x7).dk x1) 2176 (arg14.view.read (Elt Ideal) (arg14.view.writes (Elt Ideal) (harg14.unread x11) R.2.2.2.1))
      ∧ KOk (blk x0 x1 x2 x3 x4 x5 x6 x7).dv 2176 (arg15.view.read (Elt Ideal) (arg15.view.writes (Elt Ideal) (harg15.unread x12) R.2.2.2.2.1)) := by
  subst hR
  have hP : ∀ k q, runC.sl.r_2 (F := Ideal) c arg5 harg5 arg6 harg6 arg10 harg10 arg16 harg16 x2 x3 x7 x13 (ix2 k q) = (blk x0 x1 x2 x3 x4 x5 x6 x7).P (up 1152 1024 (by omega) k) (up 1152 1024 (by omega) q) := by
    refine P_C (blk x0 x1 x2 x3 x4 x5 x6 x7) ?_ ?_ ?_ ?_ ?_
    · exact fun k d => rows_read harg5 x2 1152 1024 _ k d _
    · exact fun k d => rows_read harg6 x3 1152 1024 _ k d _
    · exact fun q d => (rows_read harg16 x13 1152 1024 _ q _ _).trans (hs.qn _ d)
    · exact fun q d => (rows_read harg16 x13 1152 1024 _ q _ _).trans (hs.qp _ d)
    · exact fun j => lse_read2 harg10 x7 j
  have hD : ∀ k q, runC.sl.r_3 (F := Ideal) c arg5 harg5 arg6 harg6 arg7 harg7 arg8 harg8 arg10 harg10 arg16 harg16 arg17 harg17 x2 x3 x4 x5 x7 x13 x14 (ix2 k q) = (blk x0 x1 x2 x3 x4 x5 x6 x7).D (up 1152 1024 (by omega) k) (up 1152 1024 (by omega) q) := by
    refine D_C (blk x0 x1 x2 x3 x4 x5 x6 x7) ?_ ?_ ?_ ?_
    · exact hP
    · exact fun k d => rows_read harg7 x4 1152 1024 _ k d _
    · exact fun q d => rows_read harg8 x5 1152 1024 _ q d _
    · exact fun j => (tile_read2 harg17 x14 j).trans (hs.d2 j)
  refine ⟨?_, ?_, ?_, ?_, ?_⟩
  · intro q d
    by_cases hq : q.1 < 1152
    · refine (piece_not_mem _ _ 1152 1024 _ _ q hq d).trans ?_
      rw [harg11.read_unread]
      exact (h8 q d).trans ((blk x0 x1 x2 x3 x4 x5 x6 x7).dq_eq x2 (by omega) q hq d)
    · obtain ⟨q', rfl⟩ := exists_up 1152 1024 (by decide) q hq (by omega)
      refine (piece_mem _ _ 1152 1024 _ _ _ _ q' d).trans ?_
      refine dqn_C (blk x0 x1 x2 x3 x4 x5 x6 x7) ?_ ?_ ?_ q' d ?_
      · exact fun k d => rows_read harg5 x2 1152 1024 _ k d _
      · exact fun k d => rows_read harg6 x3 1152 1024 _ k d _
      · exact hD
      · exact (rows_read harg11 x8 1152 1024 _ q' d _).trans (h8 _ d)
  · intro q d
    by_cases hq : q.1 < 1152
    · refine (piece_not_mem _ _ 1152 1024 _ _ q hq d).trans ?_
      rw [harg12.read_unread]
      exact (h9 q d).trans ((blk x0 x1 x2 x3 x4 x5 x6 x7).dq_eq x3 (by omega) q hq d)
    · obtain ⟨q', rfl⟩ := exists_up 1152 1024 (by decide) q hq (by omega)
      refine (piece_mem _ _ 1152 1024 _ _ _ _ q' d).trans ?_
      refine dqp_C (blk x0 x1 x2 x3 x4 x5 x6 x7) ?_ ?_ ?_ q' d ?_
      · exact fun k d => rows_read harg5 x2 1152 1024 _ k d _
      · exact fun k d => rows_read harg6 x3 1152 1024 _ k d _
      · exact hD
      · exact (rows_read harg12 x9 1152 1024 _ q' d _).trans (h9 _ d)
  · intro k d hk
    by_cases hq : k.1 < 1152
    · refine (piece_not_mem _ _ 1152 1024 _ _ k hq d).trans ?_
      rw [harg13.read_unread]
      exact h10 k d hq
    · obtain ⟨k', rfl⟩ := exists_up 1152 1024 (by decide) k hq hk
      refine (piece_mem _ _ 1152 1024 _ _ _ _ k' d).trans ?_
      refine dkn_C (blk x0 x1 x2 x3 x4 x5 x6 x7) ?_ ?_ ?_ k' d
      · exact fun q d => (rows_read harg16 x13 1152 1024 _ q _ _).trans (hs.qn _ d)
      · exact fun q d => (rows_read harg16 x13 1152 1024 _ q _ _).trans (hs.qp _ d)
      · exact hD
  · intro k d hk
    by_cases hq : k.1 < 1152
    · refine (piece_not_mem _ _ 1152 1024 _ _ k hq d).trans ?_
      rw [harg14.read_unread]
      exact h11 k d hq
    · obtain ⟨k', rfl⟩ := exists_up 1152 1024 (by decide) k hq hk
      refine (piece_mem _ _ 1152 1024 _ _ _ _ k' d).trans ?_
      refine dkp_C (blk x0 x1 x2 x3 x4 x5 x6 x7) ?_ ?_ ?_ k' d
      · exact fun q d => (rows_read harg16 x13 1152 1024 _ q _ _).trans (hs.qn _ d)
      · exact fun q d => (rows_read harg16 x13 1152 1024 _ q _ _).trans (hs.qp _ d)
      · exact hD
  · intro k d hk
    by_cases hq : k.1 < 1152
    · refine (piece_not_mem _ _ 1152 1024 _ _ k hq d).trans ?_
      rw [harg15.read_unread]
      exact h12 k d hq
    · obtain ⟨k', rfl⟩ := exists_up 1152 1024 (by decide) k hq hk
      refine (piece_mem _ _ 1152 1024 _ _ _ _ k' d).trans ?_
      refine dv_C (blk x0 x1 x2 x3 x4 x5 x6 x7) ?_ ?_ k' d
      · exact fun q d => rows_read harg8 x5 1152 1024 _ q d _
      · exact hP
end Cert.KernelIdeal.Bwd
end
-- ==== Proof.Bwd.Trip.lean ====
module

public import proofs.«01_k».proof.Proof.Bwd.ReadA
public import proofs.«01_k».proof.Proof.Bwd.ReadB
public import proofs.«01_k».proof.Proof.Bwd.ReadC

@[expose] public section

set_option maxRecDepth 16384

/-! # The body's triples

At each of the three key tiles: from buffers at given contents the body ends with the inputs unchanged and the outputs
(and, at the first tile, the scratch) at contents that meet the predicates of the tile. -/

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A buffer whose contents read as `X` with `P X` is owned at some contents that meet `P`. -/
theorem owns_some (c : Dev nD) {s : Shape} {e : EltTy} (a : Memref sig .tc .vmem s e) (f : Buf (Elt Ideal) (a.view.loc (c : Thread nD τ)))
    (P : (s.Idx → Elt Ideal e) → Prop) (h : P (a.view.read (Elt Ideal) f)) :
    (a.view.loc (c : Thread nD τ) ↦[a.view.set]{fullShare} f : sProp 𝕄) ⊢ iprop(∃ X, ⌜P X⌝ ∗ owns (c : Thread nD τ) a fullShare X) := by
  iintro H
  iexists (a.view.read (Elt Ideal) f); isplitr
  · ipureintro; exact h
  · unfold owns; iexists f; isplitr; · ipureintro; rfl
    iexact H

set_option maxHeartbeats 2000000 in
/-- The body's triple at key tile 0. -/
theorem tripA (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : k0_cond1 i = 1#1) (hc1 : k0_cond2 i = 1#1) (hc2 : ¬k0_cond3 i = 1#1) (hc3 : ¬k0_cond4 i = 1#1) (x0 x1 x2 x3 x4 x5 x6 : Vec Ideal S2176x128 .bf16) (x7 : Vec Ideal S1x1x3x8x1024 .f32) (x8 x9 : Vec Ideal S2176x128 .f32) (x10 : Vec Ideal S2176x128 .bf16) (x11 : Vec Ideal S2176x128 .f32) (x12 : Vec Ideal S2176x128 .bf16) (x13 : Vec Ideal S2176x256 .bf16) (x14 : Vec Ideal S3x8x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ X, ⌜QOk (blk x0 x1 x2 x3 x4 x5 x6 x7) x2 128 X⌝ ∗ owns (c : Thread nD τ) arg11 fullShare X) ∗ (∃ X, ⌜QOk (blk x0 x1 x2 x3 x4 x5 x6 x7) x3 128 X⌝ ∗ owns (c : Thread nD τ) arg12 fullShare X) ∗ (∃ X, ⌜KOk ((blk x0 x1 x2 x3 x4 x5 x6 x7).dk x0) 128 X⌝ ∗ owns (c : Thread nD τ) arg13 fullShare X) ∗ (∃ X, ⌜KOk ((blk x0 x1 x2 x3 x4 x5 x6 x7).dk x1) 128 X⌝ ∗ owns (c : Thread nD τ) arg14 fullShare X) ∗ (∃ X, ⌜KOk (blk x0 x1 x2 x3 x4 x5 x6 x7).dv 128 X⌝ ∗ owns (c : Thread nD τ) arg15 fullShare X) ∗ (∃ X13 X14, ⌜Scr (blk x0 x1 x2 x3 x4 x5 x6 x7) X13 X14⌝ ∗ owns (c : Thread nD τ) arg16 fullShare X13 ∗ owns (c : Thread nD τ) arg17 fullShare X14)) -∗ K ⟨⟩))
      ⊢ wp frame (wpE (defs₀ (F := Ideal)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have ho := outA c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 x14 _ rfl
  revert ho
  generalize runA (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 x14 = R
  obtain ⟨L8, L9, L10, L11, L12, L13, L14, hR⟩ := R
  intro ho
  obtain ⟨o8, o9, o10, o11, o12, os⟩ := ho
  iintro ⟨H0, H1, H2, H3, H4, H5, H6, H7, H8, H9, H10, H11, H12, H13, H14, Hk⟩
  iapply (hR E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (owns_some c arg11 _ (QOk (blk x0 x1 x2 x3 x4 x5 x6 x7) x2 128) o8); iexact H8
  isplitl [H9]
  · iapply (owns_some c arg12 _ (QOk (blk x0 x1 x2 x3 x4 x5 x6 x7) x3 128) o9); iexact H9
  isplitl [H10]
  · iapply (owns_some c arg13 _ (KOk ((blk x0 x1 x2 x3 x4 x5 x6 x7).dk x0) 128) o10); iexact H10
  isplitl [H11]
  · iapply (owns_some c arg14 _ (KOk ((blk x0 x1 x2 x3 x4 x5 x6 x7).dk x1) 128) o11); iexact H11
  isplitl [H12]
  · iapply (owns_some c arg15 _ (KOk (blk x0 x1 x2 x3 x4 x5 x6 x7).dv 128) o12); iexact H12
  iexists (arg16.view.read (Elt Ideal) (arg16.view.writes (Elt Ideal) (harg16.unread x13) L13)); iexists (arg17.view.read (Elt Ideal) (arg17.view.writes (Elt Ideal) (harg17.unread x14) L14)); isplitr
  · ipureintro; exact os
  · isplitl [H13]
    · unfold owns; iexists _; isplitr
      swap
      · iexact H13
      · ipureintro; rfl
    · unfold owns; iexists _; isplitr
      swap
      · iexact H14
      · ipureintro; rfl

set_option maxHeartbeats 2000000 in
/-- The body's triple at key tile 1. -/
theorem tripB (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : ¬k0_cond1 i = 1#1) (hc1 : ¬k0_cond2 i = 1#1) (hc2 : k0_cond3 i = 1#1) (hc3 : ¬k0_cond4 i = 1#1) (x0 x1 x2 x3 x4 x5 x6 : Vec Ideal S2176x128 .bf16) (x7 : Vec Ideal S1x1x3x8x1024 .f32) (x8 x9 : Vec Ideal S2176x128 .f32) (x10 : Vec Ideal S2176x128 .bf16) (x11 : Vec Ideal S2176x128 .f32) (x12 : Vec Ideal S2176x128 .bf16) (x13 : Vec Ideal S2176x256 .bf16) (x14 : Vec Ideal S3x8x1024 .f32) (hs : Scr (blk x0 x1 x2 x3 x4 x5 x6 x7) x13 x14) (h8 : QOk (blk x0 x1 x2 x3 x4 x5 x6 x7) x2 128 x8) (h9 : QOk (blk x0 x1 x2 x3 x4 x5 x6 x7) x3 128 x9) (h10 : KOk ((blk x0 x1 x2 x3 x4 x5 x6 x7).dk x0) 128 x10) (h11 : KOk ((blk x0 x1 x2 x3 x4 x5 x6 x7).dk x1) 128 x11) (h12 : KOk (blk x0 x1 x2 x3 x4 x5 x6 x7).dv 128 x12) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ X, ⌜QOk (blk x0 x1 x2 x3 x4 x5 x6 x7) x2 1152 X⌝ ∗ owns (c : Thread nD τ) arg11 fullShare X) ∗ (∃ X, ⌜QOk (blk x0 x1 x2 x3 x4 x5 x6 x7) x3 1152 X⌝ ∗ owns (c : Thread nD τ) arg12 fullShare X) ∗ (∃ X, ⌜KOk ((blk x0 x1 x2 x3 x4 x5 x6 x7).dk x0) 1152 X⌝ ∗ owns (c : Thread nD τ) arg13 fullShare X) ∗ (∃ X, ⌜KOk ((blk x0 x1 x2 x3 x4 x5 x6 x7).dk x1) 1152 X⌝ ∗ owns (c : Thread nD τ) arg14 fullShare X) ∗ (∃ X, ⌜KOk (blk x0 x1 x2 x3 x4 x5 x6 x7).dv 1152 X⌝ ∗ owns (c : Thread nD τ) arg15 fullShare X) ∗ owns (c : Thread nD τ) arg16 fullShare x13 ∗ owns (c : Thread nD τ) arg17 fullShare x14) -∗ K ⟨⟩))
      ⊢ wp frame (wpE (defs₀ (F := Ideal)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have ho := outB c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 x14 hs h8 h9 h10 h11 h12 _ rfl
  revert ho
  generalize runB (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 x14 = R
  obtain ⟨L8, L9, L10, L11, L12, hR⟩ := R
  intro ho
  obtain ⟨o8, o9, o10, o11, o12⟩ := ho
  iintro ⟨H0, H1, H2, H3, H4, H5, H6, H7, H8, H9, H10, H11, H12, H13, H14, Hk⟩
  iapply (hR E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (owns_some c arg11 _ (QOk (blk x0 x1 x2 x3 x4 x5 x6 x7) x2 1152) o8); iexact H8
  isplitl [H9]
  · iapply (owns_some c arg12 _ (QOk (blk x0 x1 x2 x3 x4 x5 x6 x7) x3 1152) o9); iexact H9
  isplitl [H10]
  · iapply (owns_some c arg13 _ (KOk ((blk x0 x1 x2 x3 x4 x5 x6 x7).dk x0) 1152) o10); iexact H10
  isplitl [H11]
  · iapply (owns_some c arg14 _ (KOk ((blk x0 x1 x2 x3 x4 x5 x6 x7).dk x1) 1152) o11); iexact H11
  isplitl [H12]
  · iapply (owns_some c arg15 _ (KOk (blk x0 x1 x2 x3 x4 x5 x6 x7).dv 1152) o12); iexact H12
  isplitl [H13]; · iexact H13
  iexact H14

set_option maxHeartbeats 2000000 in
/-- The body's triple at key tile 2. -/
theorem tripC (c : Dev nD) (i : grid0.Coords) (arg3 : Memref sig .tc .vmem S2176x128 .bf16) (harg3 : arg3.IsWhole) (arg4 : Memref sig .tc .vmem S2176x128 .bf16) (harg4 : arg4.IsWhole) (arg5 : Memref sig .tc .vmem S2176x128 .bf16) (harg5 : arg5.IsWhole) (arg6 : Memref sig .tc .vmem S2176x128 .bf16) (harg6 : arg6.IsWhole) (arg7 : Memref sig .tc .vmem S2176x128 .bf16) (harg7 : arg7.IsWhole) (arg8 : Memref sig .tc .vmem S2176x128 .bf16) (harg8 : arg8.IsWhole) (arg9 : Memref sig .tc .vmem S2176x128 .bf16) (harg9 : arg9.IsWhole) (arg10 : Memref sig .tc .vmem S1x1x3x8x1024 .f32) (harg10 : arg10.IsWhole) (arg11 : Memref sig .tc .vmem S2176x128 .f32) (harg11 : arg11.IsWhole) (arg12 : Memref sig .tc .vmem S2176x128 .f32) (harg12 : arg12.IsWhole) (arg13 : Memref sig .tc .vmem S2176x128 .bf16) (harg13 : arg13.IsWhole) (arg14 : Memref sig .tc .vmem S2176x128 .f32) (harg14 : arg14.IsWhole) (arg15 : Memref sig .tc .vmem S2176x128 .bf16) (harg15 : arg15.IsWhole) (arg16 : Memref sig .tc .vmem S2176x256 .bf16) (harg16 : arg16.IsWhole) (arg17 : Memref sig .tc .vmem S3x8x1024 .f32) (harg17 : arg17.IsWhole) (hc0 : ¬k0_cond1 i = 1#1) (hc1 : ¬k0_cond2 i = 1#1) (hc2 : ¬k0_cond3 i = 1#1) (hc3 : k0_cond4 i = 1#1) (x0 x1 x2 x3 x4 x5 x6 : Vec Ideal S2176x128 .bf16) (x7 : Vec Ideal S1x1x3x8x1024 .f32) (x8 x9 : Vec Ideal S2176x128 .f32) (x10 : Vec Ideal S2176x128 .bf16) (x11 : Vec Ideal S2176x128 .f32) (x12 : Vec Ideal S2176x128 .bf16) (x13 : Vec Ideal S2176x256 .bf16) (x14 : Vec Ideal S3x8x1024 .f32) (hs : Scr (blk x0 x1 x2 x3 x4 x5 x6 x7) x13 x14) (h8 : QOk (blk x0 x1 x2 x3 x4 x5 x6 x7) x2 1152 x8) (h9 : QOk (blk x0 x1 x2 x3 x4 x5 x6 x7) x3 1152 x9) (h10 : KOk ((blk x0 x1 x2 x3 x4 x5 x6 x7).dk x0) 1152 x10) (h11 : KOk ((blk x0 x1 x2 x3 x4 x5 x6 x7).dk x1) 1152 x11) (h12 : KOk (blk x0 x1 x2 x3 x4 x5 x6 x7).dv 1152 x12) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ X, ⌜QOk (blk x0 x1 x2 x3 x4 x5 x6 x7) x2 2176 X⌝ ∗ owns (c : Thread nD τ) arg11 fullShare X) ∗ (∃ X, ⌜QOk (blk x0 x1 x2 x3 x4 x5 x6 x7) x3 2176 X⌝ ∗ owns (c : Thread nD τ) arg12 fullShare X) ∗ (∃ X, ⌜KOk ((blk x0 x1 x2 x3 x4 x5 x6 x7).dk x0) 2176 X⌝ ∗ owns (c : Thread nD τ) arg13 fullShare X) ∗ (∃ X, ⌜KOk ((blk x0 x1 x2 x3 x4 x5 x6 x7).dk x1) 2176 X⌝ ∗ owns (c : Thread nD τ) arg14 fullShare X) ∗ (∃ X, ⌜KOk (blk x0 x1 x2 x3 x4 x5 x6 x7).dv 2176 X⌝ ∗ owns (c : Thread nD τ) arg15 fullShare X) ∗ owns (c : Thread nD τ) arg16 fullShare x13 ∗ owns (c : Thread nD τ) arg17 fullShare x14) -∗ K ⟨⟩))
      ⊢ wp frame (wpE (defs₀ (F := Ideal)) Variants.none c none) E (cc0_attn_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have ho := outC c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 x14 hs h8 h9 h10 h11 h12 _ rfl
  revert ho
  generalize runC (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 hc3 x0 x1 x2 x3 x4 x5 x6 x7 x8 x9 x10 x11 x12 x13 x14 = R
  obtain ⟨L8, L9, L10, L11, L12, hR⟩ := R
  intro ho
  obtain ⟨o8, o9, o10, o11, o12⟩ := ho
  iintro ⟨H0, H1, H2, H3, H4, H5, H6, H7, H8, H9, H10, H11, H12, H13, H14, Hk⟩
  iapply (hR E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (owns_some c arg11 _ (QOk (blk x0 x1 x2 x3 x4 x5 x6 x7) x2 2176) o8); iexact H8
  isplitl [H9]
  · iapply (owns_some c arg12 _ (QOk (blk x0 x1 x2 x3 x4 x5 x6 x7) x3 2176) o9); iexact H9
  isplitl [H10]
  · iapply (owns_some c arg13 _ (KOk ((blk x0 x1 x2 x3 x4 x5 x6 x7).dk x0) 2176) o10); iexact H10
  isplitl [H11]
  · iapply (owns_some c arg14 _ (KOk ((blk x0 x1 x2 x3 x4 x5 x6 x7).dk x1) 2176) o11); iexact H11
  isplitl [H12]
  · iapply (owns_some c arg15 _ (KOk (blk x0 x1 x2 x3 x4 x5 x6 x7).dv 2176) o12); iexact H12
  isplitl [H13]; · iexact H13
  iexact H14

end Cert.KernelIdeal.Bwd

end
-- ==== Proof.Bwd.Data.lean ====
module

public import proofs.«01_k».proof.Proof.Bwd.Trip
public import Idealize.ShloMosaic.Lib.Pipeline.DatRel
public import Idealize.ShloMosaic.Lib.Claim

@[expose] public section

set_option maxRecDepth 16384

/-! # The body of the attention's gradient at every point of the grid

What each output's staging buffer holds after the body at a point, as a predicate; what the scratch carries from one
key tile of a head to the next; and the body's triple at every point. -/

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

local notation "𝕄" => MT nD τ sig Unit (Elt Ideal) ℕ (UR sig nD τ) ℕ

variable (m : (ℓ : Loc nD τ sig) → Buf (Elt Ideal) ℓ) (ρ : Dev nD → PrngReg)

/-- The arrays of the head of point `t`. -/
def G (c : Dev nD) (t : Fin cfg0.N) : Blk := blk (iblk m c 0 t) (iblk m c 1 t) (iblk m c 2 t) (iblk m c 3 t) (iblk m c 4 t) (iblk m c 5 t) (iblk m c 6 t) (iblk m c 7 t)

/-- The first row past the key tile of point `t`. -/
def en (t : Fin cfg0.N) : ℕ := if t.val % 3 = 0 then 128 else if t.val % 3 = 1 then 1152 else 2176

/-- The outputs: the windows held to a predicate. -/
def isRes : Fin 13 → Bool := fun w => w.val == 8 || w.val == 9 || w.val == 10 || w.val == 11 || w.val == 12

/-- What the body leaves in an output's buffer at point `t`: the gradients of the queries summed over the keys of the tiles
done, and the gradients of the keys and values of the tiles done. -/
def Rl (c : Dev nD) (w : Fin cfg0.W) (t : Fin cfg0.N) (X : (cfg0.win w).block.Idx → Elt Ideal (cfg0.win w).elt) : Prop :=
  match w with
  | ⟨8, _⟩ => QOk (G m c t) (iblk m c 2 t) (en t) X
  | ⟨9, _⟩ => QOk (G m c t) (iblk m c 3 t) (en t) X
  | ⟨10, _⟩ => KOk ((G m c t).dk (iblk m c 0 t)) (en t) X
  | ⟨11, _⟩ => KOk ((G m c t).dk (iblk m c 1 t)) (en t) X
  | ⟨12, _⟩ => KOk (G m c t).dv (en t) X
  | _ => True

/-- The invariant before point `n`: at the first key tile of a head the scratch holds anything, else what the point before left. -/
def PhiS (c : Dev nD) (n : ℕ) (h : n ≤ cfg0.N) : sProp 𝕄 :=
  if h0 : n % 3 = 0 then Pipeline.ΦA spec0 c
  else iprop((∃ X13 X14, ⌜Scr (G m c ⟨n - 1, by omega⟩) X13 X14⌝ ∗ owns (c : Thread nD τ) (Memref.whole cc0_scratch0) fullShare X13 ∗ owns (c : Thread nD τ) (Memref.whole cc0_scratch1) fullShare X14) ∗ (∃ r, prngReg c r))

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := PhiS m c t.val (Nat.le_of_lt_succ t.isLt)
  q _ := fullShare
  owed _ := 0

/-- The proof data's arrays are those the pipeline finds. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem fetched_0 (c : Dev nD) (t : Fin cfg0.N) (d) : (dats m 0 c).fetched 0 t d = iblk m c 0 t := by
  unfold Dat.fetched Dat.blockOf iblk; rw [A_eq]; try rfl
theorem prev_0 (c : Dev nD) (t : Fin cfg0.N) (h : t.val % 3 ≠ 0) : iblk m c 0 ⟨t.val - 1, Nat.lt_of_le_of_lt (Nat.sub_le _ _) t.isLt⟩ = iblk m c 0 t := by
  have hf : (cfg0.win 0).fetch t = false := by
    rw [← Bool.not_eq_true, fetch0_0 t]; omega
  obtain ⟨ht, hix⟩ := (cfg0.win 0).index_eq_of_fetch rfl t hf
  rw [← fetched_0 m c _ (fun _ => Classical.arbitrary _), ← fetched_0 m c t (fun _ => Classical.arbitrary _)]
  exact (dats m 0 c).fetched_congr 0 hix.symm rfl _

theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem fetched_1 (c : Dev nD) (t : Fin cfg0.N) (d) : (dats m 0 c).fetched 1 t d = iblk m c 1 t := by
  unfold Dat.fetched Dat.blockOf iblk; rw [A_eq]; try rfl
theorem prev_1 (c : Dev nD) (t : Fin cfg0.N) (h : t.val % 3 ≠ 0) : iblk m c 1 ⟨t.val - 1, Nat.lt_of_le_of_lt (Nat.sub_le _ _) t.isLt⟩ = iblk m c 1 t := by
  have hf : (cfg0.win 1).fetch t = false := by
    rw [← Bool.not_eq_true, fetch0_1 t]; omega
  obtain ⟨ht, hix⟩ := (cfg0.win 1).index_eq_of_fetch rfl t hf
  rw [← fetched_1 m c _ (fun _ => Classical.arbitrary _), ← fetched_1 m c t (fun _ => Classical.arbitrary _)]
  exact (dats m 0 c).fetched_congr 1 hix.symm rfl _

theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem fetched_2 (c : Dev nD) (t : Fin cfg0.N) (d) : (dats m 0 c).fetched 2 t d = iblk m c 2 t := by
  unfold Dat.fetched Dat.blockOf iblk; rw [A_eq]; try rfl
theorem prev_2 (c : Dev nD) (t : Fin cfg0.N) (h : t.val % 3 ≠ 0) : iblk m c 2 ⟨t.val - 1, Nat.lt_of_le_of_lt (Nat.sub_le _ _) t.isLt⟩ = iblk m c 2 t := by
  have hf : (cfg0.win 2).fetch t = false := by
    rw [← Bool.not_eq_true, fetch0_2 t]; omega
  obtain ⟨ht, hix⟩ := (cfg0.win 2).index_eq_of_fetch rfl t hf
  rw [← fetched_2 m c _ (fun _ => Classical.arbitrary _), ← fetched_2 m c t (fun _ => Classical.arbitrary _)]
  exact (dats m 0 c).fetched_congr 2 hix.symm rfl _

theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem fetched_3 (c : Dev nD) (t : Fin cfg0.N) (d) : (dats m 0 c).fetched 3 t d = iblk m c 3 t := by
  unfold Dat.fetched Dat.blockOf iblk; rw [A_eq]; try rfl
theorem prev_3 (c : Dev nD) (t : Fin cfg0.N) (h : t.val % 3 ≠ 0) : iblk m c 3 ⟨t.val - 1, Nat.lt_of_le_of_lt (Nat.sub_le _ _) t.isLt⟩ = iblk m c 3 t := by
  have hf : (cfg0.win 3).fetch t = false := by
    rw [← Bool.not_eq_true, fetch0_3 t]; omega
  obtain ⟨ht, hix⟩ := (cfg0.win 3).index_eq_of_fetch rfl t hf
  rw [← fetched_3 m c _ (fun _ => Classical.arbitrary _), ← fetched_3 m c t (fun _ => Classical.arbitrary _)]
  exact (dats m 0 c).fetched_congr 3 hix.symm rfl _

theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem fetched_4 (c : Dev nD) (t : Fin cfg0.N) (d) : (dats m 0 c).fetched 4 t d = iblk m c 4 t := by
  unfold Dat.fetched Dat.blockOf iblk; rw [A_eq]; try rfl
theorem prev_4 (c : Dev nD) (t : Fin cfg0.N) (h : t.val % 3 ≠ 0) : iblk m c 4 ⟨t.val - 1, Nat.lt_of_le_of_lt (Nat.sub_le _ _) t.isLt⟩ = iblk m c 4 t := by
  have hf : (cfg0.win 4).fetch t = false := by
    rw [← Bool.not_eq_true, fetch0_4 t]; omega
  obtain ⟨ht, hix⟩ := (cfg0.win 4).index_eq_of_fetch rfl t hf
  rw [← fetched_4 m c _ (fun _ => Classical.arbitrary _), ← fetched_4 m c t (fun _ => Classical.arbitrary _)]
  exact (dats m 0 c).fetched_congr 4 hix.symm rfl _

theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem fetched_5 (c : Dev nD) (t : Fin cfg0.N) (d) : (dats m 0 c).fetched 5 t d = iblk m c 5 t := by
  unfold Dat.fetched Dat.blockOf iblk; rw [A_eq]; try rfl
theorem prev_5 (c : Dev nD) (t : Fin cfg0.N) (h : t.val % 3 ≠ 0) : iblk m c 5 ⟨t.val - 1, Nat.lt_of_le_of_lt (Nat.sub_le _ _) t.isLt⟩ = iblk m c 5 t := by
  have hf : (cfg0.win 5).fetch t = false := by
    rw [← Bool.not_eq_true, fetch0_5 t]; omega
  obtain ⟨ht, hix⟩ := (cfg0.win 5).index_eq_of_fetch rfl t hf
  rw [← fetched_5 m c _ (fun _ => Classical.arbitrary _), ← fetched_5 m c t (fun _ => Classical.arbitrary _)]
  exact (dats m 0 c).fetched_congr 5 hix.symm rfl _

theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem fetched_6 (c : Dev nD) (t : Fin cfg0.N) (d) : (dats m 0 c).fetched 6 t d = iblk m c 6 t := by
  unfold Dat.fetched Dat.blockOf iblk; rw [A_eq]; try rfl
theorem prev_6 (c : Dev nD) (t : Fin cfg0.N) (h : t.val % 3 ≠ 0) : iblk m c 6 ⟨t.val - 1, Nat.lt_of_le_of_lt (Nat.sub_le _ _) t.isLt⟩ = iblk m c 6 t := by
  have hf : (cfg0.win 6).fetch t = false := by
    rw [← Bool.not_eq_true, fetch0_6 t]; omega
  obtain ⟨ht, hix⟩ := (cfg0.win 6).index_eq_of_fetch rfl t hf
  rw [← fetched_6 m c _ (fun _ => Classical.arbitrary _), ← fetched_6 m c t (fun _ => Classical.arbitrary _)]
  exact (dats m 0 c).fetched_congr 6 hix.symm rfl _

theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem fetched_7 (c : Dev nD) (t : Fin cfg0.N) (d) : (dats m 0 c).fetched 7 t d = iblk m c 7 t := by
  unfold Dat.fetched Dat.blockOf iblk; rw [A_eq]; try rfl
theorem prev_7 (c : Dev nD) (t : Fin cfg0.N) (h : t.val % 3 ≠ 0) : iblk m c 7 ⟨t.val - 1, Nat.lt_of_le_of_lt (Nat.sub_le _ _) t.isLt⟩ = iblk m c 7 t := by
  have hf : (cfg0.win 7).fetch t = false := by
    rw [← Bool.not_eq_true, fetch0_7 t]; omega
  obtain ⟨ht, hix⟩ := (cfg0.win 7).index_eq_of_fetch rfl t hf
  rw [← fetched_7 m c _ (fun _ => Classical.arbitrary _), ← fetched_7 m c t (fun _ => Classical.arbitrary _)]
  exact (dats m 0 c).fetched_congr 7 hix.symm rfl _

/-- The arrays of a head are the same at its three points. -/
theorem G_prev (c : Dev nD) (t : Fin cfg0.N) (h : t.val % 3 ≠ 0) : G m c ⟨t.val - 1, Nat.lt_of_le_of_lt (Nat.sub_le _ _) t.isLt⟩ = G m c t := by
  unfold G
  rw [prev_0 m c t h, prev_1 m c t h, prev_2 m c t h, prev_3 m c t h, prev_4 m c t h, prev_5 m c t h, prev_6 m c t h, prev_7 m c t h]

/-- What the body finds in output 8 after the first key tile of a head is what the point before left. -/
theorem finds_8 (c : Dev nD) (t : Fin cfg0.N) (h : t.val % 3 ≠ 0) (X) (hX : ((dats m 0 c).toRRel isRes (Rl m c)).Finds 8 t X) :
    Rl m c 8 ⟨t.val - 1, Nat.lt_of_le_of_lt (Nat.sub_le _ _) t.isLt⟩ X := by
  have hf : (cfg0.win 8).fetch t = false := rfl
  refine (dats m 0 c).toRRel_leaves rfl ((((dats m 0 c).toRRel isRes (Rl m c)).finds_of_pos hf (by omega) X).mp hX |>.resolve_left fun hfl => ?_)
  have := (flush0_8 _).mp hfl
  simp only at this
  omega

/-- What the body finds in output 9 after the first key tile of a head is what the point before left. -/
theorem finds_9 (c : Dev nD) (t : Fin cfg0.N) (h : t.val % 3 ≠ 0) (X) (hX : ((dats m 0 c).toRRel isRes (Rl m c)).Finds 9 t X) :
    Rl m c 9 ⟨t.val - 1, Nat.lt_of_le_of_lt (Nat.sub_le _ _) t.isLt⟩ X := by
  have hf : (cfg0.win 9).fetch t = false := rfl
  refine (dats m 0 c).toRRel_leaves rfl ((((dats m 0 c).toRRel isRes (Rl m c)).finds_of_pos hf (by omega) X).mp hX |>.resolve_left fun hfl => ?_)
  have := (flush0_9 _).mp hfl
  simp only at this
  omega

/-- What the body finds in output 10 after the first key tile of a head is what the point before left. -/
theorem finds_10 (c : Dev nD) (t : Fin cfg0.N) (h : t.val % 3 ≠ 0) (X) (hX : ((dats m 0 c).toRRel isRes (Rl m c)).Finds 10 t X) :
    Rl m c 10 ⟨t.val - 1, Nat.lt_of_le_of_lt (Nat.sub_le _ _) t.isLt⟩ X := by
  have hf : (cfg0.win 10).fetch t = false := rfl
  refine (dats m 0 c).toRRel_leaves rfl ((((dats m 0 c).toRRel isRes (Rl m c)).finds_of_pos hf (by omega) X).mp hX |>.resolve_left fun hfl => ?_)
  have := (flush0_10 _).mp hfl
  simp only at this
  omega

/-- What the body finds in output 11 after the first key tile of a head is what the point before left. -/
theorem finds_11 (c : Dev nD) (t : Fin cfg0.N) (h : t.val % 3 ≠ 0) (X) (hX : ((dats m 0 c).toRRel isRes (Rl m c)).Finds 11 t X) :
    Rl m c 11 ⟨t.val - 1, Nat.lt_of_le_of_lt (Nat.sub_le _ _) t.isLt⟩ X := by
  have hf : (cfg0.win 11).fetch t = false := rfl
  refine (dats m 0 c).toRRel_leaves rfl ((((dats m 0 c).toRRel isRes (Rl m c)).finds_of_pos hf (by omega) X).mp hX |>.resolve_left fun hfl => ?_)
  have := (flush0_11 _).mp hfl
  simp only at this
  omega

/-- What the body finds in output 12 after the first key tile of a head is what the point before left. -/
theorem finds_12 (c : Dev nD) (t : Fin cfg0.N) (h : t.val % 3 ≠ 0) (X) (hX : ((dats m 0 c).toRRel isRes (Rl m c)).Finds 12 t X) :
    Rl m c 12 ⟨t.val - 1, Nat.lt_of_le_of_lt (Nat.sub_le _ _) t.isLt⟩ X := by
  have hf : (cfg0.win 12).fetch t = false := rfl
  refine (dats m 0 c).toRRel_leaves rfl ((((dats m 0 c).toRRel isRes (Rl m c)).finds_of_pos hf (by omega) X).mp hX |>.resolve_left fun hfl => ?_)
  have := (flush0_12 _).mp hfl
  simp only at this
  omega

theorem en_A (t : Fin cfg0.N) (h : t.val % 3 = 0) : en t = 128 := if_pos h
theorem en_B (t : Fin cfg0.N) (h : t.val % 3 = 1) : en t = 1152 := by unfold en; rw [if_neg (by omega), if_pos h]
theorem en_C (t : Fin cfg0.N) (h : t.val % 3 = 2) : en t = 2176 := by unfold en; rw [if_neg (by omega), if_neg (by omega)]

theorem found_8B (c : Dev nD) (t : Fin cfg0.N) (h : t.val % 3 = 1) (X) (hX : ((dats m 0 c).toRRel isRes (Rl m c)).Finds 8 t X) :
    QOk (G m c t) (iblk m c 2 t) 128 X := by
  have h' : t.val % 3 ≠ 0 := by omega
  have := finds_8 m c t h' X hX
  dsimp only [Rl] at this
  rw [G_prev m c t h', prev_2 m c t h', en_A _ (by simp only; omega)] at this
  exact this
theorem found_9B (c : Dev nD) (t : Fin cfg0.N) (h : t.val % 3 = 1) (X) (hX : ((dats m 0 c).toRRel isRes (Rl m c)).Finds 9 t X) :
    QOk (G m c t) (iblk m c 3 t) 128 X := by
  have h' : t.val % 3 ≠ 0 := by omega
  have := finds_9 m c t h' X hX
  dsimp only [Rl] at this
  rw [G_prev m c t h', prev_3 m c t h', en_A _ (by simp only; omega)] at this
  exact this
theorem found_10B (c : Dev nD) (t : Fin cfg0.N) (h : t.val % 3 = 1) (X) (hX : ((dats m 0 c).toRRel isRes (Rl m c)).Finds 10 t X) :
    KOk ((G m c t).dk (iblk m c 0 t)) 128 X := by
  have h' : t.val % 3 ≠ 0 := by omega
  have := finds_10 m c t h' X hX
  dsimp only [Rl] at this
  rw [G_prev m c t h', prev_0 m c t h', en_A _ (by simp only; omega)] at this
  exact this
theorem found_11B (c : Dev nD) (t : Fin cfg0.N) (h : t.val % 3 = 1) (X) (hX : ((dats m 0 c).toRRel isRes (Rl m c)).Finds 11 t X) :
    KOk ((G m c t).dk (iblk m c 1 t)) 128 X := by
  have h' : t.val % 3 ≠ 0 := by omega
  have := finds_11 m c t h' X hX
  dsimp only [Rl] at this
  rw [G_prev m c t h', prev_1 m c t h', en_A _ (by simp only; omega)] at this
  exact this
theorem found_12B (c : Dev nD) (t : Fin cfg0.N) (h : t.val % 3 = 1) (X) (hX : ((dats m 0 c).toRRel isRes (Rl m c)).Finds 12 t X) :
    KOk (G m c t).dv 128 X := by
  have h' : t.val % 3 ≠ 0 := by omega
  have := finds_12 m c t h' X hX
  dsimp only [Rl] at this
  rw [G_prev m c t h', en_A _ (by simp only; omega)] at this
  exact this
theorem found_8C (c : Dev nD) (t : Fin cfg0.N) (h : t.val % 3 = 2) (X) (hX : ((dats m 0 c).toRRel isRes (Rl m c)).Finds 8 t X) :
    QOk (G m c t) (iblk m c 2 t) 1152 X := by
  have h' : t.val % 3 ≠ 0 := by omega
  have := finds_8 m c t h' X hX
  dsimp only [Rl] at this
  rw [G_prev m c t h', prev_2 m c t h', en_B _ (by simp only; omega)] at this
  exact this
theorem found_9C (c : Dev nD) (t : Fin cfg0.N) (h : t.val % 3 = 2) (X) (hX : ((dats m 0 c).toRRel isRes (Rl m c)).Finds 9 t X) :
    QOk (G m c t) (iblk m c 3 t) 1152 X := by
  have h' : t.val % 3 ≠ 0 := by omega
  have := finds_9 m c t h' X hX
  dsimp only [Rl] at this
  rw [G_prev m c t h', prev_3 m c t h', en_B _ (by simp only; omega)] at this
  exact this
theorem found_10C (c : Dev nD) (t : Fin cfg0.N) (h : t.val % 3 = 2) (X) (hX : ((dats m 0 c).toRRel isRes (Rl m c)).Finds 10 t X) :
    KOk ((G m c t).dk (iblk m c 0 t)) 1152 X := by
  have h' : t.val % 3 ≠ 0 := by omega
  have := finds_10 m c t h' X hX
  dsimp only [Rl] at this
  rw [G_prev m c t h', prev_0 m c t h', en_B _ (by simp only; omega)] at this
  exact this
theorem found_11C (c : Dev nD) (t : Fin cfg0.N) (h : t.val % 3 = 2) (X) (hX : ((dats m 0 c).toRRel isRes (Rl m c)).Finds 11 t X) :
    KOk ((G m c t).dk (iblk m c 1 t)) 1152 X := by
  have h' : t.val % 3 ≠ 0 := by omega
  have := finds_11 m c t h' X hX
  dsimp only [Rl] at this
  rw [G_prev m c t h', prev_1 m c t h', en_B _ (by simp only; omega)] at this
  exact this
theorem found_12C (c : Dev nD) (t : Fin cfg0.N) (h : t.val % 3 = 2) (X) (hX : ((dats m 0 c).toRRel isRes (Rl m c)).Finds 12 t X) :
    KOk (G m c t).dv 1152 X := by
  have h' : t.val % 3 ≠ 0 := by omega
  have := finds_12 m c t h' X hX
  dsimp only [Rl] at this
  rw [G_prev m c t h', en_B _ (by simp only; omega)] at this
  exact this

/-- The staging buffer of each window at point `t`, and that it is whole. -/
abbrev ms0_0 (t : Fin cfg0.N) : Memref sig .tc .vmem S2176x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2176x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2176x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2176x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2176x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2176x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2176x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x3x8x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2176x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2176x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2176x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2176x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2176x128 .bf16 := win0_12.stage (cfg0.slots t 12)
abbrev hs0_12 (t : Fin cfg0.N) : (ms0_12 t).IsWhole := hstage0_12 ((cfg0.slots t 12).cast nbuf0_12)
theorem liveAt0_0 (t : Fin cfg0.N) : cfg0.idle 0 (grid0.coords t) = false := rfl
theorem liveAt0_1 (t : Fin cfg0.N) : cfg0.idle 1 (grid0.coords t) = false := rfl
theorem liveAt0_2 (t : Fin cfg0.N) : cfg0.idle 2 (grid0.coords t) = false := rfl
theorem liveAt0_3 (t : Fin cfg0.N) : cfg0.idle 3 (grid0.coords t) = false := rfl
theorem liveAt0_4 (t : Fin cfg0.N) : cfg0.idle 4 (grid0.coords t) = false := rfl
theorem liveAt0_5 (t : Fin cfg0.N) : cfg0.idle 5 (grid0.coords t) = false := rfl
theorem liveAt0_6 (t : Fin cfg0.N) : cfg0.idle 6 (grid0.coords t) = false := rfl
theorem liveAt0_7 (t : Fin cfg0.N) : cfg0.idle 7 (grid0.coords t) = false := rfl
theorem rl_8 (c : Dev nD) (t : Fin cfg0.N) (X) (e : ℕ) (he : en t = e) (h : QOk (G m c t) (iblk m c 2 t) e X) : Rl m c 8 t X := by subst he; exact h
theorem rl_9 (c : Dev nD) (t : Fin cfg0.N) (X) (e : ℕ) (he : en t = e) (h : QOk (G m c t) (iblk m c 3 t) e X) : Rl m c 9 t X := by subst he; exact h
theorem rl_10 (c : Dev nD) (t : Fin cfg0.N) (X) (e : ℕ) (he : en t = e) (h : KOk ((G m c t).dk (iblk m c 0 t)) e X) : Rl m c 10 t X := by subst he; exact h
theorem rl_11 (c : Dev nD) (t : Fin cfg0.N) (X) (e : ℕ) (he : en t = e) (h : KOk ((G m c t).dk (iblk m c 1 t)) e X) : Rl m c 11 t X := by subst he; exact h
theorem rl_12 (c : Dev nD) (t : Fin cfg0.N) (X) (e : ℕ) (he : en t = e) (h : KOk (G m c t).dv e X) : Rl m c 12 t X := by subst he; exact h

/-! What the body leaves in an input window's buffer. -/

theorem leaves_0 (c : Dev nD) (t : Fin cfg0.N) : (dats m 0 c).leavesExact 0 t = owns (c : Thread nD τ) (ms0_0 t) fullShare (iblk m c 0 t) := by
  rw [← after_0]
theorem leaves_1 (c : Dev nD) (t : Fin cfg0.N) : (dats m 0 c).leavesExact 1 t = owns (c : Thread nD τ) (ms0_1 t) fullShare (iblk m c 1 t) := by
  rw [← after_1]
theorem leaves_2 (c : Dev nD) (t : Fin cfg0.N) : (dats m 0 c).leavesExact 2 t = owns (c : Thread nD τ) (ms0_2 t) fullShare (iblk m c 2 t) := by
  rw [← after_2]
theorem leaves_3 (c : Dev nD) (t : Fin cfg0.N) : (dats m 0 c).leavesExact 3 t = owns (c : Thread nD τ) (ms0_3 t) fullShare (iblk m c 3 t) := by
  rw [← after_3]
theorem leaves_4 (c : Dev nD) (t : Fin cfg0.N) : (dats m 0 c).leavesExact 4 t = owns (c : Thread nD τ) (ms0_4 t) fullShare (iblk m c 4 t) := by
  rw [← after_4]
theorem leaves_5 (c : Dev nD) (t : Fin cfg0.N) : (dats m 0 c).leavesExact 5 t = owns (c : Thread nD τ) (ms0_5 t) fullShare (iblk m c 5 t) := by
  rw [← after_5]
theorem leaves_6 (c : Dev nD) (t : Fin cfg0.N) : (dats m 0 c).leavesExact 6 t = owns (c : Thread nD τ) (ms0_6 t) fullShare (iblk m c 6 t) := by
  rw [← after_6]
theorem leaves_7 (c : Dev nD) (t : Fin cfg0.N) : (dats m 0 c).leavesExact 7 t = owns (c : Thread nD τ) (ms0_7 t) fullShare (iblk m c 7 t) := by
  rw [← after_7]

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel isRes (Rl m c)).Finds 8 t Y⌝ ∗ owns (c : Thread nD τ) (ms0_8 t) fullShare Y)
    ∗ (∃ Y, ⌜((dats m 0 c).toRRel isRes (Rl m c)).Finds 9 t Y⌝ ∗ owns (c : Thread nD τ) (ms0_9 t) fullShare Y)
    ∗ (∃ Y, ⌜((dats m 0 c).toRRel isRes (Rl m c)).Finds 10 t Y⌝ ∗ owns (c : Thread nD τ) (ms0_10 t) fullShare Y)
    ∗ (∃ Y, ⌜((dats m 0 c).toRRel isRes (Rl m c)).Finds 11 t Y⌝ ∗ owns (c : Thread nD τ) (ms0_11 t) fullShare Y)
    ∗ (∃ Y, ⌜((dats m 0 c).toRRel isRes (Rl m c)).Finds 12 t Y⌝ ∗ owns (c : Thread nD τ) (ms0_12 t) fullShare Y))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X))

theorem Phi_first (c : Dev nD) (n : ℕ) (h : n ≤ cfg0.N) (h0 : n % 3 = 0) : PhiS m c n h = Pipeline.ΦA spec0 c := dif_pos h0

theorem Phi_next (c : Dev nD) (n : ℕ) (h : n ≤ cfg0.N) (h0 : n % 3 ≠ 0) : PhiS m c n h = iprop((∃ X13 X14, ⌜Scr (G m c ⟨n - 1, by omega⟩) X13 X14⌝ ∗ owns (c : Thread nD τ) (Memref.whole cc0_scratch0) fullShare X13 ∗ owns (c : Thread nD τ) (Memref.whole cc0_scratch1) fullShare X14) ∗ (∃ r, prngReg c r)) := dif_neg h0

set_option maxHeartbeats 3600000 in
/-- The body at a point whose key tile is number 0. -/
theorem sound_A (c : Dev nD) (t : Fin cfg0.N) (h : t.val % 3 = 0) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl]
  rw [show (dats m 0 c).Φ t.castSucc = PhiS m c t.val (Nat.le_of_lt t.isLt) from rfl]
  rw [Phi_first m c t.val _ (by omega), Phi_next m c (t.val + 1) _ (by omega), PhiA_eq]
  rw [leaves_0, leaves_1, leaves_2, leaves_3, leaves_4, leaves_5, leaves_6, leaves_7]
  iintro ⟨⟨⟨⟨%X13, HS0⟩, ⟨%X14, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%Y9, %hY9, H9⟩, ⟨%Y10, %hY10, H10⟩, ⟨%Y11, %hY11, H11⟩, ⟨%Y12, %hY12, H12⟩⟩
  iapply (tripA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Memref.whole cc0_scratch0) (Memref.isWhole_whole _) (Memref.whole cc0_scratch1) (Memref.isWhole_whole _) ((hcond1 t).mpr h) ((hcond2 t).mpr h) (fun h' => absurd ((hcond3 t).mp h') (by omega)) (fun h' => absurd ((hcond4 t).mp h') (by omega)) (iblk m c 0 t) (iblk m c 1 t) (iblk m c 2 t) (iblk m c 3 t) (iblk m c 4 t) (iblk m c 5 t) (iblk m c 6 t) (iblk m c 7 t) Y8 Y9 Y10 Y11 Y12 X13 X14 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, ⟨%Z8, %hZ8, H8⟩, ⟨%Z9, %hZ9, H9⟩, ⟨%Z10, %hZ10, H10⟩, ⟨%Z11, %hZ11, H11⟩, ⟨%Z12, %hZ12, H12⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists Z8; isplitr
    · ipureintro; exact rl_8 m c t Z8 128 (en_A t h) hZ8
    iexact H8
  isplitl [H9]
  · iexists Z9; isplitr
    · ipureintro; exact rl_9 m c t Z9 128 (en_A t h) hZ9
    iexact H9
  isplitl [H10]
  · iexists Z10; isplitr
    · ipureintro; exact rl_10 m c t Z10 128 (en_A t h) hZ10
    iexact H10
  isplitl [H11]
  · iexists Z11; isplitr
    · ipureintro; exact rl_11 m c t Z11 128 (en_A t h) hZ11
    iexact H11
  iexists Z12; isplitr
  · ipureintro; exact rl_12 m c t Z12 128 (en_A t h) hZ12
  iexact H12

set_option maxHeartbeats 3600000 in
/-- The body at a point whose key tile is number 1. -/
theorem sound_B (c : Dev nD) (t : Fin cfg0.N) (h : t.val % 3 = 1) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl]
  rw [show (dats m 0 c).Φ t.castSucc = PhiS m c t.val (Nat.le_of_lt t.isLt) from rfl]
  rw [Phi_next m c t.val _ (by omega), Phi_next m c (t.val + 1) _ (by omega)]
  rw [leaves_0, leaves_1, leaves_2, leaves_3, leaves_4, leaves_5, leaves_6, leaves_7]
  iintro ⟨⟨⟨%X13, %X14, %hs, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%Y9, %hY9, H9⟩, ⟨%Y10, %hY10, H10⟩, ⟨%Y11, %hY11, H11⟩, ⟨%Y12, %hY12, H12⟩⟩
  replace hs : Scr (G m c t) X13 X14 := by
    have e := G_prev m c t (by omega)
    rw [← e]; exact hs
  iapply (tripB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Memref.whole cc0_scratch0) (Memref.isWhole_whole _) (Memref.whole cc0_scratch1) (Memref.isWhole_whole _) (fun h' => absurd ((hcond1 t).mp h') (by omega)) (fun h' => absurd ((hcond2 t).mp h') (by omega)) ((hcond3 t).mpr h) (fun h' => absurd ((hcond4 t).mp h') (by omega)) (iblk m c 0 t) (iblk m c 1 t) (iblk m c 2 t) (iblk m c 3 t) (iblk m c 4 t) (iblk m c 5 t) (iblk m c 6 t) (iblk m c 7 t) Y8 Y9 Y10 Y11 Y12 X13 X14 hs (found_8B m c t h Y8 hY8) (found_9B m c t h Y9 hY9) (found_10B m c t h Y10 hY10) (found_11B m c t h Y11 hY11) (found_12B m c t h Y12 hY12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, ⟨%Z8, %hZ8, H8⟩, ⟨%Z9, %hZ9, H9⟩, ⟨%Z10, %hZ10, H10⟩, ⟨%Z11, %hZ11, H11⟩, ⟨%Z12, %hZ12, H12⟩, HS0, HS1⟩
  isplitl [HS0 HS1 Hg]
  · isplitl [HS0 HS1]
    · iexists X13; iexists X14; isplitr
      · ipureintro; exact hs
      isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists Z8; isplitr
    · ipureintro; exact rl_8 m c t Z8 1152 (en_B t h) hZ8
    iexact H8
  isplitl [H9]
  · iexists Z9; isplitr
    · ipureintro; exact rl_9 m c t Z9 1152 (en_B t h) hZ9
    iexact H9
  isplitl [H10]
  · iexists Z10; isplitr
    · ipureintro; exact rl_10 m c t Z10 1152 (en_B t h) hZ10
    iexact H10
  isplitl [H11]
  · iexists Z11; isplitr
    · ipureintro; exact rl_11 m c t Z11 1152 (en_B t h) hZ11
    iexact H11
  iexists Z12; isplitr
  · ipureintro; exact rl_12 m c t Z12 1152 (en_B t h) hZ12
  iexact H12

set_option maxHeartbeats 3600000 in
/-- The body at a point whose key tile is number 2. -/
theorem sound_C (c : Dev nD) (t : Fin cfg0.N) (h : t.val % 3 = 2) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiS m c (t.val + 1) t.isLt from rfl]
  rw [show (dats m 0 c).Φ t.castSucc = PhiS m c t.val (Nat.le_of_lt t.isLt) from rfl]
  rw [Phi_next m c t.val _ (by omega), Phi_first m c (t.val + 1) _ (by omega), PhiA_eq]
  rw [leaves_0, leaves_1, leaves_2, leaves_3, leaves_4, leaves_5, leaves_6, leaves_7]
  iintro ⟨⟨⟨%X13, %X14, %hs, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, %hY8, H8⟩, ⟨%Y9, %hY9, H9⟩, ⟨%Y10, %hY10, H10⟩, ⟨%Y11, %hY11, H11⟩, ⟨%Y12, %hY12, H12⟩⟩
  replace hs : Scr (G m c t) X13 X14 := by
    have e := G_prev m c t (by omega)
    rw [← e]; exact hs
  iapply (tripC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (Memref.whole cc0_scratch0) (Memref.isWhole_whole _) (Memref.whole cc0_scratch1) (Memref.isWhole_whole _) (fun h' => absurd ((hcond1 t).mp h') (by omega)) (fun h' => absurd ((hcond2 t).mp h') (by omega)) (fun h' => absurd ((hcond3 t).mp h') (by omega)) ((hcond4 t).mpr h) (iblk m c 0 t) (iblk m c 1 t) (iblk m c 2 t) (iblk m c 3 t) (iblk m c 4 t) (iblk m c 5 t) (iblk m c 6 t) (iblk m c 7 t) Y8 Y9 Y10 Y11 Y12 X13 X14 hs (found_8C m c t h Y8 hY8) (found_9C m c t h Y9 hY9) (found_10C m c t h Y10 hY10) (found_11C m c t h Y11 hY11) (found_12C m c t h Y12 hY12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  iintro ⟨H0, H1, H2, H3, H4, H5, H6, H7, ⟨%Z8, %hZ8, H8⟩, ⟨%Z9, %hZ9, H9⟩, ⟨%Z10, %hZ10, H10⟩, ⟨%Z11, %hZ11, H11⟩, ⟨%Z12, %hZ12, H12⟩, HS0, HS1⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists Z8; isplitr
    · ipureintro; exact rl_8 m c t Z8 2176 (en_C t h) hZ8
    iexact H8
  isplitl [H9]
  · iexists Z9; isplitr
    · ipureintro; exact rl_9 m c t Z9 2176 (en_C t h) hZ9
    iexact H9
  isplitl [H10]
  · iexists Z10; isplitr
    · ipureintro; exact rl_10 m c t Z10 2176 (en_C t h) hZ10
    iexact H10
  isplitl [H11]
  · iexists Z11; isplitr
    · ipureintro; exact rl_11 m c t Z11 2176 (en_C t h) hZ11
    iexact H11
  iexists Z12; isplitr
  · ipureintro; exact rl_12 m c t Z12 2176 (en_C t h) hZ12
  iexact H12

/-- The body at any point. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 3 = 0
  · exact sound_A m c t h0
  by_cases h1 : t.val % 3 = 1
  · exact sound_B m c t h1
  exact sound_C m c t (by omega)

theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligationRel (dats m 0 c) (defs₀ (F := Ideal)) Variants.none () Set.univ isRes (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, Phi_first m c 0 _ rfl]

theorem hout (c : Dev nD) : (dats m 0 c).Φ (Fin.last cfg0.N) ⊢ Pipeline.ΦA spec0 c := by
  rw [show (dats m 0 c).Φ (Fin.last cfg0.N) = PhiS m c cfg0.N le_rfl from rfl, Phi_first m c _ _ (by rw [show cfg0.N = 48 from N_0])]

end Cert.KernelIdeal.Bwd

end
-- ==== Proof.Bwd.Ix.lean ====
module

public import Idealize.ShloMosaic.Lib.Pipeline.Value

@[expose] public section

/-! # Rows and columns of the attention's arrays

A row of an array is a row of one of two batch rows; a column is a lane of one of eight heads. -/

namespace Cert.KernelIdeal.Bwd

/-- The batch row of an array's row. -/
def bOf (i : Fin 4352) : Fin 2 := ⟨i.val / 2176, by omega⟩
/-- The row within its batch row. -/
def qOf (i : Fin 4352) : Fin 2176 := ⟨i.val % 2176, by omega⟩
/-- The head of an array's column. -/
def hOf (j : Fin 1024) : Fin 8 := ⟨j.val / 128, by omega⟩
/-- The lane within its head. -/
def dOf (j : Fin 1024) : Fin 128 := ⟨j.val % 128, by omega⟩

/-- The array's row of row `q` of batch row `b`. -/
def rowOf (b : Fin 2) (q : Fin 2176) : Fin 4352 := ⟨b.val * 2176 + q.val, by omega⟩
/-- The array's column of lane `d` of head `h`. -/
def colOf (h : Fin 8) (d : Fin 128) : Fin 1024 := ⟨h.val * 128 + d.val, by omega⟩

theorem bOf_rowOf (b : Fin 2) (q : Fin 2176) : bOf (rowOf b q) = b := Fin.ext (show (b.val * 2176 + q.val) / 2176 = b.val by omega)
theorem qOf_rowOf (b : Fin 2) (q : Fin 2176) : qOf (rowOf b q) = q := Fin.ext (show (b.val * 2176 + q.val) % 2176 = q.val by omega)
theorem hOf_colOf (h : Fin 8) (d : Fin 128) : hOf (colOf h d) = h := Fin.ext (show (h.val * 128 + d.val) / 128 = h.val by omega)
theorem dOf_colOf (h : Fin 8) (d : Fin 128) : dOf (colOf h d) = d := Fin.ext (show (h.val * 128 + d.val) % 128 = d.val by omega)

theorem row_eq (i : Fin 4352) : i = rowOf (bOf i) (qOf i) := Fin.ext (show i.val = i.val / 2176 * 2176 + i.val % 2176 by omega)
theorem col_eq (j : Fin 1024) : j = colOf (hOf j) (dOf j) := Fin.ext (show j.val = j.val / 128 * 128 + j.val % 128 by omega)

end Cert.KernelIdeal.Bwd
end
-- ==== Proof.Bwd.Run.lean ====
module

public import proofs.«01_k».proof.Proof.Bwd.Data
public import proofs.«01_k».proof.Proof.Bwd.Ix
public import Idealize.ShloMosaic.Lib.Pipeline.ArrRel

@[expose] public section

set_option maxRecDepth 16384

/-! # The run of the attention's gradient

The launch's run over the proof data of `Data`, the frame claim, and the five result arrays. -/

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf ΦA arrRef)

variable (m : (ℓ : Loc nD τ sig) → Buf (Elt Ideal) ℓ) (ρ : Dev nD → PrngReg)

/-- The relational proof data: the five outputs held to their predicates. -/
abbrev rdats (c : Dev nD) : RDat τ (Elt Ideal) Unit ℕ (UR sig nD τ) ℕ cfg0 c := (dats m 0 c).toRRel isRes (Rl m c)

/-- A launch whose proof data hold some windows to a predicate: the run, given the body's obligation over those data. -/
theorem run_of (dats : (p : Fin 1) → (c : Dev nD) → Dat τ (Elt Ideal) Unit ℕ (UR sig nD τ) ℕ (cfgs p) c)
    (fgt : Fin (cfgs 0).W → Bool)
    (R : (c : Dev nD) → (w : Fin (cfgs 0).W) → Fin (cfgs 0).N → (((cfgs 0).win w).block.Idx → Elt Ideal ((cfgs 0).win w).elt) → Prop)
    (hbody : ∀ c, BodyObligationRel (dats 0 c) defs₀ Variants.none () Set.univ fgt (R c))
    (hshare : ∀ c w, (dats 0 c).share w = fullShare) (howed : ∀ c t, (dats 0 c).owed t = 0)
    (hA : ∀ c w, (dats 0 c).A w = V m c (arrRef (cfgs 0).spec w))
    (hin : ∀ c, ΦA (cfgs 0).spec c ⊢ (dats 0 c).Φ 0) (hout : ∀ c, (dats 0 c).Φ (Fin.last (cfgs 0).N) ⊢ ΦA (cfgs 0).spec c) :
    θ_run defs (onTc (τ := τ) (main (F := Ideal))) ⟨m, fun _ => 0, ρ⟩
      (fun r => RDat.FramePost (cfgs 0) (fun c => (dats 0 c).toRRel fgt (R c)) (V m) r ∧ r.2.sem = fun _ => 0) :=
  RDat.θ_run_frame_track cfgs (0 : Fin 1) launch0 defs₀ Variants.none (fun c => (dats 0 c).toRRel fgt (R c)) m ρ main
    (fun c => (hbody c).toRRel) hshare howed (V m) (hmain m Variants.none) hA hin hout _

set_option backward.isDefEq.respectTransparency.types false in
/-- The launch of the attention's gradient runs to its end, with every counter at zero and every array as the relational
data say. -/
theorem run_main : θ_run defs (onTc (τ := τ) (main (F := Ideal))) ⟨m, fun _ => 0, ρ⟩
    (fun r => RDat.FramePost (cfgs 0) (rdats m) (V m) r ∧ r.2.sem = fun _ => 0) :=
  run_of m ρ (dats m) isRes (Rl m) (hbody := body_obligation m) (hshare := fun c => (dats m 0 c).share_full fun _ => rfl)
    (howed := fun _ _ => rfl) (hA := A_eq m) (hin := hin m) (hout := hout m)

/-- At the end of the run every argument array is what it was at the start. -/
theorem args_of (rdat : (c : Dev nD) → RDat τ (Elt Ideal) Unit ℕ (UR sig nD τ) ℕ (cfgs 0) c)
    (hA : ∀ c w, (rdat c).A w = V m c (arrRef spec0 w))
    {r : PUnit × MemSt nD τ sig (Elt Ideal)} (h : RDat.FramePost (cfgs 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(RDat.FramePost.arr_in h c 0 rfl).trans ((hA c 0).trans (V_main_arg0 m c)),
   (RDat.FramePost.arr_in h c 1 rfl).trans ((hA c 1).trans (V_main_arg1 m c)),
   (RDat.FramePost.arr_in h c 2 rfl).trans ((hA c 2).trans (V_main_arg2 m c)),
   (RDat.FramePost.arr_in h c 3 rfl).trans ((hA c 3).trans (V_main_arg3 m c)),
   (RDat.FramePost.arr_in h c 4 rfl).trans ((hA c 4).trans (V_main_arg4 m c)),
   (RDat.FramePost.arr_in h c 5 rfl).trans ((hA c 5).trans (V_main_arg5 m c))⟩

/-- The frame: every run ends with the arguments as they were and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of m (rdats m) (A_eq m) h.1 c, h.2⟩) (run_main m ρ)

/-! ## The result arrays -/

/-- The head `hd` of batch row `b` ends at this point of the grid. -/
def lastPt (b : Fin 2) (hd : Fin 8) : Fin cfg0.N := ⟨24 * b.val + 3 * hd.val + 2, lt_of_lt_of_eq (by omega : 24 * b.val + 3 * hd.val + 2 < 48) N_0.symm⟩

/-- The arrays of head `hd` of batch row `b`. -/
def H (c : Dev nD) (b : Fin 2) (hd : Fin 8) : Blk := G m c (lastPt b hd)

/-- A point at which an output is written back is the last of its head. -/
theorem lastPt_of (t : Fin cfg0.N) (h : t.val % 3 = 2) : ∃ b hd, t = lastPt b hd := by
  have ht : t.val < 48 := N_0 ▸ t.isLt
  refine ⟨⟨t.val / 24, by omega⟩, ⟨t.val / 3 % 8, by omega⟩, Fin.ext ?_⟩
  show t.val = 24 * (t.val / 24) + 3 * (t.val / 3 % 8) + 2
  omega

/-- The last point of a head has done every key. -/
theorem en_last (b : Fin 2) (hd : Fin 8) : en (lastPt b hd) = 2176 := by
  have : (lastPt b hd).val = 24 * b.val + 3 * hd.val + 2 := rfl
  unfold en
  rw [if_neg (by omega), if_neg (by omega)]

/-- Output 1: the block a point names is its batch row's and its head's. -/
theorem idx_8 (b : Fin 2) (hd : Fin 8) : win0_8.index (lastPt b hd) = ![b.val, hd.val] := by
  revert b hd; decide +kernel

/-- The gradient of the first half of the queries, as an array. -/
def R8 (c : Dev nD) : Vec Ideal S4352x1024 .f32 :=
  fun i => (H m c (bOf (i 0)) (hOf (i 1))).dq (H m c (bOf (i 0)) (hOf (i 1))).kn 2176 (qOf (i 0)) (dOf (i 1))

/-- That array at an element of a head. -/
theorem R8_at (c : Dev nD) (b : Fin 2) (hd : Fin 8) (q : Fin 2176) (d : Fin 128) (i : S4352x1024.Idx) (e0 : i 0 = rowOf b q)
    (e1 : i 1 = colOf hd d) : R8 m c i = (H m c b hd).dq (H m c b hd).kn 2176 q d := by
  unfold R8
  rw [e0, e1, bOf_rowOf, qOf_rowOf, hOf_colOf, dOf_colOf]

/-- The array of output 1 at the end of a run. -/
theorem out_8 {r : PUnit × MemSt nD τ sig (Elt Ideal)} (h : RDat.FramePost (cfgs 0) (rdats m) (V m) r) (c : Dev nD) :
    r.2.mem ((c.tc : Thread nD τ).loc main_v70_0) = R8 m c := by
  obtain ⟨after, ha, hr⟩ := RDat.FramePost.exists_exact h c
  refine (hr 8).trans (((rdats m c).withAfter after).arrAt_eq_of_covers 8 (R8 m c) (by decide +kernel) fun t hf y => ?_)
  have hx : Rl m c 8 t (after 8 t) := (dats m 0 c).toRRel_leaves rfl (ha 8 t hf)
  obtain ⟨b, hd, rfl⟩ := lastPt_of t ((flush0_8 t).mp hf)
  obtain ⟨q, d, rfl⟩ : ∃ (q : Fin 2176) (d : Fin 128), y = ix2 q d :=
    ⟨y 0, y 1, eq_ix2 (n0 := 2176) (n1 := 128) y⟩
  have e0 : (((win0_8.blk (lastPt b hd)).view.emb (ix2 q d)) 0 : Fin 4352) = rowOf b q := by
    apply Fin.ext; blk_simp [idx_8 b hd]; rfl
  have e1 : (((win0_8.blk (lastPt b hd)).view.emb (ix2 q d)) 1 : Fin 1024) = colOf hd d := by
    apply Fin.ext; blk_simp [idx_8 b hd]; rfl
  refine Eq.trans ?_ (R8_at m c b hd q d _ e0 e1).symm
  have h1 := hx q d
  rw [en_last] at h1
  exact h1

/-- Output 2: the block a point names is its batch row's and its head's. -/
theorem idx_9 (b : Fin 2) (hd : Fin 8) : win0_9.index (lastPt b hd) = ![b.val, hd.val] := by
  revert b hd; decide +kernel

/-- The gradient of the second half of the queries, as an array. -/
def R9 (c : Dev nD) : Vec Ideal S4352x1024 .f32 :=
  fun i => (H m c (bOf (i 0)) (hOf (i 1))).dq (H m c (bOf (i 0)) (hOf (i 1))).kp 2176 (qOf (i 0)) (dOf (i 1))

/-- That array at an element of a head. -/
theorem R9_at (c : Dev nD) (b : Fin 2) (hd : Fin 8) (q : Fin 2176) (d : Fin 128) (i : S4352x1024.Idx) (e0 : i 0 = rowOf b q)
    (e1 : i 1 = colOf hd d) : R9 m c i = (H m c b hd).dq (H m c b hd).kp 2176 q d := by
  unfold R9
  rw [e0, e1, bOf_rowOf, qOf_rowOf, hOf_colOf, dOf_colOf]

/-- The array of output 2 at the end of a run. -/
theorem out_9 {r : PUnit × MemSt nD τ sig (Elt Ideal)} (h : RDat.FramePost (cfgs 0) (rdats m) (V m) r) (c : Dev nD) :
    r.2.mem ((c.tc : Thread nD τ).loc main_v70_1) = R9 m c := by
  obtain ⟨after, ha, hr⟩ := RDat.FramePost.exists_exact h c
  refine (hr 9).trans (((rdats m c).withAfter after).arrAt_eq_of_covers 9 (R9 m c) (by decide +kernel) fun t hf y => ?_)
  have hx : Rl m c 9 t (after 9 t) := (dats m 0 c).toRRel_leaves rfl (ha 9 t hf)
  obtain ⟨b, hd, rfl⟩ := lastPt_of t ((flush0_9 t).mp hf)
  obtain ⟨q, d, rfl⟩ : ∃ (q : Fin 2176) (d : Fin 128), y = ix2 q d :=
    ⟨y 0, y 1, eq_ix2 (n0 := 2176) (n1 := 128) y⟩
  have e0 : (((win0_9.blk (lastPt b hd)).view.emb (ix2 q d)) 0 : Fin 4352) = rowOf b q := by
    apply Fin.ext; blk_simp [idx_9 b hd]; rfl
  have e1 : (((win0_9.blk (lastPt b hd)).view.emb (ix2 q d)) 1 : Fin 1024) = colOf hd d := by
    apply Fin.ext; blk_simp [idx_9 b hd]; rfl
  refine Eq.trans ?_ (R9_at m c b hd q d _ e0 e1).symm
  have h1 := hx q d
  rw [en_last] at h1
  exact h1

/-- Output 3: the block a point names is its batch row's and its head's. -/
theorem idx_10 (b : Fin 2) (hd : Fin 8) : win0_10.index (lastPt b hd) = ![b.val, hd.val] := by
  revert b hd; decide +kernel

/-- The gradient of the first half of the keys, as an array. -/
def R10 (c : Dev nD) : Vec Ideal S4352x1024 .bf16 :=
  fun i => (H m c (bOf (i 0)) (hOf (i 1))).dk (H m c (bOf (i 0)) (hOf (i 1))).qn (qOf (i 0)) (dOf (i 1))

/-- That array at an element of a head. -/
theorem R10_at (c : Dev nD) (b : Fin 2) (hd : Fin 8) (q : Fin 2176) (d : Fin 128) (i : S4352x1024.Idx) (e0 : i 0 = rowOf b q)
    (e1 : i 1 = colOf hd d) : R10 m c i = (H m c b hd).dk (H m c b hd).qn q d := by
  unfold R10
  rw [e0, e1, bOf_rowOf, qOf_rowOf, hOf_colOf, dOf_colOf]

/-- The array of output 3 at the end of a run. -/
theorem out_10 {r : PUnit × MemSt nD τ sig (Elt Ideal)} (h : RDat.FramePost (cfgs 0) (rdats m) (V m) r) (c : Dev nD) :
    r.2.mem ((c.tc : Thread nD τ).loc main_v70_2) = R10 m c := by
  obtain ⟨after, ha, hr⟩ := RDat.FramePost.exists_exact h c
  refine (hr 10).trans (((rdats m c).withAfter after).arrAt_eq_of_covers 10 (R10 m c) (by decide +kernel) fun t hf y => ?_)
  have hx : Rl m c 10 t (after 10 t) := (dats m 0 c).toRRel_leaves rfl (ha 10 t hf)
  obtain ⟨b, hd, rfl⟩ := lastPt_of t ((flush0_10 t).mp hf)
  obtain ⟨q, d, rfl⟩ : ∃ (q : Fin 2176) (d : Fin 128), y = ix2 q d :=
    ⟨y 0, y 1, eq_ix2 (n0 := 2176) (n1 := 128) y⟩
  have e0 : (((win0_10.blk (lastPt b hd)).view.emb (ix2 q d)) 0 : Fin 4352) = rowOf b q := by
    apply Fin.ext; blk_simp [idx_10 b hd]; rfl
  have e1 : (((win0_10.blk (lastPt b hd)).view.emb (ix2 q d)) 1 : Fin 1024) = colOf hd d := by
    apply Fin.ext; blk_simp [idx_10 b hd]; rfl
  refine Eq.trans ?_ (R10_at m c b hd q d _ e0 e1).symm
  have h1 := hx q d (by rw [en_last]; exact q.isLt)
  exact h1

/-- Output 4: the block a point names is its batch row's and its head's. -/
theorem idx_11 (b : Fin 2) (hd : Fin 8) : win0_11.index (lastPt b hd) = ![b.val, hd.val] := by
  revert b hd; decide +kernel

/-- The gradient of the second half of the keys, each head's own, as an array. -/
def R11 (c : Dev nD) : Vec Ideal S4352x1024 .f32 :=
  fun i => (H m c (bOf (i 0)) (hOf (i 1))).dk (H m c (bOf (i 0)) (hOf (i 1))).qp (qOf (i 0)) (dOf (i 1))

/-- That array at an element of a head. -/
theorem R11_at (c : Dev nD) (b : Fin 2) (hd : Fin 8) (q : Fin 2176) (d : Fin 128) (i : S4352x1024.Idx) (e0 : i 0 = rowOf b q)
    (e1 : i 1 = colOf hd d) : R11 m c i = (H m c b hd).dk (H m c b hd).qp q d := by
  unfold R11
  rw [e0, e1, bOf_rowOf, qOf_rowOf, hOf_colOf, dOf_colOf]

/-- The array of output 4 at the end of a run. -/
theorem out_11 {r : PUnit × MemSt nD τ sig (Elt Ideal)} (h : RDat.FramePost (cfgs 0) (rdats m) (V m) r) (c : Dev nD) :
    r.2.mem ((c.tc : Thread nD τ).loc main_v70_3) = R11 m c := by
  obtain ⟨after, ha, hr⟩ := RDat.FramePost.exists_exact h c
  refine (hr 11).trans (((rdats m c).withAfter after).arrAt_eq_of_covers 11 (R11 m c) (by decide +kernel) fun t hf y => ?_)
  have hx : Rl m c 11 t (after 11 t) := (dats m 0 c).toRRel_leaves rfl (ha 11 t hf)
  obtain ⟨b, hd, rfl⟩ := lastPt_of t ((flush0_11 t).mp hf)
  obtain ⟨q, d, rfl⟩ : ∃ (q : Fin 2176) (d : Fin 128), y = ix2 q d :=
    ⟨y 0, y 1, eq_ix2 (n0 := 2176) (n1 := 128) y⟩
  have e0 : (((win0_11.blk (lastPt b hd)).view.emb (ix2 q d)) 0 : Fin 4352) = rowOf b q := by
    apply Fin.ext; blk_simp [idx_11 b hd]; rfl
  have e1 : (((win0_11.blk (lastPt b hd)).view.emb (ix2 q d)) 1 : Fin 1024) = colOf hd d := by
    apply Fin.ext; blk_simp [idx_11 b hd]; rfl
  refine Eq.trans ?_ (R11_at m c b hd q d _ e0 e1).symm
  have h1 := hx q d (by rw [en_last]; exact q.isLt)
  exact h1

/-- Output 5: the block a point names is its batch row's and its head's. -/
theorem idx_12 (b : Fin 2) (hd : Fin 8) : win0_12.index (lastPt b hd) = ![b.val, hd.val] := by
  revert b hd; decide +kernel

/-- The gradient of the values, as an array. -/
def R12 (c : Dev nD) : Vec Ideal S4352x1024 .bf16 :=
  fun i => (H m c (bOf (i 0)) (hOf (i 1))).dv (qOf (i 0)) (dOf (i 1))

/-- That array at an element of a head. -/
theorem R12_at (c : Dev nD) (b : Fin 2) (hd : Fin 8) (q : Fin 2176) (d : Fin 128) (i : S4352x1024.Idx) (e0 : i 0 = rowOf b q)
    (e1 : i 1 = colOf hd d) : R12 m c i = (H m c b hd).dv q d := by
  unfold R12
  rw [e0, e1, bOf_rowOf, qOf_rowOf, hOf_colOf, dOf_colOf]

/-- The array of output 5 at the end of a run. -/
theorem out_12 {r : PUnit × MemSt nD τ sig (Elt Ideal)} (h : RDat.FramePost (cfgs 0) (rdats m) (V m) r) (c : Dev nD) :
    r.2.mem ((c.tc : Thread nD τ).loc main_v70_4) = R12 m c := by
  obtain ⟨after, ha, hr⟩ := RDat.FramePost.exists_exact h c
  refine (hr 12).trans (((rdats m c).withAfter after).arrAt_eq_of_covers 12 (R12 m c) (by decide +kernel) fun t hf y => ?_)
  have hx : Rl m c 12 t (after 12 t) := (dats m 0 c).toRRel_leaves rfl (ha 12 t hf)
  obtain ⟨b, hd, rfl⟩ := lastPt_of t ((flush0_12 t).mp hf)
  obtain ⟨q, d, rfl⟩ : ∃ (q : Fin 2176) (d : Fin 128), y = ix2 q d :=
    ⟨y 0, y 1, eq_ix2 (n0 := 2176) (n1 := 128) y⟩
  have e0 : (((win0_12.blk (lastPt b hd)).view.emb (ix2 q d)) 0 : Fin 4352) = rowOf b q := by
    apply Fin.ext; blk_simp [idx_12 b hd]; rfl
  have e1 : (((win0_12.blk (lastPt b hd)).view.emb (ix2 q d)) 1 : Fin 1024) = colOf hd d := by
    apply Fin.ext; blk_simp [idx_12 b hd]; rfl
  refine Eq.trans ?_ (R12_at m c b hd q d _ e0 e1).symm
  have h1 := hx q d (by rw [en_last]; exact q.isLt)
  exact h1

end Cert.KernelIdeal.Bwd

end
-- ==== Proof.Bwd.Host.lean ====
module

public import proofs.«01_k».proof.Proof.Gen.KernelIdeal.Frame
public import proofs.«01_k».proof.Proof.Gen.ReferenceIdeal.Read

@[expose] public section

set_option maxRecDepth 16384

/-! # What the host hands to the attention's gradient

The forward output and the logarithm of each row's sum, as functions of the arguments. -/

noncomputable section

namespace Cert.KernelIdeal.Bwd

open Cert.KernelIdeal.Gen
open Idealize.ShloMosaic Idealize.ShloMosaic.TcCoe
open Cert.ReferenceIdeal.Read (val_main_v20_0 val_main_v21 val_main_v52)

variable (x0 x1 x2 : FVec Ideal S4352x1024 .bf16) (x3 : FVec Ideal S4352x128 .bf16) (x4 : FVec Ideal S4352x1024 .bf16)

/-- The largest score of each row, as a column. -/
def rowMax : FVec Ideal S2x8x2176x1 .f32 :=
  broadcastInDim S2x8x2176x1 ![0, 1, 2] bcast_S2x8x2176_S2x8x2176x1_0_1_2 (val_main_v21 (F := Ideal) x0 x1 x2 x3)

/-- The exponentials of the scores less the row's largest. -/
def rowExp : FVec Ideal S2x8x2176x2176 .f32 :=
  Host.exp (subf (val_main_v20_0 (F := Ideal) x0 x1 x2 x3)
    (broadcastInDim S2x8x2176x2176 ![0, 1, 2, 3] bcast_S2x8x2176x1_S2x8x2176x2176_0_1_2_3 (rowMax x0 x1 x2 x3)))

/-- Each row's sum of exponentials. -/
def rowSum : FVec Ideal S2x8x2176 .f32 :=
  Host.reduceAdd (rowExp x0 x1 x2 x3) (constant S_ .f32 0x00000000#32) reducesTo_S2x8x2176x2176_S2x8x2176_d3 h_S_

/-- The logarithm of each row's sum of exponentials. -/
def rowLse : FVec Ideal S2x8x2176 .f32 :=
  shapeCast S2x8x2176 (addf (rowMax x0 x1 x2 x3)
    (Host.log (broadcastInDim S2x8x2176x1 ![0, 1, 2] bcast_S2x8x2176_S2x8x2176x1_0_1_2 (rowSum x0 x1 x2 x3)))) shapeCasts_S2x8x2176x1_S2x8x2176

/-- Three rows of 1024 for each head, each eight times over. -/
def lseCat (t0 t1 t2 : FVec Ideal S2x8x1x1024 .f32) : FVec Ideal S2x8x3x8x1024 .f32 :=
  broadcastInDim S2x8x3x8x1024 ![0, 1, 2, 3, 4] bcast_S2x8x3x1x1024_S2x8x3x8x1024_0_1_2_3_4
    (broadcastInDim S2x8x3x1x1024 ![0, 1, 2, 4] bcast_S2x8x3x1024_S2x8x3x1x1024_0_1_2_4
      (concatenate S2x8x3x1024 2 [⟨S2x8x1x1024, t0⟩, ⟨S2x8x1x1024, t1⟩, ⟨S2x8x1x1024, t2⟩]
        concatenates_S2x8x1x1024_S2x8x1x1024_S2x8x1x1024_S2x8x3x1024_d2))

theorem cat_congr {t0 t1 t2 u0 u1 u2 : FVec Ideal S2x8x1x1024 .f32} (h0 : t0 = u0) (h1 : t1 = u1) (h2 : t2 = u2) :
    lseCat t0 t1 t2 = lseCat u0 u1 u2 := by rw [h0, h1, h2]

/-- The logarithms in three rows of 1024 for each head: the first 128, the next 1024 and the last 1024. -/
def lseAll (y : FVec Ideal S2x8x2176 .f32) : FVec Ideal S2x8x3x8x1024 .f32 :=
  lseCat
    (broadcastInDim S2x8x1x1024 ![0, 1, 3] bcast_S2x8x1024_S2x8x1x1024_0_1_3
      (pad S2x8x1024 ![0, 0, 0] ![0, 0, 896] ![0, 0, 0] (extractStridedSlice S2x8x128 ![0, 0, 0] y slices_S2x8x2176_S2x8x128_0_0_0)
        (sitofp (F := Ideal) .f32 (constantI S_ 32 0#32)) pads_S2x8x128_S2x8x1024_000_000_08960 h_S_))
    (broadcastInDim S2x8x1x1024 ![0, 1, 3] bcast_S2x8x1024_S2x8x1x1024_0_1_3
      (extractStridedSlice S2x8x1024 ![0, 0, 128] y slices_S2x8x2176_S2x8x1024_0_0_128))
    (broadcastInDim S2x8x1x1024 ![0, 1, 3] bcast_S2x8x1024_S2x8x1x1024_0_1_3
      (extractStridedSlice S2x8x1024 ![0, 0, 1152] y slices_S2x8x2176_S2x8x1024_0_0_1152))

variable (m : (ℓ : Loc nD τ sig) → Buf (Elt Ideal) ℓ) (c : Dev nD)

set_option maxHeartbeats 4000000 in
/-- The forward output the region finds. -/
theorem V_o : V m c main_v36 = (truncf (F := Ideal) .bf16 (val_main_v52 (F := Ideal) (m (c.tc.loc main_arg0)) (m (c.tc.loc main_arg1)) (m (c.tc.loc main_arg2))
    (m (c.tc.loc main_arg3)) (m (c.tc.loc main_arg4))) bitsLt_bf16_f32 : FVec Ideal S4352x1024 .bf16) := by
  unfold V
  simp only [hostOps0, hostOps0_1, hostOps0_2, hostOps0_3, hostOps0_4, hostOps0_5, hostOps0_6, List.flatten_cons, List.flatten_nil, List.append_nil, List.cons_append,
      List.nil_append, StableHlo.TRef.nullary, StableHlo.TRef.ternary, StableHlo.TRef.unary, StableHlo.TRef.binary, StableHlo.TRef.toBuf, StableHlo.TRef.ofBuf, cast_eq]
  after_results_simp
  rfl

set_option maxHeartbeats 4000000 in
/-- The logarithms of the rows' sums the region finds. -/
theorem V_lse : V m c main_v69 = lseAll (rowLse (m (c.tc.loc main_arg0)) (m (c.tc.loc main_arg1)) (m (c.tc.loc main_arg2)) (m (c.tc.loc main_arg3))) := by
  unfold V
  simp only [hostOps0, hostOps0_1, hostOps0_2, hostOps0_3, hostOps0_4, hostOps0_5, hostOps0_6, List.flatten_cons, List.flatten_nil, List.append_nil, List.cons_append,
      List.nil_append, StableHlo.TRef.nullary, StableHlo.TRef.ternary, StableHlo.TRef.unary, StableHlo.TRef.binary, StableHlo.TRef.toBuf, StableHlo.TRef.ofBuf, cast_eq]
  after_results_simp
  refine cat_congr ?_ ?_ ?_
  · change HloOp.result _ _ (Proc.tc.devRef main_v64) = _
    after_results_simp
    rfl
  · change HloOp.result _ _ (Proc.tc.devRef main_v65) = _
    after_results_simp
    rfl
  · change HloOp.result _ _ (Proc.tc.devRef main_v66) = _
    after_results_simp
    rfl

end Cert.KernelIdeal.Bwd
-- ==== Proof.Bwd.Real.lean ====
module

public import Idealize.ShloMosaic.Lib.Pipeline.Value
public import Idealize.ShloMosaic.Lib.IdealHost
public import Idealize.ShloMosaic.PureOps.Ideal.Laws

@[expose] public section

/-! # One row of a softmax and of its gradient, over the reals

A row of finite scores, some of them masked: its weights, the weights recomputed from the logarithm of the row's sum, and
the two forms of the gradient at a score. -/

noncomputable section

namespace Cert.Row

open Idealize.ShloMosaic

/-- The extended real is a real. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} : IsR x → IsR y → IsR (x + y) := by
  rintro ⟨a, rfl⟩ ⟨b, rfl⟩; exact ⟨a + b, (EReal.coe_add a b).symm⟩
theorem IsR.mul {x y : EReal} : IsR x → IsR y → IsR (x * y) := by
  rintro ⟨a, rfl⟩ ⟨b, rfl⟩; exact ⟨a * b, (EReal.coe_mul a b).symm⟩
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]
theorem IsR.sum {ι : Type} (s : Finset ι) (f : ι → EReal) (h : ∀ i, IsR (f i)) : IsR (∑ i ∈ s, f i) := by
  choose g hg using h
  exact ⟨∑ i ∈ s, g i, by rw [← coe_sum]; exact Finset.sum_congr rfl fun i _ => hg i⟩

/-- A value whose magnitude is below infinity is a real. -/
theorem IsR.of_abs {x : EReal} (h : max x (-x) < ⊤) : IsR x := by
  induction x using EReal.rec with
  | bot => simp at h
  | coe r => exact ⟨r, rfl⟩
  | top => simp at h

/-- The largest of a row, one of whose scores is a real and none of which is `⊤`, is a real. -/
theorem IsR.fold {ι : Type} (s : Finset ι) (f : ι → EReal) (k : ι) (hk : k ∈ s) (hr : IsR (f k)) (ht : ∀ i, f i < ⊤) :
    IsR (s.fold max ⊥ f) := by
  have h1 : s.fold max ⊥ f < ⊤ := (Finset.fold_max_lt _).2 ⟨bot_lt_top, fun i _ => ht i⟩
  have h2 : f k ≤ s.fold max ⊥ f := (Finset.le_fold_max _).2 (Or.inr ⟨k, hk, le_rfl⟩)
  obtain ⟨r, hr⟩ := hr
  generalize s.fold max ⊥ f = x at h1 h2
  induction x using EReal.rec with
  | bot => rw [hr] at h2; simp at h2
  | coe r => exact ⟨r, rfl⟩
  | top => simp at h1

theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The weights of a row: the exponentials less any real `r` over their sum, which is what the logarithm of the sum gives. -/
theorem weights {n : ℕ} (c : Fin n → Prop) [DecidablePred c] (s : Fin n → ℝ) (r : ℝ) (k0 : Fin n) (hc : c k0) :
    ∃ (w : Fin n → ℝ) (Z : ℝ), 0 < Z
      ∧ (∀ k, Ideal.exp ((if c k then (s k : EReal) else ⊥) - (r : EReal)) = ((w k * Z : ℝ) : EReal))
      ∧ ∑ k, Ideal.exp ((if c k then (s k : EReal) else ⊥) - (r : EReal)) = (Z : EReal)
      ∧ (∀ k, (if c k then Ideal.exp ((s k : EReal) - ((r : EReal) + Ideal.log (Z : EReal))) else 0) = (w k : EReal)) := by
  have he : ∀ k, Ideal.exp ((if c k then (s k : EReal) else ⊥) - (r : EReal)) = (((if c k then Real.exp (s k - r) else 0) : ℝ) : EReal) := by
    intro k
    split
    · rw [← EReal.coe_sub, Ideal.exp_coe]
    · rw [EReal.bot_sub, Ideal.exp_bot]; rfl
  have hZ : 0 < ∑ k, (if c k then Real.exp (s k - r) else 0 : ℝ) :=
    Finset.sum_pos' (fun k _ => by split <;> positivity) ⟨k0, Finset.mem_univ _, by rw [if_pos hc]; positivity⟩
  refine ⟨fun k => (if c k then Real.exp (s k - r) else 0) / ∑ k, (if c k then Real.exp (s k - r) else 0 : ℝ),
    ∑ k, (if c k then Real.exp (s k - r) else 0 : ℝ), hZ, ?_, ?_, ?_⟩
  · intro k; rw [he, div_mul_cancel₀ _ hZ.ne']
  · rw [← coe_sum]; exact Finset.sum_congr rfl fun k _ => he k
  · intro k
    generalize (∑ k, (if c k then Real.exp (s k - r) else 0 : ℝ)) = Z at hZ
    split
    · rw [Ideal.log_coe, if_neg (not_le.2 hZ), ← EReal.coe_add, ← EReal.coe_sub, Ideal.exp_coe]
      congr 1
      show _ = (if c k then Real.exp (s k - r) else 0) / Z
      rw [show s k - (r + Real.log Z) = (s k - r) - Real.log Z by ring, Real.exp_sub, Real.exp_log hZ, if_pos ‹_›]
    · show _ = (((if c k then Real.exp (s k - r) else 0) / Z : ℝ) : EReal)
      rw [if_neg ‹_›, zero_div]; rfl

/-- The gradient at a score, as differentiating the quotient of the exponential by the sum gives it, is the weight times
    the weight's gradient less the row's mean of those. -/
theorem grad {n : ℕ} (w p : Fin n → ℝ) (Z : ℝ) (hZ : 0 < Z) (k : Fin n) :
    (Ideal.div (p k : EReal) (Z : EReal)
        + (0 + ∑ _j : Fin 1, -(0 + ∑ k, ((p k : EReal) * Ideal.div 1 ((Z : EReal) * (Z : EReal))) * ((w k * Z : ℝ) : EReal))))
        * ((w k * Z : ℝ) : EReal)
      = (w k : EReal) * ((p k : EReal) - ∑ k, (w k : EReal) * (p k : EReal)) := by
  have h1 : Ideal.div 1 ((Z : EReal) * (Z : EReal)) = ((1 / (Z * Z) : ℝ) : EReal) := by
    rw [← EReal.coe_mul]; exact div_coe 1 (Z * Z) (by positivity)
  rw [h1, div_coe _ _ hZ.ne']
  simp only [← EReal.coe_mul, coe_sum, zero_add, ← EReal.coe_neg, ← EReal.coe_add, ← EReal.coe_sub]
  congr 1
  rw [Fin.sum_univ_one]
  have : ∑ k, p k * (1 / (Z * Z)) * (w k * Z) = (∑ k, w k * p k) / Z := by
    rw [Finset.sum_div]; refine Finset.sum_congr rfl fun i _ => ?_
    field_simp
  rw [this]
  field_simp
  ring

/-- The product of a row's result with its gradient is the row's mean of the weights' gradients. -/
theorem mean {n D : ℕ} (w : Fin n → ℝ) (v : Fin n → Fin D → ℝ) (g : Fin D → ℝ) :
    ∑ e, (g e : EReal) * ∑ k, (v k e : EReal) * (w k : EReal) = ∑ k, (w k : EReal) * ((∑ e, v k e * g e : ℝ) : EReal) := by
  simp only [← EReal.coe_mul, coe_sum]
  congr 1
  simp only [Finset.mul_sum]
  rw [Finset.sum_comm]
  exact Finset.sum_congr rfl fun _ _ => Finset.sum_congr rfl fun _ _ => by ring

end Cert.Row
end
-- ==== Proof.Bwd.Ref.lean ====
module

public import proofs.«01_k».proof.Proof.Bwd.Host
public import proofs.«01_k».proof.Proof.Bwd.Spec
public import proofs.«01_k».proof.Proof.Bwd.Real
public import proofs.«01_k».proof.Proof.Bwd.Ix

@[expose] public section

set_option maxRecDepth 16384

/-! # The reference, head by head

The reference's operations read at the row and column of one head; the weights and the gradient of the scores it computes
are those of the head's arrays. -/

noncomputable section

namespace Cert.KernelIdeal.Bwd

open Cert.KernelIdeal.Gen
open Idealize.ShloMosaic Idealize.ShloMosaic.TcCoe
open Cert.ReferenceIdeal.Read Cert.Row

variable (x0 x1 x2 : FVec Ideal S4352x1024 .bf16) (x3 : FVec Ideal S4352x128 .bf16) (x4 x5 : FVec Ideal S4352x1024 .bf16)
variable (b : Fin 2) (h : Fin 8)

/-- One head of an array. -/
def headOf (x : FVec Ideal S4352x1024 .bf16) : FVec Ideal S2176x128 .bf16 := fun i => x (ix2 (rowOf b (i 0)) (colOf h (i 1)))

/-- The arrays of one head, from the arguments. -/
def blkOf : Blk where
  qn := headOf b h x0
  qp := headOf b h x1
  kn := headOf b h x2
  kp := fun i => x3 (ix2 (rowOf b (i 0)) (i 1))
  vv := headOf b h x4
  dO := headOf b h x5
  o := headOf b h (truncf (F := Ideal) .bf16 (val_main_v52 (F := Ideal) x0 x1 x2 x3 x4) bitsLt_bf16_f32)
  lse := fun i => lseAll (rowLse x0 x1 x2 x3) (ix5 b h (i 2) (i 3) (i 4))

variable (q k : Fin 2176) (d : Fin 128)

theorem flat8 : idx_main_v8 (ix4 b q h d) = ix2 (rowOf b q) (colOf h d) := by
  funext a
  have hb := b.isLt; have hq := q.isLt; have hh := h.isLt; have hd := d.isLt
  match a with
  | ⟨0, _⟩ => exact Fin.ext (show (((b.val * 2176 + q.val) * 8 + h.val) * 128 + d.val) / 1024 = b.val * 2176 + q.val by omega)
  | ⟨1, _⟩ => exact Fin.ext (show (((b.val * 2176 + q.val) * 8 + h.val) * 128 + d.val) % 1024 = h.val * 128 + d.val by omega)

theorem flat6 : idx_main_v6 (ix2 (rowOf b q) (colOf h d)) = ix3 (rowOf b q) h d := by
  funext a
  have hb := b.isLt; have hq := q.isLt; have hh := h.isLt; have hd := d.isLt
  match a with
  | ⟨0, _⟩ => exact Fin.ext (show ((b.val * 2176 + q.val) * 1024 + (h.val * 128 + d.val)) / 1024 = b.val * 2176 + q.val by omega)
  | ⟨1, _⟩ => exact Fin.ext (show ((b.val * 2176 + q.val) * 1024 + (h.val * 128 + d.val)) / 128 % 8 = h.val by omega)
  | ⟨2, _⟩ => exact Fin.ext (show ((b.val * 2176 + q.val) * 1024 + (h.val * 128 + d.val)) % 128 = d.val by omega)

theorem unflat52 : idx_main_v52 (ix2 (rowOf b q) (colOf h d)) = ix4 b q h d := by
  funext a
  have hb := b.isLt; have hq := q.isLt; have hh := h.isLt; have hd := d.isLt
  match a with
  | ⟨0, _⟩ => exact Fin.ext (show ((b.val * 2176 + q.val) * 1024 + (h.val * 128 + d.val)) / 2228224 = b.val by omega)
  | ⟨1, _⟩ => exact Fin.ext (show ((b.val * 2176 + q.val) * 1024 + (h.val * 128 + d.val)) / 1024 % 2176 = q.val by omega)
  | ⟨2, _⟩ => exact Fin.ext (show ((b.val * 2176 + q.val) * 1024 + (h.val * 128 + d.val)) / 128 % 8 = h.val by omega)
  | ⟨3, _⟩ => exact Fin.ext (show ((b.val * 2176 + q.val) * 1024 + (h.val * 128 + d.val)) % 128 = d.val by omega)

/-- The arguments, reshaped to batch row, row, head and lane. -/
theorem at8 : val_main_v8 (F := Ideal) x0 (ix4 b q h d) = headOf b h x0 (ix2 q d) := by rw [val_main_v8_apply, flat8]; rfl
theorem at9 : val_main_v9 (F := Ideal) x1 (ix4 b q h d) = headOf b h x1 (ix2 q d) := by
  rw [val_main_v9_apply]; exact congrArg x1 (flat8 b h q d)
theorem at10 : val_main_v10 (F := Ideal) x2 (ix4 b q h d) = headOf b h x2 (ix2 q d) := by
  rw [val_main_v10_apply]; exact congrArg x2 (flat8 b h q d)
theorem at11 : val_main_v11 (F := Ideal) x3 (ix4 b q h d) = x3 (ix2 (rowOf b q) d) := by
  rw [val_main_v11_apply, show idx_main_v11 (ix4 b q h d) = _ from flat8 b h q d, val_main_v6_apply, flat6, val_main_v5_apply, val_main_v4_apply]
  exact congrArg x3 (funext fun a => by match a with | ⟨0, _⟩ => rfl | ⟨1, _⟩ => rfl)
theorem at49 : val_main_v49 (F := Ideal) x4 (ix4 b q h d) = headOf b h x4 (ix2 q d) := by
  rw [val_main_v49_apply]; exact congrArg x4 (flat8 b h q d)
theorem at55 : val_main_v55 (F := Ideal) x5 (ix4 b h d q) = headOf b h x5 (ix2 q d) := by
  rw [val_main_v55_apply, val_main_v54_apply]; exact congrArg x5 (flat8 b h q d)

/-- The masked score of key `k` at query `q`. -/
theorem score : val_main_v20_0 (F := Ideal) x0 x1 x2 x3 (ix4 b h q k) = if k ≤ q then (blkOf x0 x1 x2 x3 x4 x5 b h).S k q else ⊥ := by
  have e1 : val_main_v20_1 (F := Ideal) (ix4 b h q k) = IntOp.cmpi .sle (BitVec.ofNat 32 k.val) (BitVec.ofNat 32 q.val) := by
    rw [val_main_v20_1_apply, val_main_v19_apply, val_main_v17_apply, val_main_v18_apply]; rfl
  have e2 : val_main_call0_v2 (F := Ideal) (ix4 b h q k) = ⊥ := by
    rw [val_main_call0_v2_apply, val_main_call0_v0_apply, val_main_cst_0_apply]; exact mask_eq
  have e3 : val_main_v16 (F := Ideal) x0 x1 x2 x3 (ix4 b h q k) = (blkOf x0 x1 x2 x3 x4 x5 b h).S k q := by
    rw [val_main_v16_apply, val_main_v14_apply, val_main_v12_apply, val_main_v13_apply, val_main_v15_apply, val_main_cst_apply]
    refine congrArg₂ (· * ·) (congrArg₂ (· + ·) (Finset.sum_congr rfl fun d _ => ?_) (Finset.sum_congr rfl fun d _ => ?_)) rfl
    · rw [mul_comm]
      refine congrArg₂ (· * ·) (Eq.trans (congrArg _ ?_) (at10 x2 b h k d)) (Eq.trans (congrArg _ ?_) (at8 x0 b h q d)) <;>
        exact funext fun a => by match a with | ⟨0, _⟩ => rfl | ⟨1, _⟩ => rfl | ⟨2, _⟩ => rfl | ⟨3, _⟩ => rfl
    · rw [mul_comm]
      refine congrArg₂ (· * ·) (Eq.trans (congrArg _ ?_) (at11 x3 b h k d)) (Eq.trans (congrArg _ ?_) (at9 x1 b h q d)) <;>
        exact funext fun a => by match a with | ⟨0, _⟩ => rfl | ⟨1, _⟩ => rfl | ⟨2, _⟩ => rfl | ⟨3, _⟩ => rfl
  rw [val_main_v20_0_apply, e1, e2, e3, select_sle _ _ (by omega) (by omega)]
  rfl

end Cert.KernelIdeal.Bwd
-- ==== Proof.Bwd.Ref2.lean ====
module

public import proofs.«01_k».proof.Proof.Bwd.Ref

@[expose] public section

set_option maxRecDepth 16384

/-! # The reference's weights and gradients are the head's

For finite arguments: the softmax weights, the logarithm of a row's sum, the gradient of the scores and, from these, the
five gradients of the attention. -/

noncomputable section

namespace Cert.KernelIdeal.Bwd

open Cert.KernelIdeal.Gen
open Idealize.ShloMosaic Idealize.ShloMosaic.TcCoe Idealize.ShloMosaic.Tactic
open Cert.ReferenceIdeal.Read Cert.Row

variable (x0 x1 x2 : FVec Ideal S4352x1024 .bf16) (x3 : FVec Ideal S4352x128 .bf16) (x4 x5 : FVec Ideal S4352x1024 .bf16)
variable (b : Fin 2) (h : Fin 8)

/-- Every element of the arguments is a real. -/
structure Fin6 : Prop where
  f0 : ∀ i, IsR (x0 i)
  f1 : ∀ i, IsR (x1 i)
  f2 : ∀ i, IsR (x2 i)
  f3 : ∀ i, IsR (x3 i)
  f4 : ∀ i, IsR (x4 i)
  f5 : ∀ i, IsR (x5 i)

theorem scl_real : IsR scl := by
  simp [scl, Ideal.ofBits, Ideal.ieee]
  exact .mul (.coe _) (.coe _)

theorem zero_f32 : Ideal.ofBits FTy.f32 0#32 = (0 : EReal) := by simp [Ideal.ofBits, Ideal.ieee]
theorem one_f32 : Ideal.ofBits FTy.f32 0x3F800000#32 = (1 : EReal) := by
  simp [Ideal.ofBits, Ideal.ieee]
  rw [← EReal.coe_mul]
  norm_num

variable {x0 x1 x2 x3 x4 x5}
variable (F : Fin6 x0 x1 x2 x3 x4 x5) (q k : Fin 2176) (d : Fin 128)

include F in
theorem S_real : IsR ((blkOf x0 x1 x2 x3 x4 x5 b h).S k q) :=
  .mul (.add (.sum _ _ fun _ => .mul (F.f2 _) (F.f0 _)) (.sum _ _ fun _ => .mul (F.f3 _) (F.f1 _))) scl_real

include F in
theorem max_real : IsR (val_main_v21 (F := Ideal) x0 x1 x2 x3 (ix3 b h q)) := by
  unfold val_main_v21
  have hs : ∀ k : Fin 2176, val_main_v20_0 (F := Ideal) x0 x1 x2 x3 (ix4 b h q k) = if k ≤ q then (blkOf x0 x1 x2 x3 x4 x5 b h).S k q else ⊥ :=
    fun k => score x0 x1 x2 x3 x4 x5 b h q k
  generalize val_main_v20_0 (F := Ideal) x0 x1 x2 x3 = y at hs
  have hb : val_main_cst_1 (F := Ideal) (Shape.Idx.first h_S_) = ⊥ := mask_eq
  have hl : ∀ (hr : S2x8x2176x2176.Reduces [3] S2x8x2176) (k : Fin 2176), hr.lift (ix3 b h q) k = ix4 b h q k := fun hr k =>
    funext fun a => Fin.ext (by match a with | ⟨0, _⟩ => rfl | ⟨1, _⟩ => rfl | ⟨2, _⟩ => rfl | ⟨3, _⟩ => rfl)
  rw [Host.reduce_eq_fold_single (FloatOps.maximumf (F := Ideal) (φ := FTy.f32)) y _ _ (by decide) h_S_, hb]
  refine IsR.fold _ _ q (Finset.mem_univ _) ?_ ?_
  · obtain ⟨r, hr⟩ := S_real b h F q q
    refine ⟨r, ?_⟩
    exact ((congrArg y (hl _ q)).trans (hs q)).trans ((if_pos le_rfl).trans hr)
  · intro k
    refine lt_of_eq_of_lt ((congrArg y (hl _ k)).trans (hs k)) ?_
    obtain ⟨r, hr⟩ := S_real b h F q k
    split
    · rw [hr]; exact EReal.coe_lt_top r
    · exact bot_lt_top

/-- The exponential of a masked score less the row's largest. -/
theorem at41 : val_main_v41 (F := Ideal) x0 x1 x2 x3 (ix4 b h q k)
    = Ideal.exp ((if k ≤ q then (blkOf x0 x1 x2 x3 x4 x5 b h).S k q else ⊥) - val_main_v21 (F := Ideal) x0 x1 x2 x3 (ix3 b h q)) := by
  rw [val_main_v41_apply, val_main_v40_apply, score x0 x1 x2 x3 x4 x5, val_main_v39_apply, val_main_v38_apply, val_main_v28_apply,
    val_main_v27_apply, val_main_cst_3_apply]
  have e : idx_main_v38 (idx_main_v39 (ix4 b h q k)) = ix3 b h q :=
    funext fun a => by match a with | ⟨0, _⟩ => rfl | ⟨1, _⟩ => rfl | ⟨2, _⟩ => rfl
  rw [e]
  show Ideal.exp (_ - max (Ideal.ofBits FTy.f32 4286578688#32) _) = _
  rw [mask_eq, max_eq_right bot_le]

theorem at42 : val_main_v42 (F := Ideal) x0 x1 x2 x3 (ix3 b h q)
    = ∑ k, val_main_v41 (F := Ideal) x0 x1 x2 x3 (ix4 b h q k) := by
  rw [val_main_v42_apply, show val_main_cst_9 (F := Ideal) (Shape.Idx.first h_S_) = 0 from zero_f32, zero_add]
  exact Finset.sum_congr rfl fun k _ => congrArg _ (funext fun a => by match a with | ⟨0, _⟩ => rfl | ⟨1, _⟩ => rfl | ⟨2, _⟩ => rfl | ⟨3, _⟩ => rfl)

end Cert.KernelIdeal.Bwd
-- ==== Proof.Bwd.Lse.lean ====
module

public import proofs.«01_k».proof.Proof.Bwd.Host
public import Idealize.ShloMosaic.Lib.Pointwise

@[expose] public section

set_option maxRecDepth 16384

/-! # The reference's weights and gradients are the head's

For finite arguments: the softmax weights, the logarithm of a row's sum, the gradient of the scores and, from these, the
five gradients of the attention. -/

noncomputable section

namespace Cert.KernelIdeal.Bwd

open Cert.KernelIdeal.Gen
open Idealize.ShloMosaic Idealize.ShloMosaic.TcCoe Idealize.ShloMosaic.Tactic
open Cert.ReferenceIdeal.Read

variable (x0 x1 x2 : FVec Ideal S4352x1024 .bf16) (x3 : FVec Ideal S4352x128 .bf16) (x4 x5 : FVec Ideal S4352x1024 .bf16)
variable (b : Fin 2) (h : Fin 8)

theorem rowMax_apply (q : Fin 2176) (z : Fin 1) : rowMax x0 x1 x2 x3 (ix4 b h q z) = val_main_v21 (F := Ideal) x0 x1 x2 x3 (ix3 b h q) := by
  unfold rowMax
  generalize val_main_v21 (F := Ideal) x0 x1 x2 x3 = y
  exact broadcastInDim_apply _ bcast_S2x8x2176_S2x8x2176x1_0_1_2 y _ _ (fun a => by match a with | ⟨0, _⟩ => rfl | ⟨1, _⟩ => rfl | ⟨2, _⟩ => rfl)

theorem rowExp_apply (q k : Fin 2176) : rowExp x0 x1 x2 x3 (ix4 b h q k)
    = Ideal.exp (val_main_v20_0 (F := Ideal) x0 x1 x2 x3 (ix4 b h q k) - rowMax x0 x1 x2 x3 (ix4 b h q 0)) := by
  unfold rowExp
  generalize val_main_v20_0 (F := Ideal) x0 x1 x2 x3 = y
  generalize rowMax x0 x1 x2 x3 = z
  refine congrArg Ideal.exp (congrArg (y (ix4 b h q k) - ·) ?_)
  exact broadcastInDim_apply _ bcast_S2x8x2176x1_S2x8x2176x2176_0_1_2_3 z _ _ (fun a => by match a with | ⟨0, _⟩ => rfl | ⟨1, _⟩ => rfl | ⟨2, _⟩ => rfl | ⟨3, _⟩ => rfl)

theorem rowSum_apply (q : Fin 2176) : rowSum x0 x1 x2 x3 (ix3 b h q) = ∑ k, rowExp x0 x1 x2 x3 (ix4 b h q k) := by
  unfold rowSum
  generalize rowExp x0 x1 x2 x3 = y
  simp only [Host.reduceAdd, Ideal.hostReduceAdd_def]
  rw [Ideal.hostReduceAdd_single reducesTo_S2x8x2176x2176_S2x8x2176_d3 (by decide)]
  rw [show constant (F := Ideal) S_ .f32 0x00000000#32 (Shape.Idx.first h_S_) = 0 by
    show Ideal.ofBits FTy.f32 0#32 = 0
    simp [Ideal.ofBits, Ideal.ieee], zero_add]
  exact Finset.sum_congr rfl fun k _ => congrArg y (funext fun a => Fin.ext (by match a with | ⟨0, _⟩ => rfl | ⟨1, _⟩ => rfl | ⟨2, _⟩ => rfl | ⟨3, _⟩ => rfl))

theorem column_apply (w : FVec Ideal S2x8x2176x1 .f32) (q : Fin 2176) (z : Fin 1) :
    shapeCast S2x8x2176 w shapeCasts_S2x8x2176x1_S2x8x2176 (ix3 b h q) = w (ix4 b h q z) :=
  shapeCast_apply w shapeCasts_S2x8x2176x1_S2x8x2176 (ix3 b h q) (ix4 b h q z) (by
    rewrite [Shape.rowMajor_val_three, Shape.rowMajor_val_four]
    have hz := z.isLt
    show ((b.val * 8 + h.val) * 2176 + q.val) * 1 + z.val = (b.val * 8 + h.val) * 2176 + q.val
    omega)

theorem logsum_apply (y z : FVec Ideal S2x8x2176x1 .f32) (i : S2x8x2176x1.Idx) :
    addf y (Host.log z) i = y i + Ideal.log (z i) := rfl

theorem wide_apply (z : FVec Ideal S2x8x2176 .f32) (q : Fin 2176) (k : Fin 1) :
    broadcastInDim S2x8x2176x1 ![0, 1, 2] bcast_S2x8x2176_S2x8x2176x1_0_1_2 z (ix4 b h q k) = z (ix3 b h q) :=
  broadcastInDim_apply _ bcast_S2x8x2176_S2x8x2176x1_0_1_2 z _ _ (fun a => by match a with | ⟨0, _⟩ => rfl | ⟨1, _⟩ => rfl | ⟨2, _⟩ => rfl)

theorem rowLse_apply (q : Fin 2176) : rowLse x0 x1 x2 x3 (ix3 b h q)
    = rowMax x0 x1 x2 x3 (ix4 b h q 0) + Ideal.log (rowSum x0 x1 x2 x3 (ix3 b h q)) := by
  unfold rowLse
  rw [column_apply b h _ q 0, logsum_apply, wide_apply]

variable (y : FVec Ideal S2x8x2176 .f32)

theorem tile0 (k : Fin 128) : lseAll y (ix5 b h 0 0 ⟨k.val, by omega⟩) = y (ix3 b h ⟨k.val, by omega⟩) := by
  unfold lseAll lseCat
  pointwise []

theorem tile1 (k : Fin 1024) : lseAll y (ix5 b h 1 0 k) = y (ix3 b h ⟨128 + k.val, by omega⟩) := by
  unfold lseAll lseCat
  pointwise []

theorem tile2 (k : Fin 1024) : lseAll y (ix5 b h 2 0 k) = y (ix3 b h ⟨1152 + k.val, by omega⟩) := by
  unfold lseAll lseCat
  pointwise []

end Cert.KernelIdeal.Bwd
-- ==== Proof.Bwd.Ref3.lean ====
module

public import proofs.«01_k».proof.Proof.Bwd.Ref2
public import proofs.«01_k».proof.Proof.Bwd.Lse

@[expose] public section

set_option maxRecDepth 16384

/-! # The reference's weights and gradients are the head's

For finite arguments: the softmax weights, the gradient of the scores and, from these, the five gradients. -/

noncomputable section

namespace Cert.KernelIdeal.Bwd

open Cert.KernelIdeal.Gen
open Idealize.ShloMosaic Idealize.ShloMosaic.TcCoe Idealize.ShloMosaic.Tactic
open Cert.ReferenceIdeal.Read Cert.Row

variable {x0 x1 x2 : FVec Ideal S4352x1024 .bf16} {x3 : FVec Ideal S4352x128 .bf16} {x4 x5 : FVec Ideal S4352x1024 .bf16}
variable (b : Fin 2) (h : Fin 8)
variable (F : Fin6 x0 x1 x2 x3 x4 x5) (q k : Fin 2176) (d : Fin 128)

/-- The logarithm at query `q`, out of its tile. -/
theorem L_eq : (blkOf x0 x1 x2 x3 x4 x5 b h).L q = rowLse x0 x1 x2 x3 (ix3 b h q) := by
  unfold Blk.L
  split
  · exact tile0 b h (rowLse x0 x1 x2 x3) ⟨q.1, ‹_›⟩
  split
  · refine (tile1 b h (rowLse x0 x1 x2 x3) ⟨q.1 - 128, ‹_›⟩).trans (congrArg _ (congrArg (ix3 b h) (Fin.ext ?_)))
    show 128 + (q.1 - 128) = q.1
    omega
  · refine (tile2 b h (rowLse x0 x1 x2 x3) ⟨q.1 - 128 - 1024, by omega⟩).trans (congrArg _ (congrArg (ix3 b h) (Fin.ext ?_)))
    show 1152 + (q.1 - 128 - 1024) = q.1
    omega

include F in
/-- One query's row: real weights `w` and the real sum `Z` of its exponentials. -/
theorem row : ∃ (w : Fin 2176 → ℝ) (Z : ℝ), 0 < Z
    ∧ (∀ k, val_main_v41 (F := Ideal) x0 x1 x2 x3 (ix4 b h q k) = ((w k * Z : ℝ) : EReal))
    ∧ val_main_v42 (F := Ideal) x0 x1 x2 x3 (ix3 b h q) = (Z : EReal)
    ∧ (∀ k, (blkOf x0 x1 x2 x3 x4 x5 b h).P k q = (w k : EReal)) := by
  choose s hs using fun k => S_real b h F q k
  obtain ⟨r, hr⟩ := max_real b h F q
  obtain ⟨w, Z, hZ, h1, h2, h3⟩ := weights (fun k => k ≤ q) s r q le_rfl
  have e41 : ∀ k, val_main_v41 (F := Ideal) x0 x1 x2 x3 (ix4 b h q k) = Ideal.exp ((if k ≤ q then (s k : EReal) else ⊥) - (r : EReal)) := by
    intro k
    rw [at41 (x4 := x4) (x5 := x5) b h q k, hr, hs]
  have e42 : val_main_v42 (F := Ideal) x0 x1 x2 x3 (ix3 b h q) = (Z : EReal) := by
    rw [at42, ← h2]
    exact Finset.sum_congr rfl fun k _ => e41 k
  refine ⟨w, Z, hZ, fun k => (e41 k).trans (h1 k), e42, fun k => ?_⟩
  rw [Blk.P, L_eq, rowLse_apply, rowMax_apply, rowSum_apply, hr, ← h3, hs]
  have : ∑ k, rowExp x0 x1 x2 x3 (ix4 b h q k) = (Z : EReal) := by
    rw [← h2]
    refine Finset.sum_congr rfl fun k _ => ?_
    rw [rowExp_apply, rowMax_apply, hr, score x0 x1 x2 x3 x4 x5, hs]
  rw [this]

include F in
/-- The softmax weight. -/
theorem at45 : val_main_v45 (F := Ideal) x0 x1 x2 x3 (ix4 b h q k) = (blkOf x0 x1 x2 x3 x4 x5 b h).P k q := by
  obtain ⟨w, Z, hZ, h41, h42, hP⟩ := row b h F q
  rw [val_main_v45_apply, val_main_v44_apply, val_main_v43_apply, h41, hP]
  rw [show idx_main_v43 (idx_main_v44 (ix4 b h q k)) = ix3 b h q from
    funext fun a => by match a with | ⟨0, _⟩ => rfl | ⟨1, _⟩ => rfl | ⟨2, _⟩ => rfl, h42]
  show Ideal.div _ _ = _
  rw [div_coe _ _ hZ.ne', mul_div_cancel_right₀ _ hZ.ne']

include F in
/-- The forward output. -/
theorem at_o : (blkOf x0 x1 x2 x3 x4 x5 b h).o (ix2 q d)
    = ∑ k, (blkOf x0 x1 x2 x3 x4 x5 b h).vv (ix2 k d) * (blkOf x0 x1 x2 x3 x4 x5 b h).P k q := by
  show val_main_v52 (F := Ideal) x0 x1 x2 x3 x4 (ix2 (rowOf b q) (colOf h d)) = _
  rw [val_main_v52_apply, unflat52, val_main_v51_apply, val_main_v50_apply]
  refine Finset.sum_congr rfl fun k _ => congrArg₂ (· * ·) ?_ ?_
  · exact Eq.trans (congrArg _ (funext fun a => by match a with | ⟨0, _⟩ => rfl | ⟨1, _⟩ => rfl | ⟨2, _⟩ => rfl | ⟨3, _⟩ => rfl)) (at49 x4 b h k d)
  · exact Eq.trans (congrArg _ (funext fun a => by match a with | ⟨0, _⟩ => rfl | ⟨1, _⟩ => rfl | ⟨2, _⟩ => rfl | ⟨3, _⟩ => rfl)) (at45 b h F q k)

/-- The gradient of a weight. -/
theorem at56 : val_main_v56 (F := Ideal) x4 x5 (ix4 b h q k)
    = ∑ e, (blkOf x0 x1 x2 x3 x4 x5 b h).vv (ix2 k e) * (blkOf x0 x1 x2 x3 x4 x5 b h).dO (ix2 q e) := by
  rw [val_main_v56_apply]
  refine Finset.sum_congr rfl fun e _ => ?_
  rw [mul_comm]
  refine congrArg₂ (· * ·) ?_ ?_
  · exact Eq.trans (congrArg _ (funext fun a => by match a with | ⟨0, _⟩ => rfl | ⟨1, _⟩ => rfl | ⟨2, _⟩ => rfl | ⟨3, _⟩ => rfl)) (at49 x4 b h k e)
  · exact Eq.trans (congrArg _ (funext fun a => by match a with | ⟨0, _⟩ => rfl | ⟨1, _⟩ => rfl | ⟨2, _⟩ => rfl | ⟨3, _⟩ => rfl)) (at55 x5 b h q e)

include F in
/-- The gradient of a score, scaled. -/
theorem at74 : val_main_v74 (F := Ideal) x0 x1 x2 x3 x4 x5 (ix4 b h q k) = (blkOf x0 x1 x2 x3 x4 x5 b h).D k q := by
  obtain ⟨w, Z, hZ, h41, h42, hP⟩ := row b h F q
  choose v hv using fun (k : Fin 2176) (e : Fin 128) => F.f4 (ix2 (rowOf b k) (colOf h e))
  choose g hg using fun e : Fin 128 => F.f5 (ix2 (rowOf b q) (colOf h e))
  have hp : ∀ k, val_main_v56 (F := Ideal) x4 x5 (ix4 b h q k) = ((∑ e, v k e * g e : ℝ) : EReal) := by
    intro k
    rw [at56 (x0 := x0) (x1 := x1) (x2 := x2) (x3 := x3) b h q k, ← coe_sum]
    exact Finset.sum_congr rfl fun e _ => (congrArg₂ (· * ·) (hv k e) (hg e)).trans (EReal.coe_mul _ _).symm
  have hdl : (blkOf x0 x1 x2 x3 x4 x5 b h).dl q = ∑ k, (w k : EReal) * ((∑ e, v k e * g e : ℝ) : EReal) := by
    rw [← mean]
    refine Finset.sum_congr rfl fun e _ => congrArg₂ (· * ·) (hg e) ((at_o b h F q e).trans ?_)
    exact Finset.sum_congr rfl fun k _ => congrArg₂ (· * ·) (hv k e) (hP k)
  have e43 : ∀ z : Fin 1, val_main_v43 (F := Ideal) x0 x1 x2 x3 (ix4 b h q z) = (Z : EReal) := by
    intro z
    rw [val_main_v43_apply, ← h42]
    exact congrArg _ (funext fun a => by match a with | ⟨0, _⟩ => rfl | ⟨1, _⟩ => rfl | ⟨2, _⟩ => rfl)
  have e48 : ∀ z : Fin 1, val_main_v48 (F := Ideal) x0 x1 x2 x3 (ix4 b h q z) = Ideal.div 1 ((Z : EReal) * (Z : EReal)) := by
    intro z
    rw [val_main_v48_apply, val_main_v46_apply, e43, val_main_v47_apply, val_main_cst_10_apply]
    exact congrArg (Ideal.div · _) one_f32
  have e63 : val_main_v63 (F := Ideal) x0 x1 x2 x3 x4 x5 (ix3 b h q)
      = 0 + ∑ k, (((∑ e, v k e * g e : ℝ) : EReal) * Ideal.div 1 ((Z : EReal) * (Z : EReal))) * ((w k * Z : ℝ) : EReal) := by
    rw [val_main_v63_apply, show val_main_cst_11 (F := Ideal) (Shape.Idx.first h_S_) = 0 from zero_f32]
    refine congrArg (0 + ·) (Finset.sum_congr rfl fun k _ => ?_)
    rw [show idx_main_v63 (ix3 b h q) k = ix4 b h q k from
      funext fun a => by match a with | ⟨0, _⟩ => rfl | ⟨1, _⟩ => rfl | ⟨2, _⟩ => rfl | ⟨3, _⟩ => rfl]
    rw [val_main_v62_apply, val_main_v61_apply, h41, hp, val_main_v60_apply,
      show idx_main_v60 (ix4 b h q k) = ix4 b h q (0 : Fin 1) from
        funext fun a => by match a with | ⟨0, _⟩ => rfl | ⟨1, _⟩ => rfl | ⟨2, _⟩ => rfl | ⟨3, _⟩ => rfl, e48]
    rfl
  have e65 : ∀ z : Fin 1, val_main_v65 (F := Ideal) x0 x1 x2 x3 x4 x5 (ix4 b h q z) = - val_main_v63 (F := Ideal) x0 x1 x2 x3 x4 x5 (ix3 b h q) := by
    intro z
    rw [val_main_v65_apply, val_main_v64_apply]
    refine congrArg (fun i => - val_main_v63 (F := Ideal) x0 x1 x2 x3 x4 x5 i) (funext fun a => ?_)
    have hb := b.isLt; have hq := q.isLt; have hh := h.isLt; have hz := z.isLt
    match a with
    | ⟨0, _⟩ => exact Fin.ext (show (((b.val * 8 + h.val) * 2176 + q.val) * 1 + z.val) / 17408 = b.val by omega)
    | ⟨1, _⟩ => exact Fin.ext (show (((b.val * 8 + h.val) * 2176 + q.val) * 1 + z.val) / 2176 % 8 = h.val by omega)
    | ⟨2, _⟩ => exact Fin.ext (show (((b.val * 8 + h.val) * 2176 + q.val) * 1 + z.val) % 2176 = q.val by omega)
  have e69 : val_main_v69 (F := Ideal) x0 x1 x2 x3 x4 x5 (ix4 b h q k)
      = 0 + ∑ _j : Fin 1, - val_main_v63 (F := Ideal) x0 x1 x2 x3 x4 x5 (ix3 b h q) := by
    rw [val_main_v69_apply, show idx_main_v69 (ix4 b h q k) = ix3 b h q from
      funext fun a => by match a with | ⟨0, _⟩ => rfl | ⟨1, _⟩ => rfl | ⟨2, _⟩ => rfl]
    rw [val_main_v68_apply, show val_main_cst_12 (F := Ideal) (Shape.Idx.first h_S_) = 0 from zero_f32]
    refine congrArg (0 + ·) (Finset.sum_congr rfl fun z _ => (congrArg _ ?_).trans (e65 z))
    exact funext fun a => by match a with | ⟨0, _⟩ => rfl | ⟨1, _⟩ => rfl | ⟨2, _⟩ => rfl | ⟨3, _⟩ => rfl
  have e71 : val_main_v71 (F := Ideal) x0 x1 x2 x3 x4 x5 (ix4 b h q k)
      = (w k : EReal) * (((∑ e, v k e * g e : ℝ) : EReal) - ∑ k, (w k : EReal) * ((∑ e, v k e * g e : ℝ) : EReal)) := by
    rw [← grad w (fun k => ∑ e, v k e * g e) Z hZ k, val_main_v71_apply, val_main_v70_apply, val_main_v67_apply, h41, e69, e63, hp,
      val_main_v66_apply, show idx_main_v66 (ix4 b h q k) = ix4 b h q (0 : Fin 1) from
        funext fun a => by match a with | ⟨0, _⟩ => rfl | ⟨1, _⟩ => rfl | ⟨2, _⟩ => rfl | ⟨3, _⟩ => rfl, e43]
    rfl
  have e1 : val_main_v20_1 (F := Ideal) (ix4 b h q k) = IntOp.cmpi .sle (BitVec.ofNat 32 k.val) (BitVec.ofNat 32 q.val) := by
    rw [val_main_v20_1_apply, val_main_v19_apply, val_main_v17_apply, val_main_v18_apply]; rfl
  have e0 : val_main_call1_v0 (F := Ideal) (ix4 b h q k) = 0 := zero_f32
  rw [val_main_v74_apply, val_main_v72_apply, val_main_v73_apply, val_main_cst_13_apply, e1, e0, select_sle _ _ (by omega) (by omega), e71]
  rw [Blk.D, hP, hdl, ← at56, hp]
  refine congrArg (· * scl) ?_
  split
  · rfl
  · have := hP k
    rw [Blk.P, if_neg (fun hc : k ≤ q => by omega)] at this
    rw [← this, zero_mul]

end Cert.KernelIdeal.Bwd
-- ==== Proof.Bwd.Ref4.lean ====
module

public import proofs.«01_k».proof.Proof.Bwd.Ref3

@[expose] public section

set_option maxRecDepth 16384

/-! # The reference's five results, head by head -/

noncomputable section

namespace Cert.KernelIdeal.Bwd

open Cert.KernelIdeal.Gen
open Idealize.ShloMosaic Idealize.ShloMosaic.TcCoe Idealize.ShloMosaic.Tactic
open Cert.ReferenceIdeal.Read Cert.Row

variable {x0 x1 x2 : FVec Ideal S4352x1024 .bf16} {x3 : FVec Ideal S4352x128 .bf16} {x4 x5 : FVec Ideal S4352x1024 .bf16}
variable (b : Fin 2) (h : Fin 8)
variable (F : Fin6 x0 x1 x2 x3 x4 x5) (q k : Fin 2176) (d : Fin 128)

theorem dq_all (B : Blk) (K : Vec Ideal S2176x128 .bf16) : B.dq K 2176 q d = ∑ k : Fin 2176, B.D k q * K (ix2 k d) :=
  Finset.sum_congr rfl fun k _ => if_pos k.isLt

include F in
/-- The gradient of the first half of the queries. -/
theorem ref_dqn : val_main_v86 (F := Ideal) x0 x1 x2 x3 x4 x5 (ix2 (rowOf b q) (colOf h d))
    = (blkOf x0 x1 x2 x3 x4 x5 b h).dq (blkOf x0 x1 x2 x3 x4 x5 b h).kn 2176 q d := by
  rw [dq_all]
  rw [val_main_v86_apply, show idx_main_v86 (ix2 (rowOf b q) (colOf h d)) = ix4 b q h d from unflat52 b h q d, val_main_v82_apply, val_main_v81_apply]
  refine Finset.sum_congr rfl fun k _ => congrArg₂ (· * ·) ?_ ?_
  · exact Eq.trans (congrArg _ (funext fun a => by match a with | ⟨0, _⟩ => rfl | ⟨1, _⟩ => rfl | ⟨2, _⟩ => rfl | ⟨3, _⟩ => rfl)) (at74 b h F q k)
  · exact Eq.trans (congrArg _ (funext fun a => by match a with | ⟨0, _⟩ => rfl | ⟨1, _⟩ => rfl | ⟨2, _⟩ => rfl | ⟨3, _⟩ => rfl)) (at10 x2 b h k d)

include F in
/-- The gradient of the second half of the queries. -/
theorem ref_dqp : val_main_v85 (F := Ideal) x0 x1 x2 x3 x4 x5 (ix2 (rowOf b q) (colOf h d))
    = (blkOf x0 x1 x2 x3 x4 x5 b h).dq (blkOf x0 x1 x2 x3 x4 x5 b h).kp 2176 q d := by
  rw [dq_all]
  rw [val_main_v85_apply, show idx_main_v85 (ix2 (rowOf b q) (colOf h d)) = ix4 b q h d from unflat52 b h q d, val_main_v78_apply, val_main_v77_apply]
  refine Finset.sum_congr rfl fun k _ => congrArg₂ (· * ·) ?_ ?_
  · exact Eq.trans (congrArg _ (funext fun a => by match a with | ⟨0, _⟩ => rfl | ⟨1, _⟩ => rfl | ⟨2, _⟩ => rfl | ⟨3, _⟩ => rfl)) (at74 b h F q k)
  · exact Eq.trans (congrArg _ (funext fun a => by match a with | ⟨0, _⟩ => rfl | ⟨1, _⟩ => rfl | ⟨2, _⟩ => rfl | ⟨3, _⟩ => rfl)) (at11 x3 b h k d)

include F in
/-- The gradient of the first half of the keys. -/
theorem ref_dkn : val_main_v87 (F := Ideal) x0 x1 x2 x3 x4 x5 (ix2 (rowOf b k) (colOf h d))
    = (blkOf x0 x1 x2 x3 x4 x5 b h).dk (blkOf x0 x1 x2 x3 x4 x5 b h).qn k d := by
  rw [val_main_v87_apply]
  show val_main_v84 (F := Ideal) x0 x1 x2 x3 x4 x5 (ix2 (rowOf b k) (colOf h d)) = _
  rw [val_main_v84_apply, show idx_main_v84 (ix2 (rowOf b k) (colOf h d)) = ix4 b k h d from unflat52 b h k d, val_main_v80_apply, val_main_v79_apply]
  refine Finset.sum_congr rfl fun q _ => congrArg₂ (· * ·) ?_ ?_
  · exact Eq.trans (congrArg _ (funext fun a => by match a with | ⟨0, _⟩ => rfl | ⟨1, _⟩ => rfl | ⟨2, _⟩ => rfl | ⟨3, _⟩ => rfl)) (at74 b h F q k)
  · exact Eq.trans (congrArg _ (funext fun a => by match a with | ⟨0, _⟩ => rfl | ⟨1, _⟩ => rfl | ⟨2, _⟩ => rfl | ⟨3, _⟩ => rfl)) (at8 x0 b h q d)

include F in
/-- The gradient of the second half of the keys, as each head has it. -/
theorem ref_dkp : val_main_v83 (F := Ideal) x0 x1 x2 x3 x4 x5 (ix2 (rowOf b k) (colOf h d))
    = (blkOf x0 x1 x2 x3 x4 x5 b h).dk (blkOf x0 x1 x2 x3 x4 x5 b h).qp k d := by
  rw [val_main_v83_apply, show idx_main_v83 (ix2 (rowOf b k) (colOf h d)) = ix4 b k h d from unflat52 b h k d, val_main_v76_apply, val_main_v75_apply]
  refine Finset.sum_congr rfl fun q _ => congrArg₂ (· * ·) ?_ ?_
  · exact Eq.trans (congrArg _ (funext fun a => by match a with | ⟨0, _⟩ => rfl | ⟨1, _⟩ => rfl | ⟨2, _⟩ => rfl | ⟨3, _⟩ => rfl)) (at74 b h F q k)
  · exact Eq.trans (congrArg _ (funext fun a => by match a with | ⟨0, _⟩ => rfl | ⟨1, _⟩ => rfl | ⟨2, _⟩ => rfl | ⟨3, _⟩ => rfl)) (at9 x1 b h q d)

include F in
/-- The gradient of the values. -/
theorem ref_dv : val_main_v88 (F := Ideal) x0 x1 x2 x3 x5 (ix2 (rowOf b k) (colOf h d))
    = (blkOf x0 x1 x2 x3 x4 x5 b h).dv k d := by
  rw [val_main_v88_apply]
  show val_main_v59 (F := Ideal) x0 x1 x2 x3 x5 (ix2 (rowOf b k) (colOf h d)) = _
  rw [val_main_v59_apply, show idx_main_v59 (ix2 (rowOf b k) (colOf h d)) = ix4 b k h d from unflat52 b h k d, val_main_v58_apply, val_main_v57_apply]
  refine Finset.sum_congr rfl fun q _ => ?_
  rw [mul_comm]
  refine congrArg₂ (· * ·) ?_ ?_
  · exact Eq.trans (congrArg _ (funext fun a => by match a with | ⟨0, _⟩ => rfl | ⟨1, _⟩ => rfl | ⟨2, _⟩ => rfl | ⟨3, _⟩ => rfl)) (at45 b h F q k)
  · exact Eq.trans (congrArg _ (funext fun a => by match a with | ⟨0, _⟩ => rfl | ⟨1, _⟩ => rfl | ⟨2, _⟩ => rfl | ⟨3, _⟩ => rfl)) (at55 x5 b h q d)

end Cert.KernelIdeal.Bwd
-- ==== Proof.Bwd.Blocks.lean ====
module

public import proofs.«01_k».proof.Proof.Bwd.Run
public import proofs.«01_k».proof.Proof.Bwd.Ref4

@[expose] public section

set_option maxRecDepth 16384

/-! # The blocks the kernel sees are the heads of the arguments -/

noncomputable section

namespace Cert.KernelIdeal.Bwd

open Cert.KernelIdeal.Gen
open Idealize.ShloMosaic Idealize.ShloMosaic.TcCoe Idealize.ShloMosaic.Tactic
open Cert.Row

variable (m : (ℓ : Loc nD τ sig) → Buf (Elt Ideal) ℓ) (c : Dev nD) (b : Fin 2) (hd : Fin 8)

/-- Input 0: the block a point names. -/
theorem idx_0 : win0_0.index (lastPt b hd) = ![b.val, hd.val] := by
  revert b hd; decide +kernel

/-- Input 0: the block is the array at one head. -/
theorem iblk_0 (i : S2176x128.Idx) : iblk m c 0 (lastPt b hd) i = (V m c main_arg0 : FVec Ideal S4352x1024 .bf16) (ix2 (rowOf b (i 0)) (colOf hd (i 1))) := by
  refine congrArg (V m c main_arg0 : FVec Ideal S4352x1024 .bf16) (funext fun k => ?_)
  match k with
  | ⟨0, _⟩ => apply Fin.ext; blk_simp [idx_0 b hd]; rfl
  | ⟨1, _⟩ => apply Fin.ext; blk_simp [idx_0 b hd]; rfl

/-- Input 1: the block a point names. -/
theorem idx_1 : win0_1.index (lastPt b hd) = ![b.val, hd.val] := by
  revert b hd; decide +kernel

/-- Input 1: the block is the array at one head. -/
theorem iblk_1 (i : S2176x128.Idx) : iblk m c 1 (lastPt b hd) i = (V m c main_arg1 : FVec Ideal S4352x1024 .bf16) (ix2 (rowOf b (i 0)) (colOf hd (i 1))) := by
  refine congrArg (V m c main_arg1 : FVec Ideal S4352x1024 .bf16) (funext fun k => ?_)
  match k with
  | ⟨0, _⟩ => apply Fin.ext; blk_simp [idx_1 b hd]; rfl
  | ⟨1, _⟩ => apply Fin.ext; blk_simp [idx_1 b hd]; rfl

/-- Input 2: the block a point names. -/
theorem idx_2 : win0_2.index (lastPt b hd) = ![b.val, hd.val] := by
  revert b hd; decide +kernel

/-- Input 2: the block is the array at one head. -/
theorem iblk_2 (i : S2176x128.Idx) : iblk m c 2 (lastPt b hd) i = (V m c main_arg2 : FVec Ideal S4352x1024 .bf16) (ix2 (rowOf b (i 0)) (colOf hd (i 1))) := by
  refine congrArg (V m c main_arg2 : FVec Ideal S4352x1024 .bf16) (funext fun k => ?_)
  match k with
  | ⟨0, _⟩ => apply Fin.ext; blk_simp [idx_2 b hd]; rfl
  | ⟨1, _⟩ => apply Fin.ext; blk_simp [idx_2 b hd]; rfl

/-- Input 3: the block a point names. -/
theorem idx_3 : win0_3.index (lastPt b hd) = ![b.val, 0] := by
  revert b hd; decide +kernel

/-- Input 3: the block is the array at one head. -/
theorem iblk_3 (i : S2176x128.Idx) : iblk m c 3 (lastPt b hd) i = (V m c main_arg3 : FVec Ideal S4352x128 .bf16) (ix2 (rowOf b (i 0)) (i 1)) := by
  refine congrArg (V m c main_arg3 : FVec Ideal S4352x128 .bf16) (funext fun k => ?_)
  match k with
  | ⟨0, _⟩ => apply Fin.ext; blk_simp [idx_3 b hd]; rfl
  | ⟨1, _⟩ => apply Fin.ext; blk_simp [idx_3 b hd]; rfl

/-- Input 4: the block a point names. -/
theorem idx_4 : win0_4.index (lastPt b hd) = ![b.val, hd.val] := by
  revert b hd; decide +kernel

/-- Input 4: the block is the array at one head. -/
theorem iblk_4 (i : S2176x128.Idx) : iblk m c 4 (lastPt b hd) i = (V m c main_arg4 : FVec Ideal S4352x1024 .bf16) (ix2 (rowOf b (i 0)) (colOf hd (i 1))) := by
  refine congrArg (V m c main_arg4 : FVec Ideal S4352x1024 .bf16) (funext fun k => ?_)
  match k with
  | ⟨0, _⟩ => apply Fin.ext; blk_simp [idx_4 b hd]; rfl
  | ⟨1, _⟩ => apply Fin.ext; blk_simp [idx_4 b hd]; rfl

/-- Input 5: the block a point names. -/
theorem idx_5 : win0_5.index (lastPt b hd) = ![b.val, hd.val] := by
  revert b hd; decide +kernel

/-- Input 5: the block is the array at one head. -/
theorem iblk_5 (i : S2176x128.Idx) : iblk m c 5 (lastPt b hd) i = (V m c main_arg5 : FVec Ideal S4352x1024 .bf16) (ix2 (rowOf b (i 0)) (colOf hd (i 1))) := by
  refine congrArg (V m c main_arg5 : FVec Ideal S4352x1024 .bf16) (funext fun k => ?_)
  match k with
  | ⟨0, _⟩ => apply Fin.ext; blk_simp [idx_5 b hd]; rfl
  | ⟨1, _⟩ => apply Fin.ext; blk_simp [idx_5 b hd]; rfl

/-- Input 6: the block a point names. -/
theorem idx_6 : win0_6.index (lastPt b hd) = ![b.val, hd.val] := by
  revert b hd; decide +kernel

/-- Input 6: the block is the array at one head. -/
theorem iblk_6 (i : S2176x128.Idx) : iblk m c 6 (lastPt b hd) i = (V m c main_v36 : FVec Ideal S4352x1024 .bf16) (ix2 (rowOf b (i 0)) (colOf hd (i 1))) := by
  refine congrArg (V m c main_v36 : FVec Ideal S4352x1024 .bf16) (funext fun k => ?_)
  match k with
  | ⟨0, _⟩ => apply Fin.ext; blk_simp [idx_6 b hd]; rfl
  | ⟨1, _⟩ => apply Fin.ext; blk_simp [idx_6 b hd]; rfl

/-- Input 7: the block a point names. -/
theorem idx_7 : win0_7.index (lastPt b hd) = ![b.val, hd.val, 0, 0, 0] := by
  revert b hd; decide +kernel

/-- Input 7: the block is the array at one head. -/
theorem iblk_7 (i : S1x1x3x8x1024.Idx) : iblk m c 7 (lastPt b hd) i = (V m c main_v69 : FVec Ideal S2x8x3x8x1024 .f32) (ix5 b hd (i 2) (i 3) (i 4)) := by
  refine congrArg (V m c main_v69 : FVec Ideal S2x8x3x8x1024 .f32) (funext fun k => ?_)
  have h0 : (i 0).val < 1 := (i 0).isLt
  have h1 : (i 1).val < 1 := (i 1).isLt
  match k with
  | ⟨0, _⟩ => apply Fin.ext; blk_simp [idx_7 b hd]
  | ⟨1, _⟩ => apply Fin.ext; blk_simp [idx_7 b hd]
  | ⟨2, _⟩ => apply Fin.ext; blk_simp [idx_7 b hd]; rfl
  | ⟨3, _⟩ => apply Fin.ext; blk_simp [idx_7 b hd]; rfl
  | ⟨4, _⟩ => apply Fin.ext; blk_simp [idx_7 b hd]; rfl

/-- The head's arrays, from the arguments. -/
theorem H_eq : H m c b hd = blkOf (m (c.tc.loc main_arg0)) (m (c.tc.loc main_arg1)) (m (c.tc.loc main_arg2)) (m (c.tc.loc main_arg3))
    (m (c.tc.loc main_arg4)) (m (c.tc.loc main_arg5)) b hd := by
  have e0 : (iblk m c 0 (lastPt b hd) : Vec Ideal S2176x128 .bf16) = headOf b hd (m (c.tc.loc main_arg0)) :=
    funext fun i => (iblk_0 m c b hd i).trans (by rw [V_main_arg0]; rfl)
  have e1 : (iblk m c 1 (lastPt b hd) : Vec Ideal S2176x128 .bf16) = headOf b hd (m (c.tc.loc main_arg1)) :=
    funext fun i => (iblk_1 m c b hd i).trans (by rw [V_main_arg1]; rfl)
  have e2 : (iblk m c 2 (lastPt b hd) : Vec Ideal S2176x128 .bf16) = headOf b hd (m (c.tc.loc main_arg2)) :=
    funext fun i => (iblk_2 m c b hd i).trans (by rw [V_main_arg2]; rfl)
  have e3 : (iblk m c 3 (lastPt b hd) : Vec Ideal S2176x128 .bf16)
      = fun i => (m (c.tc.loc main_arg3) : FVec Ideal S4352x128 .bf16) (ix2 (rowOf b (i 0)) (i 1)) :=
    funext fun i => (iblk_3 m c b hd i).trans (by rw [V_main_arg3])
  have e4 : (iblk m c 4 (lastPt b hd) : Vec Ideal S2176x128 .bf16) = headOf b hd (m (c.tc.loc main_arg4)) :=
    funext fun i => (iblk_4 m c b hd i).trans (by rw [V_main_arg4]; rfl)
  have e5 : (iblk m c 5 (lastPt b hd) : Vec Ideal S2176x128 .bf16) = headOf b hd (m (c.tc.loc main_arg5)) :=
    funext fun i => (iblk_5 m c b hd i).trans (by rw [V_main_arg5]; rfl)
  have e6 : (iblk m c 6 (lastPt b hd) : Vec Ideal S2176x128 .bf16) = (blkOf (m (c.tc.loc main_arg0)) (m (c.tc.loc main_arg1))
      (m (c.tc.loc main_arg2)) (m (c.tc.loc main_arg3)) (m (c.tc.loc main_arg4)) (m (c.tc.loc main_arg5)) b hd).o :=
    funext fun i => (iblk_6 m c b hd i).trans (congrFun (V_o m c) _)
  have e7 : (iblk m c 7 (lastPt b hd) : Vec Ideal S1x1x3x8x1024 .f32) = (blkOf (m (c.tc.loc main_arg0)) (m (c.tc.loc main_arg1))
      (m (c.tc.loc main_arg2)) (m (c.tc.loc main_arg3)) (m (c.tc.loc main_arg4)) (m (c.tc.loc main_arg5)) b hd).lse :=
    funext fun i => (iblk_7 m c b hd i).trans (congrFun (V_lse m c) _)
  unfold H G
  rw [e0, e1, e2, e3, e4, e5, e6, e7]
  rfl

end Cert.KernelIdeal.Bwd

end
-- ==== Proof.Bwd.Value.lean ====
module

public import proofs.«01_k».proof.Defs
public import proofs.«01_k».proof.Proof.Bwd.Blocks
public import proofs.«01_k».proof.Proof.Gen.ReferenceIdeal.Run

@[expose] public section

set_option maxRecDepth 16384

/-! # The kernel's five gradients are the reference's

For finite arguments, each result array of the kernel is the reference's. -/

noncomputable section

namespace Cert.Pre_finite

open Idealize.ShloMosaic

/-- The shapes' facts the precondition's operations take. -/
theorem pre_facts : Cert.Pre_finite.Facts where
  bitsLt_bf16_f32 := by decide
  bcast_S_S4352x1024 := by decide
  bcast_S_S4352x128 := by decide

end Cert.Pre_finite

namespace Cert.KernelIdeal.Bwd

open Cert.KernelIdeal.Gen
open Idealize.ShloMosaic Idealize.ShloMosaic.TcCoe Idealize.ShloMosaic.Tactic
open Cert.ReferenceIdeal.Read Cert.Row

theorem inf_f32 : Ideal.ofBits FTy.f32 0x7F800000#32 = (⊤ : EReal) := by simp [Ideal.ofBits, Ideal.ieee]

/-- A comparison of a magnitude with infinity that comes out one says the value is a real. -/
theorem real_of_one (x : EReal) (h : Ideal.cmp .olt (max x (-x) : EReal) (Ideal.ofBits FTy.f32 0x7F800000#32) = 1#1) : IsR x := by
  refine IsR.of_abs ?_
  rw [inf_f32] at h
  by_contra hc
  simp [Ideal.cmp, hc] at h

variable (m : (ℓ : Loc nD τ sig) → Buf (Elt Ideal) ℓ)

/-- The precondition says that every element of the arguments is a real. -/
theorem fin6 (hp : @Pre_KernelIdeal_finite Cert.Pre_finite.pre_facts m) (c : Dev nD) : Fin6 (m (c.tc.loc main_arg0)) (m (c.tc.loc main_arg1))
    (m (c.tc.loc main_arg2)) (m (c.tc.loc main_arg3)) (m (c.tc.loc main_arg4)) (m (c.tc.loc main_arg5)) := by
  obtain ⟨h0, h1, h2, h3, h4, h5⟩ := hp c
  have k0 : ∀ i, IsR ((m (c.tc.loc main_arg0) : FVec Ideal S4352x1024 .bf16) i) := fun i => real_of_one _ (congrFun h0 i)
  have k1 : ∀ i, IsR ((m (c.tc.loc main_arg1) : FVec Ideal S4352x1024 .bf16) i) := fun i => real_of_one _ (congrFun h1 i)
  have k2 : ∀ i, IsR ((m (c.tc.loc main_arg2) : FVec Ideal S4352x1024 .bf16) i) := fun i => real_of_one _ (congrFun h2 i)
  have k3 : ∀ i, IsR ((m (c.tc.loc main_arg3) : FVec Ideal S4352x128 .bf16) i) := fun i => real_of_one _ (congrFun h3 i)
  have k4 : ∀ i, IsR ((m (c.tc.loc main_arg4) : FVec Ideal S4352x1024 .bf16) i) := fun i => real_of_one _ (congrFun h4 i)
  have k5 : ∀ i, IsR ((m (c.tc.loc main_arg5) : FVec Ideal S4352x1024 .bf16) i) := fun i => real_of_one _ (congrFun h5 i)
  exact ⟨k0, k1, k2, k3, k4, k5⟩

/-- Result 0: the reference's array is the kernel's. -/
theorem eq_8 (hp : @Pre_KernelIdeal_finite Cert.Pre_finite.pre_facts m) (c : Dev nD) :
    val_main_v86 (F := Ideal) (m (c.tc.loc main_arg0)) (m (c.tc.loc main_arg1)) (m (c.tc.loc main_arg2)) (m (c.tc.loc main_arg3)) (m (c.tc.loc main_arg4)) (m (c.tc.loc main_arg5)) = R8 m c := by
  funext i
  obtain ⟨r, j, rfl⟩ : ∃ (r : Fin 4352) (j : Fin 1024), i = ix2 r j :=
    ⟨i 0, i 1, by funext k; refine Fin.cases rfl (fun k => ?_) k; refine Fin.cases rfl (fun k => k.elim0) k⟩
  rw [row_eq r, col_eq j]
  refine (ref_dqn (bOf r) (hOf j) (fin6 m hp c) (qOf r) (dOf j)).trans ?_
  rw [R8_at m c (bOf r) (hOf j) (qOf r) (dOf j) _ rfl rfl, H_eq]

/-- Result 1: the reference's array is the kernel's. -/
theorem eq_9 (hp : @Pre_KernelIdeal_finite Cert.Pre_finite.pre_facts m) (c : Dev nD) :
    val_main_v85 (F := Ideal) (m (c.tc.loc main_arg0)) (m (c.tc.loc main_arg1)) (m (c.tc.loc main_arg2)) (m (c.tc.loc main_arg3)) (m (c.tc.loc main_arg4)) (m (c.tc.loc main_arg5)) = R9 m c := by
  funext i
  obtain ⟨r, j, rfl⟩ : ∃ (r : Fin 4352) (j : Fin 1024), i = ix2 r j :=
    ⟨i 0, i 1, by funext k; refine Fin.cases rfl (fun k => ?_) k; refine Fin.cases rfl (fun k => k.elim0) k⟩
  rw [row_eq r, col_eq j]
  refine (ref_dqp (bOf r) (hOf j) (fin6 m hp c) (qOf r) (dOf j)).trans ?_
  rw [R9_at m c (bOf r) (hOf j) (qOf r) (dOf j) _ rfl rfl, H_eq]

/-- Result 2: the reference's array is the kernel's. -/
theorem eq_10 (hp : @Pre_KernelIdeal_finite Cert.Pre_finite.pre_facts m) (c : Dev nD) :
    val_main_v87 (F := Ideal) (m (c.tc.loc main_arg0)) (m (c.tc.loc main_arg1)) (m (c.tc.loc main_arg2)) (m (c.tc.loc main_arg3)) (m (c.tc.loc main_arg4)) (m (c.tc.loc main_arg5)) = R10 m c := by
  funext i
  obtain ⟨r, j, rfl⟩ : ∃ (r : Fin 4352) (j : Fin 1024), i = ix2 r j :=
    ⟨i 0, i 1, by funext k; refine Fin.cases rfl (fun k => ?_) k; refine Fin.cases rfl (fun k => k.elim0) k⟩
  rw [row_eq r, col_eq j]
  refine (ref_dkn (bOf r) (hOf j) (fin6 m hp c) (qOf r) (dOf j)).trans ?_
  rw [R10_at m c (bOf r) (hOf j) (qOf r) (dOf j) _ rfl rfl, H_eq]

/-- Result 3: the reference's array is the kernel's. -/
theorem eq_11 (hp : @Pre_KernelIdeal_finite Cert.Pre_finite.pre_facts m) (c : Dev nD) :
    val_main_v83 (F := Ideal) (m (c.tc.loc main_arg0)) (m (c.tc.loc main_arg1)) (m (c.tc.loc main_arg2)) (m (c.tc.loc main_arg3)) (m (c.tc.loc main_arg4)) (m (c.tc.loc main_arg5)) = R11 m c := by
  funext i
  obtain ⟨r, j, rfl⟩ : ∃ (r : Fin 4352) (j : Fin 1024), i = ix2 r j :=
    ⟨i 0, i 1, by funext k; refine Fin.cases rfl (fun k => ?_) k; refine Fin.cases rfl (fun k => k.elim0) k⟩
  rw [row_eq r, col_eq j]
  refine (ref_dkp (bOf r) (hOf j) (fin6 m hp c) (qOf r) (dOf j)).trans ?_
  rw [R11_at m c (bOf r) (hOf j) (qOf r) (dOf j) _ rfl rfl, H_eq]

/-- Result 4: the reference's array is the kernel's. -/
theorem eq_12 (hp : @Pre_KernelIdeal_finite Cert.Pre_finite.pre_facts m) (c : Dev nD) :
    val_main_v88 (F := Ideal) (m (c.tc.loc main_arg0)) (m (c.tc.loc main_arg1)) (m (c.tc.loc main_arg2)) (m (c.tc.loc main_arg3)) (m (c.tc.loc main_arg5)) = R12 m c := by
  funext i
  obtain ⟨r, j, rfl⟩ : ∃ (r : Fin 4352) (j : Fin 1024), i = ix2 r j :=
    ⟨i 0, i 1, by funext k; refine Fin.cases rfl (fun k => ?_) k; refine Fin.cases rfl (fun k => k.elim0) k⟩
  rw [row_eq r, col_eq j]
  refine (ref_dv (bOf r) (hOf j) (fin6 m hp c) (qOf r) (dOf j)).trans ?_
  rw [R12_at m c (bOf r) (hOf j) (qOf r) (dOf j) _ rfl rfl, H_eq]

/-- What a run of the kernel leaves: its five results, and the arguments as they were. -/
theorem results (g : Dev nD → PrngReg) : θ_run defs (onTc (τ := τ) (main (F := Ideal))) ⟨m, fun _ => 0, g⟩ (fun r => ∀ c : Dev nD,
      r.2.mem ((c.tc : Thread nD τ).loc main_v70_0) = R8 m c
      ∧ r.2.mem ((c.tc : Thread nD τ).loc main_v70_1) = R9 m c
      ∧ r.2.mem ((c.tc : Thread nD τ).loc main_v70_2) = R10 m c
      ∧ r.2.mem ((c.tc : Thread nD τ).loc main_v70_3) = R11 m c
      ∧ r.2.mem ((c.tc : Thread nD τ).loc main_v70_4) = R12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => by
    have h8 := out_8 m h.1 c
    have h9 := out_9 m h.1 c
    have h10 := out_10 m h.1 c
    have h11 := out_11 m h.1 c
    have h12 := out_12 m h.1 c
    have ha := args_of m (rdats m) (A_eq m) h.1 c
    exact ⟨h8, h9, h10, h11, h12, ha⟩) (run_main m g)

/-- The kernel's results are the reference's. -/
theorem algebraic : @Cert.algebraic_KernelIdeal_ReferenceIdeal_pre_finite Cert.KernelIdeal.Gen.facts Cert.ReferenceIdeal.Gen.facts Cert.Pre_finite.pre_facts := by
  intro m g m' g' hp hm
  refine ⟨R8 m, R9 m, R10 m, R11 m, R12 m, ?_, ?_⟩
  · exact results m g
  · refine (θ_run _ _ _).mono (fun _ h c => ?_) (Cert.ReferenceIdeal.Value.run m' g')
    obtain ⟨h0, h1, h2, h3, h4, ha⟩ := h c
    obtain ⟨a0, a1, a2, a3, a4, a5⟩ := hm c
    refine ⟨h0.trans ?_, h1.trans ?_, h2.trans ?_, h3.trans ?_, h4.trans ?_, ha⟩
    · rw [val_main_v86_eq, a0, a1, a2, a3, a4, a5]
      exact eq_8 m hp c
    · rw [val_main_v85_eq, a0, a1, a2, a3, a4, a5]
      exact eq_9 m hp c
    · rw [val_main_v87_eq, a0, a1, a2, a3, a4, a5]
      exact eq_10 m hp c
    · rw [val_main_v83_eq, a0, a1, a2, a3, a4, a5]
      exact eq_11 m hp c
    · rw [val_main_v88_eq, a0, a1, a2, a3, a5]
      exact eq_12 m hp c

end Cert.KernelIdeal.Bwd

end
-- ==== Proof.Prod.Base.lean ====
module

public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Quiescent

@[expose] public section

/-! # Places of arrays of two and three axes, by their coordinates -/

namespace Cert.At

open Idealize.ShloMosaic Idealize.ShloMosaic.TcCoe

variable {a b d : ℕ}

theorem same {x : (⟨2, ![a, b]⟩ : Shape).Idx} {p : Fin a} {q : Fin b} (h0 : x 0 = p) (h1 : x 1 = q) : x = ix2 p q := by
  funext i; match i with | ⟨0, _⟩ => exact h0 | ⟨1, _⟩ => exact h1

theorem same3 {x : (⟨3, ![a, b, d]⟩ : Shape).Idx} {p : Fin a} {q : Fin b} {r : Fin d} (h0 : x 0 = p) (h1 : x 1 = q) (h2 : x 2 = r) :
    x = ix3 p q r := by
  funext i; match i with | ⟨0, _⟩ => exact h0 | ⟨1, _⟩ => exact h1 | ⟨2, _⟩ => exact h2

theorem two (x : (⟨2, ![a, b]⟩ : Shape).Idx) : ∃ p q, x = ix2 p q := ⟨x 0, x 1, same rfl rfl⟩

end Cert.At
-- ==== Proof.Prod.K2.lean ====
module

public import proofs.«01_k».proof.Proof.Prod.Base
public import proofs.«01_k».proof.Proof.Gen.Kernel2Ideal.Value
public import proofs.«01_k».proof.Proof.Gen.Reference2Ideal.Run
public import proofs.«01_k».proof.Proof.Gen.Reference2Ideal.Read

@[expose] public section

/-! # Kernel 2: the gradient of the MLP's hidden layer, through the square of its rectified values

Every point of the grid computes one tile: the product of its rows of the incoming gradient with its rows of the weight, times
twice the rectified hidden value. -/

noncomputable section

namespace Cert.Kernel2Ideal.Prod

open Cert.Kernel2Ideal Cert.Kernel2Ideal.Gen
open Idealize.ShloMosaic Idealize.ShloMosaic.TcCoe Idealize.ShloMosaic.Tactic Idealize.SL.Sem

variable (m : (ℓ : Loc nD τ sig) → Buf (Elt Ideal) ℓ)

/-- The point stores zero first. -/
theorem pay1 (j : S1088x1024.Idx) : k0_pay1 (F := Ideal) j = 0 := by
  obtain ⟨p, q, rfl⟩ := At.two j
  pointwise [k0_pay1]

/-- It then adds its two tiles' product. -/
theorem pay2 (s x : Vec Ideal S1088x1024 .f32) (y : Vec Ideal S1024x1024 .bf16) (j : S1088x1024.Idx) :
    k0_pay2 s x y j = s j + ∑ k : Fin 1024, x (ix2 (j 0) k) * y (ix2 (j 1) k) := by
  obtain ⟨p, q, rfl⟩ := At.two j
  pointwise [k0_pay2]

/-- The constants of the two programs. -/
theorem two_f32 : Ideal.ofBits FTy.f32 0x40000000#32 = (2 : EReal) := by
  simp [Ideal.ofBits, Ideal.ieee]
  rw [← EReal.coe_mul]
  norm_num
  rfl
theorem one_f32 : Ideal.ofBits FTy.f32 0x3F800000#32 = (1 : EReal) := by
  simp [Ideal.ofBits, Ideal.ieee]
  rw [← EReal.coe_mul]
  norm_num

/-- What it stores in the end is that sum times twice the rectified hidden value. -/
theorem pay3 (s : Vec Ideal S1088x1024 .f32) (z : Vec Ideal S1088x1024 .bf16) (j : S1088x1024.Idx) :
    k0_pay3 s z j = s j * 2 * max (z j) 0 := by
  obtain ⟨p, q, rfl⟩ := At.two j
  pointwise [k0_pay3]
  rw [two_f32]

/-- A tile of the result from the tiles of the three arguments. -/
def tile (x : Vec Ideal S1088x1024 .f32) (y : Vec Ideal S1024x1024 .bf16) (z : Vec Ideal S1088x1024 .bf16) (j : S1088x1024.Idx) : EReal :=
  (∑ k : Fin 1024, x (ix2 (j 0) k) * y (ix2 (j 1) k)) * 2 * max (z j) 0

/-- The tile a point leaves. -/
theorem out_eq (c : Dev nD) (t : Fin cfg0.N) (j : S1088x1024.Idx) :
    outsAt0 m c t j = tile (iblk m c 0 t) (iblk m c 1 t) (iblk m c 2 t) j := by
  unfold outsAt0
  frame_out
  rw [pay3, pay2, pay1, zero_add]
  rfl

/-- The tile of each array a point names. -/
theorem idx0 : ∀ t : Fin cfg0.N, win0_0.index t = ![t.val / 4, 0] := (by decide +kernel : ∀ t : Fin grid0.N, _)
theorem idx1 : ∀ t : Fin cfg0.N, win0_1.index t = ![t.val % 4, 0] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

/-- The incoming gradient. -/
abbrev Xa (c : Dev nD) : FVec Ideal S4352x1024 .f32 := m (c.tc.loc main_arg0)
/-- The weight. -/
abbrev Xb (c : Dev nD) : FVec Ideal S4096x1024 .bf16 := m (c.tc.loc main_arg1)
/-- The hidden layer before it is rectified. -/
abbrev Xc (c : Dev nD) : FVec Ideal S4352x4096 .bf16 := m (c.tc.loc main_arg2)

/-- A point's block of the incoming gradient, read in the whole array. -/
theorem blk0 (c : Dev nD) (t : Fin cfg0.N) (p : Fin 1088) (k : Fin 1024) (hp : t.val / 4 * 1088 + p.val < 4352) :
    iblk m c 0 t (ix2 p k) = Xa m c (ix2 ⟨t.val / 4 * 1088 + p.val, hp⟩ k) := by
  unfold Xa; rw [← V_main_arg0 m c]
  refine congrArg (V m c main_arg0 : FVec Ideal S4352x1024 .f32) (funext fun a => ?_)
  match a with
  | ⟨0, _⟩ | ⟨1, _⟩ => apply Fin.ext; blk_simp [idx0 t]

/-- A point's block of the weight, read in the whole array. -/
theorem blk1 (c : Dev nD) (t : Fin cfg0.N) (q k : Fin 1024) (hq : t.val % 4 * 1024 + q.val < 4096) :
    iblk m c 1 t (ix2 q k) = Xb m c (ix2 ⟨t.val % 4 * 1024 + q.val, hq⟩ k) := by
  unfold Xb; rw [← V_main_arg1 m c]
  refine congrArg (V m c main_arg1 : FVec Ideal S4096x1024 .bf16) (funext fun a => ?_)
  match a with
  | ⟨0, _⟩ | ⟨1, _⟩ => apply Fin.ext; blk_simp [idx1 t]

/-- A point's block of the hidden layer, read in the whole array. -/
theorem blk2 (c : Dev nD) (t : Fin cfg0.N) (p : Fin 1088) (q : Fin 1024) (hp : t.val / 4 * 1088 + p.val < 4352) (hq : t.val % 4 * 1024 + q.val < 4096) :
    iblk m c 2 t (ix2 p q) = Xc m c (ix2 ⟨t.val / 4 * 1088 + p.val, hp⟩ ⟨t.val % 4 * 1024 + q.val, hq⟩) := by
  unfold Xc; rw [← V_main_arg2 m c]
  refine congrArg (V m c main_arg2 : FVec Ideal S4352x4096 .bf16) (funext fun a => ?_)
  match a with
  | ⟨0, _⟩ | ⟨1, _⟩ => apply Fin.ext; blk_simp [idx2 t]

/-- The array the kernel leaves. -/
def G (c : Dev nD) : FVec Ideal S4352x4096 .bf16 := fun i =>
  (∑ k : Fin 1024, Xa m c (ix2 (i 0) k) * Xb m c (ix2 (i 1) k)) * 2 * max (Xc m c i) 0

theorem G_at (c : Dev nD) (p : Fin 4352) (q : Fin 4096) (i : S4352x4096.Idx) (e0 : i 0 = p) (e1 : i 1 = q) :
    G m c i = (∑ k : Fin 1024, Xa m c (ix2 p k) * Xb m c (ix2 q k)) * 2 * max (Xc m c (ix2 p q)) 0 := by
  subst e0; subst e1
  unfold G
  refine congrArg (fun x : EReal => _ * max x 0) (congrArg (Xc m c) (At.same rfl rfl))

/-- The array at the end of the run. -/
theorem arr_eq (c : Dev nD) : (dats m 0 c).arrAt 3 cfg0.N = G m c := by
  refine (dats m 0 c).arrAt_eq_of_covers 3 (G m c) (by decide +kernel) fun t hf y => ?_
  obtain ⟨p, q, rfl⟩ := At.two y
  have hN : cfg0.N = 16 := N_0
  have ht : t.val < 16 := lt_of_lt_of_eq t.isLt hN
  have hp : t.val / 4 * 1088 + p.val < 4352 := by omega
  have hq : t.val % 4 * 1024 + q.val < 4096 := by omega
  have e0 : (((win0_3.blk t).view.emb (ix2 p q)) 0 : Fin 4352) = ⟨t.val / 4 * 1088 + p.val, hp⟩ := by
    apply Fin.ext; blk_simp [idx3 t]
  have e1 : (((win0_3.blk t).view.emb (ix2 p q)) 1 : Fin 4096) = ⟨t.val % 4 * 1024 + q.val, hq⟩ := by
    apply Fin.ext; blk_simp [idx3 t]
  refine Eq.trans ?_ (G_at m c _ _ _ e0 e1).symm
  show (dats m 0 c).after 3 t (ix2 p q) = _
  rw [after0_3]
  refine (out_eq m c t (ix2 p q)).trans ?_
  unfold tile
  refine congrArg₂ (fun a b : EReal => a * 2 * max b 0) (Finset.sum_congr rfl fun k _ => ?_) (blk2 m c t p q hp hq)
  exact congrArg₂ (fun a b : EReal => a * b) (blk0 m c t p k hp) (blk1 m c t q k hq)

/-- Twice the rectified value, times the derivative the reference takes at it, is twice the rectified value. -/
theorem relu_grad (r u : EReal) :
    r * (Ideal.ofBits FTy.f32 0x40000000#32 * max u (Ideal.ofBits FTy.f32 0#32))
      * Scalar.select (Ideal.cmp .ogt u (Ideal.ofBits FTy.f32 0#32)) (Ideal.ofBits FTy.f32 0x3F800000#32)
          (Scalar.select (Ideal.cmp .oeq u (Ideal.ofBits FTy.f32 0#32)) (Ideal.ofBits FTy.f32 0x3F000000#32) (Ideal.ofBits FTy.f32 0#32))
      = r * 2 * max u 0 := by
  rw [two_f32, one_f32, Ideal.ofBits_zero_f32, ← mul_assoc]
  rcases lt_trichotomy u 0 with h | h | h
  · rw [max_eq_right h.le]; simp
  · subst h; simp
  · simp [Scalar.select, Ideal.cmp, h]

open Cert.Reference2Ideal.Read in
/-- The reference's array, element by element. -/
theorem ref_eq (x0 : FVec Ideal S4352x1024 .f32) (x1 : FVec Ideal S4096x1024 .bf16) (x2 : FVec Ideal S4352x4096 .bf16) (p : Fin 4352) (q : Fin 4096) :
    val_main_v20 (F := Ideal) x0 x1 x2 (ix2 p q) = (∑ k : Fin 1024, x0 (ix2 p k) * x1 (ix2 q k)) * 2 * max (x2 (ix2 p q)) 0 := by
  rw [val_main_v20_apply, val_main_v19_apply, val_main_v18_apply, val_main_v17_apply, val_main_v14_apply, val_main_v11_apply, val_main_v10_apply,
    val_main_v4_apply, val_main_v6_apply, val_main_v2_apply, val_main_v13_apply, val_main_v1_apply, val_main_v3_apply, val_main_v5_apply,
    val_main_v7_apply, val_main_v8_apply, val_main_v9_apply]
  have hs : (∑ k : Fin 1024, x0 (lidx_main_v17 (ix2 p q) k) * val_main_v15 (F := Ideal) x1 (ridx_main_v17 (ix2 p q) k)) = ∑ k : Fin 1024, x0 (ix2 p k) * x1 (ix2 q k) := by
    refine Finset.sum_congr rfl fun k _ => congrArg₂ (fun a b : EReal => a * b) ?_ ?_
    · exact congrArg x0 (At.same rfl rfl)
    · exact congrArg x1 (At.same rfl rfl)
  rw [hs]
  exact relu_grad _ _

/-- The reference leaves its arguments as they were; it has no semaphore at all. -/
theorem frame_ref : @Cert.quiescent_Reference2Ideal Cert.Reference2Ideal.Gen.facts := fun m g _ =>
  (θ_run _ _ _).mono (fun r h => ⟨fun c => (h c).2, sem_eq_zero_of_no_sems (by decide) r.2⟩) (Cert.Reference2Ideal.Value.run m g)

/-- From equal arguments the kernel and the reference end with equal results. -/
theorem algebraic : @Cert.algebraic_Kernel2Ideal_Reference2Ideal Cert.Kernel2Ideal.Gen.facts Cert.Reference2Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ?_) (Cert.Reference2Ideal.Value.run m' g')
  obtain ⟨h0, ha⟩ := h c
  obtain ⟨a0, a1, a2⟩ := hm c
  refine ⟨h0.trans ?_, ha⟩
  rw [Cert.Reference2Ideal.Read.val_main_v20_eq, a0, a1, a2]
  funext i
  obtain ⟨p, q, rfl⟩ := At.two i
  exact (ref_eq _ _ _ p q).trans (G_at m c p q _ rfl rfl).symm

end Cert.Kernel2Ideal.Prod

end
-- ==== Proof.Prod.K3.lean ====
module

public import proofs.«01_k».proof.Proof.Prod.Base
public import proofs.«01_k».proof.Proof.Gen.Kernel3Ideal.Value
public import proofs.«01_k».proof.Proof.Gen.Reference3Ideal.Run
public import proofs.«01_k».proof.Proof.Gen.Reference3Ideal.Read

@[expose] public section

/-! # Kernel 3: the gradient of the MLP's second weight

A product summed tile by tile over its long axis. The carried sum after the last of a run's 4 points is the sum of the
4 tiles' products, which is the product of the whole rows and columns. -/

noncomputable section

namespace Cert.Kernel3Ideal.Prod

open Cert.Kernel3Ideal Cert.Kernel3Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1024x1024.Idx) : k0_pay1 (F := Ideal) j = 0 := by
  obtain ⟨p, q, rfl⟩ := At.two j
  pointwise [k0_pay1]

/-- What a point adds to the carried sum: the product of its two tiles. -/
def part (x : Vec Ideal S1088x1024 .bf16) (y : Vec Ideal S1088x1024 .f32) (j : S1024x1024.Idx) : EReal :=
  ∑ k : Fin 1088, x (ix2 k (j 0)) * y (ix2 k (j 1))

/-- Every point adds its tiles' product. -/
theorem pay2 (s : Vec Ideal S1024x1024 .f32) (x : Vec Ideal S1088x1024 .bf16) (y : Vec Ideal S1088x1024 .f32) (j : S1024x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S1024x1024.Idx) :
    (outsAt0 m c t.val t.isLt).2 j = 0 + ∑ s : Fin 4, part (iblk m c 0 ⟨4 * (t.val / 4) + s.val, by have := t.isLt; have hN : cfg0.N = 16 := N_0; omega⟩)
      (iblk m c 1 ⟨4 * (t.val / 4) + s.val, by have := t.isLt; have hN : cfg0.N = 16 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out
  rfl

/-- The tile of operand 0 a point reads. -/
theorem idx0 : ∀ t : Fin cfg0.N, win0_0.index t = ![t.val % 4, t.val / 4] := (by decide +kernel : ∀ t : Fin grid0.N, _)

/-- The tile of operand 1 a point reads. -/
theorem idx1 : ∀ t : Fin cfg0.N, win0_1.index t = ![t.val % 4, 0] := (by decide +kernel : ∀ t : Fin grid0.N, _)

/-- The first operand. -/
abbrev Xa (c : Dev nD) : FVec Ideal S4352x4096 .bf16 := m (c.tc.loc main_arg0)
/-- The second operand. -/
abbrev Xb (c : Dev nD) : FVec Ideal S4352x1024 .f32 := m (c.tc.loc main_arg1)

/-- The block of operand 0 at a point, read in the whole operand. -/
theorem blk0 (c : Dev nD) (t : Fin cfg0.N) (k : Fin 1088) (p : Fin 1024) {K : Fin 4352} {P : Fin 4096} (hk : t.val % 4 * 1088 + k.val = K.val) (hp : t.val / 4 * 1024 + p.val = P.val) :
    iblk m c 0 t (ix2 k p) = Xa m c (ix2 K P) := by
  unfold Xa; rw [← V_main_arg0 m c]
  refine congrArg (V m c main_arg0 : FVec Ideal S4352x4096 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k : Fin 1088) (p : Fin 1024) {K : Fin 4352} {P : Fin 1024} (hk : t.val % 4 * 1088 + k.val = K.val) (hp : p.val = P.val) :
    iblk m c 1 t (ix2 k p) = Xb m c (ix2 K P) := by
  unfold Xb; rw [← V_main_arg1 m c]
  refine congrArg (V m c main_arg1 : FVec Ideal S4352x1024 .f32) (funext fun a => Fin.ext ?_)
  match a with
  | ⟨0, _⟩ | ⟨1, _⟩ => blk_simp [idx1 t] <;> omega

/-- The array the kernel leaves is the product of the two operands. -/
theorem G_eq (c : Dev nD) (p : Fin 4096) (q : Fin 1024) :
    (Value.G2 m c : FVec Ideal S4096x1024 .bf16) (ix2 p q) = ∑ k : Fin 4352, Xa m c (ix2 k p) * Xb m c (ix2 k q) := by
  have e : Value.pt2Of (ix2 p q) = 4 * (1 * (p.val / 1024 - 0) + 1 * (q.val / 1024 - 0)) + 3 := rfl
  have ht : Value.pt2Of (ix2 p q) < cfg0.N := by rw [show cfg0.N = 16 from N_0]; omega
  unfold Value.G2
  rw [dif_pos ht, ← Value.outsAt0_sweep m c _ ht]
  have h3 : Value.pt2Of (ix2 p q) % 4 = 3 := by omega
  have h4 : Value.pt2Of (ix2 p q) / 4 = p.val / 1024 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1088 + k.val = s.val * 1088 + k.val by omega) (show (4 * (n / 4) + s.val) / 4 * 1024 + p.val % 1024 = p.val by omega))
    (blk1 m c _ k _ (show (4 * (n / 4) + s.val) % 4 * 1088 + k.val = s.val * 1088 + k.val by omega) (show q.val % 1024 = q.val by omega))

open Cert.Reference3Ideal.Read in
/-- The reference's array is the same product. -/
theorem ref_eq (x0 : FVec Ideal S4352x4096 .bf16) (x1 : FVec Ideal S4352x1024 .f32) (p : Fin 4096) (q : Fin 1024) :
    val_main_v5 (F := Ideal) x0 x1 (ix2 p q) = ∑ k : Fin 4352, x0 (ix2 k p) * x1 (ix2 k q) := by
  rw [val_main_v5_apply]
  show val_main_v4 (F := Ideal) x0 x1 (ix2 p q) = _
  rw [val_main_v4_apply, val_main_v3_apply]
  refine Finset.sum_congr rfl fun k _ => (mul_comm _ _).trans (congrArg₂ (fun a b : EReal => a * b) ?_ ?_)
  · exact congrArg x0 (At.same rfl rfl)
  · exact (congrArg x1 (At.same rfl rfl))

/-- The reference leaves its arguments as they were; it has no semaphore at all. -/
theorem frame_ref : @Cert.quiescent_Reference3Ideal Cert.Reference3Ideal.Gen.facts := fun m g _ =>
  (θ_run _ _ _).mono (fun r h => ⟨fun c => (h c).2, sem_eq_zero_of_no_sems (by decide) r.2⟩) (Cert.Reference3Ideal.Value.run m g)

/-- From equal arguments the kernel and the reference end with equal results. -/
theorem algebraic : @Cert.algebraic_Kernel3Ideal_Reference3Ideal Cert.Kernel3Ideal.Gen.facts Cert.Reference3Ideal.Gen.facts := by
  intro m g m' g' hp hm
  refine ⟨Value.G2 m, Value.run m g, ?_⟩
  refine (θ_run _ _ _).mono (fun _ h c => ?_) (Cert.Reference3Ideal.Value.run m' g')
  obtain ⟨h0, ha⟩ := h c
  obtain ⟨a0, a1⟩ := hm c
  refine ⟨h0.trans ?_, ha⟩
  rw [Cert.Reference3Ideal.Read.val_main_v5_eq, a0, a1]
  funext i
  obtain ⟨p, q, rfl⟩ := At.two i
  exact (ref_eq _ _ p q).trans (G_eq m c p q).symm

end Cert.Kernel3Ideal.Prod

end
-- ==== Proof.Prod.K4.lean ====
module

public import proofs.«01_k».proof.Proof.Prod.Base
public import proofs.«01_k».proof.Proof.Gen.Kernel4Ideal.Value
public import proofs.«01_k».proof.Proof.Gen.Reference4Ideal.Run
public import proofs.«01_k».proof.Proof.Gen.Reference4Ideal.Read

@[expose] public section

/-! # Kernel 4: the gradient of the MLP's first weight

A product summed tile by tile over its long axis. The carried sum after the last of a run's 4 points is the sum of the
4 tiles' products, which is the product of the whole rows and columns. -/

noncomputable section

namespace Cert.Kernel4Ideal.Prod

open Cert.Kernel4Ideal Cert.Kernel4Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1024x1024.Idx) : k0_pay1 (F := Ideal) j = 0 := by
  obtain ⟨p, q, rfl⟩ := At.two j
  pointwise [k0_pay1]

/-- What a point adds to the carried sum: the product of its two tiles. -/
def part (x y : Vec Ideal S1088x1024 .bf16) (j : S1024x1024.Idx) : EReal :=
  ∑ k : Fin 1088, x (ix2 k (j 0)) * y (ix2 k (j 1))

/-- Every point adds its tiles' product. -/
theorem pay2 (s : Vec Ideal S1024x1024 .f32) (x y : Vec Ideal S1088x1024 .bf16) (j : S1024x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S1024x1024.Idx) :
    (outsAt0 m c t.val t.isLt).2 j = 0 + ∑ s : Fin 4, part (iblk m c 0 ⟨4 * (t.val / 4) + s.val, by have := t.isLt; have hN : cfg0.N = 16 := N_0; omega⟩)
      (iblk m c 1 ⟨4 * (t.val / 4) + s.val, by have := t.isLt; have hN : cfg0.N = 16 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out
  rfl

/-- The tile of operand 0 a point reads. -/
theorem idx0 : ∀ t : Fin cfg0.N, win0_0.index t = ![t.val % 4, 0] := (by decide +kernel : ∀ t : Fin grid0.N, _)

/-- The tile of operand 1 a point reads. -/
theorem idx1 : ∀ t : Fin cfg0.N, win0_1.index t = ![t.val % 4, t.val / 4] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S4352x4096 .bf16 := m (c.tc.loc main_arg1)

/-- The block of operand 0 at a point, read in the whole operand. -/
theorem blk0 (c : Dev nD) (t : Fin cfg0.N) (k : Fin 1088) (p : Fin 1024) {K : Fin 4352} {P : Fin 1024} (hk : t.val % 4 * 1088 + k.val = K.val) (hp : p.val = P.val) :
    iblk m c 0 t (ix2 k p) = Xa m c (ix2 K P) := by
  unfold Xa; rw [← V_main_arg0 m c]
  refine congrArg (V m c main_arg0 : FVec Ideal S4352x1024 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k : Fin 1088) (p : Fin 1024) {K : Fin 4352} {P : Fin 4096} (hk : t.val % 4 * 1088 + k.val = K.val) (hp : t.val / 4 * 1024 + p.val = P.val) :
    iblk m c 1 t (ix2 k p) = Xb m c (ix2 K P) := by
  unfold Xb; rw [← V_main_arg1 m c]
  refine congrArg (V m c main_arg1 : FVec Ideal S4352x4096 .bf16) (funext fun a => Fin.ext ?_)
  match a with
  | ⟨0, _⟩ | ⟨1, _⟩ => blk_simp [idx1 t] <;> omega

/-- The array the kernel leaves is the product of the two operands. -/
theorem G_eq (c : Dev nD) (p : Fin 1024) (q : Fin 4096) :
    (Value.G2 m c : FVec Ideal S1024x4096 .bf16) (ix2 p q) = ∑ k : Fin 4352, Xa m c (ix2 k p) * Xb m c (ix2 k q) := by
  have e : Value.pt2Of (ix2 p q) = 4 * (4 * (p.val / 1024 - 0) + 1 * (q.val / 1024 - 0)) + 3 := rfl
  have ht : Value.pt2Of (ix2 p q) < cfg0.N := by rw [show cfg0.N = 16 from N_0]; omega
  unfold Value.G2
  rw [dif_pos ht, ← Value.outsAt0_sweep m c _ ht]
  have h3 : Value.pt2Of (ix2 p q) % 4 = 3 := by omega
  have h4 : Value.pt2Of (ix2 p q) / 4 = q.val / 1024 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1088 + k.val = s.val * 1088 + k.val by omega) (show p.val % 1024 = p.val by omega))
    (blk1 m c _ k _ (show (4 * (n / 4) + s.val) % 4 * 1088 + k.val = s.val * 1088 + k.val by omega) (show (4 * (n / 4) + s.val) / 4 * 1024 + q.val % 1024 = q.val by omega))

open Cert.Reference4Ideal.Read in
/-- The reference's array is the same product. -/
theorem ref_eq (x0 : FVec Ideal S4352x1024 .bf16) (x1 : FVec Ideal S4352x4096 .bf16) (p : Fin 1024) (q : Fin 4096) :
    val_main_v6 (F := Ideal) x0 x1 (ix2 p q) = ∑ k : Fin 4352, x0 (ix2 k p) * x1 (ix2 k q) := by
  rw [val_main_v6_apply]
  show val_main_v5 (F := Ideal) x0 x1 (ix2 p q) = _
  rw [val_main_v5_apply, val_main_v4_apply]
  refine Finset.sum_congr rfl fun k _ => (mul_comm _ _).trans (congrArg₂ (fun a b : EReal => a * b) ?_ ?_)
  · exact congrArg x0 (At.same rfl rfl)
  · exact (congrArg x1 (At.same rfl rfl))

/-- The reference leaves its arguments as they were; it has no semaphore at all. -/
theorem frame_ref : @Cert.quiescent_Reference4Ideal Cert.Reference4Ideal.Gen.facts := fun m g _ =>
  (θ_run _ _ _).mono (fun r h => ⟨fun c => (h c).2, sem_eq_zero_of_no_sems (by decide) r.2⟩) (Cert.Reference4Ideal.Value.run m g)

/-- From equal arguments the kernel and the reference end with equal results. -/
theorem algebraic : @Cert.algebraic_Kernel4Ideal_Reference4Ideal Cert.Kernel4Ideal.Gen.facts Cert.Reference4Ideal.Gen.facts := by
  intro m g m' g' hp hm
  refine ⟨Value.G2 m, Value.run m g, ?_⟩
  refine (θ_run _ _ _).mono (fun _ h c => ?_) (Cert.Reference4Ideal.Value.run m' g')
  obtain ⟨h0, ha⟩ := h c
  obtain ⟨a0, a1⟩ := hm c
  refine ⟨h0.trans ?_, ha⟩
  rw [Cert.Reference4Ideal.Read.val_main_v6_eq, a0, a1]
  funext i
  obtain ⟨p, q, rfl⟩ := At.two i
  exact (ref_eq _ _ p q).trans (G_eq m c p q).symm

end Cert.Kernel4Ideal.Prod

end
-- ==== Proof.Prod.K5.lean ====
module

public import proofs.«01_k».proof.Proof.Prod.Base
public import proofs.«01_k».proof.Proof.Gen.Kernel5Ideal.Value
public import proofs.«01_k».proof.Proof.Gen.Reference5Ideal.Run
public import proofs.«01_k».proof.Proof.Gen.Reference5Ideal.Read

@[expose] public section

/-! # Kernel 5: the gradient of the MLP's input

A product summed tile by tile over its long axis. The carried sum after the last of a run's 4 points is the sum of the
4 tiles' products, which is the product of the whole rows and columns. -/

noncomputable section

namespace Cert.Kernel5Ideal.Prod

open Cert.Kernel5Ideal Cert.Kernel5Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1088x1024.Idx) : k0_pay1 (F := Ideal) j = 0 := by
  obtain ⟨p, q, rfl⟩ := At.two j
  pointwise [k0_pay1]

/-- What a point adds to the carried sum: the product of its two tiles. -/
def part (x : Vec Ideal S1088x1024 .bf16) (y : Vec Ideal S1024x1024 .bf16) (j : S1088x1024.Idx) : EReal :=
  ∑ k : Fin 1024, x (ix2 (j 0) k) * y (ix2 (j 1) k)

/-- Every point adds its tiles' product. -/
theorem pay2 (s : Vec Ideal S1088x1024 .f32) (x : Vec Ideal S1088x1024 .bf16) (y : Vec Ideal S1024x1024 .bf16) (j : S1088x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S1088x1024.Idx) :
    (outsAt0 m c t.val t.isLt).2 j = 0 + ∑ s : Fin 4, part (iblk m c 0 ⟨4 * (t.val / 4) + s.val, by have := t.isLt; have hN : cfg0.N = 16 := N_0; omega⟩)
      (iblk m c 1 ⟨4 * (t.val / 4) + s.val, by have := t.isLt; have hN : cfg0.N = 16 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S1088x1024.Idx) :
    (outsAt0 m c t.val t.isLt).1 j = (outsAt0 m c t.val t.isLt).2 j := by
  rw [outsAt0_C m c t (by omega) h]
  frame_out

/-- The tile of operand 0 a point reads. -/
theorem idx0 : ∀ t : Fin cfg0.N, win0_0.index t = ![t.val / 4, t.val % 4] := (by decide +kernel : ∀ t : Fin grid0.N, _)

/-- The tile of operand 1 a point reads. -/
theorem idx1 : ∀ t : Fin cfg0.N, win0_1.index t = ![0, t.val % 4] := (by decide +kernel : ∀ t : Fin grid0.N, _)

/-- The first operand. -/
abbrev Xa (c : Dev nD) : FVec Ideal S4352x4096 .bf16 := m (c.tc.loc main_arg0)
/-- The second operand. -/
abbrev Xb (c : Dev nD) : FVec Ideal S1024x4096 .bf16 := m (c.tc.loc main_arg1)

/-- The block of operand 0 at a point, read in the whole operand. -/
theorem blk0 (c : Dev nD) (t : Fin cfg0.N) (k : Fin 1024) (p : Fin 1088) {K : Fin 4096} {P : Fin 4352} (hk : t.val % 4 * 1024 + k.val = K.val) (hp : t.val / 4 * 1088 + p.val = P.val) :
    iblk m c 0 t (ix2 p k) = Xa m c (ix2 P K) := by
  unfold Xa; rw [← V_main_arg0 m c]
  refine congrArg (V m c main_arg0 : FVec Ideal S4352x4096 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k p : Fin 1024) {K : Fin 4096} {P : Fin 1024} (hk : t.val % 4 * 1024 + k.val = K.val) (hp : p.val = P.val) :
    iblk m c 1 t (ix2 p k) = Xb m c (ix2 P K) := by
  unfold Xb; rw [← V_main_arg1 m c]
  refine congrArg (V m c main_arg1 : FVec Ideal S1024x4096 .bf16) (funext fun a => Fin.ext ?_)
  match a with
  | ⟨0, _⟩ | ⟨1, _⟩ => blk_simp [idx1 t] <;> omega

/-- The array the kernel leaves is the product of the two operands. -/
theorem G_eq (c : Dev nD) (p : Fin 4352) (q : Fin 1024) :
    (Value.G2 m c : FVec Ideal S4352x1024 .f32) (ix2 p q) = ∑ k : Fin 4096, Xa m c (ix2 p k) * Xb m c (ix2 q k) := by
  have e : Value.pt2Of (ix2 p q) = 4 * (1 * (p.val / 1088 - 0) + 1 * (q.val / 1024 - 0)) + 3 := rfl
  have ht : Value.pt2Of (ix2 p q) < cfg0.N := by rw [show cfg0.N = 16 from N_0]; omega
  unfold Value.G2
  rw [dif_pos ht, ← Value.outsAt0_sweep m c _ ht]
  have h3 : Value.pt2Of (ix2 p q) % 4 = 3 := by omega
  have h4 : Value.pt2Of (ix2 p q) / 4 = p.val / 1088 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1024 + k.val = s.val * 1024 + k.val by omega) (show (4 * (n / 4) + s.val) / 4 * 1088 + p.val % 1088 = p.val by omega))
    (blk1 m c _ k _ (show (4 * (n / 4) + s.val) % 4 * 1024 + k.val = s.val * 1024 + k.val by omega) (show q.val % 1024 = q.val by omega))

open Cert.Reference5Ideal.Read in
/-- The reference's array is the same product. -/
theorem ref_eq (x0 : FVec Ideal S4352x4096 .bf16) (x1 : FVec Ideal S1024x4096 .bf16) (p : Fin 4352) (q : Fin 1024) :
    val_main_v4 (F := Ideal) x0 x1 (ix2 p q) = ∑ k : Fin 4096, x0 (ix2 p k) * x1 (ix2 q k) := by
  rw [val_main_v4_apply]
  refine Finset.sum_congr rfl fun k _ => congrArg₂ (fun a b : EReal => a * b) ?_ ?_
  · exact congrArg x0 (At.same rfl rfl)
  · exact (congrArg x1 (At.same rfl rfl))

/-- The reference leaves its arguments as they were; it has no semaphore at all. -/
theorem frame_ref : @Cert.quiescent_Reference5Ideal Cert.Reference5Ideal.Gen.facts := fun m g _ =>
  (θ_run _ _ _).mono (fun r h => ⟨fun c => (h c).2, sem_eq_zero_of_no_sems (by decide) r.2⟩) (Cert.Reference5Ideal.Value.run m g)

/-- From equal arguments the kernel and the reference end with equal results. -/
theorem algebraic : @Cert.algebraic_Kernel5Ideal_Reference5Ideal Cert.Kernel5Ideal.Gen.facts Cert.Reference5Ideal.Gen.facts := by
  intro m g m' g' hp hm
  refine ⟨Value.G2 m, Value.run m g, ?_⟩
  refine (θ_run _ _ _).mono (fun _ h c => ?_) (Cert.Reference5Ideal.Value.run m' g')
  obtain ⟨h0, ha⟩ := h c
  obtain ⟨a0, a1⟩ := hm c
  refine ⟨h0.trans ?_, ha⟩
  rw [Cert.Reference5Ideal.Read.val_main_v4_eq, a0, a1]
  funext i
  obtain ⟨p, q, rfl⟩ := At.two i
  exact (ref_eq _ _ p q).trans (G_eq m c p q).symm

end Cert.Kernel5Ideal.Prod

end
-- ==== Proof.Prod.K6.lean ====
module

public import proofs.«01_k».proof.Proof.Prod.Base
public import proofs.«01_k».proof.Proof.Gen.Kernel6Ideal.Value
public import proofs.«01_k».proof.Proof.Gen.Reference6Ideal.Run
public import proofs.«01_k».proof.Proof.Gen.Reference6Ideal.Read

@[expose] public section

/-! # Kernel 6: the gradient of the input projection's weight

A product summed tile by tile over its long axis. The carried sum after the last of a run's 4 points is the sum of the
4 tiles' products, which is the product of the whole rows and columns. -/

noncomputable section

namespace Cert.Kernel6Ideal.Prod

open Cert.Kernel6Ideal Cert.Kernel6Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1024x1024.Idx) : k0_pay1 (F := Ideal) j = 0 := by
  obtain ⟨p, q, rfl⟩ := At.two j
  pointwise [k0_pay1]

/-- What a point adds to the carried sum: the product of its two tiles. -/
def part (x y : Vec Ideal S1088x1024 .bf16) (j : S1024x1024.Idx) : EReal :=
  ∑ k : Fin 1088, x (ix2 k (j 0)) * y (ix2 k (j 1))

/-- Every point adds its tiles' product. -/
theorem pay2 (s : Vec Ideal S1024x1024 .f32) (x y : Vec Ideal S1088x1024 .bf16) (j : S1024x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S1024x1024.Idx) :
    (outsAt0 m c t.val t.isLt).2 j = 0 + ∑ s : Fin 4, part (iblk m c 0 ⟨4 * (t.val / 4) + s.val, by have := t.isLt; have hN : cfg0.N = 32 := N_0; omega⟩)
      (iblk m c 1 ⟨4 * (t.val / 4) + s.val, by have := t.isLt; have hN : cfg0.N = 32 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out
  rfl

/-- The tile of operand 0 a point reads. -/
theorem idx0 : ∀ t : Fin cfg0.N, win0_0.index t = ![t.val % 4, t.val / 4] := (by decide +kernel : ∀ t : Fin grid0.N, _)

/-- The tile of operand 1 a point reads. -/
theorem idx1 : ∀ t : Fin cfg0.N, win0_1.index t = ![t.val % 4, 0] := (by decide +kernel : ∀ t : Fin grid0.N, _)

/-- The first operand. -/
abbrev Xa (c : Dev nD) : FVec Ideal S4352x8192 .bf16 := m (c.tc.loc main_arg0)
/-- The second operand. -/
abbrev Xb (c : Dev nD) : FVec Ideal S4352x1024 .bf16 := m (c.tc.loc main_arg1)

/-- The block of operand 0 at a point, read in the whole operand. -/
theorem blk0 (c : Dev nD) (t : Fin cfg0.N) (k : Fin 1088) (p : Fin 1024) {K : Fin 4352} {P : Fin 8192} (hk : t.val % 4 * 1088 + k.val = K.val) (hp : t.val / 4 * 1024 + p.val = P.val) :
    iblk m c 0 t (ix2 k p) = Xa m c (ix2 K P) := by
  unfold Xa; rw [← V_main_arg0 m c]
  refine congrArg (V m c main_arg0 : FVec Ideal S4352x8192 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k : Fin 1088) (p : Fin 1024) {K : Fin 4352} {P : Fin 1024} (hk : t.val % 4 * 1088 + k.val = K.val) (hp : p.val = P.val) :
    iblk m c 1 t (ix2 k p) = Xb m c (ix2 K P) := by
  unfold Xb; rw [← V_main_arg1 m c]
  refine congrArg (V m c main_arg1 : FVec Ideal S4352x1024 .bf16) (funext fun a => Fin.ext ?_)
  match a with
  | ⟨0, _⟩ | ⟨1, _⟩ => blk_simp [idx1 t] <;> omega

/-- The array the kernel leaves is the product of the two operands. -/
theorem G_eq (c : Dev nD) (p : Fin 8192) (q : Fin 1024) :
    (Value.G2 m c : FVec Ideal S8192x1024 .bf16) (ix2 p q) = ∑ k : Fin 4352, Xa m c (ix2 k p) * Xb m c (ix2 k q) := by
  have e : Value.pt2Of (ix2 p q) = 4 * (1 * (p.val / 1024 - 0) + 1 * (q.val / 1024 - 0)) + 3 := rfl
  have ht : Value.pt2Of (ix2 p q) < cfg0.N := by rw [show cfg0.N = 32 from N_0]; omega
  unfold Value.G2
  rw [dif_pos ht, ← Value.outsAt0_sweep m c _ ht]
  have h3 : Value.pt2Of (ix2 p q) % 4 = 3 := by omega
  have h4 : Value.pt2Of (ix2 p q) / 4 = p.val / 1024 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1088 + k.val = s.val * 1088 + k.val by omega) (show (4 * (n / 4) + s.val) / 4 * 1024 + p.val % 1024 = p.val by omega))
    (blk1 m c _ k _ (show (4 * (n / 4) + s.val) % 4 * 1088 + k.val = s.val * 1088 + k.val by omega) (show q.val % 1024 = q.val by omega))

open Cert.Reference6Ideal.Read in
/-- The reference's array is the same product. -/
theorem ref_eq (x0 : FVec Ideal S4352x8192 .bf16) (x1 : FVec Ideal S4352x1024 .bf16) (p : Fin 8192) (q : Fin 1024) :
    val_main_v8 (F := Ideal) x0 x1 (ix2 p q) = ∑ k : Fin 4352, x0 (ix2 k p) * x1 (ix2 k q) := by
  rw [val_main_v8_apply]
  show val_main_v7 (F := Ideal) x0 x1 (ix2 p q) = _
  rw [val_main_v7_apply, val_main_v6_apply, val_main_v5_apply]
  refine Finset.sum_congr rfl fun k _ => congrArg₂ (fun a b : EReal => a * b) ?_ ?_
  · exact congrArg x0 (At.same rfl rfl)
  · exact (congrArg x1 (At.same rfl rfl))

/-- The reference leaves its arguments as they were; it has no semaphore at all. -/
theorem frame_ref : @Cert.quiescent_Reference6Ideal Cert.Reference6Ideal.Gen.facts := fun m g _ =>
  (θ_run _ _ _).mono (fun r h => ⟨fun c => (h c).2, sem_eq_zero_of_no_sems (by decide) r.2⟩) (Cert.Reference6Ideal.Value.run m g)

/-- From equal arguments the kernel and the reference end with equal results. -/
theorem algebraic : @Cert.algebraic_Kernel6Ideal_Reference6Ideal Cert.Kernel6Ideal.Gen.facts Cert.Reference6Ideal.Gen.facts := by
  intro m g m' g' hp hm
  refine ⟨Value.G2 m, Value.run m g, ?_⟩
  refine (θ_run _ _ _).mono (fun _ h c => ?_) (Cert.Reference6Ideal.Value.run m' g')
  obtain ⟨h0, ha⟩ := h c
  obtain ⟨a0, a1⟩ := hm c
  refine ⟨h0.trans ?_, ha⟩
  rw [Cert.Reference6Ideal.Read.val_main_v8_eq, a0, a1]
  funext i
  obtain ⟨p, q, rfl⟩ := At.two i
  exact (ref_eq _ _ p q).trans (G_eq m c p q).symm

end Cert.Kernel6Ideal.Prod

end
-- ==== Proof.Prod.K7.lean ====
module

public import proofs.«01_k».proof.Proof.Prod.Base
public import proofs.«01_k».proof.Proof.Gen.Kernel7Ideal.Value
public import proofs.«01_k».proof.Proof.Gen.Reference7Ideal.Run
public import proofs.«01_k».proof.Proof.Gen.Reference7Ideal.Read

@[expose] public section

/-! # Kernel 7: the gradient of the input projection's input

A product summed tile by tile over its long axis. The carried sum after the last of a run's 8 points is the sum of the
8 tiles' products, which is the product of the whole rows and columns. -/

noncomputable section

namespace Cert.Kernel7Ideal.Prod

open Cert.Kernel7Ideal Cert.Kernel7Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1088x1024.Idx) : k0_pay1 (F := Ideal) j = 0 := by
  obtain ⟨p, q, rfl⟩ := At.two j
  pointwise [k0_pay1]

/-- What a point adds to the carried sum: the product of its two tiles. -/
def part (x : Vec Ideal S1088x1024 .bf16) (y : Vec Ideal S1024x1024 .bf16) (j : S1088x1024.Idx) : EReal :=
  ∑ k : Fin 1024, x (ix2 (j 0) k) * y (ix2 k (j 1))

/-- Every point adds its tiles' product. -/
theorem pay2 (s : Vec Ideal S1088x1024 .f32) (x : Vec Ideal S1088x1024 .bf16) (y : Vec Ideal S1024x1024 .bf16) (j : S1088x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 8 = 7) (j : S1088x1024.Idx) :
    (outsAt0 m c t.val t.isLt).2 j = 0 + ∑ s : Fin 8, part (iblk m c 0 ⟨8 * (t.val / 8) + s.val, by have := t.isLt; have hN : cfg0.N = 32 := N_0; omega⟩)
      (iblk m c 1 ⟨8 * (t.val / 8) + s.val, by have := t.isLt; have hN : cfg0.N = 32 := N_0; omega⟩) j := by
  refine Pipeline.eq_sum_fin_of_reset_step_apply_of_flush (fun n h => (outsAt0 m c n h).2) 8 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 8 = 7
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 8 = 7) (j : S1088x1024.Idx) :
    (outsAt0 m c t.val t.isLt).1 j = (outsAt0 m c t.val t.isLt).2 j := by
  rw [outsAt0_C m c t (by omega) h]
  frame_out

/-- The tile of operand 0 a point reads. -/
theorem idx0 : ∀ t : Fin cfg0.N, win0_0.index t = ![t.val / 8, t.val % 8] := (by decide +kernel : ∀ t : Fin grid0.N, _)

/-- The tile of operand 1 a point reads. -/
theorem idx1 : ∀ t : Fin cfg0.N, win0_1.index t = ![t.val % 8, 0] := (by decide +kernel : ∀ t : Fin grid0.N, _)

/-- The first operand. -/
abbrev Xa (c : Dev nD) : FVec Ideal S4352x8192 .bf16 := m (c.tc.loc main_arg0)
/-- The second operand. -/
abbrev Xb (c : Dev nD) : FVec Ideal S8192x1024 .bf16 := m (c.tc.loc main_arg1)

/-- The block of operand 0 at a point, read in the whole operand. -/
theorem blk0 (c : Dev nD) (t : Fin cfg0.N) (k : Fin 1024) (p : Fin 1088) {K : Fin 8192} {P : Fin 4352} (hk : t.val % 8 * 1024 + k.val = K.val) (hp : t.val / 8 * 1088 + p.val = P.val) :
    iblk m c 0 t (ix2 p k) = Xa m c (ix2 P K) := by
  unfold Xa; rw [← V_main_arg0 m c]
  refine congrArg (V m c main_arg0 : FVec Ideal S4352x8192 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k p : Fin 1024) {K : Fin 8192} {P : Fin 1024} (hk : t.val % 8 * 1024 + k.val = K.val) (hp : p.val = P.val) :
    iblk m c 1 t (ix2 k p) = Xb m c (ix2 K P) := by
  unfold Xb; rw [← V_main_arg1 m c]
  refine congrArg (V m c main_arg1 : FVec Ideal S8192x1024 .bf16) (funext fun a => Fin.ext ?_)
  match a with
  | ⟨0, _⟩ | ⟨1, _⟩ => blk_simp [idx1 t] <;> omega

/-- The array the kernel leaves is the product of the two operands. -/
theorem G_eq (c : Dev nD) (p : Fin 4352) (q : Fin 1024) :
    (Value.G2 m c : FVec Ideal S4352x1024 .f32) (ix2 p q) = ∑ k : Fin 8192, Xa m c (ix2 p k) * Xb m c (ix2 k q) := by
  have e : Value.pt2Of (ix2 p q) = 8 * (1 * (p.val / 1088 - 0) + 1 * (q.val / 1024 - 0)) + 7 := rfl
  have ht : Value.pt2Of (ix2 p q) < cfg0.N := by rw [show cfg0.N = 32 from N_0]; omega
  unfold Value.G2
  rw [dif_pos ht, ← Value.outsAt0_sweep m c _ ht]
  have h3 : Value.pt2Of (ix2 p q) % 8 = 7 := by omega
  have h4 : Value.pt2Of (ix2 p q) / 8 = p.val / 1088 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (8 * (n / 8) + s.val) % 8 * 1024 + k.val = s.val * 1024 + k.val by omega) (show (8 * (n / 8) + s.val) / 8 * 1088 + p.val % 1088 = p.val by omega))
    (blk1 m c _ k _ (show (8 * (n / 8) + s.val) % 8 * 1024 + k.val = s.val * 1024 + k.val by omega) (show q.val % 1024 = q.val by omega))

open Cert.Reference7Ideal.Read in
/-- The reference's array is the same product. -/
theorem ref_eq (x0 : FVec Ideal S4352x8192 .bf16) (x1 : FVec Ideal S8192x1024 .bf16) (p : Fin 4352) (q : Fin 1024) :
    val_main_v5 (F := Ideal) x0 x1 (ix2 p q) = ∑ k : Fin 8192, x0 (ix2 p k) * x1 (ix2 k q) := by
  rw [val_main_v5_apply]
  refine Finset.sum_congr rfl fun k _ => congrArg₂ (fun a b : EReal => a * b) ?_ ?_
  · exact congrArg x0 (At.same rfl rfl)
  · exact (val_main_v2_apply _ _).trans (congrArg x1 (At.same rfl rfl))

/-- The reference leaves its arguments as they were; it has no semaphore at all. -/
theorem frame_ref : @Cert.quiescent_Reference7Ideal Cert.Reference7Ideal.Gen.facts := fun m g _ =>
  (θ_run _ _ _).mono (fun r h => ⟨fun c => (h c).2, sem_eq_zero_of_no_sems (by decide) r.2⟩) (Cert.Reference7Ideal.Value.run m g)

/-- From equal arguments the kernel and the reference end with equal results. -/
theorem algebraic : @Cert.algebraic_Kernel7Ideal_Reference7Ideal Cert.Kernel7Ideal.Gen.facts Cert.Reference7Ideal.Gen.facts := by
  intro m g m' g' hp hm
  refine ⟨Value.G2 m, Value.run m g, ?_⟩
  refine (θ_run _ _ _).mono (fun _ h c => ?_) (Cert.Reference7Ideal.Value.run m' g')
  obtain ⟨h0, ha⟩ := h c
  obtain ⟨a0, a1⟩ := hm c
  refine ⟨h0.trans ?_, ha⟩
  rw [Cert.Reference7Ideal.Read.val_main_v5_eq, a0, a1]
  funext i
  obtain ⟨p, q, rfl⟩ := At.two i
  exact (ref_eq _ _ p q).trans (G_eq m c p q).symm

end Cert.Kernel7Ideal.Prod

end
-- ==== Proof.Prod.K8.lean ====
module

public import proofs.«01_k».proof.Proof.Prod.Base
public import proofs.«01_k».proof.Proof.Gen.Kernel8Ideal.Value
public import proofs.«01_k».proof.Proof.Gen.Reference8Ideal.Run
public import proofs.«01_k».proof.Proof.Gen.Reference8Ideal.Read

@[expose] public section

/-! # Kernel 8: the gradient of the output projection's input

Every point of the grid computes one tile: the product of its rows of the first operand with the rows of the second. -/

noncomputable section

namespace Cert.Kernel8Ideal.Prod

open Cert.Kernel8Ideal Cert.Kernel8Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x1024 .f32) (y : Vec Ideal S1024x1024 .bf16) (p : Fin 1088) (q : Fin 1024) : EReal :=
  ∑ k : Fin 1024, x (ix2 p k) * y (ix2 q k)

/-- A point sets its sum to zero and adds its tiles' product. -/
theorem pay (x : Vec Ideal S1088x1024 .f32) (y : Vec Ideal S1024x1024 .bf16) (p : Fin 1088) (q : Fin 1024) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 1024) :
    outsAt0 m c t (ix2 p q) = tile (iblk m c 0 t) (iblk m c 1 t) p q := by
  unfold outsAt0
  frame_out
  exact pay _ _ p q

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The first operand. -/
abbrev Xa (c : Dev nD) : FVec Ideal S4352x1024 .f32 := m (c.tc.loc main_arg0)
/-- The second operand. -/
abbrev Xb (c : Dev nD) : FVec Ideal S1024x1024 .bf16 := m (c.tc.loc main_arg1)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 1024) : iblk m c 0 t (ix2 p k) = Xa m c (ix2 (row t p) k) := by
  unfold Xa; rw [← V_main_arg0 m c]
  refine congrArg (V m c main_arg0 : FVec Ideal S4352x1024 .f32) (funext fun a => Fin.ext ?_)
  match a with | ⟨0, _⟩ | ⟨1, _⟩ => blk_simp [idx0 t]

theorem blk1 (c : Dev nD) (t : Fin cfg0.N) (q k : Fin 1024) : iblk m c 1 t (ix2 q k) = Xb m c (ix2 q k) := by
  unfold Xb; rw [← V_main_arg1 m c]
  refine congrArg (V m c main_arg1 : FVec Ideal S1024x1024 .bf16) (funext fun a => Fin.ext ?_)
  match a with | ⟨0, _⟩ | ⟨1, _⟩ => blk_simp [idx1 t]

theorem emb (t : Fin cfg0.N) (p : Fin 1088) (q : Fin 1024) : (win0_2.blk t).view.emb (ix2 p q) = ix2 (row t p) q :=
  At.same (Fin.ext (by blk_simp [idx2 t])) (Fin.ext (by blk_simp [idx2 t]))

/-- The array the kernel leaves. -/
def G (c : Dev nD) : FVec Ideal S4352x1024 .bf16 := fun i => (∑ k : Fin 1024, Xa m c (ix2 (i 0) k) * Xb m c (ix2 (i 1) k) : EReal)

theorem arr_eq (c : Dev nD) : (dats m 0 c).arrAt 2 cfg0.N = G m c := by
  refine (dats m 0 c).arrAt_eq_of_covers 2 (G m c) (by decide +kernel) fun t _ y => ?_
  obtain ⟨p, q, rfl⟩ := At.two y
  show (dats m 0 c).after 2 t (ix2 p q) = G m c ((win0_2.blk t).view.emb (ix2 p q))
  rw [after0_2, emb]
  refine (out_eq m c t p q).trans ?_
  exact Finset.sum_congr rfl fun k _ => congrArg₂ (fun a b : EReal => a * b) (blk0 m c t p k) (blk1 m c t q k)

open Cert.Reference8Ideal.Read in
/-- The reference's array, element by element. -/
theorem ref_eq (x0 : FVec Ideal S4352x1024 .f32) (x1 : FVec Ideal S1024x1024 .bf16) (p : Fin 4352) (q : Fin 1024) :
    val_main_v4 (F := Ideal) x0 x1 (ix2 p q) = (∑ k : Fin 1024, x0 (ix2 p k) * x1 (ix2 q k) : EReal) := by
  rw [val_main_v4_apply]
  show val_main_v3 (F := Ideal) x0 x1 (ix2 p q) = _
  rw [val_main_v3_apply]
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference8Ideal Cert.Reference8Ideal.Gen.facts := fun m g _ =>
  (θ_run _ _ _).mono (fun r h => ⟨fun c => (h c).2, sem_eq_zero_of_no_sems (by decide) r.2⟩) (Cert.Reference8Ideal.Value.run m g)

/-- From equal arguments the kernel and the reference end with equal results. -/
theorem algebraic : @Cert.algebraic_Kernel8Ideal_Reference8Ideal Cert.Kernel8Ideal.Gen.facts Cert.Reference8Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference8Ideal.Value.run m' g')
  obtain ⟨a0, a1⟩ := hm c
  rw [Cert.Reference8Ideal.Read.val_main_v4_eq, a0, a1]
  funext i
  obtain ⟨p, q, rfl⟩ := At.two i
  exact ref_eq _ _ p q

end Cert.Kernel8Ideal.Prod

end
-- ==== Proof.Prod.K9.lean ====
module

public import proofs.«01_k».proof.Proof.Prod.Base
public import proofs.«01_k».proof.Proof.Gen.Kernel9Ideal.Value
public import proofs.«01_k».proof.Proof.Gen.Reference9Ideal.Run
public import proofs.«01_k».proof.Proof.Gen.Reference9Ideal.Read

@[expose] public section

/-! # Kernel 9: the gradient of the output projection's weight

A product summed tile by tile over its long axis. The carried sum after the last of a run's 4 points is the sum of the
4 tiles' products, which is the product of the whole rows and columns. -/

noncomputable section

namespace Cert.Kernel9Ideal.Prod

open Cert.Kernel9Ideal Cert.Kernel9Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1024x1024.Idx) : k0_pay1 (F := Ideal) j = 0 := by
  obtain ⟨p, q, rfl⟩ := At.two j
  pointwise [k0_pay1]

/-- What a point adds to the carried sum: the product of its two tiles. -/
def part (x : Vec Ideal S1088x1024 .bf16) (y : Vec Ideal S1088x1024 .f32) (j : S1024x1024.Idx) : EReal :=
  ∑ k : Fin 1088, x (ix2 k (j 0)) * y (ix2 k (j 1))

/-- Every point adds its tiles' product. -/
theorem pay2 (s : Vec Ideal S1024x1024 .f32) (x : Vec Ideal S1088x1024 .bf16) (y : Vec Ideal S1088x1024 .f32) (j : S1024x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S1024x1024.Idx) :
    (outsAt0 m c t.val t.isLt).2 j = 0 + ∑ s : Fin 4, part (iblk m c 0 ⟨4 * (t.val / 4) + s.val, by have := t.isLt; have hN : cfg0.N = 4 := N_0; omega⟩)
      (iblk m c 1 ⟨4 * (t.val / 4) + s.val, by have := t.isLt; have hN : cfg0.N = 4 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out
  rfl

/-- The tile of operand 0 a point reads. -/
theorem idx0 : ∀ t : Fin cfg0.N, win0_0.index t = ![t.val % 4, t.val / 4] := (by decide +kernel : ∀ t : Fin grid0.N, _)

/-- The tile of operand 1 a point reads. -/
theorem idx1 : ∀ t : Fin cfg0.N, win0_1.index t = ![t.val % 4, 0] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S4352x1024 .f32 := m (c.tc.loc main_arg1)

/-- The block of operand 0 at a point, read in the whole operand. -/
theorem blk0 (c : Dev nD) (t : Fin cfg0.N) (k : Fin 1088) (p : Fin 1024) {K : Fin 4352} {P : Fin 1024} (hk : t.val % 4 * 1088 + k.val = K.val) (hp : t.val / 4 * 1024 + p.val = P.val) :
    iblk m c 0 t (ix2 k p) = Xa m c (ix2 K P) := by
  unfold Xa; rw [← V_main_arg0 m c]
  refine congrArg (V m c main_arg0 : FVec Ideal S4352x1024 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k : Fin 1088) (p : Fin 1024) {K : Fin 4352} {P : Fin 1024} (hk : t.val % 4 * 1088 + k.val = K.val) (hp : p.val = P.val) :
    iblk m c 1 t (ix2 k p) = Xb m c (ix2 K P) := by
  unfold Xb; rw [← V_main_arg1 m c]
  refine congrArg (V m c main_arg1 : FVec Ideal S4352x1024 .f32) (funext fun a => Fin.ext ?_)
  match a with
  | ⟨0, _⟩ | ⟨1, _⟩ => blk_simp [idx1 t] <;> omega

/-- The array the kernel leaves, element by element. -/
theorem G_eq (c : Dev nD) (p q : Fin 1024) :
    (Value.G2 m c : FVec Ideal S1024x1024 .bf16) (ix2 p q) = ∑ k : Fin 4352, Xa m c (ix2 k p) * Xb m c (ix2 k q) := by
  have e : Value.pt2Of (ix2 p q) = 4 * (1 * (p.val / 1024 - 0) + 1 * (q.val / 1024 - 0)) + 3 := rfl
  have ht : Value.pt2Of (ix2 p q) < cfg0.N := by rw [show cfg0.N = 4 from N_0]; omega
  unfold Value.G2
  rw [dif_pos ht, ← Value.outsAt0_sweep m c _ ht]
  have h3 : Value.pt2Of (ix2 p q) % 4 = 3 := by omega
  have h4 : Value.pt2Of (ix2 p q) / 4 = p.val / 1024 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1088 + k.val = s.val * 1088 + k.val by omega) (show (4 * (n / 4) + s.val) / 4 * 1024 + p.val % 1024 = p.val by omega))
    (blk1 m c _ k _ (show (4 * (n / 4) + s.val) % 4 * 1088 + k.val = s.val * 1088 + k.val by omega) (show q.val % 1024 = q.val by omega))

open Cert.Reference9Ideal.Read in
/-- The reference's array is the same product. -/
theorem ref_eq (x0 : FVec Ideal S4352x1024 .bf16) (x1 : FVec Ideal S4352x1024 .f32) (p q : Fin 1024) :
    val_main_v5 (F := Ideal) x0 x1 (ix2 p q) = ∑ k : Fin 4352, x0 (ix2 k p) * x1 (ix2 k q) := by
  rw [val_main_v5_apply]
  show val_main_v4 (F := Ideal) x0 x1 (ix2 p q) = _
  rw [val_main_v4_apply, val_main_v3_apply]
  refine Finset.sum_congr rfl fun k _ => (mul_comm _ _).trans (congrArg₂ (fun a b : EReal => a * b) ?_ ?_)
  · exact congrArg x0 (At.same rfl rfl)
  · exact (congrArg x1 (At.same rfl rfl))

/-- The reference leaves its arguments as they were; it has no semaphore at all. -/
theorem frame_ref : @Cert.quiescent_Reference9Ideal Cert.Reference9Ideal.Gen.facts := fun m g _ =>
  (θ_run _ _ _).mono (fun r h => ⟨fun c => (h c).2, sem_eq_zero_of_no_sems (by decide) r.2⟩) (Cert.Reference9Ideal.Value.run m g)

/-- From equal arguments the kernel and the reference end with equal results. -/
theorem algebraic : @Cert.algebraic_Kernel9Ideal_Reference9Ideal Cert.Kernel9Ideal.Gen.facts Cert.Reference9Ideal.Gen.facts := by
  intro m g m' g' hp hm
  refine ⟨Value.G2 m, Value.run m g, ?_⟩
  refine (θ_run _ _ _).mono (fun _ h c => ?_) (Cert.Reference9Ideal.Value.run m' g')
  obtain ⟨h0, ha⟩ := h c
  obtain ⟨a0, a1⟩ := hm c
  refine ⟨h0.trans ?_, ha⟩
  rw [Cert.Reference9Ideal.Read.val_main_v5_eq, a0, a1]
  funext i
  obtain ⟨p, q, rfl⟩ := At.two i
  exact (ref_eq _ _ p q).trans (G_eq m c p q).symm

end Cert.Kernel9Ideal.Prod

end
-- ==== Proof.Prod.K10.lean ====
module

public import proofs.«01_k».proof.Proof.Prod.Base
public import proofs.«01_k».proof.Proof.Gen.Kernel10Ideal.Value
public import proofs.«01_k».proof.Proof.Gen.Reference10Ideal.Run
public import proofs.«01_k».proof.Proof.Gen.Reference10Ideal.Read

@[expose] public section

/-! # Kernel 10: the gradient of the weight of the state-space branch

A product summed tile by tile over its long axis. The carried sum after the last of a run's 4 points is the sum of the
4 tiles' products, which is the product of the whole rows and columns. -/

noncomputable section

namespace Cert.Kernel10Ideal.Prod

open Cert.Kernel10Ideal Cert.Kernel10Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1024x1024.Idx) : k0_pay1 (F := Ideal) j = 0 := by
  obtain ⟨p, q, rfl⟩ := At.two j
  pointwise [k0_pay1]

/-- What a point adds to the carried sum: the product of its two tiles. -/
def part (x y : Vec Ideal S1088x1024 .bf16) (j : S1024x1024.Idx) : EReal :=
  ∑ k : Fin 1088, x (ix2 k (j 0)) * y (ix2 k (j 1))

/-- Every point adds its tiles' product. -/
theorem pay2 (s : Vec Ideal S1024x1024 .f32) (x y : Vec Ideal S1088x1024 .bf16) (j : S1024x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S1024x1024.Idx) :
    (outsAt0 m c t.val t.isLt).2 j = 0 + ∑ s : Fin 4, part (iblk m c 0 ⟨4 * (t.val / 4) + s.val, by have := t.isLt; have hN : cfg0.N = 8 := N_0; omega⟩)
      (iblk m c 1 ⟨4 * (t.val / 4) + s.val, by have := t.isLt; have hN : cfg0.N = 8 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out
  rfl

/-- The tile of operand 0 a point reads. -/
theorem idx0 : ∀ t : Fin cfg0.N, win0_0.index t = ![t.val % 4, t.val / 4] := (by decide +kernel : ∀ t : Fin grid0.N, _)

/-- The tile of operand 1 a point reads. -/
theorem idx1 : ∀ t : Fin cfg0.N, win0_1.index t = ![t.val % 4, 0] := (by decide +kernel : ∀ t : Fin grid0.N, _)

/-- The first operand. -/
abbrev Xa (c : Dev nD) : FVec Ideal S4352x2048 .bf16 := m (c.tc.loc main_arg0)
/-- The second operand. -/
abbrev Xb (c : Dev nD) : FVec Ideal S4352x1024 .bf16 := m (c.tc.loc main_arg1)

/-- The block of operand 0 at a point, read in the whole operand. -/
theorem blk0 (c : Dev nD) (t : Fin cfg0.N) (k : Fin 1088) (p : Fin 1024) {K : Fin 4352} {P : Fin 2048} (hk : t.val % 4 * 1088 + k.val = K.val) (hp : t.val / 4 * 1024 + p.val = P.val) :
    iblk m c 0 t (ix2 k p) = Xa m c (ix2 K P) := by
  unfold Xa; rw [← V_main_arg0 m c]
  refine congrArg (V m c main_arg0 : FVec Ideal S4352x2048 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k : Fin 1088) (p : Fin 1024) {K : Fin 4352} {P : Fin 1024} (hk : t.val % 4 * 1088 + k.val = K.val) (hp : p.val = P.val) :
    iblk m c 1 t (ix2 k p) = Xb m c (ix2 K P) := by
  unfold Xb; rw [← V_main_arg1 m c]
  refine congrArg (V m c main_arg1 : FVec Ideal S4352x1024 .bf16) (funext fun a => Fin.ext ?_)
  match a with
  | ⟨0, _⟩ | ⟨1, _⟩ => blk_simp [idx1 t] <;> omega

/-- The array the kernel leaves, element by element. -/
theorem G_eq (c : Dev nD) (p : Fin 2048) (q : Fin 1024) :
    (Value.G2 m c : FVec Ideal S2048x1024 .bf16) (ix2 p q) = ∑ k : Fin 4352, Xa m c (ix2 k p) * Xb m c (ix2 k q) := by
  have e : Value.pt2Of (ix2 p q) = 4 * (1 * (p.val / 1024 - 0) + 1 * (q.val / 1024 - 0)) + 3 := rfl
  have ht : Value.pt2Of (ix2 p q) < cfg0.N := by rw [show cfg0.N = 8 from N_0]; omega
  unfold Value.G2
  rw [dif_pos ht, ← Value.outsAt0_sweep m c _ ht]
  have h3 : Value.pt2Of (ix2 p q) % 4 = 3 := by omega
  have h4 : Value.pt2Of (ix2 p q) / 4 = p.val / 1024 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1088 + k.val = s.val * 1088 + k.val by omega) (show (4 * (n / 4) + s.val) / 4 * 1024 + p.val % 1024 = p.val by omega))
    (blk1 m c _ k _ (show (4 * (n / 4) + s.val) % 4 * 1088 + k.val = s.val * 1088 + k.val by omega) (show q.val % 1024 = q.val by omega))

open Cert.Reference10Ideal.Read in
/-- The reference's array is the same product. -/
theorem ref_eq (x0 : FVec Ideal S4352x2048 .bf16) (x1 : FVec Ideal S4352x1024 .bf16) (p : Fin 2048) (q : Fin 1024) :
    val_main_v6 (F := Ideal) x0 x1 (ix2 p q) = ∑ k : Fin 4352, x0 (ix2 k p) * x1 (ix2 k q) := by
  rw [val_main_v6_apply]
  show val_main_v5 (F := Ideal) x0 x1 (ix2 p q) = _
  rw [val_main_v5_apply, val_main_v4_apply]
  refine Finset.sum_congr rfl fun k _ => (mul_comm _ _).trans (congrArg₂ (fun a b : EReal => a * b) ?_ ?_)
  · exact congrArg x0 (At.same rfl rfl)
  · exact (congrArg x1 (At.same rfl rfl))

/-- The reference leaves its arguments as they were; it has no semaphore at all. -/
theorem frame_ref : @Cert.quiescent_Reference10Ideal Cert.Reference10Ideal.Gen.facts := fun m g _ =>
  (θ_run _ _ _).mono (fun r h => ⟨fun c => (h c).2, sem_eq_zero_of_no_sems (by decide) r.2⟩) (Cert.Reference10Ideal.Value.run m g)

/-- From equal arguments the kernel and the reference end with equal results. -/
theorem algebraic : @Cert.algebraic_Kernel10Ideal_Reference10Ideal Cert.Kernel10Ideal.Gen.facts Cert.Reference10Ideal.Gen.facts := by
  intro m g m' g' hp hm
  refine ⟨Value.G2 m, Value.run m g, ?_⟩
  refine (θ_run _ _ _).mono (fun _ h c => ?_) (Cert.Reference10Ideal.Value.run m' g')
  obtain ⟨h0, ha⟩ := h c
  obtain ⟨a0, a1⟩ := hm c
  refine ⟨h0.trans ?_, ha⟩
  rw [Cert.Reference10Ideal.Read.val_main_v6_eq, a0, a1]
  funext i
  obtain ⟨p, q, rfl⟩ := At.two i
  exact (ref_eq _ _ p q).trans (G_eq m c p q).symm

end Cert.Kernel10Ideal.Prod

end
-- ==== Proof.Prod.K11.lean ====
module

public import proofs.«01_k».proof.Proof.Prod.Base
public import proofs.«01_k».proof.Proof.Gen.Kernel11Ideal.Value
public import proofs.«01_k».proof.Proof.Gen.Reference11Ideal.Run
public import proofs.«01_k».proof.Proof.Gen.Reference11Ideal.Read

@[expose] public section

/-! # Kernel 11: the gradient of the input of the state-space branch's projection

Every point of the grid computes one tile: the product of its rows of the first operand with its columns of the second. -/

noncomputable section

namespace Cert.Kernel11Ideal.Prod

open Cert.Kernel11Ideal Cert.Kernel11Ideal.Gen
open Idealize.ShloMosaic Idealize.ShloMosaic.TcCoe Idealize.ShloMosaic.Tactic Idealize.SL.Sem

variable (m : (ℓ : Loc nD τ sig) → Buf (Elt Ideal) ℓ)

/-- The point stores zero first. -/
theorem pay1 (j : S1088x1024.Idx) : k0_pay1 (F := Ideal) j = 0 := by
  obtain ⟨p, q, rfl⟩ := At.two j
  pointwise [k0_pay1]

/-- The product of two tiles. -/
def tile (x : Vec Ideal S1088x1024 .bf16) (y : Vec Ideal S1024x1024 .bf16) (j : S1088x1024.Idx) : EReal :=
  ∑ k : Fin 1024, x (ix2 (j 0) k) * y (ix2 (j 1) k)

/-- The point then adds its two tiles' product. -/
theorem pay2 (s : Vec Ideal S1088x1024 .f32) (x : Vec Ideal S1088x1024 .bf16) (y : Vec Ideal S1024x1024 .bf16) (j : S1088x1024.Idx) :
    k0_pay2 s x y j = s j + tile x y j := by
  obtain ⟨p, q, rfl⟩ := At.two j
  pointwise [k0_pay2]
  rfl

/-- The tile a point leaves. -/
theorem out_eq (c : Dev nD) (t : Fin cfg0.N) (j : S1088x1024.Idx) :
    outsAt0 m c t j = tile (iblk m c 0 t) (iblk m c 1 t) j := by
  unfold outsAt0
  frame_out
  show k0_pay2 (F := Ideal) _ _ _ j = _
  rw [pay2, pay1, zero_add]

/-! The tile of each array a point names. -/
theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S2048x1024 .bf16 := m (c.tc.loc main_arg1)

/-- A point's block of the first operand, read in the whole array. -/
theorem blk0 (c : Dev nD) (t : Fin cfg0.N) (p : Fin 1088) (k : Fin 1024) (hp : t.val / 2 * 1088 + p.val < 4352) :
    iblk m c 0 t (ix2 p k) = Xa m c (ix2 ⟨t.val / 2 * 1088 + p.val, hp⟩ k) := by
  unfold Xa; rw [← V_main_arg0 m c]
  refine congrArg (V m c main_arg0 : FVec Ideal S4352x1024 .bf16) (funext fun a => ?_)
  match a with
  | ⟨0, _⟩ | ⟨1, _⟩ => apply Fin.ext; blk_simp [idx0 t]

/-- A point's block of the second operand, read in the whole array. -/
theorem blk1 (c : Dev nD) (t : Fin cfg0.N) (q k : Fin 1024) (hq : t.val % 2 * 1024 + q.val < 2048) :
    iblk m c 1 t (ix2 q k) = Xb m c (ix2 ⟨t.val % 2 * 1024 + q.val, hq⟩ k) := by
  unfold Xb; rw [← V_main_arg1 m c]
  refine congrArg (V m c main_arg1 : FVec Ideal S2048x1024 .bf16) (funext fun a => ?_)
  match a with
  | ⟨0, _⟩ | ⟨1, _⟩ => apply Fin.ext; blk_simp [idx1 t]

/-- The array the kernel leaves. -/
def G (c : Dev nD) : FVec Ideal S4352x2048 .bf16 := fun i => (∑ k : Fin 1024, Xa m c (ix2 (i 0) k) * Xb m c (ix2 (i 1) k))

theorem G_at (c : Dev nD) (p : Fin 4352) (q : Fin 2048) (i : S4352x2048.Idx) (e0 : i 0 = p) (e1 : i 1 = q) :
    G m c i = (∑ k : Fin 1024, Xa m c (ix2 p k) * Xb m c (ix2 q k)) := by
  subst e0; subst e1
  rfl

/-- The array at the end of the run. -/
theorem arr_eq (c : Dev nD) : (dats m 0 c).arrAt 2 cfg0.N = G m c := by
  refine (dats m 0 c).arrAt_eq_of_covers 2 (G m c) (by decide +kernel) fun t hf y => ?_
  obtain ⟨p, q, rfl⟩ := At.two y
  have hN : cfg0.N = 8 := N_0
  have ht : t.val < 8 := lt_of_lt_of_eq t.isLt hN
  have hp : t.val / 2 * 1088 + p.val < 4352 := by omega
  have hq : t.val % 2 * 1024 + q.val < 2048 := by omega
  have e0 : (((win0_2.blk t).view.emb (ix2 p q)) 0 : Fin 4352) = ⟨t.val / 2 * 1088 + p.val, hp⟩ := by
    apply Fin.ext; blk_simp [idx2 t]
  have e1 : (((win0_2.blk t).view.emb (ix2 p q)) 1 : Fin 2048) = ⟨t.val % 2 * 1024 + q.val, hq⟩ := by
    apply Fin.ext; blk_simp [idx2 t]
  refine Eq.trans ?_ (G_at m c _ _ _ e0 e1).symm
  show (dats m 0 c).after 2 t (ix2 p q) = _
  rw [after0_2]
  refine (out_eq m c t (ix2 p q)).trans ?_
  refine Finset.sum_congr rfl fun k _ => ?_
  exact congrArg₂ (fun a b : EReal => a * b) (blk0 m c t p k hp) (blk1 m c t q k hq)

open Cert.Reference11Ideal.Read in
/-- The reference's array, element by element. -/
theorem ref_eq (x0 : FVec Ideal S4352x1024 .bf16) (x1 : FVec Ideal S2048x1024 .bf16) (p : Fin 4352) (q : Fin 2048) :
    val_main_v5 (F := Ideal) x0 x1 (ix2 p q) = (∑ k : Fin 1024, x0 (ix2 p k) * x1 (ix2 q k)) := by
  rw [val_main_v5_apply]
  show val_main_v4 (F := Ideal) x0 x1 (ix2 p q) = _
  rw [val_main_v4_apply]
  refine Finset.sum_congr rfl fun k _ => congrArg₂ (fun a b : EReal => a * b) ?_ ?_
  · exact congrArg x0 (At.same rfl rfl)
  · exact (congrArg x1 (At.same rfl rfl))

/-- The reference leaves its arguments as they were; it has no semaphore at all. -/
theorem frame_ref : @Cert.quiescent_Reference11Ideal Cert.Reference11Ideal.Gen.facts := fun m g _ =>
  (θ_run _ _ _).mono (fun r h => ⟨fun c => (h c).2, sem_eq_zero_of_no_sems (by decide) r.2⟩) (Cert.Reference11Ideal.Value.run m g)

/-- From equal arguments the kernel and the reference end with equal results. -/
theorem algebraic : @Cert.algebraic_Kernel11Ideal_Reference11Ideal Cert.Kernel11Ideal.Gen.facts Cert.Reference11Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ?_) (Cert.Reference11Ideal.Value.run m' g')
  obtain ⟨h0, ha⟩ := h c
  obtain ⟨a0, a1⟩ := hm c
  refine ⟨h0.trans ?_, ha⟩
  rw [Cert.Reference11Ideal.Read.val_main_v5_eq, a0, a1]
  funext i
  obtain ⟨p, q, rfl⟩ := At.two i
  exact (ref_eq _ _ p q).trans (G_at m c p q _ rfl rfl).symm

end Cert.Kernel11Ideal.Prod

end
-- ==== Proof.Prod.K12.lean ====
module

public import proofs.«01_k».proof.Proof.Prod.Base
public import proofs.«01_k».proof.Proof.Gen.Kernel12Ideal.Value
public import proofs.«01_k».proof.Proof.Gen.Reference12Ideal.Run
public import proofs.«01_k».proof.Proof.Gen.Reference12Ideal.Read

@[expose] public section

/-! # Kernel 12: the gradient of the weight of the attention's branch

A product summed tile by tile over its long axis. The carried sum after the last of a run's 4 points is the sum of the
4 tiles' products, which is the product of the whole rows and columns. -/

noncomputable section

namespace Cert.Kernel12Ideal.Prod

open Cert.Kernel12Ideal Cert.Kernel12Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1024x1024.Idx) : k0_pay1 (F := Ideal) j = 0 := by
  obtain ⟨p, q, rfl⟩ := At.two j
  pointwise [k0_pay1]

/-- What a point adds to the carried sum: the product of its two tiles. -/
def part (x y : Vec Ideal S1088x1024 .bf16) (j : S1024x1024.Idx) : EReal :=
  ∑ k : Fin 1088, x (ix2 k (j 0)) * y (ix2 k (j 1))

/-- Every point adds its tiles' product. -/
theorem pay2 (s : Vec Ideal S1024x1024 .f32) (x y : Vec Ideal S1088x1024 .bf16) (j : S1024x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S1024x1024.Idx) :
    (outsAt0 m c t.val t.isLt).2 j = 0 + ∑ s : Fin 4, part (iblk m c 0 ⟨4 * (t.val / 4) + s.val, by have := t.isLt; have hN : cfg0.N = 4 := N_0; omega⟩)
      (iblk m c 1 ⟨4 * (t.val / 4) + s.val, by have := t.isLt; have hN : cfg0.N = 4 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S1024x1024.Idx) :
    (outsAt0 m c t.val t.isLt).1 j = (outsAt0 m c t.val t.isLt).2 j := by
  rw [outsAt0_C m c t (by omega) h]
  frame_out
  rfl

/-- The tile of operand 0 a point reads. -/
theorem idx0 : ∀ t : Fin cfg0.N, win0_0.index t = ![t.val % 4, t.val / 4] := (by decide +kernel : ∀ t : Fin grid0.N, _)

/-- The tile of operand 1 a point reads. -/
theorem idx1 : ∀ t : Fin cfg0.N, win0_1.index t = ![t.val % 4, 0] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S4352x1024 .bf16 := m (c.tc.loc main_arg1)

/-- The block of operand 0 at a point, read in the whole operand. -/
theorem blk0 (c : Dev nD) (t : Fin cfg0.N) (k : Fin 1088) (p : Fin 1024) {K : Fin 4352} {P : Fin 1024} (hk : t.val % 4 * 1088 + k.val = K.val) (hp : t.val / 4 * 1024 + p.val = P.val) :
    iblk m c 0 t (ix2 k p) = Xa m c (ix2 K P) := by
  unfold Xa; rw [← V_main_arg0 m c]
  refine congrArg (V m c main_arg0 : FVec Ideal S4352x1024 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k : Fin 1088) (p : Fin 1024) {K : Fin 4352} {P : Fin 1024} (hk : t.val % 4 * 1088 + k.val = K.val) (hp : p.val = P.val) :
    iblk m c 1 t (ix2 k p) = Xb m c (ix2 K P) := by
  unfold Xb; rw [← V_main_arg1 m c]
  refine congrArg (V m c main_arg1 : FVec Ideal S4352x1024 .bf16) (funext fun a => Fin.ext ?_)
  match a with
  | ⟨0, _⟩ | ⟨1, _⟩ => blk_simp [idx1 t] <;> omega

/-- The array the kernel leaves, element by element. -/
theorem G_eq (c : Dev nD) (p q : Fin 1024) :
    (Value.G2 m c : FVec Ideal S1024x1024 .bf16) (ix2 p q) = ∑ k : Fin 4352, Xa m c (ix2 k p) * Xb m c (ix2 k q) := by
  have e : Value.pt2Of (ix2 p q) = 4 * (1 * (p.val / 1024 - 0) + 1 * (q.val / 1024 - 0)) + 3 := rfl
  have ht : Value.pt2Of (ix2 p q) < cfg0.N := by rw [show cfg0.N = 4 from N_0]; omega
  unfold Value.G2
  rw [dif_pos ht, ← Value.outsAt0_sweep m c _ ht]
  have h3 : Value.pt2Of (ix2 p q) % 4 = 3 := by omega
  have h4 : Value.pt2Of (ix2 p q) / 4 = p.val / 1024 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1088 + k.val = s.val * 1088 + k.val by omega) (show (4 * (n / 4) + s.val) / 4 * 1024 + p.val % 1024 = p.val by omega))
    (blk1 m c _ k _ (show (4 * (n / 4) + s.val) % 4 * 1088 + k.val = s.val * 1088 + k.val by omega) (show q.val % 1024 = q.val by omega))

open Cert.Reference12Ideal.Read in
/-- The reference's array is the same product. -/
theorem ref_eq (x0 x1 : FVec Ideal S4352x1024 .bf16) (p q : Fin 1024) :
    val_main_v6 (F := Ideal) x0 x1 (ix2 p q) = ∑ k : Fin 4352, x0 (ix2 k p) * x1 (ix2 k q) := by
  rw [val_main_v6_apply]
  show val_main_v5 (F := Ideal) x0 x1 (ix2 p q) = _
  rw [val_main_v5_apply, val_main_v4_apply]
  refine Finset.sum_congr rfl fun k _ => (mul_comm _ _).trans (congrArg₂ (fun a b : EReal => a * b) ?_ ?_)
  · exact congrArg x0 (At.same rfl rfl)
  · exact (congrArg x1 (At.same rfl rfl))

/-- The reference leaves its arguments as they were; it has no semaphore at all. -/
theorem frame_ref : @Cert.quiescent_Reference12Ideal Cert.Reference12Ideal.Gen.facts := fun m g _ =>
  (θ_run _ _ _).mono (fun r h => ⟨fun c => (h c).2, sem_eq_zero_of_no_sems (by decide) r.2⟩) (Cert.Reference12Ideal.Value.run m g)

/-- From equal arguments the kernel and the reference end with equal results. -/
theorem algebraic : @Cert.algebraic_Kernel12Ideal_Reference12Ideal Cert.Kernel12Ideal.Gen.facts Cert.Reference12Ideal.Gen.facts := by
  intro m g m' g' hp hm
  refine ⟨Value.G2 m, Value.run m g, ?_⟩
  refine (θ_run _ _ _).mono (fun _ h c => ?_) (Cert.Reference12Ideal.Value.run m' g')
  obtain ⟨h0, ha⟩ := h c
  obtain ⟨a0, a1⟩ := hm c
  refine ⟨h0.trans ?_, ha⟩
  rw [Cert.Reference12Ideal.Read.val_main_v6_eq, a0, a1]
  funext i
  obtain ⟨p, q, rfl⟩ := At.two i
  exact (ref_eq _ _ p q).trans (G_eq m c p q).symm

end Cert.Kernel12Ideal.Prod

end
-- ==== Proof.Prod.K13.lean ====
module

public import proofs.«01_k».proof.Proof.Prod.Base
public import proofs.«01_k».proof.Proof.Gen.Kernel13Ideal.Value
public import proofs.«01_k».proof.Proof.Gen.Reference13Ideal.Run
public import proofs.«01_k».proof.Proof.Gen.Reference13Ideal.Read

@[expose] public section

/-! # Kernel 13: the gradient of the input of the attention branch's projection

Every point of the grid computes one tile: the product of its rows of the first operand with the rows of the second. -/

noncomputable section

namespace Cert.Kernel13Ideal.Prod

open Cert.Kernel13Ideal Cert.Kernel13Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x1024 .bf16) (y : Vec Ideal S1024x1024 .bf16) (p : Fin 1088) (q : Fin 1024) : EReal :=
  ∑ k : Fin 1024, x (ix2 p k) * y (ix2 q k)

/-- A point sets its sum to zero and adds its tiles' product. -/
theorem pay (x : Vec Ideal S1088x1024 .bf16) (y : Vec Ideal S1024x1024 .bf16) (p : Fin 1088) (q : Fin 1024) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 1024) :
    outsAt0 m c t (ix2 p q) = tile (iblk m c 0 t) (iblk m c 1 t) p q := by
  unfold outsAt0
  frame_out
  exact pay _ _ p q

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S1024x1024 .bf16 := m (c.tc.loc main_arg1)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 1024) : iblk m c 0 t (ix2 p k) = Xa m c (ix2 (row t p) k) := by
  unfold Xa; rw [← V_main_arg0 m c]
  refine congrArg (V m c main_arg0 : FVec Ideal S4352x1024 .bf16) (funext fun a => Fin.ext ?_)
  match a with | ⟨0, _⟩ | ⟨1, _⟩ => blk_simp [idx0 t]

theorem blk1 (c : Dev nD) (t : Fin cfg0.N) (q k : Fin 1024) : iblk m c 1 t (ix2 q k) = Xb m c (ix2 q k) := by
  unfold Xb; rw [← V_main_arg1 m c]
  refine congrArg (V m c main_arg1 : FVec Ideal S1024x1024 .bf16) (funext fun a => Fin.ext ?_)
  match a with | ⟨0, _⟩ | ⟨1, _⟩ => blk_simp [idx1 t]

theorem emb (t : Fin cfg0.N) (p : Fin 1088) (q : Fin 1024) : (win0_2.blk t).view.emb (ix2 p q) = ix2 (row t p) q :=
  At.same (Fin.ext (by blk_simp [idx2 t])) (Fin.ext (by blk_simp [idx2 t]))

/-- The array the kernel leaves. -/
def G (c : Dev nD) : FVec Ideal S4352x1024 .bf16 := fun i => (∑ k : Fin 1024, Xa m c (ix2 (i 0) k) * Xb m c (ix2 (i 1) k) : EReal)

theorem arr_eq (c : Dev nD) : (dats m 0 c).arrAt 2 cfg0.N = G m c := by
  refine (dats m 0 c).arrAt_eq_of_covers 2 (G m c) (by decide +kernel) fun t _ y => ?_
  obtain ⟨p, q, rfl⟩ := At.two y
  show (dats m 0 c).after 2 t (ix2 p q) = G m c ((win0_2.blk t).view.emb (ix2 p q))
  rw [after0_2, emb]
  refine (out_eq m c t p q).trans ?_
  exact Finset.sum_congr rfl fun k _ => congrArg₂ (fun a b : EReal => a * b) (blk0 m c t p k) (blk1 m c t q k)

open Cert.Reference13Ideal.Read in
/-- The reference's array, element by element. -/
theorem ref_eq (x0 : FVec Ideal S4352x1024 .bf16) (x1 : FVec Ideal S1024x1024 .bf16) (p : Fin 4352) (q : Fin 1024) :
    val_main_v5 (F := Ideal) x0 x1 (ix2 p q) = (∑ k : Fin 1024, x0 (ix2 p k) * x1 (ix2 q k) : EReal) := by
  rw [val_main_v5_apply]
  show val_main_v4 (F := Ideal) x0 x1 (ix2 p q) = _
  rw [val_main_v4_apply]
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference13Ideal Cert.Reference13Ideal.Gen.facts := fun m g _ =>
  (θ_run _ _ _).mono (fun r h => ⟨fun c => (h c).2, sem_eq_zero_of_no_sems (by decide) r.2⟩) (Cert.Reference13Ideal.Value.run m g)

/-- From equal arguments the kernel and the reference end with equal results. -/
theorem algebraic : @Cert.algebraic_Kernel13Ideal_Reference13Ideal Cert.Kernel13Ideal.Gen.facts Cert.Reference13Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference13Ideal.Value.run m' g')
  obtain ⟨a0, a1⟩ := hm c
  rw [Cert.Reference13Ideal.Read.val_main_v5_eq, a0, a1]
  funext i
  obtain ⟨p, q, rfl⟩ := At.two i
  exact ref_eq _ _ p q

end Cert.Kernel13Ideal.Prod

end
-- ==== Proof.Prod.K14.lean ====
module

public import proofs.«01_k».proof.Proof.Prod.Base
public import proofs.«01_k».proof.Proof.Gen.Kernel14Ideal.Value
public import proofs.«01_k».proof.Proof.Gen.Reference14Ideal.Run
public import proofs.«01_k».proof.Proof.Gen.Reference14Ideal.Read

@[expose] public section

/-! # Kernel 14: the MLP's first product and the square of its rectified values

Every point of the grid computes one tile: the product of its rows of the first operand with its columns of the second. -/

noncomputable section

namespace Cert.Kernel14Ideal.Prod

open Cert.Kernel14Ideal Cert.Kernel14Ideal.Gen
open Idealize.ShloMosaic Idealize.ShloMosaic.TcCoe Idealize.ShloMosaic.Tactic Idealize.SL.Sem

variable (m : (ℓ : Loc nD τ sig) → Buf (Elt Ideal) ℓ)

/-- The point stores zero first. -/
theorem pay1 (j : S1088x1024.Idx) : k0_pay1 (F := Ideal) j = 0 := by
  obtain ⟨p, q, rfl⟩ := At.two j
  pointwise [k0_pay1]

/-- The product of two tiles. -/
def tile (x : Vec Ideal S1088x1024 .bf16) (y : Vec Ideal S1024x1024 .bf16) (j : S1088x1024.Idx) : EReal :=
  ∑ k : Fin 1024, x (ix2 (j 0) k) * y (ix2 k (j 1))

/-- The point then adds its two tiles' product. -/
theorem pay2 (s : Vec Ideal S1088x1024 .f32) (x : Vec Ideal S1088x1024 .bf16) (y : Vec Ideal S1024x1024 .bf16) (j : S1088x1024.Idx) :
    k0_pay2 s x y j = s j + tile x y j := by
  obtain ⟨p, q, rfl⟩ := At.two j
  pointwise [k0_pay2]
  rfl

/-- The second array takes the square of the rectified sum. -/
theorem pay4 (s : Vec Ideal S1088x1024 .f32) (j : S1088x1024.Idx) : k0_pay4 s j = max (s j) 0 * max (s j) 0 := by
  obtain ⟨p, q, rfl⟩ := At.two j
  pointwise [k0_pay4]

/-- The tile a point leaves in the first array. -/
theorem out_eq0 (c : Dev nD) (t : Fin cfg0.N) (j : S1088x1024.Idx) :
    (outsAt0 m c t).1 j = tile (iblk m c 0 t) (iblk m c 1 t) j := by
  unfold outsAt0
  frame_out
  show k0_pay2 (F := Ideal) _ _ _ j = _
  rw [pay2, pay1, zero_add]

/-- The tile a point leaves in the second array. -/
theorem out_eq1 (c : Dev nD) (t : Fin cfg0.N) (j : S1088x1024.Idx) :
    (outsAt0 m c t).2 j = max (tile (iblk m c 0 t) (iblk m c 1 t) j) 0 * max (tile (iblk m c 0 t) (iblk m c 1 t) j) 0 := by
  unfold outsAt0
  frame_out
  rw [pay4, pay2, pay1, zero_add]

/-! The tile of each array a point names. -/
theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)
theorem idx3 : ∀ t : Fin cfg0.N, win0_3.index t = ![t.val / 4, t.val % 4] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S1024x4096 .bf16 := m (c.tc.loc main_arg1)

/-- A point's block of the first operand, read in the whole array. -/
theorem blk0 (c : Dev nD) (t : Fin cfg0.N) (p : Fin 1088) (k : Fin 1024) (hp : t.val / 4 * 1088 + p.val < 4352) :
    iblk m c 0 t (ix2 p k) = Xa m c (ix2 ⟨t.val / 4 * 1088 + p.val, hp⟩ k) := by
  unfold Xa; rw [← V_main_arg0 m c]
  refine congrArg (V m c main_arg0 : FVec Ideal S4352x1024 .bf16) (funext fun a => ?_)
  match a with
  | ⟨0, _⟩ | ⟨1, _⟩ => apply Fin.ext; blk_simp [idx0 t]

/-- A point's block of the second operand, read in the whole array. -/
theorem blk1 (c : Dev nD) (t : Fin cfg0.N) (q k : Fin 1024) (hq : t.val % 4 * 1024 + q.val < 4096) :
    iblk m c 1 t (ix2 k q) = Xb m c (ix2 k ⟨t.val % 4 * 1024 + q.val, hq⟩) := by
  unfold Xb; rw [← V_main_arg1 m c]
  refine congrArg (V m c main_arg1 : FVec Ideal S1024x4096 .bf16) (funext fun a => ?_)
  match a with
  | ⟨0, _⟩ | ⟨1, _⟩ => apply Fin.ext; blk_simp [idx1 t]

/-- The first array the kernel leaves. -/
def G0 (c : Dev nD) : FVec Ideal S4352x4096 .bf16 := fun i => (∑ k : Fin 1024, Xa m c (ix2 (i 0) k) * Xb m c (ix2 k (i 1)))

theorem G0_at (c : Dev nD) (p : Fin 4352) (q : Fin 4096) (i : S4352x4096.Idx) (e0 : i 0 = p) (e1 : i 1 = q) :
    G0 m c i = (∑ k : Fin 1024, Xa m c (ix2 p k) * Xb m c (ix2 k q)) := by
  subst e0; subst e1
  rfl

/-- The first array at the end of the run. -/
theorem arr_eq0 (c : Dev nD) : (dats m 0 c).arrAt 2 cfg0.N = G0 m c := by
  refine (dats m 0 c).arrAt_eq_of_covers 2 (G0 m c) (by decide +kernel) fun t hf y => ?_
  obtain ⟨p, q, rfl⟩ := At.two y
  have hN : cfg0.N = 16 := N_0
  have ht : t.val < 16 := lt_of_lt_of_eq t.isLt hN
  have hp : t.val / 4 * 1088 + p.val < 4352 := by omega
  have hq : t.val % 4 * 1024 + q.val < 4096 := by omega
  have e0 : (((win0_2.blk t).view.emb (ix2 p q)) 0 : Fin 4352) = ⟨t.val / 4 * 1088 + p.val, hp⟩ := by
    apply Fin.ext; blk_simp [idx2 t]
  have e1 : (((win0_2.blk t).view.emb (ix2 p q)) 1 : Fin 4096) = ⟨t.val % 4 * 1024 + q.val, hq⟩ := by
    apply Fin.ext; blk_simp [idx2 t]
  refine Eq.trans ?_ (G0_at m c _ _ _ e0 e1).symm
  show (dats m 0 c).after 2 t (ix2 p q) = _
  rw [after0_2]
  refine (out_eq0 m c t (ix2 p q)).trans ?_
  refine Finset.sum_congr rfl fun k _ => ?_
  exact congrArg₂ (fun a b : EReal => a * b) (blk0 m c t p k hp) (blk1 m c t q k hq)

open Cert.Reference14Ideal.Read in
/-- The reference's first array, element by element. -/
theorem ref_eq0 (x0 : FVec Ideal S4352x1024 .bf16) (x1 : FVec Ideal S1024x4096 .bf16) (p : Fin 4352) (q : Fin 4096) :
    val_main_v3 (F := Ideal) x0 x1 (ix2 p q) = (∑ k : Fin 1024, x0 (ix2 p k) * x1 (ix2 k q)) := by
  rw [val_main_v3_apply]
  show val_main_v2 (F := Ideal) x0 x1 (ix2 p q) = _
  rw [val_main_v2_apply]
  refine Finset.sum_congr rfl fun k _ => congrArg₂ (fun a b : EReal => a * b) ?_ ?_
  · exact congrArg x0 (At.same rfl rfl)
  · exact (congrArg x1 (At.same rfl rfl))

/-- The second array the kernel leaves. -/
def G1 (c : Dev nD) : FVec Ideal S4352x4096 .bf16 := fun i => max (∑ k : Fin 1024, Xa m c (ix2 (i 0) k) * Xb m c (ix2 k (i 1))) 0 * max (∑ k : Fin 1024, Xa m c (ix2 (i 0) k) * Xb m c (ix2 k (i 1))) 0

theorem G1_at (c : Dev nD) (p : Fin 4352) (q : Fin 4096) (i : S4352x4096.Idx) (e0 : i 0 = p) (e1 : i 1 = q) :
    G1 m c i = max (∑ k : Fin 1024, Xa m c (ix2 p k) * Xb m c (ix2 k q)) 0 * max (∑ k : Fin 1024, Xa m c (ix2 p k) * Xb m c (ix2 k q)) 0 := by
  subst e0; subst e1
  rfl

/-- The second array at the end of the run. -/
theorem arr_eq1 (c : Dev nD) : (dats m 0 c).arrAt 3 cfg0.N = G1 m c := by
  refine (dats m 0 c).arrAt_eq_of_covers 3 (G1 m c) (by decide +kernel) fun t hf y => ?_
  obtain ⟨p, q, rfl⟩ := At.two y
  have hN : cfg0.N = 16 := N_0
  have ht : t.val < 16 := lt_of_lt_of_eq t.isLt hN
  have hp : t.val / 4 * 1088 + p.val < 4352 := by omega
  have hq : t.val % 4 * 1024 + q.val < 4096 := by omega
  have e0 : (((win0_3.blk t).view.emb (ix2 p q)) 0 : Fin 4352) = ⟨t.val / 4 * 1088 + p.val, hp⟩ := by
    apply Fin.ext; blk_simp [idx3 t]
  have e1 : (((win0_3.blk t).view.emb (ix2 p q)) 1 : Fin 4096) = ⟨t.val % 4 * 1024 + q.val, hq⟩ := by
    apply Fin.ext; blk_simp [idx3 t]
  refine Eq.trans ?_ (G1_at m c _ _ _ e0 e1).symm
  show (dats m 0 c).after 3 t (ix2 p q) = _
  rw [after0_3]
  refine (out_eq1 m c t (ix2 p q)).trans ?_
  refine congrArg (fun a : EReal => max a 0 * max a 0) (Finset.sum_congr rfl fun k _ => ?_)
  exact congrArg₂ (fun a b : EReal => a * b) (blk0 m c t p k hp) (blk1 m c t q k hq)

open Cert.Reference14Ideal.Read in
/-- The reference's second array, element by element. -/
theorem ref_eq1 (x0 : FVec Ideal S4352x1024 .bf16) (x1 : FVec Ideal S1024x4096 .bf16) (p : Fin 4352) (q : Fin 4096) :
    val_main_v7 (F := Ideal) x0 x1 (ix2 p q) = max (∑ k : Fin 1024, x0 (ix2 p k) * x1 (ix2 k q)) 0 * max (∑ k : Fin 1024, x0 (ix2 p k) * x1 (ix2 k q)) 0 := by
  rw [val_main_v7_apply]
  show FloatOps.mulf (F := Ideal) (val_main_v5 (F := Ideal) x0 x1 (ix2 p q)) (val_main_v5 (F := Ideal) x0 x1 (ix2 p q)) = _
  rw [val_main_v5_apply, val_main_v4_apply, val_main_v2_apply]
  show max _ (Ideal.ofBits FTy.f32 0#32) * max _ (Ideal.ofBits FTy.f32 0#32) = _
  rw [Ideal.ofBits_zero_f32]
  refine congrArg (fun a : EReal => max a 0 * max a 0) ?_
  refine Finset.sum_congr rfl fun k _ => congrArg₂ (fun a b : EReal => a * b) ?_ ?_
  · exact congrArg x0 (At.same rfl rfl)
  · exact (congrArg x1 (At.same rfl rfl))

/-- The reference leaves its arguments as they were; it has no semaphore at all. -/
theorem frame_ref : @Cert.quiescent_Reference14Ideal Cert.Reference14Ideal.Gen.facts := fun m g _ =>
  (θ_run _ _ _).mono (fun r h => ⟨fun c => (h c).2.2, sem_eq_zero_of_no_sems (by decide) r.2⟩) (Cert.Reference14Ideal.Value.run m g)

/-- From equal arguments the kernel and the reference end with equal results. -/
theorem algebraic : @Cert.algebraic_Kernel14Ideal_Reference14Ideal Cert.Kernel14Ideal.Gen.facts Cert.Reference14Ideal.Gen.facts := by
  intro m g m' g' hp hm
  refine ⟨G0 m, G1 m, (θ_run _ _ _).mono (fun _ h c => ⟨(h c).1.trans (arr_eq0 m c), (h c).2.1.trans (arr_eq1 m c), (h c).2.2⟩) (Value.run_blocks m g), ?_⟩
  refine (θ_run _ _ _).mono (fun _ h c => ?_) (Cert.Reference14Ideal.Value.run m' g')
  obtain ⟨h0, h1, ha⟩ := h c
  obtain ⟨a0, a1⟩ := hm c
  refine ⟨h0.trans ?_, h1.trans ?_, ha⟩
  · rw [Cert.Reference14Ideal.Read.val_main_v3_eq, a0, a1]
    funext i
    obtain ⟨p, q, rfl⟩ := At.two i
    exact (ref_eq0 _ _ p q).trans (G0_at m c p q _ rfl rfl).symm
  · rw [Cert.Reference14Ideal.Read.val_main_v7_eq, a0, a1]
    funext i
    obtain ⟨p, q, rfl⟩ := At.two i
    exact (ref_eq1 _ _ p q).trans (G1_at m c p q _ rfl rfl).symm

end Cert.Kernel14Ideal.Prod

end
-- ==== Proof.Prod.K15.lean ====
module

public import proofs.«01_k».proof.Proof.Prod.Base
public import proofs.«01_k».proof.Proof.Gen.Kernel15Ideal.Value
public import proofs.«01_k».proof.Proof.Gen.Reference15Ideal.Run
public import proofs.«01_k».proof.Proof.Gen.Reference15Ideal.Read

@[expose] public section

/-! # Kernel 15: the MLP's second product, with the residual added

A product summed tile by tile over its long axis. The carried sum after the last of a run's 4 points is the sum of the
4 tiles' products, which is the product of the whole rows and columns. -/

noncomputable section

namespace Cert.Kernel15Ideal.Prod

open Cert.Kernel15Ideal Cert.Kernel15Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1088x1024.Idx) : k0_pay1 (F := Ideal) j = 0 := by
  obtain ⟨p, q, rfl⟩ := At.two j
  pointwise [k0_pay1]

/-- What a point adds to the carried sum: the product of its two tiles. -/
def part (x : Vec Ideal S1088x1024 .bf16) (y : Vec Ideal S1024x1024 .bf16) (j : S1088x1024.Idx) : EReal :=
  ∑ k : Fin 1024, x (ix2 (j 0) k) * y (ix2 k (j 1))

/-- Every point adds its tiles' product. -/
theorem pay2 (s : Vec Ideal S1088x1024 .f32) (x : Vec Ideal S1088x1024 .bf16) (y : Vec Ideal S1024x1024 .bf16) (j : S1088x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S1088x1024.Idx) :
    (outsAt0 m c t.val t.isLt).2 j = 0 + ∑ s : Fin 4, part (iblk m c 0 ⟨4 * (t.val / 4) + s.val, by have := t.isLt; have hN : cfg0.N = 16 := N_0; omega⟩)
      (iblk m c 1 ⟨4 * (t.val / 4) + s.val, by have := t.isLt; have hN : cfg0.N = 16 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    · rw [outsAt0_C m c t h h']
      frame_out
      rw [pay2, read_unread_whole]
    · rw [outsAt0_B m c t h h']
      frame_out
      rw [pay2, read_unread_whole]

/-- The last point of a run adds the residual to the scratch and stores it. -/
theorem pay3 (s z : Vec Ideal S1088x1024 .f32) (j : S1088x1024.Idx) : k0_pay3 s z j = s j + z j := by
  obtain ⟨p, q, rfl⟩ := At.two j
  pointwise [k0_pay3]

/-- The last point of a run stores the scratch, with its block of the residual added. -/
theorem out_last (c : Dev nD) (t : Fin cfg0.N) (h : t.val % 4 = 3) (j : S1088x1024.Idx) :
    (outsAt0 m c t.val t.isLt).1 j = (outsAt0 m c t.val t.isLt).2 j + iblk m c 2 t j := by
  rw [outsAt0_C m c t (by omega) h]
  frame_out
  rw [pay3]

/-- The tile of operand 0 a point reads. -/
theorem idx0 : ∀ t : Fin cfg0.N, win0_0.index t = ![t.val / 4, t.val % 4] := (by decide +kernel : ∀ t : Fin grid0.N, _)

/-- The tile of operand 1 a point reads. -/
theorem idx1 : ∀ t : Fin cfg0.N, win0_1.index t = ![t.val % 4, 0] := (by decide +kernel : ∀ t : Fin grid0.N, _)

/-- The first operand. -/
abbrev Xa (c : Dev nD) : FVec Ideal S4352x4096 .bf16 := m (c.tc.loc main_arg0)
/-- The second operand. -/
abbrev Xb (c : Dev nD) : FVec Ideal S4096x1024 .bf16 := m (c.tc.loc main_arg1)
/-- The residual. -/
abbrev Xc (c : Dev nD) : FVec Ideal S4352x1024 .f32 := m (c.tc.loc main_arg2)

/-- The block of operand 0 at a point, read in the whole operand. -/
theorem blk0 (c : Dev nD) (t : Fin cfg0.N) (k : Fin 1024) (p : Fin 1088) (hk : t.val % 4 * 1024 + k.val < 4096) (hp : t.val / 4 * 1088 + p.val < 4352) :
    iblk m c 0 t (ix2 p k) = Xa m c (ix2 ⟨t.val / 4 * 1088 + p.val, hp⟩ ⟨t.val % 4 * 1024 + k.val, hk⟩) := by
  unfold Xa; rw [← V_main_arg0 m c]
  refine congrArg (V m c main_arg0 : FVec Ideal S4352x4096 .bf16) (funext fun a => ?_)
  match a with
  | ⟨0, _⟩ | ⟨1, _⟩ => apply Fin.ext; blk_simp [idx0 t]

/-- The block of operand 1 at a point, read in the whole operand. -/
theorem blk1 (c : Dev nD) (t : Fin cfg0.N) (k p : Fin 1024) (hk : t.val % 4 * 1024 + k.val < 4096) :
    iblk m c 1 t (ix2 k p) = Xb m c (ix2 ⟨t.val % 4 * 1024 + k.val, hk⟩ p) := by
  unfold Xb; rw [← V_main_arg1 m c]
  refine congrArg (V m c main_arg1 : FVec Ideal S4096x1024 .bf16) (funext fun a => ?_)
  match a with
  | ⟨0, _⟩ | ⟨1, _⟩ => apply Fin.ext; blk_simp [idx1 t]

/-- The tile of the residual a point reads. -/
theorem idx2 : ∀ t : Fin cfg0.N, win0_2.index t = ![t.val / 4, 0] := (by decide +kernel : ∀ t : Fin grid0.N, _)

/-- The block of the residual at a point, read in the whole array. -/
theorem blk2 (c : Dev nD) (t : Fin cfg0.N) (p : Fin 1088) (q : Fin 1024) (hp : t.val / 4 * 1088 + p.val < 4352) :
    iblk m c 2 t (ix2 p q) = Xc m c (ix2 ⟨t.val / 4 * 1088 + p.val, hp⟩ q) := by
  unfold Xc; rw [← V_main_arg2 m c]
  refine congrArg (V m c main_arg2 : FVec Ideal S4352x1024 .f32) (funext fun a => ?_)
  match a with
  | ⟨0, _⟩ | ⟨1, _⟩ => apply Fin.ext; blk_simp [idx2 t]

/-- The array the kernel leaves, element by element. -/
theorem G_eq (c : Dev nD) (p : Fin 4352) (q : Fin 1024) :
    (Value.G3 m c : FVec Ideal S4352x1024 .f32) (ix2 p q) = (∑ k : Fin 4096, Xa m c (ix2 p k) * Xb m c (ix2 k q)) + Xc m c (ix2 p q) := by
  have hN : cfg0.N = 16 := N_0
  have ht : Value.pt3Of (ix2 p q) < cfg0.N := by
    rw [hN]; show 4 * (1 * (p.val / 1088 - 0) + 1 * (q.val / 1024 - 0)) + 3 < 16; omega
  unfold Value.G3
  rw [dif_pos ht, ← Value.outsAt0_sweep m c _ ht]
  have h3 : Value.pt3Of (ix2 p q) % 4 = 3 := by
    show (4 * (1 * (p.val / 1088 - 0) + 1 * (q.val / 1024 - 0)) + 3) % 4 = 3; omega
  have h4 : Value.pt3Of (ix2 p q) / 4 = p.val / 1088 := by
    show (4 * (1 * (p.val / 1088 - 0) + 1 * (q.val / 1024 - 0)) + 3) / 4 = _; omega
  generalize Value.pt3Of (ix2 p q) = n at ht h3 h4
  rw [out_last m c ⟨n, ht⟩ h3, last m c ⟨n, ht⟩ h3, zero_add]
  have e2 : iblk m c 2 ⟨n, ht⟩ (Value.loc3Of (ix2 p q)) = Xc m c (ix2 p q) := by
    have hb : n / 4 * 1088 + p.val % 1088 < 4352 := by omega
    refine Eq.trans ?_ ((blk2 m c ⟨n, ht⟩ ⟨p.val % 1088, by omega⟩ ⟨q.val % 1024, by omega⟩ hb).trans (congrArg _ ?_))
    · exact congrArg (iblk m c 2 ⟨n, ht⟩) (At.same rfl rfl)
    · funext a
      match a with
      | ⟨0, _⟩ => exact Fin.ext (show n / 4 * 1088 + p.val % 1088 = p.val by rw [h4]; omega)
      | ⟨1, _⟩ => exact Fin.ext (show q.val % 1024 = q.val by omega)
  refine congrArg₂ (fun a b : EReal => a + b) ?_ e2
  refine Fin.sum_mul_add_congr fun s k hl => ?_
  have hs : (4 * (n / 4) + s.val) % 4 = s.val := by omega
  have hd : (4 * (n / 4) + s.val) / 4 = n / 4 := by omega
  refine congrArg₂ (fun a b : EReal => a * b) ((blk0 m c _ k _ ?_ ?_).trans (congrArg _ ?_)) ((blk1 m c _ k _ ?_).trans (congrArg _ ?_))
  · show (4 * (n / 4) + s.val) % 4 * 1024 + k.val < 4096; omega
  · show (4 * (n / 4) + s.val) / 4 * 1088 + p.val % 1088 < 4352; omega
  · funext a
    match a with
    | ⟨0, _⟩ => exact Fin.ext (show (4 * (n / 4) + s.val) / 4 * 1088 + p.val % 1088 = p.val by rw [hd, h4]; omega)
    | ⟨1, _⟩ => exact Fin.ext (show (4 * (n / 4) + s.val) % 4 * 1024 + k.val = s.val * 1024 + k.val by rw [hs])
  · show (4 * (n / 4) + s.val) % 4 * 1024 + k.val < 4096; omega
  · funext a
    match a with
    | ⟨0, _⟩ => exact Fin.ext (show (4 * (n / 4) + s.val) % 4 * 1024 + k.val = s.val * 1024 + k.val by rw [hs])
    | ⟨1, _⟩ => exact Fin.ext (show q.val % 1024 = q.val by omega)

open Cert.Reference15Ideal.Read in
/-- The reference's array is the same product. -/
theorem ref_eq (x0 : FVec Ideal S4352x4096 .bf16) (x1 : FVec Ideal S4096x1024 .bf16) (x2 : FVec Ideal S4352x1024 .f32) (p : Fin 4352) (q : Fin 1024) :
    val_main_v3 (F := Ideal) x0 x1 x2 (ix2 p q) = (∑ k : Fin 4096, x0 (ix2 p k) * x1 (ix2 k q)) + x2 (ix2 p q) := by
  rw [val_main_v3_apply, val_main_v2_apply]
  refine (add_comm _ _).trans (congrArg (fun a : EReal => a + x2 (ix2 p q)) ?_)
  refine Finset.sum_congr rfl fun k _ => congrArg₂ (fun a b : EReal => a * b) ?_ ?_
  · exact congrArg x0 (At.same rfl rfl)
  · exact (congrArg x1 (At.same rfl rfl))

/-- The reference leaves its arguments as they were; it has no semaphore at all. -/
theorem frame_ref : @Cert.quiescent_Reference15Ideal Cert.Reference15Ideal.Gen.facts := fun m g _ =>
  (θ_run _ _ _).mono (fun r h => ⟨fun c => (h c).2, sem_eq_zero_of_no_sems (by decide) r.2⟩) (Cert.Reference15Ideal.Value.run m g)

/-- From equal arguments the kernel and the reference end with equal results. -/
theorem algebraic : @Cert.algebraic_Kernel15Ideal_Reference15Ideal Cert.Kernel15Ideal.Gen.facts Cert.Reference15Ideal.Gen.facts := by
  intro m g m' g' hp hm
  refine ⟨Value.G3 m, Value.run m g, ?_⟩
  refine (θ_run _ _ _).mono (fun _ h c => ?_) (Cert.Reference15Ideal.Value.run m' g')
  obtain ⟨h0, ha⟩ := h c
  obtain ⟨a0, a1, a2⟩ := hm c
  refine ⟨h0.trans ?_, ha⟩
  rw [Cert.Reference15Ideal.Read.val_main_v3_eq, a0, a1, a2]
  funext i
  obtain ⟨p, q, rfl⟩ := At.two i
  exact (ref_eq _ _ _ p q).trans (G_eq m c p q).symm

end Cert.Kernel15Ideal.Prod

end
-- ==== Proof.Prod.K16.lean ====
module

public import proofs.«01_k».proof.Proof.Prod.Base
public import proofs.«01_k».proof.Proof.Gen.Kernel16Ideal.Value
public import proofs.«01_k».proof.Proof.Gen.Reference16Ideal.Run
public import proofs.«01_k».proof.Proof.Gen.Reference16Ideal.Read

@[expose] public section

/-! # Kernel 16: the input projection, with 128 of its columns also kept unrounded

Every point of the grid computes one tile: the product of its rows of the first operand with its columns of the second. -/

noncomputable section

namespace Cert.Kernel16Ideal.Prod

open Cert.Kernel16Ideal Cert.Kernel16Ideal.Gen
open Idealize.ShloMosaic Idealize.ShloMosaic.TcCoe Idealize.ShloMosaic.Tactic Idealize.SL.Sem

variable (m : (ℓ : Loc nD τ sig) → Buf (Elt Ideal) ℓ)

/-- The point stores zero first. -/
theorem pay1 (j : S1088x1024.Idx) : k0_pay1 (F := Ideal) j = 0 := by
  obtain ⟨p, q, rfl⟩ := At.two j
  pointwise [k0_pay1]

/-- The product of two tiles. -/
def tile (x : Vec Ideal S1088x1024 .bf16) (y : Vec Ideal S1024x1024 .bf16) (j : S1088x1024.Idx) : EReal :=
  ∑ k : Fin 1024, x (ix2 (j 0) k) * y (ix2 (j 1) k)

/-- The point then adds its two tiles' product. -/
theorem pay2 (s : Vec Ideal S1088x1024 .f32) (x : Vec Ideal S1088x1024 .bf16) (y : Vec Ideal S1024x1024 .bf16) (j : S1088x1024.Idx) :
    k0_pay2 s x y j = s j + tile x y j := by
  obtain ⟨p, q, rfl⟩ := At.two j
  pointwise [k0_pay2]
  rfl

/-- The tile a point leaves in the first array. -/
theorem out_eq (c : Dev nD) (t : Fin cfg0.N) (j : S1088x1024.Idx) :
    (outsAt0 m c t.val t.isLt).1 j = tile (iblk m c 0 t) (iblk m c 1 t) j := by
  by_cases h : t.val % 8 = 7
  · rw [outsAt0_B m c t h]
    frame_out
    show k0_pay2 (F := Ideal) _ _ _ j = _
    rw [pay2, pay1, zero_add]
  · rw [outsAt0_A m c t h]
    frame_out
    show k0_pay2 (F := Ideal) _ _ _ j = _
    rw [pay2, pay1, zero_add]

/-! The tile of each array a point names. -/
theorem idx0 : ∀ t : Fin cfg0.N, win0_0.index t = ![t.val / 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, t.val % 8] := (by decide +kernel : ∀ t : Fin grid0.N, _)
theorem idx3 : ∀ t : Fin cfg0.N, win0_3.index t = ![t.val / 8, 0] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S8192x1024 .bf16 := m (c.tc.loc main_arg1)

/-- A point's block of the first operand, read in the whole array. -/
theorem blk0 (c : Dev nD) (t : Fin cfg0.N) (p : Fin 1088) (k : Fin 1024) (hp : t.val / 8 * 1088 + p.val < 4352) :
    iblk m c 0 t (ix2 p k) = Xa m c (ix2 ⟨t.val / 8 * 1088 + p.val, hp⟩ k) := by
  unfold Xa; rw [← V_main_arg0 m c]
  refine congrArg (V m c main_arg0 : FVec Ideal S4352x1024 .bf16) (funext fun a => ?_)
  match a with
  | ⟨0, _⟩ | ⟨1, _⟩ => apply Fin.ext; blk_simp [idx0 t]

/-- A point's block of the second operand, read in the whole array. -/
theorem blk1 (c : Dev nD) (t : Fin cfg0.N) (q k : Fin 1024) (hq : t.val % 8 * 1024 + q.val < 8192) :
    iblk m c 1 t (ix2 q k) = Xb m c (ix2 ⟨t.val % 8 * 1024 + q.val, hq⟩ k) := by
  unfold Xb; rw [← V_main_arg1 m c]
  refine congrArg (V m c main_arg1 : FVec Ideal S8192x1024 .bf16) (funext fun a => ?_)
  match a with
  | ⟨0, _⟩ | ⟨1, _⟩ => apply Fin.ext; blk_simp [idx1 t]

/-- The first array the kernel leaves. -/
def G (c : Dev nD) : FVec Ideal S4352x8192 .bf16 := fun i => (∑ k : Fin 1024, Xa m c (ix2 (i 0) k) * Xb m c (ix2 (i 1) k))

theorem G_at (c : Dev nD) (p : Fin 4352) (q : Fin 8192) (i : S4352x8192.Idx) (e0 : i 0 = p) (e1 : i 1 = q) :
    G m c i = (∑ k : Fin 1024, Xa m c (ix2 p k) * Xb m c (ix2 q k)) := by
  subst e0; subst e1
  rfl

/-- The first array at the end of the run. -/
theorem arr_eq (c : Dev nD) : (dats m 0 c).arrAt 2 cfg0.N = G m c := by
  refine (dats m 0 c).arrAt_eq_of_covers 2 (G m c) (by decide +kernel) fun t hf y => ?_
  obtain ⟨p, q, rfl⟩ := At.two y
  have hN : cfg0.N = 32 := N_0
  have ht : t.val < 32 := lt_of_lt_of_eq t.isLt hN
  have hp : t.val / 8 * 1088 + p.val < 4352 := by omega
  have hq : t.val % 8 * 1024 + q.val < 8192 := by omega
  have e0 : (((win0_2.blk t).view.emb (ix2 p q)) 0 : Fin 4352) = ⟨t.val / 8 * 1088 + p.val, hp⟩ := by
    apply Fin.ext; blk_simp [idx2 t]
  have e1 : (((win0_2.blk t).view.emb (ix2 p q)) 1 : Fin 8192) = ⟨t.val % 8 * 1024 + q.val, hq⟩ := by
    apply Fin.ext; blk_simp [idx2 t]
  refine Eq.trans ?_ (G_at m c _ _ _ e0 e1).symm
  show (dats m 0 c).after 2 t (ix2 p q) = _
  rw [after0_2]
  refine (out_eq m c t (ix2 p q)).trans ?_
  refine Finset.sum_congr rfl fun k _ => ?_
  exact congrArg₂ (fun a b : EReal => a * b) (blk0 m c t p k hp) (blk1 m c t q k hq)

open Cert.Reference16Ideal.Read in
/-- The reference's first array, element by element. -/
theorem ref_eq (x0 : FVec Ideal S4352x1024 .bf16) (x1 : FVec Ideal S8192x1024 .bf16) (p : Fin 4352) (q : Fin 8192) :
    val_main_v4 (F := Ideal) x0 x1 (ix2 p q) = (∑ k : Fin 1024, x0 (ix2 p k) * x1 (ix2 q k)) := by
  rw [val_main_v4_apply]
  show val_main_v3 (F := Ideal) x0 x1 (ix2 p q) = _
  rw [val_main_v3_apply]
  refine Finset.sum_congr rfl fun k _ => congrArg₂ (fun a b : EReal => a * b) ?_ ?_
  · exact congrArg x0 (At.same rfl rfl)
  · exact (val_main_v2_apply _ _).trans (congrArg x1 (At.same rfl rfl))

/-- The tile the last point of a row of tiles leaves in the second array: 128 columns of the sum. -/
theorem outs_eq (c : Dev nD) (t : Fin cfg0.N) (h : t.val % 8 = 7) (p : Fin 1088) (q : Fin 128) :
    (outsAt0 m c t.val t.isLt).2 (ix2 p q) = tile (iblk m c 0 t) (iblk m c 1 t) (ix2 p ⟨768 + q.val, by omega⟩) := by
  rw [outsAt0_B m c t h]
  frame_out
  rw [View.readCov_eq_canon']
  refine (congrFun (View.canon_cons_unit_lit (S := S1088x1024) _ _ _ (fun a => by
    match a with
    | ⟨0, _⟩ => rfl
    | ⟨1, _⟩ => rfl)) _).trans ?_
  refine (congrArg _ (show _ = ix2 p (⟨768 + q.val, by omega⟩ : Fin 1024) from funext fun a => Fin.ext (by
    match a with
    | ⟨0, _⟩ => show 0 + 1 * p.val = p.val; omega
    | ⟨1, _⟩ => show 768 + 1 * q.val = 768 + q.val; omega))).trans ?_
  exact (pay2 _ _ _ _).trans (by rw [pay1, zero_add])

/-- The second array the kernel leaves. -/
def Gs (c : Dev nD) : FVec Ideal S4352x128 .f32 := fun i =>
  ∑ k : Fin 1024, Xa m c (ix2 (i 0) k) * Xb m c (ix2 ⟨7936 + (i 1).val, by have : (i 1).val < 128 := (i 1).isLt; omega⟩ k)

theorem Gs_at (c : Dev nD) (p : Fin 4352) (q : Fin 128) (i : S4352x128.Idx) (e0 : i 0 = p) (e1 : i 1 = q) :
    Gs m c i = ∑ k : Fin 1024, Xa m c (ix2 p k) * Xb m c (ix2 ⟨7936 + q.val, by omega⟩ k) := by
  subst e0; subst e1
  rfl

/-- The second array is written back after the last point of a row of tiles. -/
theorem flush3 : ∀ t : Fin cfg0.N, (cfg0.win 3).flush t = true → t.val % 8 = 7 :=
  (by decide +kernel : ∀ t : Fin grid0.N, (cfg0.win 3).flush t = true → t.val % 8 = 7)

/-- The second array at the end of the run. -/
theorem arr_eqs (c : Dev nD) : (dats m 0 c).arrAt 3 cfg0.N = Gs m c := by
  refine (dats m 0 c).arrAt_eq_of_covers 3 (Gs m c) (by decide +kernel) fun t hf y => ?_
  obtain ⟨p, q, rfl⟩ := At.two y
  have hN : cfg0.N = 32 := N_0
  have ht : t.val < 32 := lt_of_lt_of_eq t.isLt hN
  have h7 := flush3 t hf
  have hp : t.val / 8 * 1088 + p.val < 4352 := by omega
  have hq : t.val % 8 * 1024 + (768 + q.val) < 8192 := by omega
  have e0 : (((win0_3.blk t).view.emb (ix2 p q)) 0 : Fin 4352) = ⟨t.val / 8 * 1088 + p.val, hp⟩ := by
    apply Fin.ext; blk_simp [idx3 t]
  have e1 : (((win0_3.blk t).view.emb (ix2 p q)) 1 : Fin 128) = q := by
    apply Fin.ext; blk_simp [idx3 t]
  refine Eq.trans ?_ (Gs_at m c _ _ _ e0 e1).symm
  show (dats m 0 c).after 3 t (ix2 p q) = _
  rw [after0_3]
  refine (outs_eq m c t h7 p q).trans ?_
  refine Finset.sum_congr rfl fun k _ => ?_
  refine congrArg₂ (fun a b : EReal => a * b) (blk0 m c t p k hp) ((blk1 m c t ⟨768 + q.val, by omega⟩ k hq).trans ?_)
  refine congrArg (Xb m c) (funext fun a => ?_)
  match a with
  | ⟨0, _⟩ => exact Fin.ext (show t.val % 8 * 1024 + (768 + q.val) = 7936 + q.val by omega)
  | ⟨1, _⟩ => rfl

open Cert.Reference16Ideal.Read in
/-- The reference's second array, element by element. -/
theorem ref_eqs (x0 : FVec Ideal S4352x1024 .bf16) (x1 : FVec Ideal S8192x1024 .bf16) (p : Fin 4352) (q : Fin 128) :
    val_main_v5 (F := Ideal) x0 x1 (ix2 p q) = ∑ k : Fin 1024, x0 (ix2 p k) * x1 (ix2 ⟨7936 + q.val, by omega⟩ k) := by
  rw [val_main_v5_apply, val_main_v3_apply]
  refine Finset.sum_congr rfl fun k _ => congrArg₂ (fun a b : EReal => a * b) ?_ ?_
  · exact congrArg x0 (funext fun a => by match a with | ⟨0, _⟩ => exact Fin.ext (by simp [lidx_main_v3, idx_main_v5]) | ⟨1, _⟩ => rfl)
  · exact (val_main_v2_apply _ _).trans (congrArg x1 (funext fun a => by match a with | ⟨0, _⟩ => exact Fin.ext (by simp [ridx_main_v3, idx_main_v2, idx_main_v5]) | ⟨1, _⟩ => rfl))

/-- The reference leaves its arguments as they were; it has no semaphore at all. -/
theorem frame_ref : @Cert.quiescent_Reference16Ideal Cert.Reference16Ideal.Gen.facts := fun m g _ =>
  (θ_run _ _ _).mono (fun r h => ⟨fun c => (h c).2.2, sem_eq_zero_of_no_sems (by decide) r.2⟩) (Cert.Reference16Ideal.Value.run m g)

/-- From equal arguments the kernel and the reference end with equal results. -/
theorem algebraic : @Cert.algebraic_Kernel16Ideal_Reference16Ideal Cert.Kernel16Ideal.Gen.facts Cert.Reference16Ideal.Gen.facts := by
  intro m g m' g' hp hm
  refine ⟨G m, Gs m, (θ_run _ _ _).mono (fun _ h c => ⟨(h c).1.trans (arr_eq m c), (h c).2.1.trans (arr_eqs m c), (h c).2.2⟩) (Value.run_blocks m g), ?_⟩
  refine (θ_run _ _ _).mono (fun _ h c => ?_) (Cert.Reference16Ideal.Value.run m' g')
  obtain ⟨h0, h1, ha⟩ := h c
  obtain ⟨a0, a1⟩ := hm c
  refine ⟨h0.trans ?_, h1.trans ?_, ha⟩
  · rw [Cert.Reference16Ideal.Read.val_main_v4_eq, a0, a1]
    funext i
    obtain ⟨p, q, rfl⟩ := At.two i
    exact (ref_eq _ _ p q).trans (G_at m c p q _ rfl rfl).symm
  · rw [Cert.Reference16Ideal.Read.val_main_v5_eq, a0, a1]
    funext i
    obtain ⟨p, q, rfl⟩ := At.two i
    exact (ref_eqs _ _ p q).trans (Gs_at m c p q _ rfl rfl).symm

end Cert.Kernel16Ideal.Prod

end
-- ==== Proof.Prod.K17.lean ====
module

public import proofs.«01_k».proof.Proof.Prod.Base
public import proofs.«01_k».proof.Proof.Gen.Kernel17Ideal.Value
public import proofs.«01_k».proof.Proof.Gen.Reference17Ideal.Run
public import proofs.«01_k».proof.Proof.Gen.Reference17Ideal.Read

@[expose] public section

/-! # Kernel 17: the output projection, with the residual added

Every point of the grid computes one tile: the product of its rows of the first operand with the columns of the second, added to its tile of the third. -/

noncomputable section

namespace Cert.Kernel17Ideal.Prod

open Cert.Kernel17Ideal Cert.Kernel17Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x1024 .bf16) (y : Vec Ideal S1024x1024 .bf16) (p : Fin 1088) (q : Fin 1024) : EReal :=
  ∑ k : Fin 1024, x (ix2 p k) * y (ix2 k q)

/-- A point sets its sum to zero and adds its tiles' product. -/
theorem pay (x : Vec Ideal S1088x1024 .bf16) (y : Vec Ideal S1024x1024 .bf16) (p : Fin 1088) (q : Fin 1024) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 1024) :
    outsAt0 m c t (ix2 p q) = tile (iblk m c 0 t) (iblk m c 1 t) p q + iblk m c 2 t (ix2 p q) := by
  unfold outsAt0
  frame_out
  rw [← pay]
  pointwise [k0_pay3]

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S1024x1024 .bf16 := m (c.tc.loc main_arg1)
/-- What is added. -/
abbrev Xc (c : Dev nD) : FVec Ideal S4352x1024 .f32 := m (c.tc.loc main_arg2)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 1024) : iblk m c 0 t (ix2 p k) = Xa m c (ix2 (row t p) k) := by
  unfold Xa; rw [← V_main_arg0 m c]
  refine congrArg (V m c main_arg0 : FVec Ideal S4352x1024 .bf16) (funext fun a => Fin.ext ?_)
  match a with | ⟨0, _⟩ | ⟨1, _⟩ => blk_simp [idx0 t]

theorem blk1 (c : Dev nD) (t : Fin cfg0.N) (q k : Fin 1024) : iblk m c 1 t (ix2 k q) = Xb m c (ix2 k q) := by
  unfold Xb; rw [← V_main_arg1 m c]
  refine congrArg (V m c main_arg1 : FVec Ideal S1024x1024 .bf16) (funext fun a => Fin.ext ?_)
  match a with | ⟨0, _⟩ | ⟨1, _⟩ => blk_simp [idx1 t]

theorem blk2 (c : Dev nD) (t : Fin cfg0.N) (p : Fin 1088) (q : Fin 1024) : iblk m c 2 t (ix2 p q) = Xc m c (ix2 (row t p) q) := by
  unfold Xc; rw [← V_main_arg2 m c]
  refine congrArg (V m c main_arg2 : FVec Ideal S4352x1024 .f32) (funext fun a => Fin.ext ?_)
  match a with | ⟨0, _⟩ | ⟨1, _⟩ => blk_simp [idx2 t]

theorem emb (t : Fin cfg0.N) (p : Fin 1088) (q : Fin 1024) : (win0_3.blk t).view.emb (ix2 p q) = ix2 (row t p) q :=
  At.same (Fin.ext (by blk_simp [idx3 t])) (Fin.ext (by blk_simp [idx3 t]))

/-- The array the kernel leaves. -/
def G (c : Dev nD) : FVec Ideal S4352x1024 .f32 := fun i => (∑ k : Fin 1024, Xa m c (ix2 (i 0) k) * Xb m c (ix2 k (i 1)) : EReal) + Xc m c i

theorem arr_eq (c : Dev nD) : (dats m 0 c).arrAt 3 cfg0.N = G m c := by
  refine (dats m 0 c).arrAt_eq_of_covers 3 (G m c) (by decide +kernel) fun t _ y => ?_
  obtain ⟨p, q, rfl⟩ := At.two y
  show (dats m 0 c).after 3 t (ix2 p q) = G m c ((win0_3.blk t).view.emb (ix2 p q))
  rw [after0_3, emb]
  refine (out_eq m c t p q).trans ?_
  exact congrArg₂ (fun a b : EReal => a + b) (Finset.sum_congr rfl fun k _ => congrArg₂ (fun a b : EReal => a * b) (blk0 m c t p k) (blk1 m c t q k)) (blk2 m c t p q)

open Cert.Reference17Ideal.Read in
/-- The reference's array, element by element. -/
theorem ref_eq (x0 : FVec Ideal S4352x1024 .bf16) (x1 : FVec Ideal S1024x1024 .bf16) (x2 : FVec Ideal S4352x1024 .f32) (p : Fin 4352) (q : Fin 1024) :
    val_main_v3 (F := Ideal) x0 x1 x2 (ix2 p q) = (∑ k : Fin 1024, x0 (ix2 p k) * x1 (ix2 k q) : EReal) + x2 (ix2 p q) := by
  rw [val_main_v3_apply]
  rw [val_main_v2_apply]
  refine (add_comm _ _).trans (congrArg (fun a : EReal => a + x2 (ix2 p q)) ?_)
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference17Ideal Cert.Reference17Ideal.Gen.facts := fun m g _ =>
  (θ_run _ _ _).mono (fun r h => ⟨fun c => (h c).2, sem_eq_zero_of_no_sems (by decide) r.2⟩) (Cert.Reference17Ideal.Value.run m g)

/-- From equal arguments the kernel and the reference end with equal results. -/
theorem algebraic : @Cert.algebraic_Kernel17Ideal_Reference17Ideal Cert.Kernel17Ideal.Gen.facts Cert.Reference17Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference17Ideal.Value.run m' g')
  obtain ⟨a0, a1, a2⟩ := hm c
  rw [Cert.Reference17Ideal.Read.val_main_v3_eq, a0, a1, a2]
  funext i
  obtain ⟨p, q, rfl⟩ := At.two i
  exact ref_eq _ _ _ p q

end Cert.Kernel17Ideal.Prod

end
-- ==== Proof.Prod.K18.lean ====
module

public import proofs.«01_k».proof.Proof.Prod.Base
public import proofs.«01_k».proof.Proof.Gen.Kernel18Ideal.Value
public import proofs.«01_k».proof.Proof.Gen.Reference18Ideal.Run
public import proofs.«01_k».proof.Proof.Gen.Reference18Ideal.Read

@[expose] public section

/-! # Kernel 18: the projection of the state-space branch

A product summed tile by tile over its long axis. The carried sum after the last of a run's 2 points is the sum of the
2 tiles' products, which is the product of the whole rows and columns. -/

noncomputable section

namespace Cert.Kernel18Ideal.Prod

open Cert.Kernel18Ideal Cert.Kernel18Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S1088x1024.Idx) : k0_pay1 (F := Ideal) j = 0 := by
  obtain ⟨p, q, rfl⟩ := At.two j
  pointwise [k0_pay1]

/-- What a point adds to the carried sum: the product of its two tiles. -/
def part (x : Vec Ideal S1088x1024 .bf16) (y : Vec Ideal S1024x1024 .bf16) (j : S1088x1024.Idx) : EReal :=
  ∑ k : Fin 1024, x (ix2 (j 0) k) * y (ix2 k (j 1))

/-- Every point adds its tiles' product. -/
theorem pay2 (s : Vec Ideal S1088x1024 .f32) (x : Vec Ideal S1088x1024 .bf16) (y : Vec Ideal S1024x1024 .bf16) (j : S1088x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 2 = 1) (j : S1088x1024.Idx) :
    (outsAt0 m c t.val t.isLt).2 j = 0 + ∑ s : Fin 2, part (iblk m c 0 ⟨2 * (t.val / 2) + s.val, by have := t.isLt; have hN : cfg0.N = 8 := N_0; omega⟩)
      (iblk m c 1 ⟨2 * (t.val / 2) + s.val, by have := t.isLt; have hN : cfg0.N = 8 := N_0; omega⟩) j := by
  refine Pipeline.eq_sum_fin_of_reset_step_apply_of_flush (fun n h => (outsAt0 m c n h).2) 2 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    rw [outsAt0_B m c t h (by omega)]
    frame_out
    rw [pay2, read_unread_whole]

/-- The last point of a run stores the scratch. -/
theorem out_last (c : Dev nD) (t : Fin cfg0.N) (h : t.val % 2 = 1) (j : S1088x1024.Idx) :
    (outsAt0 m c t.val t.isLt).1 j = (outsAt0 m c t.val t.isLt).2 j := by
  rw [outsAt0_B m c t (by omega) h]
  frame_out
  rfl

/-- The tile of operand 0 a point reads. -/
theorem idx0 : ∀ t : Fin cfg0.N, win0_0.index t = ![t.val / 2, t.val % 2] := (by decide +kernel : ∀ t : Fin grid0.N, _)

/-- The tile of operand 1 a point reads. -/
theorem idx1 : ∀ t : Fin cfg0.N, win0_1.index t = ![t.val % 2, 0] := (by decide +kernel : ∀ t : Fin grid0.N, _)

/-- The first operand. -/
abbrev Xa (c : Dev nD) : FVec Ideal S4352x2048 .bf16 := m (c.tc.loc main_arg0)
/-- The second operand. -/
abbrev Xb (c : Dev nD) : FVec Ideal S2048x1024 .bf16 := m (c.tc.loc main_arg1)

/-- The block of operand 0 at a point, read in the whole operand. -/
theorem blk0 (c : Dev nD) (t : Fin cfg0.N) (k : Fin 1024) (p : Fin 1088) {K : Fin 2048} {P : Fin 4352} (hk : t.val % 2 * 1024 + k.val = K.val) (hp : t.val / 2 * 1088 + p.val = P.val) :
    iblk m c 0 t (ix2 p k) = Xa m c (ix2 P K) := by
  unfold Xa; rw [← V_main_arg0 m c]
  refine congrArg (V m c main_arg0 : FVec Ideal S4352x2048 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k p : Fin 1024) {K : Fin 2048} {P : Fin 1024} (hk : t.val % 2 * 1024 + k.val = K.val) (hp : p.val = P.val) :
    iblk m c 1 t (ix2 k p) = Xb m c (ix2 K P) := by
  unfold Xb; rw [← V_main_arg1 m c]
  refine congrArg (V m c main_arg1 : FVec Ideal S2048x1024 .bf16) (funext fun a => Fin.ext ?_)
  match a with
  | ⟨0, _⟩ | ⟨1, _⟩ => blk_simp [idx1 t] <;> omega

/-- The array the kernel leaves, element by element. -/
theorem G_eq (c : Dev nD) (p : Fin 4352) (q : Fin 1024) :
    (Value.G2 m c : FVec Ideal S4352x1024 .bf16) (ix2 p q) = ∑ k : Fin 2048, Xa m c (ix2 p k) * Xb m c (ix2 k q) := by
  have e : Value.pt2Of (ix2 p q) = 2 * (1 * (p.val / 1088 - 0) + 1 * (q.val / 1024 - 0)) + 1 := rfl
  have ht : Value.pt2Of (ix2 p q) < cfg0.N := by rw [show cfg0.N = 8 from N_0]; omega
  unfold Value.G2
  rw [dif_pos ht, ← Value.outsAt0_sweep m c _ ht]
  have h3 : Value.pt2Of (ix2 p q) % 2 = 1 := by omega
  have h4 : Value.pt2Of (ix2 p q) / 2 = p.val / 1088 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (2 * (n / 2) + s.val) % 2 * 1024 + k.val = s.val * 1024 + k.val by omega) (show (2 * (n / 2) + s.val) / 2 * 1088 + p.val % 1088 = p.val by omega))
    (blk1 m c _ k _ (show (2 * (n / 2) + s.val) % 2 * 1024 + k.val = s.val * 1024 + k.val by omega) (show q.val % 1024 = q.val by omega))

open Cert.Reference18Ideal.Read in
/-- The reference's array is the same product. -/
theorem ref_eq (x0 : FVec Ideal S4352x2048 .bf16) (x1 : FVec Ideal S2048x1024 .bf16) (p : Fin 4352) (q : Fin 1024) :
    val_main_v3 (F := Ideal) x0 x1 (ix2 p q) = ∑ k : Fin 2048, x0 (ix2 p k) * x1 (ix2 k q) := by
  rw [val_main_v3_apply]
  show val_main_v2 (F := Ideal) x0 x1 (ix2 p q) = _
  rw [val_main_v2_apply]
  refine Finset.sum_congr rfl fun k _ => congrArg₂ (fun a b : EReal => a * b) ?_ ?_
  · exact congrArg x0 (At.same rfl rfl)
  · exact (congrArg x1 (At.same rfl rfl))

/-- The reference leaves its arguments as they were; it has no semaphore at all. -/
theorem frame_ref : @Cert.quiescent_Reference18Ideal Cert.Reference18Ideal.Gen.facts := fun m g _ =>
  (θ_run _ _ _).mono (fun r h => ⟨fun c => (h c).2, sem_eq_zero_of_no_sems (by decide) r.2⟩) (Cert.Reference18Ideal.Value.run m g)

/-- From equal arguments the kernel and the reference end with equal results. -/
theorem algebraic : @Cert.algebraic_Kernel18Ideal_Reference18Ideal Cert.Kernel18Ideal.Gen.facts Cert.Reference18Ideal.Gen.facts := by
  intro m g m' g' hp hm
  refine ⟨Value.G2 m, Value.run m g, ?_⟩
  refine (θ_run _ _ _).mono (fun _ h c => ?_) (Cert.Reference18Ideal.Value.run m' g')
  obtain ⟨h0, ha⟩ := h c
  obtain ⟨a0, a1⟩ := hm c
  refine ⟨h0.trans ?_, ha⟩
  rw [Cert.Reference18Ideal.Read.val_main_v3_eq, a0, a1]
  funext i
  obtain ⟨p, q, rfl⟩ := At.two i
  exact (ref_eq _ _ p q).trans (G_eq m c p q).symm

end Cert.Kernel18Ideal.Prod

end
-- ==== Proof.Prod.K19.lean ====
module

public import proofs.«01_k».proof.Proof.Prod.Base
public import proofs.«01_k».proof.Proof.Gen.Kernel19Ideal.Value
public import proofs.«01_k».proof.Proof.Gen.Reference19Ideal.Run
public import proofs.«01_k».proof.Proof.Gen.Reference19Ideal.Read

@[expose] public section

/-! # Kernel 19: the projection of the attention's branch

Every point of the grid computes one tile: the product of its rows of the first operand with the columns of the second. -/

noncomputable section

namespace Cert.Kernel19Ideal.Prod

open Cert.Kernel19Ideal Cert.Kernel19Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x1024 .bf16) (y : Vec Ideal S1024x1024 .bf16) (p : Fin 1088) (q : Fin 1024) : EReal :=
  ∑ k : Fin 1024, x (ix2 p k) * y (ix2 k q)

/-- A point sets its sum to zero and adds its tiles' product. -/
theorem pay (x : Vec Ideal S1088x1024 .bf16) (y : Vec Ideal S1024x1024 .bf16) (p : Fin 1088) (q : Fin 1024) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 1024) :
    outsAt0 m c t (ix2 p q) = tile (iblk m c 0 t) (iblk m c 1 t) p q := by
  unfold outsAt0
  frame_out
  exact pay _ _ p q

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S1024x1024 .bf16 := m (c.tc.loc main_arg1)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 1024) : iblk m c 0 t (ix2 p k) = Xa m c (ix2 (row t p) k) := by
  unfold Xa; rw [← V_main_arg0 m c]
  refine congrArg (V m c main_arg0 : FVec Ideal S4352x1024 .bf16) (funext fun a => Fin.ext ?_)
  match a with | ⟨0, _⟩ | ⟨1, _⟩ => blk_simp [idx0 t]

theorem blk1 (c : Dev nD) (t : Fin cfg0.N) (q k : Fin 1024) : iblk m c 1 t (ix2 k q) = Xb m c (ix2 k q) := by
  unfold Xb; rw [← V_main_arg1 m c]
  refine congrArg (V m c main_arg1 : FVec Ideal S1024x1024 .bf16) (funext fun a => Fin.ext ?_)
  match a with | ⟨0, _⟩ | ⟨1, _⟩ => blk_simp [idx1 t]

theorem emb (t : Fin cfg0.N) (p : Fin 1088) (q : Fin 1024) : (win0_2.blk t).view.emb (ix2 p q) = ix2 (row t p) q :=
  At.same (Fin.ext (by blk_simp [idx2 t])) (Fin.ext (by blk_simp [idx2 t]))

/-- The array the kernel leaves. -/
def G (c : Dev nD) : FVec Ideal S4352x1024 .bf16 := fun i => (∑ k : Fin 1024, Xa m c (ix2 (i 0) k) * Xb m c (ix2 k (i 1)) : EReal)

theorem arr_eq (c : Dev nD) : (dats m 0 c).arrAt 2 cfg0.N = G m c := by
  refine (dats m 0 c).arrAt_eq_of_covers 2 (G m c) (by decide +kernel) fun t _ y => ?_
  obtain ⟨p, q, rfl⟩ := At.two y
  show (dats m 0 c).after 2 t (ix2 p q) = G m c ((win0_2.blk t).view.emb (ix2 p q))
  rw [after0_2, emb]
  refine (out_eq m c t p q).trans ?_
  exact Finset.sum_congr rfl fun k _ => congrArg₂ (fun a b : EReal => a * b) (blk0 m c t p k) (blk1 m c t q k)

open Cert.Reference19Ideal.Read in
/-- The reference's array, element by element. -/
theorem ref_eq (x0 : FVec Ideal S4352x1024 .bf16) (x1 : FVec Ideal S1024x1024 .bf16) (p : Fin 4352) (q : Fin 1024) :
    val_main_v3 (F := Ideal) x0 x1 (ix2 p q) = (∑ k : Fin 1024, x0 (ix2 p k) * x1 (ix2 k q) : EReal) := by
  rw [val_main_v3_apply]
  show val_main_v2 (F := Ideal) x0 x1 (ix2 p q) = _
  rw [val_main_v2_apply]
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference19Ideal Cert.Reference19Ideal.Gen.facts := fun m g _ =>
  (θ_run _ _ _).mono (fun r h => ⟨fun c => (h c).2, sem_eq_zero_of_no_sems (by decide) r.2⟩) (Cert.Reference19Ideal.Value.run m g)

/-- From equal arguments the kernel and the reference end with equal results. -/
theorem algebraic : @Cert.algebraic_Kernel19Ideal_Reference19Ideal Cert.Kernel19Ideal.Gen.facts Cert.Reference19Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference19Ideal.Value.run m' g')
  obtain ⟨a0, a1⟩ := hm c
  rw [Cert.Reference19Ideal.Read.val_main_v3_eq, a0, a1]
  funext i
  obtain ⟨p, q, rfl⟩ := At.two i
  exact ref_eq _ _ p q

end Cert.Kernel19Ideal.Prod

end
-- ==== Proof.Prod.Adam.lean ====
module

public import proofs.«01_k».proof.Proof.Prod.Base

@[expose] public section

/-! # The optimiser on one entry of a weight -/

noncomputable section

namespace Cert.Adam

open Idealize.ShloMosaic

/-- The mean of the gradients, moved towards the gradient. -/
def newM (g m : Ideal .f32) : Ideal .f32 :=
  FloatOps.addf (FloatOps.mulf (FloatOps.ofBits .f32 0x3F666666#32) m) (FloatOps.mulf (FloatOps.ofBits .f32 0x3DCCCCCD#32) g)

/-- The mean of their squares, moved towards the gradient's square. -/
def newV (g v : Ideal .f32) : Ideal .f32 :=
  FloatOps.addf (FloatOps.mulf (FloatOps.ofBits .f32 0x3F7FBE77#32) v)
    (FloatOps.mulf (FloatOps.ofBits .f32 0x3A83126F#32) (FloatOps.mulf g g))

/-- What is added to the weight. -/
def delta (g w m v : Ideal .f32) : Ideal .f32 :=
  FloatOps.mulf (FloatOps.ofBits .f32 0xBA83126F#32)
    (FloatOps.addf
      (FloatOps.divf (FloatOps.divf (newM g m) (FloatOps.ofBits .f32 0x3F26BD02#32))
        (FloatOps.addf (FloatOps.sqrt (FloatOps.divf (newV g v) (FloatOps.ofBits .f32 0x3C231ACC#32)))
          (FloatOps.ofBits .f32 0x322BCC77#32)))
      (FloatOps.mulf (FloatOps.ofBits .f32 0x3C23D70A#32) w))

/-- Eight numbers added one after the other are their sum. -/
theorem sum8 (f : Fin 8 → EReal) : f 0 + f 1 + f 2 + f 3 + f 4 + f 5 + f 6 + f 7 = ∑ k : Fin 8, f k :=
  (Fin.sum_univ_eight f).symm

/-! A gradient from the eight parts of each layer. -/

variable {a b d : ℕ} {e : FTy}

/-- Two layers. -/
def both (x y : FVec Ideal ⟨3, ![8, a, b]⟩ e) : FVec Ideal ⟨3, ![2, a, b]⟩ .f32 := fun i =>
  if (i 0).val = 0 then (∑ k : Fin 8, x (ix3 k (i 1) (i 2)) : EReal) else (∑ k : Fin 8, y (ix3 k (i 1) (i 2)) : EReal)

/-- One layer. -/
def one (x : FVec Ideal ⟨3, ![8, a, b]⟩ e) : FVec Ideal ⟨3, ![1, a, b]⟩ .f32 := fun i =>
  (∑ k : Fin 8, x (ix3 k (i 1) (i 2)) : EReal)

/-- No layer at all. -/
def flat (x : FVec Ideal ⟨3, ![8, a, b]⟩ e) : FVec Ideal ⟨2, ![a, b]⟩ .f32 := fun i =>
  (∑ k : Fin 8, x (ix3 k (i 0) (i 1)) : EReal)

/-! A place of an array, by its coordinates. -/

theorem eta2 (y : (⟨2, ![a, b]⟩ : Shape).Idx) : y = ix2 (y 0) (y 1) := by
  funext i; match i with | ⟨0, _⟩ => rfl | ⟨1, _⟩ => rfl

theorem eta3 (y : (⟨3, ![a, b, d]⟩ : Shape).Idx) : y = ix3 (y 0) (y 1) (y 2) := by
  funext i; match i with | ⟨0, _⟩ => rfl | ⟨1, _⟩ => rfl | ⟨2, _⟩ => rfl

end Cert.Adam

end
-- ==== Proof.Prod.K20.lean ====
module

public import proofs.«01_k».proof.Proof.Prod.Adam
public import proofs.«01_k».proof.Proof.Gen.Kernel20Ideal.Value
public import proofs.«01_k».proof.Proof.Gen.Reference20Ideal.Run
public import proofs.«01_k».proof.Proof.Gen.Reference20Ideal.Read

@[expose] public section

/-! # Kernel 20: the optimiser's step on the MLP's second weight

A point of the grid takes some rows of one layer: it adds up the eight parts of their gradient and steps their weight and
its two moments. The first half of the points reads the first layer's parts, the second half the second layer's. -/

noncomputable section

namespace Cert.Kernel20Ideal.Prod

open Cert.Kernel20Ideal Cert.Kernel20Ideal.Gen
open Idealize.ShloMosaic Idealize.ShloMosaic.TcCoe Idealize.ShloMosaic.Tactic Idealize.SL.Sem

variable (m : (ℓ : Loc nD τ sig) → Buf (Elt Ideal) ℓ)

/-- One of the eight parts of a block. -/
abbrev part (X : Vec Ideal S8x128x1024 .bf16) (k : ℕ) (h : ∀ a, ![k, 0, 0] a + ![1, 128, 1024] a ≤ S8x128x1024.size a) : Vec Ideal S1x128x1024 .bf16 :=
  View.ld X (Rect.unit ![k, 0, 0] ![1, 128, 1024] h)

/-- Their sum. -/
abbrev total (X : Vec Ideal S8x128x1024 .bf16) : FVec Ideal S128x1024 .f32 :=
  k0_pay5 (part X 0 inb_S8x128x1024_S1x128x1024_0_0_0) (part X 1 inb_S8x128x1024_S1x128x1024_1_0_0) (part X 2 inb_S8x128x1024_S1x128x1024_2_0_0) (part X 3 inb_S8x128x1024_S1x128x1024_3_0_0)
    (part X 4 inb_S8x128x1024_S1x128x1024_4_0_0) (part X 5 inb_S8x128x1024_S1x128x1024_5_0_0) (part X 6 inb_S8x128x1024_S1x128x1024_6_0_0) (part X 7 inb_S8x128x1024_S1x128x1024_7_0_0)

/-- The first moment a point computes. -/
abbrev mom (X : Vec Ideal S8x128x1024 .bf16) (s : Vec Ideal S1x128x1024 .f32) : FVec Ideal S128x1024 .f32 :=
  k0_pay7 (total X) (k0_pay6 s)

/-- What a point stores in the blocks of its four results. -/
theorem stored (X : Vec Ideal S8x128x1024 .bf16) (w s v : Vec Ideal S1x128x1024 .f32) (z : Fin 1) (p : Fin 128) (q : Fin 1024) (g : Ideal .f32)
    (hg : ∑ k : Fin 8, (X (ix3 k p q) : EReal) = g) :
    k0_pay9 (total X) (ix3 z p q) = g
    ∧ k0_pay10 (total X) (k0_pay6 s) v w (ix3 z p q) = Adam.delta g (w (ix3 0 p q)) (s (ix3 0 p q)) (v (ix3 0 p q))
    ∧ k0_pay1 (mom X s) (ix3 z p q) = Adam.newM g (s (ix3 0 p q))
    ∧ k0_pay2 (k0_pay8 (total X) v) (ix3 z p q) = Adam.newV g (v (ix3 0 p q)) := by
  have h : total X (ix2 p q) = g := by
    unfold total part
    pointwise [k0_pay5]
    exact (Adam.sum8 fun k => X (ix3 k p q)).trans hg
  rw [← h]
  unfold k0_pay10 mom k0_pay7 k0_pay8
  refine ⟨?_, ?_, ?_, ?_⟩ <;> pointwise [k0_pay9, k0_pay6, k0_pay1, k0_pay2, Adam.newM, Adam.newV, Adam.delta]

/-! The block of each array a point names. -/

theorem idx0 : ∀ t : Fin cfg0.N, win0_0.index t = ![0, t.val % 4, 0] := (by decide +kernel : ∀ t : Fin grid0.N, _)
theorem idx1 : ∀ t : Fin cfg0.N, win0_1.index t = ![0, t.val % 4, 0] := (by decide +kernel : ∀ t : Fin grid0.N, _)
theorem idx : ∀ t : Fin cfg0.N,
    win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

/-- The eight parts of the first layer's gradient. -/
abbrev X0 (c : Dev nD) : FVec Ideal S8x512x1024 .bf16 := m (c.tc.loc main_arg0)
/-- The eight parts of the second layer's gradient. -/
abbrev X1 (c : Dev nD) : FVec Ideal S8x512x1024 .bf16 := m (c.tc.loc main_arg1)
/-- The weight. -/
abbrev X2 (c : Dev nD) : FVec Ideal S2x512x1024 .f32 := m (c.tc.loc main_arg2)
/-- Its first moment. -/
abbrev X3 (c : Dev nD) : FVec Ideal S2x512x1024 .f32 := m (c.tc.loc main_arg3)
/-- Its second moment. -/
abbrev X4 (c : Dev nD) : FVec Ideal S2x512x1024 .f32 := m (c.tc.loc main_arg4)

/-- The row of the whole array that a row of a point's block is. -/
abbrev row (t : Fin cfg0.N) (p : Fin 128) : Fin 512 := ⟨t.val % 4 * 128 + p.val, by have := lt_of_lt_of_eq t.isLt N_0; omega⟩
/-- The place of the whole array that a place of a point's block is. -/
abbrev pos (t : Fin cfg0.N) (p : Fin 128) (q : Fin 1024) : S2x512x1024.Idx :=
  ix3 ⟨t.val / 4, by have := lt_of_lt_of_eq t.isLt N_0; omega⟩ (row t p) q

theorem blk0 (c : Dev nD) (t : Fin cfg0.N) (k : Fin 8) (p : Fin 128) (q : Fin 1024) :
    iblk m c 0 t (ix3 k p q) = X0 m c (ix3 k (row t p) q) := by
  unfold X0; rw [← V_main_arg0 m c]
  refine congrArg (V m c main_arg0 : FVec Ideal S8x512x1024 .bf16) (funext fun a => Fin.ext ?_)
  match a with
  | ⟨0, _⟩ | ⟨1, _⟩ | ⟨2, _⟩ => blk_simp [idx0 t]

theorem blk1 (c : Dev nD) (t : Fin cfg0.N) (k : Fin 8) (p : Fin 128) (q : Fin 1024) :
    iblk m c 1 t (ix3 k p q) = X1 m c (ix3 k (row t p) q) := by
  unfold X1; rw [← V_main_arg1 m c]
  refine congrArg (V m c main_arg1 : FVec Ideal S8x512x1024 .bf16) (funext fun a => Fin.ext ?_)
  match a with
  | ⟨0, _⟩ | ⟨1, _⟩ | ⟨2, _⟩ => blk_simp [idx1 t]

theorem blks (c : Dev nD) (t : Fin cfg0.N) (p : Fin 128) (q : Fin 1024) :
    iblk m c 2 t (ix3 0 p q) = X2 m c (pos t p q)
    ∧ iblk m c 3 t (ix3 0 p q) = X3 m c (pos t p q)
    ∧ iblk m c 4 t (ix3 0 p q) = X4 m c (pos t p q) := by
  unfold X2 X3 X4; rw [← V_main_arg2 m c, ← V_main_arg3 m c, ← V_main_arg4 m c]
  obtain ⟨h2, h3, h4, _⟩ := idx t
  refine ⟨congrArg (V m c main_arg2 : FVec Ideal S2x512x1024 .f32) (funext fun a => Fin.ext ?_),
    congrArg (V m c main_arg3 : FVec Ideal S2x512x1024 .f32) (funext fun a => Fin.ext ?_),
    congrArg (V m c main_arg4 : FVec Ideal S2x512x1024 .f32) (funext fun a => Fin.ext ?_)⟩ <;> match a with
  | ⟨0, _⟩ | ⟨1, _⟩ | ⟨2, _⟩ => blk_simp [h2, h3, h4] <;> rfl

theorem emb (t : Fin cfg0.N) (z : Fin 1) (p : Fin 128) (q : Fin 1024) :
    (win0_5.blk t).view.emb (ix3 z p q) = pos t p q
    ∧ (win0_6.blk t).view.emb (ix3 z p q) = pos t p q
    ∧ (win0_7.blk t).view.emb (ix3 z p q) = pos t p q
    ∧ (win0_8.blk t).view.emb (ix3 z p q) = pos t p q := by
  obtain ⟨_, _, _, h5, h6, h7, h8⟩ := idx t
  refine ⟨funext fun a => Fin.ext ?_, funext fun a => Fin.ext ?_, funext fun a => Fin.ext ?_, funext fun a => Fin.ext ?_⟩ <;> match a with
  | ⟨0, _⟩ | ⟨1, _⟩ | ⟨2, _⟩ => blk_simp [h5, h6, h7, h8] <;> rfl

/-- The gradient. -/
def G0 (c : Dev nD) : FVec Ideal S2x512x1024 .f32 := Adam.both (X0 m c) (X1 m c)
/-- The change of the weight. -/
def G1 (c : Dev nD) : FVec Ideal S2x512x1024 .f32 := fun i => Adam.delta (G0 m c i) (X2 m c i) (X3 m c i) (X4 m c i)
/-- The new first moment. -/
def G2 (c : Dev nD) : FVec Ideal S2x512x1024 .f32 := fun i => Adam.newM (G0 m c i) (X3 m c i)
/-- The new second moment. -/
def G3 (c : Dev nD) : FVec Ideal S2x512x1024 .f32 := fun i => Adam.newV (G0 m c i) (X4 m c i)

/-- What a point leaves in the blocks of its four results. -/
theorem point (c : Dev nD) (t : Fin cfg0.N) (z : Fin 1) (p : Fin 128) (q : Fin 1024) :
    (outsAt0 m c t.val t.isLt).1 (ix3 z p q) = G0 m c (pos t p q)
    ∧ (outsAt0 m c t.val t.isLt).2.1 (ix3 z p q) = G1 m c (pos t p q)
    ∧ (outsAt0 m c t.val t.isLt).2.2.1 (ix3 z p q) = G2 m c (pos t p q)
    ∧ (outsAt0 m c t.val t.isLt).2.2.2 (ix3 z p q) = G3 m c (pos t p q) := by
  have ht := lt_of_lt_of_eq t.isLt N_0
  by_cases h : t.val < 4
  · rw [outsAt0_A m c t (by omega) (by omega)]
    have s := stored (iblk m c 0 t) (iblk m c 2 t) (iblk m c 3 t) (iblk m c 4 t) z p q (G0 m c (pos t p q))
      ((congrArg (fun f : Fin 8 → EReal => ∑ k, f k) (funext fun k => blk0 m c t k p q)).trans (if_pos (show t.val / 4 = 0 by omega)).symm)
    simp only [blks m c t p q] at s
    refine ⟨?_, ?_, ?_, ?_⟩ <;> frame_out
    exacts [s.1, s.2.1, s.2.2.1, s.2.2.2]
  · rw [outsAt0_B m c t (by omega) (by omega)]
    have s := stored (iblk m c 1 t) (iblk m c 2 t) (iblk m c 3 t) (iblk m c 4 t) z p q (G0 m c (pos t p q))
      ((congrArg (fun f : Fin 8 → EReal => ∑ k, f k) (funext fun k => blk1 m c t k p q)).trans (if_neg (show ¬t.val / 4 = 0 by omega)).symm)
    simp only [blks m c t p q] at s
    refine ⟨?_, ?_, ?_, ?_⟩ <;> frame_out
    exacts [s.1, s.2.1, s.2.2.1, s.2.2.2]

/-! The four arrays at the end of the run. -/

theorem arrs (c : Dev nD) :
    (dats m 0 c).arrAt 5 cfg0.N = G0 m c
    ∧ (dats m 0 c).arrAt 6 cfg0.N = G1 m c
    ∧ (dats m 0 c).arrAt 7 cfg0.N = G2 m c
    ∧ (dats m 0 c).arrAt 8 cfg0.N = G3 m c := by
  refine ⟨(dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_⟩
  · show (dats m 0 c).after 5 t y = G0 m c ((win0_5.blk t).view.emb y)
    rw [after0_5, Adam.eta3 y]
    exact (point m c t (y 0) (y 1) (y 2)).1.trans (congrArg _ (emb t (y 0) (y 1) (y 2)).1.symm)
  · show (dats m 0 c).after 6 t y = G1 m c ((win0_6.blk t).view.emb y)
    rw [after0_6, Adam.eta3 y]
    exact (point m c t (y 0) (y 1) (y 2)).2.1.trans (congrArg _ (emb t (y 0) (y 1) (y 2)).2.1.symm)
  · show (dats m 0 c).after 7 t y = G2 m c ((win0_7.blk t).view.emb y)
    rw [after0_7, Adam.eta3 y]
    exact (point m c t (y 0) (y 1) (y 2)).2.2.1.trans (congrArg _ (emb t (y 0) (y 1) (y 2)).2.2.1.symm)
  · show (dats m 0 c).after 8 t y = G3 m c ((win0_8.blk t).view.emb y)
    rw [after0_8, Adam.eta3 y]
    exact (point m c t (y 0) (y 1) (y 2)).2.2.2.trans (congrArg _ (emb t (y 0) (y 1) (y 2)).2.2.2.symm)

/-! The reference, element by element. -/

open Cert.Reference20Ideal.Read in
theorem ref_sum (x0 x1 : FVec Ideal S8x512x1024 .bf16) (z : Fin 2) (p : Fin 512) (q : Fin 1024) :
    val_main_v6 (F := Ideal) x0 x1 (ix3 z p q) = Adam.both x0 x1 (ix3 z p q) := by
  unfold val_main_v6
  match z with
  | ⟨0, _⟩ =>
    refine Eq.trans ?_ (if_pos rfl).symm
    pointwise
    show val_main_v4 (F := Ideal) x0 (ix3 0 p q) = _
    rw [val_main_v4_apply, val_main_v1_apply]
    refine (congrArg (fun a : EReal => a + _) (Ideal.ofBits_zero_f32 : val_main_cst (F := Ideal) _ = 0)).trans ((zero_add _).trans (Finset.sum_congr rfl fun k _ => ?_))
    exact congrArg x0 (At.same3 rfl rfl rfl)
  | ⟨1, _⟩ =>
    refine Eq.trans ?_ (if_neg Nat.one_ne_zero).symm
    pointwise
    show val_main_v5 (F := Ideal) x1 (ix3 0 p q) = _
    rw [val_main_v5_apply, val_main_v3_apply]
    refine (congrArg (fun a : EReal => a + _) (Ideal.ofBits_zero_f32 : val_main_cst_0 (F := Ideal) _ = 0)).trans ((zero_add _).trans (Finset.sum_congr rfl fun k _ => ?_))
    exact congrArg x1 (At.same3 rfl rfl rfl)

/-- The reference leaves its arguments as they were; it has no semaphore at all. -/
theorem frame_ref : @Cert.quiescent_Reference20Ideal Cert.Reference20Ideal.Gen.facts := fun m g _ =>
  (θ_run _ _ _).mono (fun r h => ⟨fun c => (h c).2.2.2.2, sem_eq_zero_of_no_sems (by decide) r.2⟩) (Cert.Reference20Ideal.Value.run m g)

/-- From equal arguments the kernel and the reference end with equal results. -/
theorem algebraic : @Cert.algebraic_Kernel20Ideal_Reference20Ideal Cert.Kernel20Ideal.Gen.facts Cert.Reference20Ideal.Gen.facts := by
  intro m g m' g' hp hm
  refine ⟨G0 m, G1 m, G2 m, G3 m, (θ_run _ _ _).mono (fun _ h c => ⟨(h c).1.trans (arrs m c).1, (h c).2.1.trans (arrs m c).2.1,
    (h c).2.2.1.trans (arrs m c).2.2.1, (h c).2.2.2.1.trans (arrs m c).2.2.2, (h c).2.2.2.2⟩) (Value.run_blocks m g), ?_⟩
  refine (θ_run _ _ _).mono (fun _ h c => ?_) (Cert.Reference20Ideal.Value.run m' g')
  obtain ⟨h0, h1, h2, h3, ha⟩ := h c
  obtain ⟨a0, a1, a2, a3, a4⟩ := hm c
  have hs : Cert.Reference20Ideal.Read.val_main_v6 (F := Ideal) (X0 m c) (X1 m c) = G0 m c := funext fun i => by
    rw [Adam.eta3 i]; exact ref_sum (X0 m c) (X1 m c) (i 0) (i 1) (i 2)
  refine ⟨h0.trans ?_, h1.trans ?_, h2.trans ?_, h3.trans ?_, ha⟩
  · rw [Cert.Reference20Ideal.Read.val_main_v6_eq, a0, a1]
    exact hs
  · rw [Cert.Reference20Ideal.Read.val_main_v30_eq, a0, a1, a2, a3, a4]
    unfold G1; rw [← hs]; rfl
  · rw [Cert.Reference20Ideal.Read.val_main_v11_eq, a0, a1, a3]
    unfold G2; rw [← hs]; rfl
  · rw [Cert.Reference20Ideal.Read.val_main_v17_eq, a0, a1, a4]
    unfold G3; rw [← hs]; rfl

end Cert.Kernel20Ideal.Prod

end
-- ==== Proof.Prod.K21.lean ====
module

public import proofs.«01_k».proof.Proof.Prod.Adam
public import proofs.«01_k».proof.Proof.Gen.Kernel21Ideal.Value
public import proofs.«01_k».proof.Proof.Gen.Reference21Ideal.Run
public import proofs.«01_k».proof.Proof.Gen.Reference21Ideal.Read

@[expose] public section

/-! # Kernel 21: the optimiser's step on the MLP's first weight

A point of the grid takes some rows of one layer: it adds up the eight parts of their gradient and steps their weight and
its two moments. The first half of the points reads the first layer's parts, the second half the second layer's. -/

noncomputable section

namespace Cert.Kernel21Ideal.Prod

open Cert.Kernel21Ideal Cert.Kernel21Ideal.Gen
open Idealize.ShloMosaic Idealize.ShloMosaic.TcCoe Idealize.ShloMosaic.Tactic Idealize.SL.Sem

variable (m : (ℓ : Loc nD τ sig) → Buf (Elt Ideal) ℓ)

/-- One of the eight parts of a block. -/
abbrev part (X : Vec Ideal S8x128x512 .bf16) (k : ℕ) (h : ∀ a, ![k, 0, 0] a + ![1, 128, 512] a ≤ S8x128x512.size a) : Vec Ideal S1x128x512 .bf16 :=
  View.ld X (Rect.unit ![k, 0, 0] ![1, 128, 512] h)

/-- Their sum. -/
abbrev total (X : Vec Ideal S8x128x512 .bf16) : FVec Ideal S128x512 .f32 :=
  k0_pay5 (part X 0 inb_S8x128x512_S1x128x512_0_0_0) (part X 1 inb_S8x128x512_S1x128x512_1_0_0) (part X 2 inb_S8x128x512_S1x128x512_2_0_0) (part X 3 inb_S8x128x512_S1x128x512_3_0_0)
    (part X 4 inb_S8x128x512_S1x128x512_4_0_0) (part X 5 inb_S8x128x512_S1x128x512_5_0_0) (part X 6 inb_S8x128x512_S1x128x512_6_0_0) (part X 7 inb_S8x128x512_S1x128x512_7_0_0)

/-- The first moment a point computes. -/
abbrev mom (X : Vec Ideal S8x128x512 .bf16) (s : Vec Ideal S1x128x512 .f32) : FVec Ideal S128x512 .f32 :=
  k0_pay7 (total X) (k0_pay6 s)

/-- What a point stores in the blocks of its four results. -/
theorem stored (X : Vec Ideal S8x128x512 .bf16) (w s v : Vec Ideal S1x128x512 .f32) (z : Fin 1) (p : Fin 128) (q : Fin 512) (g : Ideal .f32)
    (hg : ∑ k : Fin 8, (X (ix3 k p q) : EReal) = g) :
    k0_pay9 (total X) (ix3 z p q) = g
    ∧ k0_pay10 (total X) (k0_pay6 s) v w (ix3 z p q) = Adam.delta g (w (ix3 0 p q)) (s (ix3 0 p q)) (v (ix3 0 p q))
    ∧ k0_pay1 (mom X s) (ix3 z p q) = Adam.newM g (s (ix3 0 p q))
    ∧ k0_pay2 (k0_pay8 (total X) v) (ix3 z p q) = Adam.newV g (v (ix3 0 p q)) := by
  have h : total X (ix2 p q) = g := by
    unfold total part
    pointwise [k0_pay5]
    exact (Adam.sum8 fun k => X (ix3 k p q)).trans hg
  rw [← h]
  unfold k0_pay10 mom k0_pay7 k0_pay8
  refine ⟨?_, ?_, ?_, ?_⟩ <;> pointwise [k0_pay9, k0_pay6, k0_pay1, k0_pay2, Adam.newM, Adam.newV, Adam.delta]

/-! The block of each array a point names. -/

theorem idx0 : ∀ t : Fin cfg0.N, win0_0.index t = ![0, t.val % 8, 0] := (by decide +kernel : ∀ t : Fin grid0.N, _)
theorem idx1 : ∀ t : Fin cfg0.N, win0_1.index t = ![0, t.val % 8, 0] := (by decide +kernel : ∀ t : Fin grid0.N, _)
theorem idx : ∀ t : Fin cfg0.N,
    win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] ∧ win0_7.index t = ![t.val / 8, t.val % 8, 0] ∧ win0_8.index t = ![t.val / 8, t.val % 8, 0] :=
  (by decide +kernel : ∀ t : Fin grid0.N, _)

/-- The eight parts of the first layer's gradient. -/
abbrev X0 (c : Dev nD) : FVec Ideal S8x1024x512 .bf16 := m (c.tc.loc main_arg0)
/-- The eight parts of the second layer's gradient. -/
abbrev X1 (c : Dev nD) : FVec Ideal S8x1024x512 .bf16 := m (c.tc.loc main_arg1)
/-- The weight. -/
abbrev X2 (c : Dev nD) : FVec Ideal S2x1024x512 .f32 := m (c.tc.loc main_arg2)
/-- Its first moment. -/
abbrev X3 (c : Dev nD) : FVec Ideal S2x1024x512 .f32 := m (c.tc.loc main_arg3)
/-- Its second moment. -/
abbrev X4 (c : Dev nD) : FVec Ideal S2x1024x512 .f32 := m (c.tc.loc main_arg4)

/-- The row of the whole array that a row of a point's block is. -/
abbrev row (t : Fin cfg0.N) (p : Fin 128) : Fin 1024 := ⟨t.val % 8 * 128 + p.val, by have := lt_of_lt_of_eq t.isLt N_0; omega⟩
/-- The place of the whole array that a place of a point's block is. -/
abbrev pos (t : Fin cfg0.N) (p : Fin 128) (q : Fin 512) : S2x1024x512.Idx :=
  ix3 ⟨t.val / 8, by have := lt_of_lt_of_eq t.isLt N_0; omega⟩ (row t p) q

theorem blk0 (c : Dev nD) (t : Fin cfg0.N) (k : Fin 8) (p : Fin 128) (q : Fin 512) :
    iblk m c 0 t (ix3 k p q) = X0 m c (ix3 k (row t p) q) := by
  unfold X0; rw [← V_main_arg0 m c]
  refine congrArg (V m c main_arg0 : FVec Ideal S8x1024x512 .bf16) (funext fun a => Fin.ext ?_)
  match a with
  | ⟨0, _⟩ | ⟨1, _⟩ | ⟨2, _⟩ => blk_simp [idx0 t]

theorem blk1 (c : Dev nD) (t : Fin cfg0.N) (k : Fin 8) (p : Fin 128) (q : Fin 512) :
    iblk m c 1 t (ix3 k p q) = X1 m c (ix3 k (row t p) q) := by
  unfold X1; rw [← V_main_arg1 m c]
  refine congrArg (V m c main_arg1 : FVec Ideal S8x1024x512 .bf16) (funext fun a => Fin.ext ?_)
  match a with
  | ⟨0, _⟩ | ⟨1, _⟩ | ⟨2, _⟩ => blk_simp [idx1 t]

theorem blks (c : Dev nD) (t : Fin cfg0.N) (p : Fin 128) (q : Fin 512) :
    iblk m c 2 t (ix3 0 p q) = X2 m c (pos t p q)
    ∧ iblk m c 3 t (ix3 0 p q) = X3 m c (pos t p q)
    ∧ iblk m c 4 t (ix3 0 p q) = X4 m c (pos t p q) := by
  unfold X2 X3 X4; rw [← V_main_arg2 m c, ← V_main_arg3 m c, ← V_main_arg4 m c]
  obtain ⟨h2, h3, h4, _⟩ := idx t
  refine ⟨congrArg (V m c main_arg2 : FVec Ideal S2x1024x512 .f32) (funext fun a => Fin.ext ?_),
    congrArg (V m c main_arg3 : FVec Ideal S2x1024x512 .f32) (funext fun a => Fin.ext ?_),
    congrArg (V m c main_arg4 : FVec Ideal S2x1024x512 .f32) (funext fun a => Fin.ext ?_)⟩ <;> match a with
  | ⟨0, _⟩ | ⟨1, _⟩ | ⟨2, _⟩ => blk_simp [h2, h3, h4] <;> rfl

theorem emb (t : Fin cfg0.N) (z : Fin 1) (p : Fin 128) (q : Fin 512) :
    (win0_5.blk t).view.emb (ix3 z p q) = pos t p q
    ∧ (win0_6.blk t).view.emb (ix3 z p q) = pos t p q
    ∧ (win0_7.blk t).view.emb (ix3 z p q) = pos t p q
    ∧ (win0_8.blk t).view.emb (ix3 z p q) = pos t p q := by
  obtain ⟨_, _, _, h5, h6, h7, h8⟩ := idx t
  refine ⟨funext fun a => Fin.ext ?_, funext fun a => Fin.ext ?_, funext fun a => Fin.ext ?_, funext fun a => Fin.ext ?_⟩ <;> match a with
  | ⟨0, _⟩ | ⟨1, _⟩ | ⟨2, _⟩ => blk_simp [h5, h6, h7, h8] <;> rfl

/-- The gradient. -/
def G0 (c : Dev nD) : FVec Ideal S2x1024x512 .f32 := Adam.both (X0 m c) (X1 m c)
/-- The change of the weight. -/
def G1 (c : Dev nD) : FVec Ideal S2x1024x512 .f32 := fun i => Adam.delta (G0 m c i) (X2 m c i) (X3 m c i) (X4 m c i)
/-- The new first moment. -/
def G2 (c : Dev nD) : FVec Ideal S2x1024x512 .f32 := fun i => Adam.newM (G0 m c i) (X3 m c i)
/-- The new second moment. -/
def G3 (c : Dev nD) : FVec Ideal S2x1024x512 .f32 := fun i => Adam.newV (G0 m c i) (X4 m c i)

/-- What a point leaves in the blocks of its four results. -/
theorem point (c : Dev nD) (t : Fin cfg0.N) (z : Fin 1) (p : Fin 128) (q : Fin 512) :
    (outsAt0 m c t.val t.isLt).1 (ix3 z p q) = G0 m c (pos t p q)
    ∧ (outsAt0 m c t.val t.isLt).2.1 (ix3 z p q) = G1 m c (pos t p q)
    ∧ (outsAt0 m c t.val t.isLt).2.2.1 (ix3 z p q) = G2 m c (pos t p q)
    ∧ (outsAt0 m c t.val t.isLt).2.2.2 (ix3 z p q) = G3 m c (pos t p q) := by
  have ht := lt_of_lt_of_eq t.isLt N_0
  by_cases h : t.val < 8
  · rw [outsAt0_A m c t (by omega) (by omega)]
    have s := stored (iblk m c 0 t) (iblk m c 2 t) (iblk m c 3 t) (iblk m c 4 t) z p q (G0 m c (pos t p q))
      ((congrArg (fun f : Fin 8 → EReal => ∑ k, f k) (funext fun k => blk0 m c t k p q)).trans (if_pos (show t.val / 8 = 0 by omega)).symm)
    simp only [blks m c t p q] at s
    refine ⟨?_, ?_, ?_, ?_⟩ <;> frame_out
    exacts [s.1, s.2.1, s.2.2.1, s.2.2.2]
  · rw [outsAt0_B m c t (by omega) (by omega)]
    have s := stored (iblk m c 1 t) (iblk m c 2 t) (iblk m c 3 t) (iblk m c 4 t) z p q (G0 m c (pos t p q))
      ((congrArg (fun f : Fin 8 → EReal => ∑ k, f k) (funext fun k => blk1 m c t k p q)).trans (if_neg (show ¬t.val / 8 = 0 by omega)).symm)
    simp only [blks m c t p q] at s
    refine ⟨?_, ?_, ?_, ?_⟩ <;> frame_out
    exacts [s.1, s.2.1, s.2.2.1, s.2.2.2]

/-! The four arrays at the end of the run. -/

theorem arrs (c : Dev nD) :
    (dats m 0 c).arrAt 5 cfg0.N = G0 m c
    ∧ (dats m 0 c).arrAt 6 cfg0.N = G1 m c
    ∧ (dats m 0 c).arrAt 7 cfg0.N = G2 m c
    ∧ (dats m 0 c).arrAt 8 cfg0.N = G3 m c := by
  refine ⟨(dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_⟩
  · show (dats m 0 c).after 5 t y = G0 m c ((win0_5.blk t).view.emb y)
    rw [after0_5, Adam.eta3 y]
    exact (point m c t (y 0) (y 1) (y 2)).1.trans (congrArg _ (emb t (y 0) (y 1) (y 2)).1.symm)
  · show (dats m 0 c).after 6 t y = G1 m c ((win0_6.blk t).view.emb y)
    rw [after0_6, Adam.eta3 y]
    exact (point m c t (y 0) (y 1) (y 2)).2.1.trans (congrArg _ (emb t (y 0) (y 1) (y 2)).2.1.symm)
  · show (dats m 0 c).after 7 t y = G2 m c ((win0_7.blk t).view.emb y)
    rw [after0_7, Adam.eta3 y]
    exact (point m c t (y 0) (y 1) (y 2)).2.2.1.trans (congrArg _ (emb t (y 0) (y 1) (y 2)).2.2.1.symm)
  · show (dats m 0 c).after 8 t y = G3 m c ((win0_8.blk t).view.emb y)
    rw [after0_8, Adam.eta3 y]
    exact (point m c t (y 0) (y 1) (y 2)).2.2.2.trans (congrArg _ (emb t (y 0) (y 1) (y 2)).2.2.2.symm)

/-! The reference, element by element. -/

open Cert.Reference21Ideal.Read in
theorem ref_sum (x0 x1 : FVec Ideal S8x1024x512 .bf16) (z : Fin 2) (p : Fin 1024) (q : Fin 512) :
    val_main_v6 (F := Ideal) x0 x1 (ix3 z p q) = Adam.both x0 x1 (ix3 z p q) := by
  unfold val_main_v6
  match z with
  | ⟨0, _⟩ =>
    refine Eq.trans ?_ (if_pos rfl).symm
    pointwise
    show val_main_v4 (F := Ideal) x0 (ix3 0 p q) = _
    rw [val_main_v4_apply, val_main_v1_apply]
    refine (congrArg (fun a : EReal => a + _) (Ideal.ofBits_zero_f32 : val_main_cst (F := Ideal) _ = 0)).trans ((zero_add _).trans (Finset.sum_congr rfl fun k _ => ?_))
    exact congrArg x0 (At.same3 rfl rfl rfl)
  | ⟨1, _⟩ =>
    refine Eq.trans ?_ (if_neg Nat.one_ne_zero).symm
    pointwise
    show val_main_v5 (F := Ideal) x1 (ix3 0 p q) = _
    rw [val_main_v5_apply, val_main_v3_apply]
    refine (congrArg (fun a : EReal => a + _) (Ideal.ofBits_zero_f32 : val_main_cst_0 (F := Ideal) _ = 0)).trans ((zero_add _).trans (Finset.sum_congr rfl fun k _ => ?_))
    exact congrArg x1 (At.same3 rfl rfl rfl)

/-- The reference leaves its arguments as they were; it has no semaphore at all. -/
theorem frame_ref : @Cert.quiescent_Reference21Ideal Cert.Reference21Ideal.Gen.facts := fun m g _ =>
  (θ_run _ _ _).mono (fun r h => ⟨fun c => (h c).2.2.2.2, sem_eq_zero_of_no_sems (by decide) r.2⟩) (Cert.Reference21Ideal.Value.run m g)

/-- From equal arguments the kernel and the reference end with equal results. -/
theorem algebraic : @Cert.algebraic_Kernel21Ideal_Reference21Ideal Cert.Kernel21Ideal.Gen.facts Cert.Reference21Ideal.Gen.facts := by
  intro m g m' g' hp hm
  refine ⟨G0 m, G1 m, G2 m, G3 m, (θ_run _ _ _).mono (fun _ h c => ⟨(h c).1.trans (arrs m c).1, (h c).2.1.trans (arrs m c).2.1,
    (h c).2.2.1.trans (arrs m c).2.2.1, (h c).2.2.2.1.trans (arrs m c).2.2.2, (h c).2.2.2.2⟩) (Value.run_blocks m g), ?_⟩
  refine (θ_run _ _ _).mono (fun _ h c => ?_) (Cert.Reference21Ideal.Value.run m' g')
  obtain ⟨h0, h1, h2, h3, ha⟩ := h c
  obtain ⟨a0, a1, a2, a3, a4⟩ := hm c
  have hs : Cert.Reference21Ideal.Read.val_main_v6 (F := Ideal) (X0 m c) (X1 m c) = G0 m c := funext fun i => by
    rw [Adam.eta3 i]; exact ref_sum (X0 m c) (X1 m c) (i 0) (i 1) (i 2)
  refine ⟨h0.trans ?_, h1.trans ?_, h2.trans ?_, h3.trans ?_, ha⟩
  · rw [Cert.Reference21Ideal.Read.val_main_v6_eq, a0, a1]
    exact hs
  · rw [Cert.Reference21Ideal.Read.val_main_v30_eq, a0, a1, a2, a3, a4]
    unfold G1; rw [← hs]; rfl
  · rw [Cert.Reference21Ideal.Read.val_main_v11_eq, a0, a1, a3]
    unfold G2; rw [← hs]; rfl
  · rw [Cert.Reference21Ideal.Read.val_main_v17_eq, a0, a1, a4]
    unfold G3; rw [← hs]; rfl

end Cert.Kernel21Ideal.Prod

end
-- ==== Proof.Prod.K22.lean ====
module

public import proofs.«01_k».proof.Proof.Prod.Adam
public import proofs.«01_k».proof.Proof.Gen.Kernel22Ideal.Value
public import proofs.«01_k».proof.Proof.Gen.Reference22Ideal.Run
public import proofs.«01_k».proof.Proof.Gen.Reference22Ideal.Read

@[expose] public section

/-! # Kernel 22: the optimiser's step on the weight of the state-space branch's projection

A point of the grid takes some rows of one layer: it adds up the eight parts of their gradient and steps their weight and
its two moments. The first half of the points reads the first layer's parts, the second half the second layer's. -/

noncomputable section

namespace Cert.Kernel22Ideal.Prod

open Cert.Kernel22Ideal Cert.Kernel22Ideal.Gen
open Idealize.ShloMosaic Idealize.ShloMosaic.TcCoe Idealize.ShloMosaic.Tactic Idealize.SL.Sem

variable (m : (ℓ : Loc nD τ sig) → Buf (Elt Ideal) ℓ)

/-- One of the eight parts of a block. -/
abbrev part (X : Vec Ideal S8x128x1024 .bf16) (k : ℕ) (h : ∀ a, ![k, 0, 0] a + ![1, 128, 1024] a ≤ S8x128x1024.size a) : Vec Ideal S1x128x1024 .bf16 :=
  View.ld X (Rect.unit ![k, 0, 0] ![1, 128, 1024] h)

/-- Their sum. -/
abbrev total (X : Vec Ideal S8x128x1024 .bf16) : FVec Ideal S128x1024 .f32 :=
  k0_pay5 (part X 0 inb_S8x128x1024_S1x128x1024_0_0_0) (part X 1 inb_S8x128x1024_S1x128x1024_1_0_0) (part X 2 inb_S8x128x1024_S1x128x1024_2_0_0) (part X 3 inb_S8x128x1024_S1x128x1024_3_0_0)
    (part X 4 inb_S8x128x1024_S1x128x1024_4_0_0) (part X 5 inb_S8x128x1024_S1x128x1024_5_0_0) (part X 6 inb_S8x128x1024_S1x128x1024_6_0_0) (part X 7 inb_S8x128x1024_S1x128x1024_7_0_0)

/-- The first moment a point computes. -/
abbrev mom (X : Vec Ideal S8x128x1024 .bf16) (s : Vec Ideal S1x128x1024 .f32) : FVec Ideal S128x1024 .f32 :=
  k0_pay7 (total X) (k0_pay6 s)

/-- What a point stores in the blocks of its four results. -/
theorem stored (X : Vec Ideal S8x128x1024 .bf16) (w s v : Vec Ideal S1x128x1024 .f32) (z : Fin 1) (p : Fin 128) (q : Fin 1024) (g : Ideal .f32)
    (hg : ∑ k : Fin 8, (X (ix3 k p q) : EReal) = g) :
    k0_pay9 (total X) (ix3 z p q) = g
    ∧ k0_pay10 (total X) (k0_pay6 s) v w (ix3 z p q) = Adam.delta g (w (ix3 0 p q)) (s (ix3 0 p q)) (v (ix3 0 p q))
    ∧ k0_pay1 (mom X s) (ix3 z p q) = Adam.newM g (s (ix3 0 p q))
    ∧ k0_pay2 (k0_pay8 (total X) v) (ix3 z p q) = Adam.newV g (v (ix3 0 p q)) := by
  have h : total X (ix2 p q) = g := by
    unfold total part
    pointwise [k0_pay5]
    exact (Adam.sum8 fun k => X (ix3 k p q)).trans hg
  rw [← h]
  unfold k0_pay10 mom k0_pay7 k0_pay8
  refine ⟨?_, ?_, ?_, ?_⟩ <;> pointwise [k0_pay9, k0_pay6, k0_pay1, k0_pay2, Adam.newM, Adam.newV, Adam.delta]

/-! The block of each array a point names. -/

theorem idx0 : ∀ t : Fin cfg0.N, win0_0.index t = ![0, t.val % 2, 0] := (by decide +kernel : ∀ t : Fin grid0.N, _)
theorem idx1 : ∀ t : Fin cfg0.N, win0_1.index t = ![0, t.val % 2, 0] := (by decide +kernel : ∀ t : Fin grid0.N, _)
theorem idx : ∀ t : Fin cfg0.N,
    win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)

/-- The eight parts of the first layer's gradient. -/
abbrev X0 (c : Dev nD) : FVec Ideal S8x256x1024 .bf16 := m (c.tc.loc main_arg0)
/-- The eight parts of the second layer's gradient. -/
abbrev X1 (c : Dev nD) : FVec Ideal S8x256x1024 .bf16 := m (c.tc.loc main_arg1)
/-- The weight. -/
abbrev X2 (c : Dev nD) : FVec Ideal S2x256x1024 .f32 := m (c.tc.loc main_arg2)
/-- Its first moment. -/
abbrev X3 (c : Dev nD) : FVec Ideal S2x256x1024 .f32 := m (c.tc.loc main_arg3)
/-- Its second moment. -/
abbrev X4 (c : Dev nD) : FVec Ideal S2x256x1024 .f32 := m (c.tc.loc main_arg4)

/-- The row of the whole array that a row of a point's block is. -/
abbrev row (t : Fin cfg0.N) (p : Fin 128) : Fin 256 := ⟨t.val % 2 * 128 + p.val, by have := lt_of_lt_of_eq t.isLt N_0; omega⟩
/-- The place of the whole array that a place of a point's block is. -/
abbrev pos (t : Fin cfg0.N) (p : Fin 128) (q : Fin 1024) : S2x256x1024.Idx :=
  ix3 ⟨t.val / 2, by have := lt_of_lt_of_eq t.isLt N_0; omega⟩ (row t p) q

theorem blk0 (c : Dev nD) (t : Fin cfg0.N) (k : Fin 8) (p : Fin 128) (q : Fin 1024) :
    iblk m c 0 t (ix3 k p q) = X0 m c (ix3 k (row t p) q) := by
  unfold X0; rw [← V_main_arg0 m c]
  refine congrArg (V m c main_arg0 : FVec Ideal S8x256x1024 .bf16) (funext fun a => Fin.ext ?_)
  match a with
  | ⟨0, _⟩ | ⟨1, _⟩ | ⟨2, _⟩ => blk_simp [idx0 t]

theorem blk1 (c : Dev nD) (t : Fin cfg0.N) (k : Fin 8) (p : Fin 128) (q : Fin 1024) :
    iblk m c 1 t (ix3 k p q) = X1 m c (ix3 k (row t p) q) := by
  unfold X1; rw [← V_main_arg1 m c]
  refine congrArg (V m c main_arg1 : FVec Ideal S8x256x1024 .bf16) (funext fun a => Fin.ext ?_)
  match a with
  | ⟨0, _⟩ | ⟨1, _⟩ | ⟨2, _⟩ => blk_simp [idx1 t]

theorem blks (c : Dev nD) (t : Fin cfg0.N) (p : Fin 128) (q : Fin 1024) :
    iblk m c 2 t (ix3 0 p q) = X2 m c (pos t p q)
    ∧ iblk m c 3 t (ix3 0 p q) = X3 m c (pos t p q)
    ∧ iblk m c 4 t (ix3 0 p q) = X4 m c (pos t p q) := by
  unfold X2 X3 X4; rw [← V_main_arg2 m c, ← V_main_arg3 m c, ← V_main_arg4 m c]
  obtain ⟨h2, h3, h4, _⟩ := idx t
  refine ⟨congrArg (V m c main_arg2 : FVec Ideal S2x256x1024 .f32) (funext fun a => Fin.ext ?_),
    congrArg (V m c main_arg3 : FVec Ideal S2x256x1024 .f32) (funext fun a => Fin.ext ?_),
    congrArg (V m c main_arg4 : FVec Ideal S2x256x1024 .f32) (funext fun a => Fin.ext ?_)⟩ <;> match a with
  | ⟨0, _⟩ | ⟨1, _⟩ | ⟨2, _⟩ => blk_simp [h2, h3, h4] <;> rfl

theorem emb (t : Fin cfg0.N) (z : Fin 1) (p : Fin 128) (q : Fin 1024) :
    (win0_5.blk t).view.emb (ix3 z p q) = pos t p q
    ∧ (win0_6.blk t).view.emb (ix3 z p q) = pos t p q
    ∧ (win0_7.blk t).view.emb (ix3 z p q) = pos t p q
    ∧ (win0_8.blk t).view.emb (ix3 z p q) = pos t p q := by
  obtain ⟨_, _, _, h5, h6, h7, h8⟩ := idx t
  refine ⟨funext fun a => Fin.ext ?_, funext fun a => Fin.ext ?_, funext fun a => Fin.ext ?_, funext fun a => Fin.ext ?_⟩ <;> match a with
  | ⟨0, _⟩ | ⟨1, _⟩ | ⟨2, _⟩ => blk_simp [h5, h6, h7, h8] <;> rfl

/-- The gradient. -/
def G0 (c : Dev nD) : FVec Ideal S2x256x1024 .f32 := Adam.both (X0 m c) (X1 m c)
/-- The change of the weight. -/
def G1 (c : Dev nD) : FVec Ideal S2x256x1024 .f32 := fun i => Adam.delta (G0 m c i) (X2 m c i) (X3 m c i) (X4 m c i)
/-- The new first moment. -/
def G2 (c : Dev nD) : FVec Ideal S2x256x1024 .f32 := fun i => Adam.newM (G0 m c i) (X3 m c i)
/-- The new second moment. -/
def G3 (c : Dev nD) : FVec Ideal S2x256x1024 .f32 := fun i => Adam.newV (G0 m c i) (X4 m c i)

/-- What a point leaves in the blocks of its four results. -/
theorem point (c : Dev nD) (t : Fin cfg0.N) (z : Fin 1) (p : Fin 128) (q : Fin 1024) :
    (outsAt0 m c t.val t.isLt).1 (ix3 z p q) = G0 m c (pos t p q)
    ∧ (outsAt0 m c t.val t.isLt).2.1 (ix3 z p q) = G1 m c (pos t p q)
    ∧ (outsAt0 m c t.val t.isLt).2.2.1 (ix3 z p q) = G2 m c (pos t p q)
    ∧ (outsAt0 m c t.val t.isLt).2.2.2 (ix3 z p q) = G3 m c (pos t p q) := by
  have ht := lt_of_lt_of_eq t.isLt N_0
  by_cases h : t.val < 2
  · rw [outsAt0_A m c t (by omega) (by omega)]
    have s := stored (iblk m c 0 t) (iblk m c 2 t) (iblk m c 3 t) (iblk m c 4 t) z p q (G0 m c (pos t p q))
      ((congrArg (fun f : Fin 8 → EReal => ∑ k, f k) (funext fun k => blk0 m c t k p q)).trans (if_pos (show t.val / 2 = 0 by omega)).symm)
    simp only [blks m c t p q] at s
    refine ⟨?_, ?_, ?_, ?_⟩ <;> frame_out
    exacts [s.1, s.2.1, s.2.2.1, s.2.2.2]
  · rw [outsAt0_B m c t (by omega) (by omega)]
    have s := stored (iblk m c 1 t) (iblk m c 2 t) (iblk m c 3 t) (iblk m c 4 t) z p q (G0 m c (pos t p q))
      ((congrArg (fun f : Fin 8 → EReal => ∑ k, f k) (funext fun k => blk1 m c t k p q)).trans (if_neg (show ¬t.val / 2 = 0 by omega)).symm)
    simp only [blks m c t p q] at s
    refine ⟨?_, ?_, ?_, ?_⟩ <;> frame_out
    exacts [s.1, s.2.1, s.2.2.1, s.2.2.2]

/-! The four arrays at the end of the run. -/

theorem arrs (c : Dev nD) :
    (dats m 0 c).arrAt 5 cfg0.N = G0 m c
    ∧ (dats m 0 c).arrAt 6 cfg0.N = G1 m c
    ∧ (dats m 0 c).arrAt 7 cfg0.N = G2 m c
    ∧ (dats m 0 c).arrAt 8 cfg0.N = G3 m c := by
  refine ⟨(dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_⟩
  · show (dats m 0 c).after 5 t y = G0 m c ((win0_5.blk t).view.emb y)
    rw [after0_5, Adam.eta3 y]
    exact (point m c t (y 0) (y 1) (y 2)).1.trans (congrArg _ (emb t (y 0) (y 1) (y 2)).1.symm)
  · show (dats m 0 c).after 6 t y = G1 m c ((win0_6.blk t).view.emb y)
    rw [after0_6, Adam.eta3 y]
    exact (point m c t (y 0) (y 1) (y 2)).2.1.trans (congrArg _ (emb t (y 0) (y 1) (y 2)).2.1.symm)
  · show (dats m 0 c).after 7 t y = G2 m c ((win0_7.blk t).view.emb y)
    rw [after0_7, Adam.eta3 y]
    exact (point m c t (y 0) (y 1) (y 2)).2.2.1.trans (congrArg _ (emb t (y 0) (y 1) (y 2)).2.2.1.symm)
  · show (dats m 0 c).after 8 t y = G3 m c ((win0_8.blk t).view.emb y)
    rw [after0_8, Adam.eta3 y]
    exact (point m c t (y 0) (y 1) (y 2)).2.2.2.trans (congrArg _ (emb t (y 0) (y 1) (y 2)).2.2.2.symm)

/-! The reference, element by element. -/

open Cert.Reference22Ideal.Read in
theorem ref_sum (x0 x1 : FVec Ideal S8x256x1024 .bf16) (z : Fin 2) (p : Fin 256) (q : Fin 1024) :
    val_main_v6 (F := Ideal) x0 x1 (ix3 z p q) = Adam.both x0 x1 (ix3 z p q) := by
  unfold val_main_v6
  match z with
  | ⟨0, _⟩ =>
    refine Eq.trans ?_ (if_pos rfl).symm
    pointwise
    show val_main_v4 (F := Ideal) x0 (ix3 0 p q) = _
    rw [val_main_v4_apply, val_main_v1_apply]
    refine (congrArg (fun a : EReal => a + _) (Ideal.ofBits_zero_f32 : val_main_cst (F := Ideal) _ = 0)).trans ((zero_add _).trans (Finset.sum_congr rfl fun k _ => ?_))
    exact congrArg x0 (At.same3 rfl rfl rfl)
  | ⟨1, _⟩ =>
    refine Eq.trans ?_ (if_neg Nat.one_ne_zero).symm
    pointwise
    show val_main_v5 (F := Ideal) x1 (ix3 0 p q) = _
    rw [val_main_v5_apply, val_main_v3_apply]
    refine (congrArg (fun a : EReal => a + _) (Ideal.ofBits_zero_f32 : val_main_cst_0 (F := Ideal) _ = 0)).trans ((zero_add _).trans (Finset.sum_congr rfl fun k _ => ?_))
    exact congrArg x1 (At.same3 rfl rfl rfl)

/-- The reference leaves its arguments as they were; it has no semaphore at all. -/
theorem frame_ref : @Cert.quiescent_Reference22Ideal Cert.Reference22Ideal.Gen.facts := fun m g _ =>
  (θ_run _ _ _).mono (fun r h => ⟨fun c => (h c).2.2.2.2, sem_eq_zero_of_no_sems (by decide) r.2⟩) (Cert.Reference22Ideal.Value.run m g)

/-- From equal arguments the kernel and the reference end with equal results. -/
theorem algebraic : @Cert.algebraic_Kernel22Ideal_Reference22Ideal Cert.Kernel22Ideal.Gen.facts Cert.Reference22Ideal.Gen.facts := by
  intro m g m' g' hp hm
  refine ⟨G0 m, G1 m, G2 m, G3 m, (θ_run _ _ _).mono (fun _ h c => ⟨(h c).1.trans (arrs m c).1, (h c).2.1.trans (arrs m c).2.1,
    (h c).2.2.1.trans (arrs m c).2.2.1, (h c).2.2.2.1.trans (arrs m c).2.2.2, (h c).2.2.2.2⟩) (Value.run_blocks m g), ?_⟩
  refine (θ_run _ _ _).mono (fun _ h c => ?_) (Cert.Reference22Ideal.Value.run m' g')
  obtain ⟨h0, h1, h2, h3, ha⟩ := h c
  obtain ⟨a0, a1, a2, a3, a4⟩ := hm c
  have hs : Cert.Reference22Ideal.Read.val_main_v6 (F := Ideal) (X0 m c) (X1 m c) = G0 m c := funext fun i => by
    rw [Adam.eta3 i]; exact ref_sum (X0 m c) (X1 m c) (i 0) (i 1) (i 2)
  refine ⟨h0.trans ?_, h1.trans ?_, h2.trans ?_, h3.trans ?_, ha⟩
  · rw [Cert.Reference22Ideal.Read.val_main_v6_eq, a0, a1]
    exact hs
  · rw [Cert.Reference22Ideal.Read.val_main_v30_eq, a0, a1, a2, a3, a4]
    unfold G1; rw [← hs]; rfl
  · rw [Cert.Reference22Ideal.Read.val_main_v11_eq, a0, a1, a3]
    unfold G2; rw [← hs]; rfl
  · rw [Cert.Reference22Ideal.Read.val_main_v17_eq, a0, a1, a4]
    unfold G3; rw [← hs]; rfl

end Cert.Kernel22Ideal.Prod

end
-- ==== Proof.Prod.K23.lean ====
module

public import proofs.«01_k».proof.Proof.Prod.Adam
public import proofs.«01_k».proof.Proof.Gen.Kernel23Ideal.Value
public import proofs.«01_k».proof.Proof.Gen.Reference23Ideal.Run
public import proofs.«01_k».proof.Proof.Gen.Reference23Ideal.Read

@[expose] public section

/-! # Kernel 23: the optimiser's step on the weight of the output projection, which the attention branch's weight shares

A point of the grid takes some rows of one layer: it adds up the eight parts of their gradient and steps their weight and
its two moments. The first half of the points reads the first layer's parts, the second half the second layer's. -/

noncomputable section

namespace Cert.Kernel23Ideal.Prod

open Cert.Kernel23Ideal Cert.Kernel23Ideal.Gen
open Idealize.ShloMosaic Idealize.ShloMosaic.TcCoe Idealize.ShloMosaic.Tactic Idealize.SL.Sem

variable (m : (ℓ : Loc nD τ sig) → Buf (Elt Ideal) ℓ)

/-- One of the eight parts of a block. -/
abbrev part (X : Vec Ideal S8x128x1024 .bf16) (k : ℕ) (h : ∀ a, ![k, 0, 0] a + ![1, 128, 1024] a ≤ S8x128x1024.size a) : Vec Ideal S1x128x1024 .bf16 :=
  View.ld X (Rect.unit ![k, 0, 0] ![1, 128, 1024] h)

/-- Their sum. -/
abbrev total (X : Vec Ideal S8x128x1024 .bf16) : FVec Ideal S128x1024 .f32 :=
  k0_pay5 (part X 0 inb_S8x128x1024_S1x128x1024_0_0_0) (part X 1 inb_S8x128x1024_S1x128x1024_1_0_0) (part X 2 inb_S8x128x1024_S1x128x1024_2_0_0) (part X 3 inb_S8x128x1024_S1x128x1024_3_0_0)
    (part X 4 inb_S8x128x1024_S1x128x1024_4_0_0) (part X 5 inb_S8x128x1024_S1x128x1024_5_0_0) (part X 6 inb_S8x128x1024_S1x128x1024_6_0_0) (part X 7 inb_S8x128x1024_S1x128x1024_7_0_0)

/-- The first moment a point computes. -/
abbrev mom (X : Vec Ideal S8x128x1024 .bf16) (s : Vec Ideal S1x128x1024 .f32) : FVec Ideal S128x1024 .f32 :=
  k0_pay7 (total X) (k0_pay6 s)

/-- What a point stores in the blocks of its four results. -/
theorem stored (X : Vec Ideal S8x128x1024 .bf16) (w s v : Vec Ideal S1x128x1024 .f32) (z : Fin 1) (p : Fin 128) (q : Fin 1024) (g : Ideal .f32)
    (hg : ∑ k : Fin 8, (X (ix3 k p q) : EReal) = g) :
    k0_pay9 (total X) (ix3 z p q) = g
    ∧ k0_pay10 (total X) (k0_pay6 s) v w (ix3 z p q) = Adam.delta g (w (ix3 0 p q)) (s (ix3 0 p q)) (v (ix3 0 p q))
    ∧ k0_pay1 (mom X s) (ix3 z p q) = Adam.newM g (s (ix3 0 p q))
    ∧ k0_pay2 (k0_pay8 (total X) v) (ix3 z p q) = Adam.newV g (v (ix3 0 p q)) := by
  have h : total X (ix2 p q) = g := by
    unfold total part
    pointwise [k0_pay5]
    exact (Adam.sum8 fun k => X (ix3 k p q)).trans hg
  rw [← h]
  unfold k0_pay10 mom k0_pay7 k0_pay8
  refine ⟨?_, ?_, ?_, ?_⟩ <;> pointwise [k0_pay9, k0_pay6, k0_pay1, k0_pay2, Adam.newM, Adam.newV, Adam.delta]

/-! The block of each array a point names. -/

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx : ∀ t : Fin cfg0.N,
    win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The eight parts of the first layer's gradient. -/
abbrev X0 (c : Dev nD) : FVec Ideal S8x128x1024 .bf16 := m (c.tc.loc main_arg0)
/-- The eight parts of the second layer's gradient. -/
abbrev X1 (c : Dev nD) : FVec Ideal S8x128x1024 .bf16 := m (c.tc.loc main_arg1)
/-- The weight. -/
abbrev X2 (c : Dev nD) : FVec Ideal S2x128x1024 .f32 := m (c.tc.loc main_arg2)
/-- Its first moment. -/
abbrev X3 (c : Dev nD) : FVec Ideal S2x128x1024 .f32 := m (c.tc.loc main_arg3)
/-- Its second moment. -/
abbrev X4 (c : Dev nD) : FVec Ideal S2x128x1024 .f32 := m (c.tc.loc main_arg4)

/-- The row of the whole array that a row of a point's block is. -/
abbrev row (t : Fin cfg0.N) (p : Fin 128) : Fin 128 := p
/-- The place of the whole array that a place of a point's block is. -/
abbrev pos (t : Fin cfg0.N) (p : Fin 128) (q : Fin 1024) : S2x128x1024.Idx :=
  ix3 ⟨t.val, by have := lt_of_lt_of_eq t.isLt N_0; omega⟩ (row t p) q

theorem blk0 (c : Dev nD) (t : Fin cfg0.N) (k : Fin 8) (p : Fin 128) (q : Fin 1024) :
    iblk m c 0 t (ix3 k p q) = X0 m c (ix3 k (row t p) q) := by
  unfold X0; rw [← V_main_arg0 m c]
  refine congrArg (V m c main_arg0 : FVec Ideal S8x128x1024 .bf16) (funext fun a => Fin.ext ?_)
  match a with
  | ⟨0, _⟩ | ⟨1, _⟩ | ⟨2, _⟩ => blk_simp [idx0 t]

theorem blk1 (c : Dev nD) (t : Fin cfg0.N) (k : Fin 8) (p : Fin 128) (q : Fin 1024) :
    iblk m c 1 t (ix3 k p q) = X1 m c (ix3 k (row t p) q) := by
  unfold X1; rw [← V_main_arg1 m c]
  refine congrArg (V m c main_arg1 : FVec Ideal S8x128x1024 .bf16) (funext fun a => Fin.ext ?_)
  match a with
  | ⟨0, _⟩ | ⟨1, _⟩ | ⟨2, _⟩ => blk_simp [idx1 t]

theorem blks (c : Dev nD) (t : Fin cfg0.N) (p : Fin 128) (q : Fin 1024) :
    iblk m c 2 t (ix3 0 p q) = X2 m c (pos t p q)
    ∧ iblk m c 3 t (ix3 0 p q) = X3 m c (pos t p q)
    ∧ iblk m c 4 t (ix3 0 p q) = X4 m c (pos t p q) := by
  unfold X2 X3 X4; rw [← V_main_arg2 m c, ← V_main_arg3 m c, ← V_main_arg4 m c]
  obtain ⟨h2, h3, h4, _⟩ := idx t
  refine ⟨congrArg (V m c main_arg2 : FVec Ideal S2x128x1024 .f32) (funext fun a => Fin.ext ?_),
    congrArg (V m c main_arg3 : FVec Ideal S2x128x1024 .f32) (funext fun a => Fin.ext ?_),
    congrArg (V m c main_arg4 : FVec Ideal S2x128x1024 .f32) (funext fun a => Fin.ext ?_)⟩ <;> match a with
  | ⟨0, _⟩ | ⟨1, _⟩ | ⟨2, _⟩ => blk_simp [h2, h3, h4] <;> rfl

theorem emb (t : Fin cfg0.N) (z : Fin 1) (p : Fin 128) (q : Fin 1024) :
    (win0_5.blk t).view.emb (ix3 z p q) = pos t p q
    ∧ (win0_6.blk t).view.emb (ix3 z p q) = pos t p q
    ∧ (win0_7.blk t).view.emb (ix3 z p q) = pos t p q
    ∧ (win0_8.blk t).view.emb (ix3 z p q) = pos t p q := by
  obtain ⟨_, _, _, h5, h6, h7, h8⟩ := idx t
  refine ⟨funext fun a => Fin.ext ?_, funext fun a => Fin.ext ?_, funext fun a => Fin.ext ?_, funext fun a => Fin.ext ?_⟩ <;> match a with
  | ⟨0, _⟩ | ⟨1, _⟩ | ⟨2, _⟩ => blk_simp [h5, h6, h7, h8] <;> rfl

/-- The gradient. -/
def G0 (c : Dev nD) : FVec Ideal S2x128x1024 .f32 := Adam.both (X0 m c) (X1 m c)
/-- The change of the weight. -/
def G1 (c : Dev nD) : FVec Ideal S2x128x1024 .f32 := fun i => Adam.delta (G0 m c i) (X2 m c i) (X3 m c i) (X4 m c i)
/-- The new first moment. -/
def G2 (c : Dev nD) : FVec Ideal S2x128x1024 .f32 := fun i => Adam.newM (G0 m c i) (X3 m c i)
/-- The new second moment. -/
def G3 (c : Dev nD) : FVec Ideal S2x128x1024 .f32 := fun i => Adam.newV (G0 m c i) (X4 m c i)

/-- What a point leaves in the blocks of its four results. -/
theorem point (c : Dev nD) (t : Fin cfg0.N) (z : Fin 1) (p : Fin 128) (q : Fin 1024) :
    (outsAt0 m c t.val t.isLt).1 (ix3 z p q) = G0 m c (pos t p q)
    ∧ (outsAt0 m c t.val t.isLt).2.1 (ix3 z p q) = G1 m c (pos t p q)
    ∧ (outsAt0 m c t.val t.isLt).2.2.1 (ix3 z p q) = G2 m c (pos t p q)
    ∧ (outsAt0 m c t.val t.isLt).2.2.2 (ix3 z p q) = G3 m c (pos t p q) := by
  have ht := lt_of_lt_of_eq t.isLt N_0
  by_cases h : t.val < 1
  · rw [outsAt0_A m c t (by omega) (by omega)]
    have s := stored (iblk m c 0 t) (iblk m c 2 t) (iblk m c 3 t) (iblk m c 4 t) z p q (G0 m c (pos t p q))
      ((congrArg (fun f : Fin 8 → EReal => ∑ k, f k) (funext fun k => blk0 m c t k p q)).trans (if_pos (show t.val = 0 by omega)).symm)
    simp only [blks m c t p q] at s
    refine ⟨?_, ?_, ?_, ?_⟩ <;> frame_out
    exacts [s.1, s.2.1, s.2.2.1, s.2.2.2]
  · rw [outsAt0_B m c t (by omega) (by omega)]
    have s := stored (iblk m c 1 t) (iblk m c 2 t) (iblk m c 3 t) (iblk m c 4 t) z p q (G0 m c (pos t p q))
      ((congrArg (fun f : Fin 8 → EReal => ∑ k, f k) (funext fun k => blk1 m c t k p q)).trans (if_neg (show ¬t.val = 0 by omega)).symm)
    simp only [blks m c t p q] at s
    refine ⟨?_, ?_, ?_, ?_⟩ <;> frame_out
    exacts [s.1, s.2.1, s.2.2.1, s.2.2.2]

/-! The four arrays at the end of the run. -/

theorem arrs (c : Dev nD) :
    (dats m 0 c).arrAt 5 cfg0.N = G0 m c
    ∧ (dats m 0 c).arrAt 6 cfg0.N = G1 m c
    ∧ (dats m 0 c).arrAt 7 cfg0.N = G2 m c
    ∧ (dats m 0 c).arrAt 8 cfg0.N = G3 m c := by
  refine ⟨(dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_⟩
  · show (dats m 0 c).after 5 t y = G0 m c ((win0_5.blk t).view.emb y)
    rw [after0_5, Adam.eta3 y]
    exact (point m c t (y 0) (y 1) (y 2)).1.trans (congrArg _ (emb t (y 0) (y 1) (y 2)).1.symm)
  · show (dats m 0 c).after 6 t y = G1 m c ((win0_6.blk t).view.emb y)
    rw [after0_6, Adam.eta3 y]
    exact (point m c t (y 0) (y 1) (y 2)).2.1.trans (congrArg _ (emb t (y 0) (y 1) (y 2)).2.1.symm)
  · show (dats m 0 c).after 7 t y = G2 m c ((win0_7.blk t).view.emb y)
    rw [after0_7, Adam.eta3 y]
    exact (point m c t (y 0) (y 1) (y 2)).2.2.1.trans (congrArg _ (emb t (y 0) (y 1) (y 2)).2.2.1.symm)
  · show (dats m 0 c).after 8 t y = G3 m c ((win0_8.blk t).view.emb y)
    rw [after0_8, Adam.eta3 y]
    exact (point m c t (y 0) (y 1) (y 2)).2.2.2.trans (congrArg _ (emb t (y 0) (y 1) (y 2)).2.2.2.symm)

/-! The reference, element by element. -/

open Cert.Reference23Ideal.Read in
theorem ref_sum (x0 x1 : FVec Ideal S8x128x1024 .bf16) (z : Fin 2) (p : Fin 128) (q : Fin 1024) :
    val_main_v6 (F := Ideal) x0 x1 (ix3 z p q) = Adam.both x0 x1 (ix3 z p q) := by
  unfold val_main_v6
  match z with
  | ⟨0, _⟩ =>
    refine Eq.trans ?_ (if_pos rfl).symm
    pointwise
    show val_main_v4 (F := Ideal) x0 (ix3 0 p q) = _
    rw [val_main_v4_apply, val_main_v1_apply]
    refine (congrArg (fun a : EReal => a + _) (Ideal.ofBits_zero_f32 : val_main_cst (F := Ideal) _ = 0)).trans ((zero_add _).trans (Finset.sum_congr rfl fun k _ => ?_))
    exact congrArg x0 (At.same3 rfl rfl rfl)
  | ⟨1, _⟩ =>
    refine Eq.trans ?_ (if_neg Nat.one_ne_zero).symm
    pointwise
    show val_main_v5 (F := Ideal) x1 (ix3 0 p q) = _
    rw [val_main_v5_apply, val_main_v3_apply]
    refine (congrArg (fun a : EReal => a + _) (Ideal.ofBits_zero_f32 : val_main_cst_0 (F := Ideal) _ = 0)).trans ((zero_add _).trans (Finset.sum_congr rfl fun k _ => ?_))
    exact congrArg x1 (At.same3 rfl rfl rfl)

/-- The reference leaves its arguments as they were; it has no semaphore at all. -/
theorem frame_ref : @Cert.quiescent_Reference23Ideal Cert.Reference23Ideal.Gen.facts := fun m g _ =>
  (θ_run _ _ _).mono (fun r h => ⟨fun c => (h c).2.2.2.2, sem_eq_zero_of_no_sems (by decide) r.2⟩) (Cert.Reference23Ideal.Value.run m g)

/-- From equal arguments the kernel and the reference end with equal results. -/
theorem algebraic : @Cert.algebraic_Kernel23Ideal_Reference23Ideal Cert.Kernel23Ideal.Gen.facts Cert.Reference23Ideal.Gen.facts := by
  intro m g m' g' hp hm
  refine ⟨G0 m, G1 m, G2 m, G3 m, (θ_run _ _ _).mono (fun _ h c => ⟨(h c).1.trans (arrs m c).1, (h c).2.1.trans (arrs m c).2.1,
    (h c).2.2.1.trans (arrs m c).2.2.1, (h c).2.2.2.1.trans (arrs m c).2.2.2, (h c).2.2.2.2⟩) (Value.run_blocks m g), ?_⟩
  refine (θ_run _ _ _).mono (fun _ h c => ?_) (Cert.Reference23Ideal.Value.run m' g')
  obtain ⟨h0, h1, h2, h3, ha⟩ := h c
  obtain ⟨a0, a1, a2, a3, a4⟩ := hm c
  have hs : Cert.Reference23Ideal.Read.val_main_v6 (F := Ideal) (X0 m c) (X1 m c) = G0 m c := funext fun i => by
    rw [Adam.eta3 i]; exact ref_sum (X0 m c) (X1 m c) (i 0) (i 1) (i 2)
  refine ⟨h0.trans ?_, h1.trans ?_, h2.trans ?_, h3.trans ?_, ha⟩
  · rw [Cert.Reference23Ideal.Read.val_main_v6_eq, a0, a1]
    exact hs
  · rw [Cert.Reference23Ideal.Read.val_main_v30_eq, a0, a1, a2, a3, a4]
    unfold G1; rw [← hs]; rfl
  · rw [Cert.Reference23Ideal.Read.val_main_v11_eq, a0, a1, a3]
    unfold G2; rw [← hs]; rfl
  · rw [Cert.Reference23Ideal.Read.val_main_v17_eq, a0, a1, a4]
    unfold G3; rw [← hs]; rfl

end Cert.Kernel23Ideal.Prod

end
-- ==== Proof.Prod.K24.lean ====
module

public import proofs.«01_k».proof.Proof.Prod.Adam
public import proofs.«01_k».proof.Proof.Gen.Kernel24Ideal.Value
public import proofs.«01_k».proof.Proof.Gen.Reference24Ideal.Run
public import proofs.«01_k».proof.Proof.Gen.Reference24Ideal.Read

@[expose] public section

/-! # Kernel 24: the optimiser's step on the weight that makes the queries

A point of the grid takes some rows of one layer: it adds up the eight parts of their gradient and steps their weight and
its two moments. The first half of the points reads the first layer's parts, the second half the second layer's. -/

noncomputable section

namespace Cert.Kernel24Ideal.Prod

open Cert.Kernel24Ideal Cert.Kernel24Ideal.Gen
open Idealize.ShloMosaic Idealize.ShloMosaic.TcCoe Idealize.ShloMosaic.Tactic Idealize.SL.Sem

variable (m : (ℓ : Loc nD τ sig) → Buf (Elt Ideal) ℓ)

/-- One of the eight parts of a block. -/
abbrev part (X : Vec Ideal S8x128x192 .bf16) (k : ℕ) (h : ∀ a, ![k, 0, 0] a + ![1, 128, 192] a ≤ S8x128x192.size a) : Vec Ideal S1x128x192 .bf16 :=
  View.ld X (Rect.unit ![k, 0, 0] ![1, 128, 192] h)

/-- Their sum. -/
abbrev total (X : Vec Ideal S8x128x192 .bf16) : FVec Ideal S128x192 .f32 :=
  k0_pay5 (part X 0 inb_S8x128x192_S1x128x192_0_0_0) (part X 1 inb_S8x128x192_S1x128x192_1_0_0) (part X 2 inb_S8x128x192_S1x128x192_2_0_0) (part X 3 inb_S8x128x192_S1x128x192_3_0_0)
    (part X 4 inb_S8x128x192_S1x128x192_4_0_0) (part X 5 inb_S8x128x192_S1x128x192_5_0_0) (part X 6 inb_S8x128x192_S1x128x192_6_0_0) (part X 7 inb_S8x128x192_S1x128x192_7_0_0)

/-- The first moment a point computes. -/
abbrev mom (X : Vec Ideal S8x128x192 .bf16) (s : Vec Ideal S1x128x192 .f32) : FVec Ideal S128x192 .f32 :=
  k0_pay7 (total X) (k0_pay6 s)

/-- What a point stores in the blocks of its four results. -/
theorem stored (X : Vec Ideal S8x128x192 .bf16) (w s v : Vec Ideal S1x128x192 .f32) (z : Fin 1) (p : Fin 128) (q : Fin 192) (g : Ideal .f32)
    (hg : ∑ k : Fin 8, (X (ix3 k p q) : EReal) = g) :
    k0_pay9 (total X) (ix3 z p q) = g
    ∧ k0_pay10 (total X) (k0_pay6 s) v w (ix3 z p q) = Adam.delta g (w (ix3 0 p q)) (s (ix3 0 p q)) (v (ix3 0 p q))
    ∧ k0_pay1 (mom X s) (ix3 z p q) = Adam.newM g (s (ix3 0 p q))
    ∧ k0_pay2 (k0_pay8 (total X) v) (ix3 z p q) = Adam.newV g (v (ix3 0 p q)) := by
  have h : total X (ix2 p q) = g := by
    unfold total part
    pointwise [k0_pay5]
    exact (Adam.sum8 fun k => X (ix3 k p q)).trans hg
  rw [← h]
  unfold k0_pay10 mom k0_pay7 k0_pay8
  refine ⟨?_, ?_, ?_, ?_⟩ <;> pointwise [k0_pay9, k0_pay6, k0_pay1, k0_pay2, Adam.newM, Adam.newV, Adam.delta]

/-! The block of each array a point names. -/

theorem idx0 : ∀ t : Fin cfg0.N, win0_0.index t = ![0, t.val % 4, 0] := (by decide +kernel : ∀ t : Fin grid0.N, _)
theorem idx1 : ∀ t : Fin cfg0.N, win0_1.index t = ![0, t.val % 4, 0] := (by decide +kernel : ∀ t : Fin grid0.N, _)
theorem idx : ∀ t : Fin cfg0.N,
    win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

/-- The eight parts of the first layer's gradient. -/
abbrev X0 (c : Dev nD) : FVec Ideal S8x512x192 .bf16 := m (c.tc.loc main_arg0)
/-- The eight parts of the second layer's gradient. -/
abbrev X1 (c : Dev nD) : FVec Ideal S8x512x192 .bf16 := m (c.tc.loc main_arg1)
/-- The weight. -/
abbrev X2 (c : Dev nD) : FVec Ideal S2x512x192 .f32 := m (c.tc.loc main_arg2)
/-- Its first moment. -/
abbrev X3 (c : Dev nD) : FVec Ideal S2x512x192 .f32 := m (c.tc.loc main_arg3)
/-- Its second moment. -/
abbrev X4 (c : Dev nD) : FVec Ideal S2x512x192 .f32 := m (c.tc.loc main_arg4)

/-- The row of the whole array that a row of a point's block is. -/
abbrev row (t : Fin cfg0.N) (p : Fin 128) : Fin 512 := ⟨t.val % 4 * 128 + p.val, by have := lt_of_lt_of_eq t.isLt N_0; omega⟩
/-- The place of the whole array that a place of a point's block is. -/
abbrev pos (t : Fin cfg0.N) (p : Fin 128) (q : Fin 192) : S2x512x192.Idx :=
  ix3 ⟨t.val / 4, by have := lt_of_lt_of_eq t.isLt N_0; omega⟩ (row t p) q

theorem blk0 (c : Dev nD) (t : Fin cfg0.N) (k : Fin 8) (p : Fin 128) (q : Fin 192) :
    iblk m c 0 t (ix3 k p q) = X0 m c (ix3 k (row t p) q) := by
  unfold X0; rw [← V_main_arg0 m c]
  refine congrArg (V m c main_arg0 : FVec Ideal S8x512x192 .bf16) (funext fun a => Fin.ext ?_)
  match a with
  | ⟨0, _⟩ | ⟨1, _⟩ | ⟨2, _⟩ => blk_simp [idx0 t]

theorem blk1 (c : Dev nD) (t : Fin cfg0.N) (k : Fin 8) (p : Fin 128) (q : Fin 192) :
    iblk m c 1 t (ix3 k p q) = X1 m c (ix3 k (row t p) q) := by
  unfold X1; rw [← V_main_arg1 m c]
  refine congrArg (V m c main_arg1 : FVec Ideal S8x512x192 .bf16) (funext fun a => Fin.ext ?_)
  match a with
  | ⟨0, _⟩ | ⟨1, _⟩ | ⟨2, _⟩ => blk_simp [idx1 t]

theorem blks (c : Dev nD) (t : Fin cfg0.N) (p : Fin 128) (q : Fin 192) :
    iblk m c 2 t (ix3 0 p q) = X2 m c (pos t p q)
    ∧ iblk m c 3 t (ix3 0 p q) = X3 m c (pos t p q)
    ∧ iblk m c 4 t (ix3 0 p q) = X4 m c (pos t p q) := by
  unfold X2 X3 X4; rw [← V_main_arg2 m c, ← V_main_arg3 m c, ← V_main_arg4 m c]
  obtain ⟨h2, h3, h4, _⟩ := idx t
  refine ⟨congrArg (V m c main_arg2 : FVec Ideal S2x512x192 .f32) (funext fun a => Fin.ext ?_),
    congrArg (V m c main_arg3 : FVec Ideal S2x512x192 .f32) (funext fun a => Fin.ext ?_),
    congrArg (V m c main_arg4 : FVec Ideal S2x512x192 .f32) (funext fun a => Fin.ext ?_)⟩ <;> match a with
  | ⟨0, _⟩ | ⟨1, _⟩ | ⟨2, _⟩ => blk_simp [h2, h3, h4] <;> rfl

theorem emb (t : Fin cfg0.N) (z : Fin 1) (p : Fin 128) (q : Fin 192) :
    (win0_5.blk t).view.emb (ix3 z p q) = pos t p q
    ∧ (win0_6.blk t).view.emb (ix3 z p q) = pos t p q
    ∧ (win0_7.blk t).view.emb (ix3 z p q) = pos t p q
    ∧ (win0_8.blk t).view.emb (ix3 z p q) = pos t p q := by
  obtain ⟨_, _, _, h5, h6, h7, h8⟩ := idx t
  refine ⟨funext fun a => Fin.ext ?_, funext fun a => Fin.ext ?_, funext fun a => Fin.ext ?_, funext fun a => Fin.ext ?_⟩ <;> match a with
  | ⟨0, _⟩ | ⟨1, _⟩ | ⟨2, _⟩ => blk_simp [h5, h6, h7, h8] <;> rfl

/-- The gradient. -/
def G0 (c : Dev nD) : FVec Ideal S2x512x192 .f32 := Adam.both (X0 m c) (X1 m c)
/-- The change of the weight. -/
def G1 (c : Dev nD) : FVec Ideal S2x512x192 .f32 := fun i => Adam.delta (G0 m c i) (X2 m c i) (X3 m c i) (X4 m c i)
/-- The new first moment. -/
def G2 (c : Dev nD) : FVec Ideal S2x512x192 .f32 := fun i => Adam.newM (G0 m c i) (X3 m c i)
/-- The new second moment. -/
def G3 (c : Dev nD) : FVec Ideal S2x512x192 .f32 := fun i => Adam.newV (G0 m c i) (X4 m c i)

/-- What a point leaves in the blocks of its four results. -/
theorem point (c : Dev nD) (t : Fin cfg0.N) (z : Fin 1) (p : Fin 128) (q : Fin 192) :
    (outsAt0 m c t.val t.isLt).1 (ix3 z p q) = G0 m c (pos t p q)
    ∧ (outsAt0 m c t.val t.isLt).2.1 (ix3 z p q) = G1 m c (pos t p q)
    ∧ (outsAt0 m c t.val t.isLt).2.2.1 (ix3 z p q) = G2 m c (pos t p q)
    ∧ (outsAt0 m c t.val t.isLt).2.2.2 (ix3 z p q) = G3 m c (pos t p q) := by
  have ht := lt_of_lt_of_eq t.isLt N_0
  by_cases h : t.val < 4
  · rw [outsAt0_A m c t (by omega) (by omega)]
    have s := stored (iblk m c 0 t) (iblk m c 2 t) (iblk m c 3 t) (iblk m c 4 t) z p q (G0 m c (pos t p q))
      ((congrArg (fun f : Fin 8 → EReal => ∑ k, f k) (funext fun k => blk0 m c t k p q)).trans (if_pos (show t.val / 4 = 0 by omega)).symm)
    simp only [blks m c t p q] at s
    refine ⟨?_, ?_, ?_, ?_⟩ <;> frame_out
    exacts [s.1, s.2.1, s.2.2.1, s.2.2.2]
  · rw [outsAt0_B m c t (by omega) (by omega)]
    have s := stored (iblk m c 1 t) (iblk m c 2 t) (iblk m c 3 t) (iblk m c 4 t) z p q (G0 m c (pos t p q))
      ((congrArg (fun f : Fin 8 → EReal => ∑ k, f k) (funext fun k => blk1 m c t k p q)).trans (if_neg (show ¬t.val / 4 = 0 by omega)).symm)
    simp only [blks m c t p q] at s
    refine ⟨?_, ?_, ?_, ?_⟩ <;> frame_out
    exacts [s.1, s.2.1, s.2.2.1, s.2.2.2]

/-! The four arrays at the end of the run. -/

theorem arrs (c : Dev nD) :
    (dats m 0 c).arrAt 5 cfg0.N = G0 m c
    ∧ (dats m 0 c).arrAt 6 cfg0.N = G1 m c
    ∧ (dats m 0 c).arrAt 7 cfg0.N = G2 m c
    ∧ (dats m 0 c).arrAt 8 cfg0.N = G3 m c := by
  refine ⟨(dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_⟩
  · show (dats m 0 c).after 5 t y = G0 m c ((win0_5.blk t).view.emb y)
    rw [after0_5, Adam.eta3 y]
    exact (point m c t (y 0) (y 1) (y 2)).1.trans (congrArg _ (emb t (y 0) (y 1) (y 2)).1.symm)
  · show (dats m 0 c).after 6 t y = G1 m c ((win0_6.blk t).view.emb y)
    rw [after0_6, Adam.eta3 y]
    exact (point m c t (y 0) (y 1) (y 2)).2.1.trans (congrArg _ (emb t (y 0) (y 1) (y 2)).2.1.symm)
  · show (dats m 0 c).after 7 t y = G2 m c ((win0_7.blk t).view.emb y)
    rw [after0_7, Adam.eta3 y]
    exact (point m c t (y 0) (y 1) (y 2)).2.2.1.trans (congrArg _ (emb t (y 0) (y 1) (y 2)).2.2.1.symm)
  · show (dats m 0 c).after 8 t y = G3 m c ((win0_8.blk t).view.emb y)
    rw [after0_8, Adam.eta3 y]
    exact (point m c t (y 0) (y 1) (y 2)).2.2.2.trans (congrArg _ (emb t (y 0) (y 1) (y 2)).2.2.2.symm)

/-! The reference, element by element. -/

open Cert.Reference24Ideal.Read in
theorem ref_sum (x0 x1 : FVec Ideal S8x512x192 .bf16) (z : Fin 2) (p : Fin 512) (q : Fin 192) :
    val_main_v6 (F := Ideal) x0 x1 (ix3 z p q) = Adam.both x0 x1 (ix3 z p q) := by
  unfold val_main_v6
  match z with
  | ⟨0, _⟩ =>
    refine Eq.trans ?_ (if_pos rfl).symm
    pointwise
    show val_main_v4 (F := Ideal) x0 (ix3 0 p q) = _
    rw [val_main_v4_apply, val_main_v1_apply]
    refine (congrArg (fun a : EReal => a + _) (Ideal.ofBits_zero_f32 : val_main_cst (F := Ideal) _ = 0)).trans ((zero_add _).trans (Finset.sum_congr rfl fun k _ => ?_))
    exact congrArg x0 (At.same3 rfl rfl rfl)
  | ⟨1, _⟩ =>
    refine Eq.trans ?_ (if_neg Nat.one_ne_zero).symm
    pointwise
    show val_main_v5 (F := Ideal) x1 (ix3 0 p q) = _
    rw [val_main_v5_apply, val_main_v3_apply]
    refine (congrArg (fun a : EReal => a + _) (Ideal.ofBits_zero_f32 : val_main_cst_0 (F := Ideal) _ = 0)).trans ((zero_add _).trans (Finset.sum_congr rfl fun k _ => ?_))
    exact congrArg x1 (At.same3 rfl rfl rfl)

/-- The reference leaves its arguments as they were; it has no semaphore at all. -/
theorem frame_ref : @Cert.quiescent_Reference24Ideal Cert.Reference24Ideal.Gen.facts := fun m g _ =>
  (θ_run _ _ _).mono (fun r h => ⟨fun c => (h c).2.2.2.2, sem_eq_zero_of_no_sems (by decide) r.2⟩) (Cert.Reference24Ideal.Value.run m g)

/-- From equal arguments the kernel and the reference end with equal results. -/
theorem algebraic : @Cert.algebraic_Kernel24Ideal_Reference24Ideal Cert.Kernel24Ideal.Gen.facts Cert.Reference24Ideal.Gen.facts := by
  intro m g m' g' hp hm
  refine ⟨G0 m, G1 m, G2 m, G3 m, (θ_run _ _ _).mono (fun _ h c => ⟨(h c).1.trans (arrs m c).1, (h c).2.1.trans (arrs m c).2.1,
    (h c).2.2.1.trans (arrs m c).2.2.1, (h c).2.2.2.1.trans (arrs m c).2.2.2, (h c).2.2.2.2⟩) (Value.run_blocks m g), ?_⟩
  refine (θ_run _ _ _).mono (fun _ h c => ?_) (Cert.Reference24Ideal.Value.run m' g')
  obtain ⟨h0, h1, h2, h3, ha⟩ := h c
  obtain ⟨a0, a1, a2, a3, a4⟩ := hm c
  have hs : Cert.Reference24Ideal.Read.val_main_v6 (F := Ideal) (X0 m c) (X1 m c) = G0 m c := funext fun i => by
    rw [Adam.eta3 i]; exact ref_sum (X0 m c) (X1 m c) (i 0) (i 1) (i 2)
  refine ⟨h0.trans ?_, h1.trans ?_, h2.trans ?_, h3.trans ?_, ha⟩
  · rw [Cert.Reference24Ideal.Read.val_main_v6_eq, a0, a1]
    exact hs
  · rw [Cert.Reference24Ideal.Read.val_main_v30_eq, a0, a1, a2, a3, a4]
    unfold G1; rw [← hs]; rfl
  · rw [Cert.Reference24Ideal.Read.val_main_v11_eq, a0, a1, a3]
    unfold G2; rw [← hs]; rfl
  · rw [Cert.Reference24Ideal.Read.val_main_v17_eq, a0, a1, a4]
    unfold G3; rw [← hs]; rfl

end Cert.Kernel24Ideal.Prod

end
-- ==== Proof.Prod.K25.lean ====
module

public import proofs.«01_k».proof.Proof.Prod.Adam
public import proofs.«01_k».proof.Proof.Gen.Kernel25Ideal.Value
public import proofs.«01_k».proof.Proof.Gen.Reference25Ideal.Run
public import proofs.«01_k».proof.Proof.Gen.Reference25Ideal.Read

@[expose] public section

/-! # Kernel 25: the optimiser's step on the weight that makes the keys and the values

A point of the grid takes some rows of one layer: it adds up the eight parts of their gradient and steps their weight and
its two moments. The first half of the points reads the first layer's parts, the second half the second layer's. -/

noncomputable section

namespace Cert.Kernel25Ideal.Prod

open Cert.Kernel25Ideal Cert.Kernel25Ideal.Gen
open Idealize.ShloMosaic Idealize.ShloMosaic.TcCoe Idealize.ShloMosaic.Tactic Idealize.SL.Sem

variable (m : (ℓ : Loc nD τ sig) → Buf (Elt Ideal) ℓ)

/-- One of the eight parts of a block. -/
abbrev part (X : Vec Ideal S8x128x256 .bf16) (k : ℕ) (h : ∀ a, ![k, 0, 0] a + ![1, 128, 256] a ≤ S8x128x256.size a) : Vec Ideal S1x128x256 .bf16 :=
  View.ld X (Rect.unit ![k, 0, 0] ![1, 128, 256] h)

/-- Their sum. -/
abbrev total (X : Vec Ideal S8x128x256 .bf16) : FVec Ideal S128x256 .f32 :=
  k0_pay5 (part X 0 inb_S8x128x256_S1x128x256_0_0_0) (part X 1 inb_S8x128x256_S1x128x256_1_0_0) (part X 2 inb_S8x128x256_S1x128x256_2_0_0) (part X 3 inb_S8x128x256_S1x128x256_3_0_0)
    (part X 4 inb_S8x128x256_S1x128x256_4_0_0) (part X 5 inb_S8x128x256_S1x128x256_5_0_0) (part X 6 inb_S8x128x256_S1x128x256_6_0_0) (part X 7 inb_S8x128x256_S1x128x256_7_0_0)

/-- The first moment a point computes. -/
abbrev mom (X : Vec Ideal S8x128x256 .bf16) (s : Vec Ideal S1x128x256 .f32) : FVec Ideal S128x256 .f32 :=
  k0_pay7 (total X) (k0_pay6 s)

/-- What a point stores in the blocks of its four results. -/
theorem stored (X : Vec Ideal S8x128x256 .bf16) (w s v : Vec Ideal S1x128x256 .f32) (z : Fin 1) (p : Fin 128) (q : Fin 256) (g : Ideal .f32)
    (hg : ∑ k : Fin 8, (X (ix3 k p q) : EReal) = g) :
    k0_pay9 (total X) (ix3 z p q) = g
    ∧ k0_pay10 (total X) (k0_pay6 s) v w (ix3 z p q) = Adam.delta g (w (ix3 0 p q)) (s (ix3 0 p q)) (v (ix3 0 p q))
    ∧ k0_pay1 (mom X s) (ix3 z p q) = Adam.newM g (s (ix3 0 p q))
    ∧ k0_pay2 (k0_pay8 (total X) v) (ix3 z p q) = Adam.newV g (v (ix3 0 p q)) := by
  have h : total X (ix2 p q) = g := by
    unfold total part
    pointwise [k0_pay5]
    exact (Adam.sum8 fun k => X (ix3 k p q)).trans hg
  rw [← h]
  unfold k0_pay10 mom k0_pay7 k0_pay8
  refine ⟨?_, ?_, ?_, ?_⟩ <;> pointwise [k0_pay9, k0_pay6, k0_pay1, k0_pay2, Adam.newM, Adam.newV, Adam.delta]

/-! The block of each array a point names. -/

theorem idx0 : ∀ t : Fin cfg0.N, win0_0.index t = ![0, t.val % 2, 0] := (by decide +kernel : ∀ t : Fin grid0.N, _)
theorem idx1 : ∀ t : Fin cfg0.N, win0_1.index t = ![0, t.val % 2, 0] := (by decide +kernel : ∀ t : Fin grid0.N, _)
theorem idx : ∀ t : Fin cfg0.N,
    win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)

/-- The eight parts of the first layer's gradient. -/
abbrev X0 (c : Dev nD) : FVec Ideal S8x256x256 .bf16 := m (c.tc.loc main_arg0)
/-- The eight parts of the second layer's gradient. -/
abbrev X1 (c : Dev nD) : FVec Ideal S8x256x256 .bf16 := m (c.tc.loc main_arg1)
/-- The weight. -/
abbrev X2 (c : Dev nD) : FVec Ideal S2x256x256 .f32 := m (c.tc.loc main_arg2)
/-- Its first moment. -/
abbrev X3 (c : Dev nD) : FVec Ideal S2x256x256 .f32 := m (c.tc.loc main_arg3)
/-- Its second moment. -/
abbrev X4 (c : Dev nD) : FVec Ideal S2x256x256 .f32 := m (c.tc.loc main_arg4)

/-- The row of the whole array that a row of a point's block is. -/
abbrev row (t : Fin cfg0.N) (p : Fin 128) : Fin 256 := ⟨t.val % 2 * 128 + p.val, by have := lt_of_lt_of_eq t.isLt N_0; omega⟩
/-- The place of the whole array that a place of a point's block is. -/
abbrev pos (t : Fin cfg0.N) (p : Fin 128) (q : Fin 256) : S2x256x256.Idx :=
  ix3 ⟨t.val / 2, by have := lt_of_lt_of_eq t.isLt N_0; omega⟩ (row t p) q

theorem blk0 (c : Dev nD) (t : Fin cfg0.N) (k : Fin 8) (p : Fin 128) (q : Fin 256) :
    iblk m c 0 t (ix3 k p q) = X0 m c (ix3 k (row t p) q) := by
  unfold X0; rw [← V_main_arg0 m c]
  refine congrArg (V m c main_arg0 : FVec Ideal S8x256x256 .bf16) (funext fun a => Fin.ext ?_)
  match a with
  | ⟨0, _⟩ | ⟨1, _⟩ | ⟨2, _⟩ => blk_simp [idx0 t]

theorem blk1 (c : Dev nD) (t : Fin cfg0.N) (k : Fin 8) (p : Fin 128) (q : Fin 256) :
    iblk m c 1 t (ix3 k p q) = X1 m c (ix3 k (row t p) q) := by
  unfold X1; rw [← V_main_arg1 m c]
  refine congrArg (V m c main_arg1 : FVec Ideal S8x256x256 .bf16) (funext fun a => Fin.ext ?_)
  match a with
  | ⟨0, _⟩ | ⟨1, _⟩ | ⟨2, _⟩ => blk_simp [idx1 t]

theorem blks (c : Dev nD) (t : Fin cfg0.N) (p : Fin 128) (q : Fin 256) :
    iblk m c 2 t (ix3 0 p q) = X2 m c (pos t p q)
    ∧ iblk m c 3 t (ix3 0 p q) = X3 m c (pos t p q)
    ∧ iblk m c 4 t (ix3 0 p q) = X4 m c (pos t p q) := by
  unfold X2 X3 X4; rw [← V_main_arg2 m c, ← V_main_arg3 m c, ← V_main_arg4 m c]
  obtain ⟨h2, h3, h4, _⟩ := idx t
  refine ⟨congrArg (V m c main_arg2 : FVec Ideal S2x256x256 .f32) (funext fun a => Fin.ext ?_),
    congrArg (V m c main_arg3 : FVec Ideal S2x256x256 .f32) (funext fun a => Fin.ext ?_),
    congrArg (V m c main_arg4 : FVec Ideal S2x256x256 .f32) (funext fun a => Fin.ext ?_)⟩ <;> match a with
  | ⟨0, _⟩ | ⟨1, _⟩ | ⟨2, _⟩ => blk_simp [h2, h3, h4] <;> rfl

theorem emb (t : Fin cfg0.N) (z : Fin 1) (p : Fin 128) (q : Fin 256) :
    (win0_5.blk t).view.emb (ix3 z p q) = pos t p q
    ∧ (win0_6.blk t).view.emb (ix3 z p q) = pos t p q
    ∧ (win0_7.blk t).view.emb (ix3 z p q) = pos t p q
    ∧ (win0_8.blk t).view.emb (ix3 z p q) = pos t p q := by
  obtain ⟨_, _, _, h5, h6, h7, h8⟩ := idx t
  refine ⟨funext fun a => Fin.ext ?_, funext fun a => Fin.ext ?_, funext fun a => Fin.ext ?_, funext fun a => Fin.ext ?_⟩ <;> match a with
  | ⟨0, _⟩ | ⟨1, _⟩ | ⟨2, _⟩ => blk_simp [h5, h6, h7, h8] <;> rfl

/-- The gradient. -/
def G0 (c : Dev nD) : FVec Ideal S2x256x256 .f32 := Adam.both (X0 m c) (X1 m c)
/-- The change of the weight. -/
def G1 (c : Dev nD) : FVec Ideal S2x256x256 .f32 := fun i => Adam.delta (G0 m c i) (X2 m c i) (X3 m c i) (X4 m c i)
/-- The new first moment. -/
def G2 (c : Dev nD) : FVec Ideal S2x256x256 .f32 := fun i => Adam.newM (G0 m c i) (X3 m c i)
/-- The new second moment. -/
def G3 (c : Dev nD) : FVec Ideal S2x256x256 .f32 := fun i => Adam.newV (G0 m c i) (X4 m c i)

/-- What a point leaves in the blocks of its four results. -/
theorem point (c : Dev nD) (t : Fin cfg0.N) (z : Fin 1) (p : Fin 128) (q : Fin 256) :
    (outsAt0 m c t.val t.isLt).1 (ix3 z p q) = G0 m c (pos t p q)
    ∧ (outsAt0 m c t.val t.isLt).2.1 (ix3 z p q) = G1 m c (pos t p q)
    ∧ (outsAt0 m c t.val t.isLt).2.2.1 (ix3 z p q) = G2 m c (pos t p q)
    ∧ (outsAt0 m c t.val t.isLt).2.2.2 (ix3 z p q) = G3 m c (pos t p q) := by
  have ht := lt_of_lt_of_eq t.isLt N_0
  by_cases h : t.val < 2
  · rw [outsAt0_A m c t (by omega) (by omega)]
    have s := stored (iblk m c 0 t) (iblk m c 2 t) (iblk m c 3 t) (iblk m c 4 t) z p q (G0 m c (pos t p q))
      ((congrArg (fun f : Fin 8 → EReal => ∑ k, f k) (funext fun k => blk0 m c t k p q)).trans (if_pos (show t.val / 2 = 0 by omega)).symm)
    simp only [blks m c t p q] at s
    refine ⟨?_, ?_, ?_, ?_⟩ <;> frame_out
    exacts [s.1, s.2.1, s.2.2.1, s.2.2.2]
  · rw [outsAt0_B m c t (by omega) (by omega)]
    have s := stored (iblk m c 1 t) (iblk m c 2 t) (iblk m c 3 t) (iblk m c 4 t) z p q (G0 m c (pos t p q))
      ((congrArg (fun f : Fin 8 → EReal => ∑ k, f k) (funext fun k => blk1 m c t k p q)).trans (if_neg (show ¬t.val / 2 = 0 by omega)).symm)
    simp only [blks m c t p q] at s
    refine ⟨?_, ?_, ?_, ?_⟩ <;> frame_out
    exacts [s.1, s.2.1, s.2.2.1, s.2.2.2]

/-! The four arrays at the end of the run. -/

theorem arrs (c : Dev nD) :
    (dats m 0 c).arrAt 5 cfg0.N = G0 m c
    ∧ (dats m 0 c).arrAt 6 cfg0.N = G1 m c
    ∧ (dats m 0 c).arrAt 7 cfg0.N = G2 m c
    ∧ (dats m 0 c).arrAt 8 cfg0.N = G3 m c := by
  refine ⟨(dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_⟩
  · show (dats m 0 c).after 5 t y = G0 m c ((win0_5.blk t).view.emb y)
    rw [after0_5, Adam.eta3 y]
    exact (point m c t (y 0) (y 1) (y 2)).1.trans (congrArg _ (emb t (y 0) (y 1) (y 2)).1.symm)
  · show (dats m 0 c).after 6 t y = G1 m c ((win0_6.blk t).view.emb y)
    rw [after0_6, Adam.eta3 y]
    exact (point m c t (y 0) (y 1) (y 2)).2.1.trans (congrArg _ (emb t (y 0) (y 1) (y 2)).2.1.symm)
  · show (dats m 0 c).after 7 t y = G2 m c ((win0_7.blk t).view.emb y)
    rw [after0_7, Adam.eta3 y]
    exact (point m c t (y 0) (y 1) (y 2)).2.2.1.trans (congrArg _ (emb t (y 0) (y 1) (y 2)).2.2.1.symm)
  · show (dats m 0 c).after 8 t y = G3 m c ((win0_8.blk t).view.emb y)
    rw [after0_8, Adam.eta3 y]
    exact (point m c t (y 0) (y 1) (y 2)).2.2.2.trans (congrArg _ (emb t (y 0) (y 1) (y 2)).2.2.2.symm)

/-! The reference, element by element. -/

open Cert.Reference25Ideal.Read in
theorem ref_sum (x0 x1 : FVec Ideal S8x256x256 .bf16) (z : Fin 2) (p q : Fin 256) :
    val_main_v6 (F := Ideal) x0 x1 (ix3 z p q) = Adam.both x0 x1 (ix3 z p q) := by
  unfold val_main_v6
  match z with
  | ⟨0, _⟩ =>
    refine Eq.trans ?_ (if_pos rfl).symm
    pointwise
    show val_main_v4 (F := Ideal) x0 (ix3 0 p q) = _
    rw [val_main_v4_apply, val_main_v1_apply]
    refine (congrArg (fun a : EReal => a + _) (Ideal.ofBits_zero_f32 : val_main_cst (F := Ideal) _ = 0)).trans ((zero_add _).trans (Finset.sum_congr rfl fun k _ => ?_))
    exact congrArg x0 (At.same3 rfl rfl rfl)
  | ⟨1, _⟩ =>
    refine Eq.trans ?_ (if_neg Nat.one_ne_zero).symm
    pointwise
    show val_main_v5 (F := Ideal) x1 (ix3 0 p q) = _
    rw [val_main_v5_apply, val_main_v3_apply]
    refine (congrArg (fun a : EReal => a + _) (Ideal.ofBits_zero_f32 : val_main_cst_0 (F := Ideal) _ = 0)).trans ((zero_add _).trans (Finset.sum_congr rfl fun k _ => ?_))
    exact congrArg x1 (At.same3 rfl rfl rfl)

/-- The reference leaves its arguments as they were; it has no semaphore at all. -/
theorem frame_ref : @Cert.quiescent_Reference25Ideal Cert.Reference25Ideal.Gen.facts := fun m g _ =>
  (θ_run _ _ _).mono (fun r h => ⟨fun c => (h c).2.2.2.2, sem_eq_zero_of_no_sems (by decide) r.2⟩) (Cert.Reference25Ideal.Value.run m g)

/-- From equal arguments the kernel and the reference end with equal results. -/
theorem algebraic : @Cert.algebraic_Kernel25Ideal_Reference25Ideal Cert.Kernel25Ideal.Gen.facts Cert.Reference25Ideal.Gen.facts := by
  intro m g m' g' hp hm
  refine ⟨G0 m, G1 m, G2 m, G3 m, (θ_run _ _ _).mono (fun _ h c => ⟨(h c).1.trans (arrs m c).1, (h c).2.1.trans (arrs m c).2.1,
    (h c).2.2.1.trans (arrs m c).2.2.1, (h c).2.2.2.1.trans (arrs m c).2.2.2, (h c).2.2.2.2⟩) (Value.run_blocks m g), ?_⟩
  refine (θ_run _ _ _).mono (fun _ h c => ?_) (Cert.Reference25Ideal.Value.run m' g')
  obtain ⟨h0, h1, h2, h3, ha⟩ := h c
  obtain ⟨a0, a1, a2, a3, a4⟩ := hm c
  have hs : Cert.Reference25Ideal.Read.val_main_v6 (F := Ideal) (X0 m c) (X1 m c) = G0 m c := funext fun i => by
    rw [Adam.eta3 i]; exact ref_sum (X0 m c) (X1 m c) (i 0) (i 1) (i 2)
  refine ⟨h0.trans ?_, h1.trans ?_, h2.trans ?_, h3.trans ?_, ha⟩
  · rw [Cert.Reference25Ideal.Read.val_main_v6_eq, a0, a1]
    exact hs
  · rw [Cert.Reference25Ideal.Read.val_main_v30_eq, a0, a1, a2, a3, a4]
    unfold G1; rw [← hs]; rfl
  · rw [Cert.Reference25Ideal.Read.val_main_v11_eq, a0, a1, a3]
    unfold G2; rw [← hs]; rfl
  · rw [Cert.Reference25Ideal.Read.val_main_v17_eq, a0, a1, a4]
    unfold G3; rw [← hs]; rfl

end Cert.Kernel25Ideal.Prod

end
-- ==== Proof.Prod.K26.lean ====
module

public import proofs.«01_k».proof.Proof.Prod.Adam
public import proofs.«01_k».proof.Proof.Gen.Kernel26Ideal.Value
public import proofs.«01_k».proof.Proof.Gen.Reference26Ideal.Run
public import proofs.«01_k».proof.Proof.Gen.Reference26Ideal.Read

@[expose] public section

/-! # Kernel 26: the optimiser's step on the small weights, packed in one array

A point of the grid takes eight rows: it adds up the eight parts of their gradient and steps their weight and its two
moments. -/

noncomputable section

namespace Cert.Kernel26Ideal.Prod

open Cert.Kernel26Ideal Cert.Kernel26Ideal.Gen
open Idealize.ShloMosaic Idealize.ShloMosaic.TcCoe Idealize.ShloMosaic.Tactic Idealize.SL.Sem

variable (m : (ℓ : Loc nD τ sig) → Buf (Elt Ideal) ℓ)

/-- One of the eight parts of a block. -/
abbrev part (X : Vec Ideal S8x8x1024 .f32) (k : ℕ) (h : ∀ a, ![k, 0, 0] a + ![1, 8, 1024] a ≤ S8x8x1024.size a) : Vec Ideal S1x8x1024 .f32 :=
  View.ld X (Rect.unit ![k, 0, 0] ![1, 8, 1024] h)

/-- Their sum. -/
abbrev total (X : Vec Ideal S8x8x1024 .f32) : FVec Ideal S8x1024 .f32 :=
  k0_pay3 (part X 0 inb_S8x8x1024_S1x8x1024_0_0_0) (part X 1 inb_S8x8x1024_S1x8x1024_1_0_0) (part X 2 inb_S8x8x1024_S1x8x1024_2_0_0) (part X 3 inb_S8x8x1024_S1x8x1024_3_0_0)
    (part X 4 inb_S8x8x1024_S1x8x1024_4_0_0) (part X 5 inb_S8x8x1024_S1x8x1024_5_0_0) (part X 6 inb_S8x8x1024_S1x8x1024_6_0_0) (part X 7 inb_S8x8x1024_S1x8x1024_7_0_0)

/-- The first moment a point computes. -/
abbrev mom (X : Vec Ideal S8x8x1024 .f32) (s : Vec Ideal S8x1024 .f32) : FVec Ideal S8x1024 .f32 :=
  k0_pay4 (part X 0 inb_S8x8x1024_S1x8x1024_0_0_0) (part X 1 inb_S8x8x1024_S1x8x1024_1_0_0) (part X 2 inb_S8x8x1024_S1x8x1024_2_0_0) (part X 3 inb_S8x8x1024_S1x8x1024_3_0_0)
    (part X 4 inb_S8x8x1024_S1x8x1024_4_0_0) (part X 5 inb_S8x8x1024_S1x8x1024_5_0_0) (part X 6 inb_S8x8x1024_S1x8x1024_6_0_0) (part X 7 inb_S8x8x1024_S1x8x1024_7_0_0) s

/-- What a point stores in the blocks of its four results. -/
theorem stored (X : Vec Ideal S8x8x1024 .f32) (w s v : Vec Ideal S8x1024 .f32) (p : Fin 8) (q : Fin 1024) (g : Ideal .f32)
    (hg : ∑ k : Fin 8, (X (ix3 k p q) : EReal) = g) :
    total X (ix2 p q) = g
    ∧ k0_pay2 (total X) (mom X s) v w (ix2 p q) = Adam.delta g (w (ix2 p q)) (s (ix2 p q)) (v (ix2 p q))
    ∧ mom X s (ix2 p q) = Adam.newM g (s (ix2 p q))
    ∧ k0_pay1 (total X) v (ix2 p q) = Adam.newV g (v (ix2 p q)) := by
  have h : total X (ix2 p q) = g := by
    unfold total part
    pointwise [k0_pay3]
    exact (Adam.sum8 fun k => X (ix3 k p q)).trans hg
  have hm : mom X s (ix2 p q) = Adam.newM g (s (ix2 p q)) := by
    rw [← h]
    unfold mom part
    pointwise [k0_pay4, Adam.newM]
  have hv : k0_pay1 (total X) v (ix2 p q) = Adam.newV g (v (ix2 p q)) := by
    rw [← h]
    pointwise [k0_pay1, Adam.newV]
  unfold Adam.delta
  rw [← hm, ← hv, ← h]
  refine ⟨?_, ?_, ?_, ?_⟩ <;> pointwise [k0_pay2]

theorem pay6_eq (x0 : Vec Ideal S8x8x1024 .f32) (x1 x2 x3 : Vec Ideal S8x1024 .f32) : k0_pay6 x0 x1 x2 x3 = mom x0 x2 := by
  unfold k0_pay6
  rw [View.ld_unit_lit]
  decide

/-! The block of each array a point names. -/

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The eight parts of the gradient. -/
abbrev X0 (c : Dev nD) : FVec Ideal S8x24x1024 .f32 := m (c.tc.loc main_arg0)
/-- The weight. -/
abbrev X1 (c : Dev nD) : FVec Ideal S24x1024 .f32 := m (c.tc.loc main_arg1)
/-- Its first moment. -/
abbrev X2 (c : Dev nD) : FVec Ideal S24x1024 .f32 := m (c.tc.loc main_arg2)
/-- Its second moment. -/
abbrev X3 (c : Dev nD) : FVec Ideal S24x1024 .f32 := m (c.tc.loc main_arg3)

/-- The row of the whole array that a row of a point's block is. -/
abbrev row (t : Fin cfg0.N) (p : Fin 8) : Fin 24 := ⟨t.val * 8 + p.val, by have := lt_of_lt_of_eq t.isLt N_0; omega⟩
/-- The place of the whole array that a place of a point's block is. -/
abbrev pos (t : Fin cfg0.N) (p : Fin 8) (q : Fin 1024) : S24x1024.Idx :=
  ix2 (row t p) q

theorem blk0 (c : Dev nD) (t : Fin cfg0.N) (k p : Fin 8) (q : Fin 1024) :
    iblk m c 0 t (ix3 k p q) = X0 m c (ix3 k (row t p) q) := by
  unfold X0; rw [← V_main_arg0 m c]
  refine congrArg (V m c main_arg0 : FVec Ideal S8x24x1024 .f32) (funext fun a => Fin.ext ?_)
  match a with
  | ⟨0, _⟩ | ⟨1, _⟩ | ⟨2, _⟩ => blk_simp [idx0 t]

theorem blk1 (c : Dev nD) (t : Fin cfg0.N) (p : Fin 8) (q : Fin 1024) :
    iblk m c 1 t (ix2 p q) = X1 m c (pos t p q) := by
  unfold X1; rw [← V_main_arg1 m c]
  refine congrArg (V m c main_arg1 : FVec Ideal S24x1024 .f32) (funext fun a => Fin.ext ?_)
  match a with
  | ⟨0, _⟩ | ⟨1, _⟩ => blk_simp [idx1 t] <;> rfl

theorem blk2 (c : Dev nD) (t : Fin cfg0.N) (p : Fin 8) (q : Fin 1024) :
    iblk m c 2 t (ix2 p q) = X2 m c (pos t p q) := by
  unfold X2; rw [← V_main_arg2 m c]
  refine congrArg (V m c main_arg2 : FVec Ideal S24x1024 .f32) (funext fun a => Fin.ext ?_)
  match a with
  | ⟨0, _⟩ | ⟨1, _⟩ => blk_simp [idx2 t] <;> rfl

theorem blk3 (c : Dev nD) (t : Fin cfg0.N) (p : Fin 8) (q : Fin 1024) :
    iblk m c 3 t (ix2 p q) = X3 m c (pos t p q) := by
  unfold X3; rw [← V_main_arg3 m c]
  refine congrArg (V m c main_arg3 : FVec Ideal S24x1024 .f32) (funext fun a => Fin.ext ?_)
  match a with
  | ⟨0, _⟩ | ⟨1, _⟩ => blk_simp [idx3 t] <;> rfl

theorem emb (t : Fin cfg0.N) (p : Fin 8) (q : Fin 1024) :
    (win0_4.blk t).view.emb (ix2 p q) = pos t p q
    ∧ (win0_5.blk t).view.emb (ix2 p q) = pos t p q
    ∧ (win0_6.blk t).view.emb (ix2 p q) = pos t p q
    ∧ (win0_7.blk t).view.emb (ix2 p q) = pos t p q := by
  refine ⟨funext fun a => Fin.ext ?_, funext fun a => Fin.ext ?_, funext fun a => Fin.ext ?_, funext fun a => Fin.ext ?_⟩ <;> match a with
  | ⟨0, _⟩ | ⟨1, _⟩ => blk_simp [idx4 t, idx5 t, idx6 t, idx7 t] <;> rfl

/-- The gradient. -/
def G0 (c : Dev nD) : FVec Ideal S24x1024 .f32 := Adam.flat (X0 m c)
/-- The change of the weight. -/
def G1 (c : Dev nD) : FVec Ideal S24x1024 .f32 := fun i => Adam.delta (G0 m c i) (X1 m c i) (X2 m c i) (X3 m c i)
/-- The new first moment. -/
def G2 (c : Dev nD) : FVec Ideal S24x1024 .f32 := fun i => Adam.newM (G0 m c i) (X2 m c i)
/-- The new second moment. -/
def G3 (c : Dev nD) : FVec Ideal S24x1024 .f32 := fun i => Adam.newV (G0 m c i) (X3 m c i)

/-- What a point leaves in the blocks of its four results. -/
theorem point (c : Dev nD) (t : Fin cfg0.N) (p : Fin 8) (q : Fin 1024) :
    out0_4 (iblk m c 0 t) (iblk m c 1 t) (iblk m c 2 t) (iblk m c 3 t) (ix2 p q) = G0 m c (pos t p q)
    ∧ out0_5 (iblk m c 0 t) (iblk m c 1 t) (iblk m c 2 t) (iblk m c 3 t) (ix2 p q) = G1 m c (pos t p q)
    ∧ out0_6 (iblk m c 0 t) (iblk m c 1 t) (iblk m c 2 t) (iblk m c 3 t) (ix2 p q) = G2 m c (pos t p q)
    ∧ out0_7 (iblk m c 0 t) (iblk m c 1 t) (iblk m c 2 t) (iblk m c 3 t) (ix2 p q) = G3 m c (pos t p q) := by
  have s := stored (iblk m c 0 t) (iblk m c 1 t) (iblk m c 2 t) (iblk m c 3 t) p q (G0 m c (pos t p q))
    (congrArg (fun f : Fin 8 → EReal => ∑ k, f k) (funext fun k => blk0 m c t k p q))
  rw [blk1, blk2, blk3] at s
  unfold out0_4 out0_5 out0_6 out0_7
  refine ⟨?_, ?_, ?_, ?_⟩ <;> frame_out
  · exact s.1
  · rw [pay6_eq]; exact s.2.1
  · rw [pay6_eq]; exact s.2.2.1
  · exact s.2.2.2

/-! The four arrays at the end of the run. -/

theorem arr0 (c : Dev nD) : (dats m 0 c).arrAt 4 cfg0.N = G0 m c := by
  refine (dats m 0 c).arrAt_eq_of_covers 4 (G0 m c) (by decide +kernel) fun t _ y => ?_
  show (dats m 0 c).after 4 t y = G0 m c ((win0_4.blk t).view.emb y)
  rw [after0_4, Adam.eta2 y]
  exact (point m c t (y 0) (y 1)).1.trans (congrArg (G0 m c) (emb t (y 0) (y 1)).1.symm)

theorem arr1 (c : Dev nD) : (dats m 0 c).arrAt 5 cfg0.N = G1 m c := by
  refine (dats m 0 c).arrAt_eq_of_covers 5 (G1 m c) (by decide +kernel) fun t _ y => ?_
  show (dats m 0 c).after 5 t y = G1 m c ((win0_5.blk t).view.emb y)
  rw [after0_5, Adam.eta2 y]
  exact (point m c t (y 0) (y 1)).2.1.trans (congrArg (G1 m c) (emb t (y 0) (y 1)).2.1.symm)

theorem arr2 (c : Dev nD) : (dats m 0 c).arrAt 6 cfg0.N = G2 m c := by
  refine (dats m 0 c).arrAt_eq_of_covers 6 (G2 m c) (by decide +kernel) fun t _ y => ?_
  show (dats m 0 c).after 6 t y = G2 m c ((win0_6.blk t).view.emb y)
  rw [after0_6, Adam.eta2 y]
  exact (point m c t (y 0) (y 1)).2.2.1.trans (congrArg (G2 m c) (emb t (y 0) (y 1)).2.2.1.symm)

theorem arr3 (c : Dev nD) : (dats m 0 c).arrAt 7 cfg0.N = G3 m c := by
  refine (dats m 0 c).arrAt_eq_of_covers 7 (G3 m c) (by decide +kernel) fun t _ y => ?_
  show (dats m 0 c).after 7 t y = G3 m c ((win0_7.blk t).view.emb y)
  rw [after0_7, Adam.eta2 y]
  exact (point m c t (y 0) (y 1)).2.2.2.trans (congrArg (G3 m c) (emb t (y 0) (y 1)).2.2.2.symm)

/-! The reference, element by element. -/

open Cert.Reference26Ideal.Read in
theorem ref_sum (x0 : FVec Ideal S8x24x1024 .f32) (p : Fin 24) (q : Fin 1024) :
    val_main_v0 (F := Ideal) x0 (ix2 p q) = Adam.flat x0 (ix2 p q) := by
  unfold Adam.flat
  rw [val_main_v0_apply]
  refine (congrArg (fun a : EReal => a + _) (Ideal.ofBits_zero_f32 : val_main_cst (F := Ideal) _ = 0)).trans ((zero_add _).trans (Finset.sum_congr rfl fun k _ => ?_))
  exact congrArg x0 (At.same3 rfl rfl rfl)

/-- The reference leaves its arguments as they were; it has no semaphore at all. -/
theorem frame_ref : @Cert.quiescent_Reference26Ideal Cert.Reference26Ideal.Gen.facts := fun m g _ =>
  (θ_run _ _ _).mono (fun r h => ⟨fun c => (h c).2.2.2.2, sem_eq_zero_of_no_sems (by decide) r.2⟩) (Cert.Reference26Ideal.Value.run m g)

/-- From equal arguments the kernel and the reference end with equal results. -/
theorem algebraic : @Cert.algebraic_Kernel26Ideal_Reference26Ideal Cert.Kernel26Ideal.Gen.facts Cert.Reference26Ideal.Gen.facts := by
  intro m g m' g' hp hm
  refine ⟨G0 m, G1 m, G2 m, G3 m, (θ_run _ _ _).mono (fun _ h c => ⟨(h c).1.trans (arr0 m c), (h c).2.1.trans (arr1 m c),
    (h c).2.2.1.trans (arr2 m c), (h c).2.2.2.1.trans (arr3 m c), (h c).2.2.2.2⟩) (Value.run_blocks m g), ?_⟩
  refine (θ_run _ _ _).mono (fun _ h c => ?_) (Cert.Reference26Ideal.Value.run m' g')
  obtain ⟨h0, h1, h2, h3, ha⟩ := h c
  obtain ⟨a0, a1, a2, a3⟩ := hm c
  have hs : Cert.Reference26Ideal.Read.val_main_v0 (F := Ideal) (X0 m c) = G0 m c := funext fun i => by
    rw [Adam.eta2 i]; exact ref_sum (X0 m c) (i 0) (i 1)
  refine ⟨h0.trans ?_, h1.trans ?_, h2.trans ?_, h3.trans ?_, ha⟩
  · rw [Cert.Reference26Ideal.Read.val_main_v0_eq, a0]
    exact hs
  · rw [Cert.Reference26Ideal.Read.val_main_v24_eq, a0, a1, a2, a3]
    unfold G1; rw [← hs]; rfl
  · rw [Cert.Reference26Ideal.Read.val_main_v5_eq, a0, a2]
    unfold G2; rw [← hs]; rfl
  · rw [Cert.Reference26Ideal.Read.val_main_v11_eq, a0, a3]
    unfold G3; rw [← hs]; rfl

end Cert.Kernel26Ideal.Prod

end
-- ==== Proof.Prod.K27.lean ====
module

public import proofs.«01_k».proof.Proof.Prod.Adam
public import proofs.«01_k».proof.Proof.Gen.Kernel27Ideal.Value
public import proofs.«01_k».proof.Proof.Gen.Reference27Ideal.Run
public import proofs.«01_k».proof.Proof.Gen.Reference27Ideal.Read

@[expose] public section

/-! # Kernel 27: the optimiser's step on the convolution's weight

A point of the grid takes some rows of one layer: it adds up the eight parts of their gradient and steps their weight and
its two moments. The first half of the points reads the first layer's parts, the second half the second layer's. -/

noncomputable section

namespace Cert.Kernel27Ideal.Prod

open Cert.Kernel27Ideal Cert.Kernel27Ideal.Gen
open Idealize.ShloMosaic Idealize.ShloMosaic.TcCoe Idealize.ShloMosaic.Tactic Idealize.SL.Sem

variable (m : (ℓ : Loc nD τ sig) → Buf (Elt Ideal) ℓ)

/-- One of the eight parts of a block. -/
abbrev part (X : Vec Ideal S8x4x384 .f32) (k : ℕ) (h : ∀ a, ![k, 0, 0] a + ![1, 4, 384] a ≤ S8x4x384.size a) : Vec Ideal S1x4x384 .f32 :=
  View.ld X (Rect.unit ![k, 0, 0] ![1, 4, 384] h)

/-- Their sum. -/
abbrev total (X : Vec Ideal S8x4x384 .f32) : FVec Ideal S4x384 .f32 :=
  k0_pay3 (part X 0 inb_S8x4x384_S1x4x384_0_0_0) (part X 1 inb_S8x4x384_S1x4x384_1_0_0) (part X 2 inb_S8x4x384_S1x4x384_2_0_0) (part X 3 inb_S8x4x384_S1x4x384_3_0_0)
    (part X 4 inb_S8x4x384_S1x4x384_4_0_0) (part X 5 inb_S8x4x384_S1x4x384_5_0_0) (part X 6 inb_S8x4x384_S1x4x384_6_0_0) (part X 7 inb_S8x4x384_S1x4x384_7_0_0)

/-- The first moment a point computes. -/
abbrev mom (X : Vec Ideal S8x4x384 .f32) (s : Vec Ideal S1x4x384 .f32) : FVec Ideal S4x384 .f32 :=
  k0_pay4 (part X 0 inb_S8x4x384_S1x4x384_0_0_0) (part X 1 inb_S8x4x384_S1x4x384_1_0_0) (part X 2 inb_S8x4x384_S1x4x384_2_0_0) (part X 3 inb_S8x4x384_S1x4x384_3_0_0)
    (part X 4 inb_S8x4x384_S1x4x384_4_0_0) (part X 5 inb_S8x4x384_S1x4x384_5_0_0) (part X 6 inb_S8x4x384_S1x4x384_6_0_0) (part X 7 inb_S8x4x384_S1x4x384_7_0_0) s

/-- What a point stores in the blocks of its four results. -/
theorem stored (X : Vec Ideal S8x4x384 .f32) (w s v : Vec Ideal S1x4x384 .f32) (z : Fin 1) (p : Fin 4) (q : Fin 384) (g : Ideal .f32)
    (hg : ∑ k : Fin 8, (X (ix3 k p q) : EReal) = g) :
    k0_pay6 (total X) (ix3 z p q) = g
    ∧ k0_pay7 (total X) (mom X s) v w (ix3 z p q) = Adam.delta g (w (ix3 0 p q)) (s (ix3 0 p q)) (v (ix3 0 p q))
    ∧ k0_pay8 (mom X s) (ix3 z p q) = Adam.newM g (s (ix3 0 p q))
    ∧ k0_pay2 (k0_pay5 (total X) v) (ix3 z p q) = Adam.newV g (v (ix3 0 p q)) := by
  have h : total X (ix2 p q) = g := by
    unfold total part
    pointwise [k0_pay3]
    exact (Adam.sum8 fun k => X (ix3 k p q)).trans hg
  have hm : mom X s (ix2 p q) = Adam.newM g (s (ix3 0 p q)) := by
    rw [← h]
    unfold mom part
    pointwise [k0_pay4, Adam.newM]
  have hv : k0_pay5 (total X) v (ix2 p q) = Adam.newV g (v (ix3 0 p q)) := by
    rw [← h]
    pointwise [k0_pay5, Adam.newV]
  unfold Adam.delta
  rw [← hm, ← hv, ← h]
  refine ⟨?_, ?_, ?_, ?_⟩ <;> pointwise [k0_pay7, k0_pay6, k0_pay8, k0_pay2]

/-! The block of each array a point names. -/

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx : ∀ t : Fin cfg0.N,
    win0_2.index t = ![t.val, 0, 0] ∧ win0_3.index t = ![t.val, 0, 0] ∧ win0_4.index t = ![t.val, 0, 0] ∧ win0_5.index t = ![t.val, 0, 0] ∧ win0_6.index t = ![t.val, 0, 0] ∧ win0_7.index t = ![t.val, 0, 0] ∧ win0_8.index t = ![t.val, 0, 0] :=
  (by decide +kernel : ∀ t : Fin grid0.N, _)

/-- The eight parts of the first layer's gradient. -/
abbrev X0 (c : Dev nD) : FVec Ideal S8x4x384 .f32 := m (c.tc.loc main_arg0)
/-- The eight parts of the second layer's gradient. -/
abbrev X1 (c : Dev nD) : FVec Ideal S8x4x384 .f32 := m (c.tc.loc main_arg1)
/-- The weight. -/
abbrev X2 (c : Dev nD) : FVec Ideal S2x4x384 .f32 := m (c.tc.loc main_arg2)
/-- Its first moment. -/
abbrev X3 (c : Dev nD) : FVec Ideal S2x4x384 .f32 := m (c.tc.loc main_arg3)
/-- Its second moment. -/
abbrev X4 (c : Dev nD) : FVec Ideal S2x4x384 .f32 := m (c.tc.loc main_arg4)

/-- The row of the whole array that a row of a point's block is. -/
abbrev row (t : Fin cfg0.N) (p : Fin 4) : Fin 4 := p
/-- The place of the whole array that a place of a point's block is. -/
abbrev pos (t : Fin cfg0.N) (p : Fin 4) (q : Fin 384) : S2x4x384.Idx :=
  ix3 ⟨t.val, by have := lt_of_lt_of_eq t.isLt N_0; omega⟩ (row t p) q

theorem blk0 (c : Dev nD) (t : Fin cfg0.N) (k : Fin 8) (p : Fin 4) (q : Fin 384) :
    iblk m c 0 t (ix3 k p q) = X0 m c (ix3 k (row t p) q) := by
  unfold X0; rw [← V_main_arg0 m c]
  refine congrArg (V m c main_arg0 : FVec Ideal S8x4x384 .f32) (funext fun a => Fin.ext ?_)
  match a with
  | ⟨0, _⟩ | ⟨1, _⟩ | ⟨2, _⟩ => blk_simp [idx0 t]

theorem blk1 (c : Dev nD) (t : Fin cfg0.N) (k : Fin 8) (p : Fin 4) (q : Fin 384) :
    iblk m c 1 t (ix3 k p q) = X1 m c (ix3 k (row t p) q) := by
  unfold X1; rw [← V_main_arg1 m c]
  refine congrArg (V m c main_arg1 : FVec Ideal S8x4x384 .f32) (funext fun a => Fin.ext ?_)
  match a with
  | ⟨0, _⟩ | ⟨1, _⟩ | ⟨2, _⟩ => blk_simp [idx1 t]

theorem blks (c : Dev nD) (t : Fin cfg0.N) (p : Fin 4) (q : Fin 384) :
    iblk m c 2 t (ix3 0 p q) = X2 m c (pos t p q)
    ∧ iblk m c 3 t (ix3 0 p q) = X3 m c (pos t p q)
    ∧ iblk m c 4 t (ix3 0 p q) = X4 m c (pos t p q) := by
  unfold X2 X3 X4; rw [← V_main_arg2 m c, ← V_main_arg3 m c, ← V_main_arg4 m c]
  obtain ⟨h2, h3, h4, _⟩ := idx t
  refine ⟨congrArg (V m c main_arg2 : FVec Ideal S2x4x384 .f32) (funext fun a => Fin.ext ?_),
    congrArg (V m c main_arg3 : FVec Ideal S2x4x384 .f32) (funext fun a => Fin.ext ?_),
    congrArg (V m c main_arg4 : FVec Ideal S2x4x384 .f32) (funext fun a => Fin.ext ?_)⟩ <;> match a with
  | ⟨0, _⟩ | ⟨1, _⟩ | ⟨2, _⟩ => blk_simp [h2, h3, h4] <;> rfl

theorem emb (t : Fin cfg0.N) (z : Fin 1) (p : Fin 4) (q : Fin 384) :
    (win0_5.blk t).view.emb (ix3 z p q) = pos t p q
    ∧ (win0_6.blk t).view.emb (ix3 z p q) = pos t p q
    ∧ (win0_7.blk t).view.emb (ix3 z p q) = pos t p q
    ∧ (win0_8.blk t).view.emb (ix3 z p q) = pos t p q := by
  obtain ⟨_, _, _, h5, h6, h7, h8⟩ := idx t
  refine ⟨funext fun a => Fin.ext ?_, funext fun a => Fin.ext ?_, funext fun a => Fin.ext ?_, funext fun a => Fin.ext ?_⟩ <;> match a with
  | ⟨0, _⟩ | ⟨1, _⟩ | ⟨2, _⟩ => blk_simp [h5, h6, h7, h8] <;> rfl

/-- The gradient. -/
def G0 (c : Dev nD) : FVec Ideal S2x4x384 .f32 := Adam.both (X0 m c) (X1 m c)
/-- The change of the weight. -/
def G1 (c : Dev nD) : FVec Ideal S2x4x384 .f32 := fun i => Adam.delta (G0 m c i) (X2 m c i) (X3 m c i) (X4 m c i)
/-- The new first moment. -/
def G2 (c : Dev nD) : FVec Ideal S2x4x384 .f32 := fun i => Adam.newM (G0 m c i) (X3 m c i)
/-- The new second moment. -/
def G3 (c : Dev nD) : FVec Ideal S2x4x384 .f32 := fun i => Adam.newV (G0 m c i) (X4 m c i)

/-- What a point leaves in the blocks of its four results. -/
theorem point (c : Dev nD) (t : Fin cfg0.N) (z : Fin 1) (p : Fin 4) (q : Fin 384) :
    (outsAt0 m c t.val t.isLt).1 (ix3 z p q) = G0 m c (pos t p q)
    ∧ (outsAt0 m c t.val t.isLt).2.1 (ix3 z p q) = G1 m c (pos t p q)
    ∧ (outsAt0 m c t.val t.isLt).2.2.1 (ix3 z p q) = G2 m c (pos t p q)
    ∧ (outsAt0 m c t.val t.isLt).2.2.2 (ix3 z p q) = G3 m c (pos t p q) := by
  have ht := lt_of_lt_of_eq t.isLt N_0
  by_cases h : t.val < 1
  · rw [outsAt0_A m c t (by omega) (by omega)]
    have s := stored (iblk m c 0 t) (iblk m c 2 t) (iblk m c 3 t) (iblk m c 4 t) z p q (G0 m c (pos t p q))
      ((congrArg (fun f : Fin 8 → EReal => ∑ k, f k) (funext fun k => blk0 m c t k p q)).trans (if_pos (show t.val = 0 by omega)).symm)
    simp only [blks m c t p q] at s
    refine ⟨?_, ?_, ?_, ?_⟩ <;> frame_out
    exacts [s.1, s.2.1, s.2.2.1, s.2.2.2]
  · rw [outsAt0_B m c t (by omega) (by omega)]
    have s := stored (iblk m c 1 t) (iblk m c 2 t) (iblk m c 3 t) (iblk m c 4 t) z p q (G0 m c (pos t p q))
      ((congrArg (fun f : Fin 8 → EReal => ∑ k, f k) (funext fun k => blk1 m c t k p q)).trans (if_neg (show ¬t.val = 0 by omega)).symm)
    simp only [blks m c t p q] at s
    refine ⟨?_, ?_, ?_, ?_⟩ <;> frame_out
    exacts [s.1, s.2.1, s.2.2.1, s.2.2.2]

/-! The four arrays at the end of the run. -/

theorem arrs (c : Dev nD) :
    (dats m 0 c).arrAt 5 cfg0.N = G0 m c
    ∧ (dats m 0 c).arrAt 6 cfg0.N = G1 m c
    ∧ (dats m 0 c).arrAt 7 cfg0.N = G2 m c
    ∧ (dats m 0 c).arrAt 8 cfg0.N = G3 m c := by
  refine ⟨(dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_⟩
  · show (dats m 0 c).after 5 t y = G0 m c ((win0_5.blk t).view.emb y)
    rw [after0_5, Adam.eta3 y]
    exact (point m c t (y 0) (y 1) (y 2)).1.trans (congrArg _ (emb t (y 0) (y 1) (y 2)).1.symm)
  · show (dats m 0 c).after 6 t y = G1 m c ((win0_6.blk t).view.emb y)
    rw [after0_6, Adam.eta3 y]
    exact (point m c t (y 0) (y 1) (y 2)).2.1.trans (congrArg _ (emb t (y 0) (y 1) (y 2)).2.1.symm)
  · show (dats m 0 c).after 7 t y = G2 m c ((win0_7.blk t).view.emb y)
    rw [after0_7, Adam.eta3 y]
    exact (point m c t (y 0) (y 1) (y 2)).2.2.1.trans (congrArg _ (emb t (y 0) (y 1) (y 2)).2.2.1.symm)
  · show (dats m 0 c).after 8 t y = G3 m c ((win0_8.blk t).view.emb y)
    rw [after0_8, Adam.eta3 y]
    exact (point m c t (y 0) (y 1) (y 2)).2.2.2.trans (congrArg _ (emb t (y 0) (y 1) (y 2)).2.2.2.symm)

/-! The reference, element by element. -/

open Cert.Reference27Ideal.Read in
theorem ref_sum (x0 x1 : FVec Ideal S8x4x384 .f32) (z : Fin 2) (p : Fin 4) (q : Fin 384) :
    val_main_v4 (F := Ideal) x0 x1 (ix3 z p q) = Adam.both x0 x1 (ix3 z p q) := by
  unfold val_main_v4
  match z with
  | ⟨0, _⟩ =>
    refine Eq.trans ?_ (if_pos rfl).symm
    pointwise
    show val_main_v2 (F := Ideal) x0 (ix3 0 p q) = _
    rw [val_main_v2_apply, val_main_v0_apply]
    refine (congrArg (fun a : EReal => a + _) (Ideal.ofBits_zero_f32 : val_main_cst (F := Ideal) _ = 0)).trans ((zero_add _).trans (Finset.sum_congr rfl fun k _ => ?_))
    exact congrArg x0 (At.same3 rfl rfl rfl)
  | ⟨1, _⟩ =>
    refine Eq.trans ?_ (if_neg Nat.one_ne_zero).symm
    pointwise
    show val_main_v3 (F := Ideal) x1 (ix3 0 p q) = _
    rw [val_main_v3_apply, val_main_v1_apply]
    refine (congrArg (fun a : EReal => a + _) (Ideal.ofBits_zero_f32 : val_main_cst_0 (F := Ideal) _ = 0)).trans ((zero_add _).trans (Finset.sum_congr rfl fun k _ => ?_))
    exact congrArg x1 (At.same3 rfl rfl rfl)

/-- The reference leaves its arguments as they were; it has no semaphore at all. -/
theorem frame_ref : @Cert.quiescent_Reference27Ideal Cert.Reference27Ideal.Gen.facts := fun m g _ =>
  (θ_run _ _ _).mono (fun r h => ⟨fun c => (h c).2.2.2.2, sem_eq_zero_of_no_sems (by decide) r.2⟩) (Cert.Reference27Ideal.Value.run m g)

/-- From equal arguments the kernel and the reference end with equal results. -/
theorem algebraic : @Cert.algebraic_Kernel27Ideal_Reference27Ideal Cert.Kernel27Ideal.Gen.facts Cert.Reference27Ideal.Gen.facts := by
  intro m g m' g' hp hm
  refine ⟨G0 m, G1 m, G2 m, G3 m, (θ_run _ _ _).mono (fun _ h c => ⟨(h c).1.trans (arrs m c).1, (h c).2.1.trans (arrs m c).2.1,
    (h c).2.2.1.trans (arrs m c).2.2.1, (h c).2.2.2.1.trans (arrs m c).2.2.2, (h c).2.2.2.2⟩) (Value.run_blocks m g), ?_⟩
  refine (θ_run _ _ _).mono (fun _ h c => ?_) (Cert.Reference27Ideal.Value.run m' g')
  obtain ⟨h0, h1, h2, h3, ha⟩ := h c
  obtain ⟨a0, a1, a2, a3, a4⟩ := hm c
  have hs : Cert.Reference27Ideal.Read.val_main_v4 (F := Ideal) (X0 m c) (X1 m c) = G0 m c := funext fun i => by
    rw [Adam.eta3 i]; exact ref_sum (X0 m c) (X1 m c) (i 0) (i 1) (i 2)
  refine ⟨h0.trans ?_, h1.trans ?_, h2.trans ?_, h3.trans ?_, ha⟩
  · rw [Cert.Reference27Ideal.Read.val_main_v4_eq, a0, a1]
    exact hs
  · rw [Cert.Reference27Ideal.Read.val_main_v28_eq, a0, a1, a2, a3, a4]
    unfold G1; rw [← hs]; rfl
  · rw [Cert.Reference27Ideal.Read.val_main_v9_eq, a0, a1, a3]
    unfold G2; rw [← hs]; rfl
  · rw [Cert.Reference27Ideal.Read.val_main_v15_eq, a0, a1, a4]
    unfold G3; rw [← hs]; rfl

end Cert.Kernel27Ideal.Prod

end
-- ==== Proof.Prod.K28.lean ====
module

public import proofs.«01_k».proof.Proof.Prod.Adam
public import proofs.«01_k».proof.Proof.Gen.Kernel28Ideal.Value
public import proofs.«01_k».proof.Proof.Gen.Reference28Ideal.Run
public import proofs.«01_k».proof.Proof.Gen.Reference28Ideal.Read

@[expose] public section

/-! # Kernel 28: the optimiser's step on the meta tokens

The one point adds up the eight parts of the gradient and steps the weight and its two moments. -/

noncomputable section

namespace Cert.Kernel28Ideal.Prod

open Cert.Kernel28Ideal Cert.Kernel28Ideal.Gen
open Idealize.ShloMosaic Idealize.ShloMosaic.TcCoe Idealize.ShloMosaic.Tactic Idealize.SL.Sem

variable (m : (ℓ : Loc nD τ sig) → Buf (Elt Ideal) ℓ)

/-- One of the eight parts of a block. -/
abbrev part (X : Vec Ideal S8x16x128 .f32) (k : ℕ) (h : ∀ a, ![k, 0, 0] a + ![1, 16, 128] a ≤ S8x16x128.size a) : Vec Ideal S1x16x128 .f32 :=
  View.ld X (Rect.unit ![k, 0, 0] ![1, 16, 128] h)

/-- Their sum. -/
abbrev total (X : Vec Ideal S8x16x128 .f32) : FVec Ideal S16x128 .f32 :=
  k0_pay2 (part X 0 inb_S8x16x128_S1x16x128_0_0_0) (part X 1 inb_S8x16x128_S1x16x128_1_0_0) (part X 2 inb_S8x16x128_S1x16x128_2_0_0) (part X 3 inb_S8x16x128_S1x16x128_3_0_0)
    (part X 4 inb_S8x16x128_S1x16x128_4_0_0) (part X 5 inb_S8x16x128_S1x16x128_5_0_0) (part X 6 inb_S8x16x128_S1x16x128_6_0_0) (part X 7 inb_S8x16x128_S1x16x128_7_0_0)

/-- The first moment a point computes. -/
abbrev mom (X : Vec Ideal S8x16x128 .f32) (s : Vec Ideal S1x16x128 .f32) : FVec Ideal S16x128 .f32 :=
  k0_pay3 (part X 0 inb_S8x16x128_S1x16x128_0_0_0) (part X 1 inb_S8x16x128_S1x16x128_1_0_0) (part X 2 inb_S8x16x128_S1x16x128_2_0_0) (part X 3 inb_S8x16x128_S1x16x128_3_0_0)
    (part X 4 inb_S8x16x128_S1x16x128_4_0_0) (part X 5 inb_S8x16x128_S1x16x128_5_0_0) (part X 6 inb_S8x16x128_S1x16x128_6_0_0) (part X 7 inb_S8x16x128_S1x16x128_7_0_0) s

/-- What a point stores in the blocks of its four results. -/
theorem stored (X : Vec Ideal S8x16x128 .f32) (w s v : Vec Ideal S1x16x128 .f32) (z : Fin 1) (p : Fin 16) (q : Fin 128) (g : Ideal .f32)
    (hg : ∑ k : Fin 8, (X (ix3 k p q) : EReal) = g) :
    k0_pay5 (total X) (ix3 z p q) = g
    ∧ k0_pay6 (total X) (mom X s) v w (ix3 z p q) = Adam.delta g (w (ix3 0 p q)) (s (ix3 0 p q)) (v (ix3 0 p q))
    ∧ k0_pay7 (mom X s) (ix3 z p q) = Adam.newM g (s (ix3 0 p q))
    ∧ k0_pay1 (k0_pay4 (total X) v) (ix3 z p q) = Adam.newV g (v (ix3 0 p q)) := by
  have h : total X (ix2 p q) = g := by
    unfold total part
    pointwise [k0_pay2]
    exact (Adam.sum8 fun k => X (ix3 k p q)).trans hg
  have hm : mom X s (ix2 p q) = Adam.newM g (s (ix3 0 p q)) := by
    rw [← h]
    unfold mom part
    pointwise [k0_pay3, Adam.newM]
  have hv : k0_pay4 (total X) v (ix2 p q) = Adam.newV g (v (ix3 0 p q)) := by
    rw [← h]
    pointwise [k0_pay4, Adam.newV]
  unfold Adam.delta
  rw [← hm, ← hv, ← h]
  refine ⟨?_, ?_, ?_, ?_⟩ <;> pointwise [k0_pay6, k0_pay5, k0_pay7, k0_pay1]

/-! The block of each array a point names. -/

theorem idx0 : ∀ t : Fin cfg0.N, win0_0.index t = ![0, 0, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![0, 0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![0, 0, 0] := (by decide +kernel : ∀ t : Fin grid0.N, _)
theorem idx7 : ∀ t : Fin cfg0.N, win0_7.index t = ![0, 0, 0] := (by decide +kernel : ∀ t : Fin grid0.N, _)

/-- The eight parts of the gradient. -/
abbrev X0 (c : Dev nD) : FVec Ideal S8x16x128 .f32 := m (c.tc.loc main_arg0)
/-- The weight. -/
abbrev X1 (c : Dev nD) : FVec Ideal S1x16x128 .f32 := m (c.tc.loc main_arg1)
/-- Its first moment. -/
abbrev X2 (c : Dev nD) : FVec Ideal S1x16x128 .f32 := m (c.tc.loc main_arg2)
/-- Its second moment. -/
abbrev X3 (c : Dev nD) : FVec Ideal S1x16x128 .f32 := m (c.tc.loc main_arg3)

/-- The row of the whole array that a row of a point's block is. -/
abbrev row (t : Fin cfg0.N) (p : Fin 16) : Fin 16 := p
/-- The place of the whole array that a place of a point's block is. -/
abbrev pos (t : Fin cfg0.N) (p : Fin 16) (q : Fin 128) : S1x16x128.Idx :=
  ix3 ⟨0, by have := lt_of_lt_of_eq t.isLt N_0; omega⟩ (row t p) q

theorem blk0 (c : Dev nD) (t : Fin cfg0.N) (k : Fin 8) (p : Fin 16) (q : Fin 128) :
    iblk m c 0 t (ix3 k p q) = X0 m c (ix3 k (row t p) q) := by
  unfold X0; rw [← V_main_arg0 m c]
  refine congrArg (V m c main_arg0 : FVec Ideal S8x16x128 .f32) (funext fun a => Fin.ext ?_)
  match a with
  | ⟨0, _⟩ | ⟨1, _⟩ | ⟨2, _⟩ => blk_simp [idx0 t]

theorem blk1 (c : Dev nD) (t : Fin cfg0.N) (p : Fin 16) (q : Fin 128) :
    iblk m c 1 t (ix3 0 p q) = X1 m c (pos t p q) := by
  unfold X1; rw [← V_main_arg1 m c]
  refine congrArg (V m c main_arg1 : FVec Ideal S1x16x128 .f32) (funext fun a => Fin.ext ?_)
  match a with
  | ⟨0, _⟩ | ⟨1, _⟩ | ⟨2, _⟩ => blk_simp [idx1 t] <;> rfl

theorem blk2 (c : Dev nD) (t : Fin cfg0.N) (p : Fin 16) (q : Fin 128) :
    iblk m c 2 t (ix3 0 p q) = X2 m c (pos t p q) := by
  unfold X2; rw [← V_main_arg2 m c]
  refine congrArg (V m c main_arg2 : FVec Ideal S1x16x128 .f32) (funext fun a => Fin.ext ?_)
  match a with
  | ⟨0, _⟩ | ⟨1, _⟩ | ⟨2, _⟩ => blk_simp [idx2 t] <;> rfl

theorem blk3 (c : Dev nD) (t : Fin cfg0.N) (p : Fin 16) (q : Fin 128) :
    iblk m c 3 t (ix3 0 p q) = X3 m c (pos t p q) := by
  unfold X3; rw [← V_main_arg3 m c]
  refine congrArg (V m c main_arg3 : FVec Ideal S1x16x128 .f32) (funext fun a => Fin.ext ?_)
  match a with
  | ⟨0, _⟩ | ⟨1, _⟩ | ⟨2, _⟩ => blk_simp [idx3 t] <;> rfl

theorem emb (t : Fin cfg0.N) (z : Fin 1) (p : Fin 16) (q : Fin 128) :
    (win0_4.blk t).view.emb (ix3 z p q) = pos t p q
    ∧ (win0_5.blk t).view.emb (ix3 z p q) = pos t p q
    ∧ (win0_6.blk t).view.emb (ix3 z p q) = pos t p q
    ∧ (win0_7.blk t).view.emb (ix3 z p q) = pos t p q := by
  refine ⟨funext fun a => Fin.ext ?_, funext fun a => Fin.ext ?_, funext fun a => Fin.ext ?_, funext fun a => Fin.ext ?_⟩ <;> match a with
  | ⟨0, _⟩ | ⟨1, _⟩ | ⟨2, _⟩ => blk_simp [idx4 t, idx5 t, idx6 t, idx7 t] <;> rfl

/-- The gradient. -/
def G0 (c : Dev nD) : FVec Ideal S1x16x128 .f32 := Adam.one (X0 m c)
/-- The change of the weight. -/
def G1 (c : Dev nD) : FVec Ideal S1x16x128 .f32 := fun i => Adam.delta (G0 m c i) (X1 m c i) (X2 m c i) (X3 m c i)
/-- The new first moment. -/
def G2 (c : Dev nD) : FVec Ideal S1x16x128 .f32 := fun i => Adam.newM (G0 m c i) (X2 m c i)
/-- The new second moment. -/
def G3 (c : Dev nD) : FVec Ideal S1x16x128 .f32 := fun i => Adam.newV (G0 m c i) (X3 m c i)

/-- What a point leaves in the blocks of its four results. -/
theorem point (c : Dev nD) (t : Fin cfg0.N) (z : Fin 1) (p : Fin 16) (q : Fin 128) :
    (outsAt0 m c t).1 (ix3 z p q) = G0 m c (pos t p q)
    ∧ (outsAt0 m c t).2.1 (ix3 z p q) = G1 m c (pos t p q)
    ∧ (outsAt0 m c t).2.2.1 (ix3 z p q) = G2 m c (pos t p q)
    ∧ (outsAt0 m c t).2.2.2 (ix3 z p q) = G3 m c (pos t p q) := by
  have s := stored (iblk m c 0 t) (iblk m c 1 t) (iblk m c 2 t) (iblk m c 3 t) z p q (G0 m c (pos t p q))
    (congrArg (fun f : Fin 8 → EReal => ∑ k, f k) (funext fun k => blk0 m c t k p q))
  rw [blk1, blk2, blk3] at s
  unfold outsAt0
  refine ⟨?_, ?_, ?_, ?_⟩ <;> frame_out
  exacts [s.1, s.2.1, s.2.2.1, s.2.2.2]

/-! The four arrays at the end of the run. -/

theorem arr0 (c : Dev nD) : (dats m 0 c).arrAt 4 cfg0.N = G0 m c := by
  refine (dats m 0 c).arrAt_eq_of_covers 4 (G0 m c) (by decide +kernel) fun t _ y => ?_
  show (dats m 0 c).after 4 t y = G0 m c ((win0_4.blk t).view.emb y)
  rw [after0_4, Adam.eta3 y]
  exact (point m c t (y 0) (y 1) (y 2)).1.trans (congrArg (G0 m c) (emb t (y 0) (y 1) (y 2)).1.symm)

theorem arr1 (c : Dev nD) : (dats m 0 c).arrAt 5 cfg0.N = G1 m c := by
  refine (dats m 0 c).arrAt_eq_of_covers 5 (G1 m c) (by decide +kernel) fun t _ y => ?_
  show (dats m 0 c).after 5 t y = G1 m c ((win0_5.blk t).view.emb y)
  rw [after0_5, Adam.eta3 y]
  exact (point m c t (y 0) (y 1) (y 2)).2.1.trans (congrArg (G1 m c) (emb t (y 0) (y 1) (y 2)).2.1.symm)

theorem arr2 (c : Dev nD) : (dats m 0 c).arrAt 6 cfg0.N = G2 m c := by
  refine (dats m 0 c).arrAt_eq_of_covers 6 (G2 m c) (by decide +kernel) fun t _ y => ?_
  show (dats m 0 c).after 6 t y = G2 m c ((win0_6.blk t).view.emb y)
  rw [after0_6, Adam.eta3 y]
  exact (point m c t (y 0) (y 1) (y 2)).2.2.1.trans (congrArg (G2 m c) (emb t (y 0) (y 1) (y 2)).2.2.1.symm)

theorem arr3 (c : Dev nD) : (dats m 0 c).arrAt 7 cfg0.N = G3 m c := by
  refine (dats m 0 c).arrAt_eq_of_covers 7 (G3 m c) (by decide +kernel) fun t _ y => ?_
  show (dats m 0 c).after 7 t y = G3 m c ((win0_7.blk t).view.emb y)
  rw [after0_7, Adam.eta3 y]
  exact (point m c t (y 0) (y 1) (y 2)).2.2.2.trans (congrArg (G3 m c) (emb t (y 0) (y 1) (y 2)).2.2.2.symm)

/-! The reference, element by element. -/

open Cert.Reference28Ideal.Read in
theorem ref_sum (x0 : FVec Ideal S8x16x128 .f32) (z : Fin 1) (p : Fin 16) (q : Fin 128) :
    val_main_v1 (F := Ideal) x0 (ix3 z p q) = Adam.one x0 (ix3 z p q) := by
  unfold Adam.one
  rw [val_main_v1_apply, val_main_v0_apply]
  refine (congrArg (fun a : EReal => a + _) (Ideal.ofBits_zero_f32 : val_main_cst (F := Ideal) _ = 0)).trans ((zero_add _).trans (Finset.sum_congr rfl fun k _ => ?_))
  exact congrArg x0 (At.same3 rfl rfl rfl)

/-- The reference leaves its arguments as they were; it has no semaphore at all. -/
theorem frame_ref : @Cert.quiescent_Reference28Ideal Cert.Reference28Ideal.Gen.facts := fun m g _ =>
  (θ_run _ _ _).mono (fun r h => ⟨fun c => (h c).2.2.2.2, sem_eq_zero_of_no_sems (by decide) r.2⟩) (Cert.Reference28Ideal.Value.run m g)

/-- From equal arguments the kernel and the reference end with equal results. -/
theorem algebraic : @Cert.algebraic_Kernel28Ideal_Reference28Ideal Cert.Kernel28Ideal.Gen.facts Cert.Reference28Ideal.Gen.facts := by
  intro m g m' g' hp hm
  refine ⟨G0 m, G1 m, G2 m, G3 m, (θ_run _ _ _).mono (fun _ h c => ⟨(h c).1.trans (arr0 m c), (h c).2.1.trans (arr1 m c),
    (h c).2.2.1.trans (arr2 m c), (h c).2.2.2.1.trans (arr3 m c), (h c).2.2.2.2⟩) (Value.run_blocks m g), ?_⟩
  refine (θ_run _ _ _).mono (fun _ h c => ?_) (Cert.Reference28Ideal.Value.run m' g')
  obtain ⟨h0, h1, h2, h3, ha⟩ := h c
  obtain ⟨a0, a1, a2, a3⟩ := hm c
  have hs : Cert.Reference28Ideal.Read.val_main_v1 (F := Ideal) (X0 m c) = G0 m c := funext fun i => by
    rw [Adam.eta3 i]; exact ref_sum (X0 m c) (i 0) (i 1) (i 2)
  refine ⟨h0.trans ?_, h1.trans ?_, h2.trans ?_, h3.trans ?_, ha⟩
  · rw [Cert.Reference28Ideal.Read.val_main_v1_eq, a0]
    exact hs
  · rw [Cert.Reference28Ideal.Read.val_main_v25_eq, a0, a1, a2, a3]
    unfold G1; rw [← hs]; rfl
  · rw [Cert.Reference28Ideal.Read.val_main_v6_eq, a0, a2]
    unfold G2; rw [← hs]; rfl
  · rw [Cert.Reference28Ideal.Read.val_main_v12_eq, a0, a3]
    unfold G3; rw [← hs]; rfl

end Cert.Kernel28Ideal.Prod

end
-- ==== Proof.Prod.K29.lean ====
module

public import proofs.«01_k».proof.Proof.Prod.Base
public import proofs.«01_k».proof.Proof.Gen.Kernel29Ideal.Value
public import proofs.«01_k».proof.Proof.Gen.Reference29Ideal.Run
public import proofs.«01_k».proof.Proof.Gen.Reference29Ideal.Read

@[expose] public section

/-! # Kernel 29: the gradient of the columns of w_uq that give the unrotated queries

A product summed tile by tile over its long axis. The carried sum after the last of a run's 4 points is the sum of the
4 tiles' products, which is the product of the whole rows and columns. -/

noncomputable section

namespace Cert.Kernel29Ideal.Prod

open Cert.Kernel29Ideal Cert.Kernel29Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S512x1024.Idx) : k0_pay1 (F := Ideal) j = 0 := by
  obtain ⟨p, q, rfl⟩ := At.two j
  pointwise [k0_pay1]

/-- What a point adds to the carried sum: the product of its two tiles. -/
def part (x : Vec Ideal S1088x512 .bf16) (y : Vec Ideal S1088x1024 .f32) (j : S512x1024.Idx) : EReal :=
  ∑ k : Fin 1088, x (ix2 k (j 0)) * y (ix2 k (j 1))

/-- Every point adds its tiles' product. -/
theorem pay2 (s : Vec Ideal S512x1024 .f32) (x : Vec Ideal S1088x512 .bf16) (y : Vec Ideal S1088x1024 .f32) (j : S512x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S512x1024.Idx) :
    (outsAt0 m c t.val t.isLt).2 j = 0 + ∑ s : Fin 4, part (iblk m c 0 ⟨4 * (t.val / 4) + s.val, by have := t.isLt; have hN : cfg0.N = 4 := N_0; omega⟩)
      (iblk m c 1 ⟨4 * (t.val / 4) + s.val, by have := t.isLt; have hN : cfg0.N = 4 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S512x1024.Idx) :
    (outsAt0 m c t.val t.isLt).1 j = (outsAt0 m c t.val t.isLt).2 j := by
  rw [outsAt0_C m c t (by omega) h]
  frame_out
  rfl

/-- The tile of operand 0 a point reads. -/
theorem idx0 : ∀ t : Fin cfg0.N, win0_0.index t = ![t.val % 4, t.val / 4] := (by decide +kernel : ∀ t : Fin grid0.N, _)

/-- The tile of operand 1 a point reads. -/
theorem idx1 : ∀ t : Fin cfg0.N, win0_1.index t = ![t.val % 4, 0] := (by decide +kernel : ∀ t : Fin grid0.N, _)

/-- The first operand. -/
abbrev Xa (c : Dev nD) : FVec Ideal S4352x512 .bf16 := m (c.tc.loc main_arg0)
/-- The second operand. -/
abbrev Xb (c : Dev nD) : FVec Ideal S4352x1024 .f32 := m (c.tc.loc main_arg1)

/-- The block of operand 0 at a point, read in the whole operand. -/
theorem blk0 (c : Dev nD) (t : Fin cfg0.N) (k : Fin 1088) (p : Fin 512) {K : Fin 4352} {P : Fin 512} (hk : t.val % 4 * 1088 + k.val = K.val) (hp : t.val / 4 * 512 + p.val = P.val) :
    iblk m c 0 t (ix2 k p) = Xa m c (ix2 K P) := by
  unfold Xa; rw [← V_main_arg0 m c]
  refine congrArg (V m c main_arg0 : FVec Ideal S4352x512 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k : Fin 1088) (p : Fin 1024) {K : Fin 4352} {P : Fin 1024} (hk : t.val % 4 * 1088 + k.val = K.val) (hp : p.val = P.val) :
    iblk m c 1 t (ix2 k p) = Xb m c (ix2 K P) := by
  unfold Xb; rw [← V_main_arg1 m c]
  refine congrArg (V m c main_arg1 : FVec Ideal S4352x1024 .f32) (funext fun a => Fin.ext ?_)
  match a with
  | ⟨0, _⟩ | ⟨1, _⟩ => blk_simp [idx1 t] <;> omega

/-- The array the kernel leaves, element by element. -/
theorem G_eq (c : Dev nD) (p : Fin 512) (q : Fin 1024) :
    (Value.G2 m c : FVec Ideal S512x1024 .bf16) (ix2 p q) = ∑ k : Fin 4352, Xa m c (ix2 k p) * Xb m c (ix2 k q) := by
  have e : Value.pt2Of (ix2 p q) = 4 * (1 * (p.val / 512 - 0) + 1 * (q.val / 1024 - 0)) + 3 := rfl
  have ht : Value.pt2Of (ix2 p q) < cfg0.N := by rw [show cfg0.N = 4 from N_0]; omega
  unfold Value.G2
  rw [dif_pos ht, ← Value.outsAt0_sweep m c _ ht]
  have h3 : Value.pt2Of (ix2 p q) % 4 = 3 := by omega
  have h4 : Value.pt2Of (ix2 p q) / 4 = p.val / 512 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1088 + k.val = s.val * 1088 + k.val by omega) (show (4 * (n / 4) + s.val) / 4 * 512 + p.val % 512 = p.val by omega))
    (blk1 m c _ k _ (show (4 * (n / 4) + s.val) % 4 * 1088 + k.val = s.val * 1088 + k.val by omega) (show q.val % 1024 = q.val by omega))

open Cert.Reference29Ideal.Read in
/-- The reference's array is the same product. -/
theorem ref_eq (x0 : FVec Ideal S4352x512 .bf16) (x1 : FVec Ideal S4352x1024 .f32) (p : Fin 512) (q : Fin 1024) :
    val_main_v5 (F := Ideal) x0 x1 (ix2 p q) = ∑ k : Fin 4352, x0 (ix2 k p) * x1 (ix2 k q) := by
  rw [val_main_v5_apply]
  show val_main_v4 (F := Ideal) x0 x1 (ix2 p q) = _
  rw [val_main_v4_apply, val_main_v3_apply]
  refine Finset.sum_congr rfl fun k _ => (mul_comm _ _).trans (congrArg₂ (fun a b : EReal => a * b) ?_ ?_)
  · exact congrArg x0 (At.same rfl rfl)
  · exact (congrArg x1 (At.same rfl rfl))

/-- The reference leaves its arguments as they were; it has no semaphore at all. -/
theorem frame_ref : @Cert.quiescent_Reference29Ideal Cert.Reference29Ideal.Gen.facts := fun m g _ =>
  (θ_run _ _ _).mono (fun r h => ⟨fun c => (h c).2, sem_eq_zero_of_no_sems (by decide) r.2⟩) (Cert.Reference29Ideal.Value.run m g)

/-- From equal arguments the kernel and the reference end with equal results. -/
theorem algebraic : @Cert.algebraic_Kernel29Ideal_Reference29Ideal Cert.Kernel29Ideal.Gen.facts Cert.Reference29Ideal.Gen.facts := by
  intro m g m' g' hp hm
  refine ⟨Value.G2 m, Value.run m g, ?_⟩
  refine (θ_run _ _ _).mono (fun _ h c => ?_) (Cert.Reference29Ideal.Value.run m' g')
  obtain ⟨h0, ha⟩ := h c
  obtain ⟨a0, a1⟩ := hm c
  refine ⟨h0.trans ?_, ha⟩
  rw [Cert.Reference29Ideal.Read.val_main_v5_eq, a0, a1]
  funext i
  obtain ⟨p, q, rfl⟩ := At.two i
  exact (ref_eq _ _ p q).trans (G_eq m c p q).symm

end Cert.Kernel29Ideal.Prod

end
-- ==== Proof.Prod.K30.lean ====
module

public import proofs.«01_k».proof.Proof.Prod.Base
public import proofs.«01_k».proof.Proof.Gen.Kernel30Ideal.Value
public import proofs.«01_k».proof.Proof.Gen.Reference30Ideal.Run
public import proofs.«01_k».proof.Proof.Gen.Reference30Ideal.Read

@[expose] public section

/-! # Kernel 30: the gradient of the columns of w_uq that give the rotary queries

A product summed tile by tile over its long axis. The carried sum after the last of a run's 4 points is the sum of the
4 tiles' products, which is the product of the whole rows and columns. -/

noncomputable section

namespace Cert.Kernel30Ideal.Prod

open Cert.Kernel30Ideal Cert.Kernel30Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S512x1024.Idx) : k0_pay1 (F := Ideal) j = 0 := by
  obtain ⟨p, q, rfl⟩ := At.two j
  pointwise [k0_pay1]

/-- What a point adds to the carried sum: the product of its two tiles. -/
def part (x : Vec Ideal S1088x512 .bf16) (y : Vec Ideal S1088x1024 .bf16) (j : S512x1024.Idx) : EReal :=
  ∑ k : Fin 1088, x (ix2 k (j 0)) * y (ix2 k (j 1))

/-- Every point adds its tiles' product. -/
theorem pay2 (s : Vec Ideal S512x1024 .f32) (x : Vec Ideal S1088x512 .bf16) (y : Vec Ideal S1088x1024 .bf16) (j : S512x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S512x1024.Idx) :
    (outsAt0 m c t.val t.isLt).2 j = 0 + ∑ s : Fin 4, part (iblk m c 0 ⟨4 * (t.val / 4) + s.val, by have := t.isLt; have hN : cfg0.N = 4 := N_0; omega⟩)
      (iblk m c 1 ⟨4 * (t.val / 4) + s.val, by have := t.isLt; have hN : cfg0.N = 4 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S512x1024.Idx) :
    (outsAt0 m c t.val t.isLt).1 j = (outsAt0 m c t.val t.isLt).2 j := by
  rw [outsAt0_C m c t (by omega) h]
  frame_out
  rfl

/-- The tile of operand 0 a point reads. -/
theorem idx0 : ∀ t : Fin cfg0.N, win0_0.index t = ![t.val % 4, t.val / 4] := (by decide +kernel : ∀ t : Fin grid0.N, _)

/-- The tile of operand 1 a point reads. -/
theorem idx1 : ∀ t : Fin cfg0.N, win0_1.index t = ![t.val % 4, 0] := (by decide +kernel : ∀ t : Fin grid0.N, _)

/-- The first operand. -/
abbrev Xa (c : Dev nD) : FVec Ideal S4352x512 .bf16 := m (c.tc.loc main_arg0)
/-- The second operand. -/
abbrev Xb (c : Dev nD) : FVec Ideal S4352x1024 .bf16 := m (c.tc.loc main_arg1)

/-- The block of operand 0 at a point, read in the whole operand. -/
theorem blk0 (c : Dev nD) (t : Fin cfg0.N) (k : Fin 1088) (p : Fin 512) {K : Fin 4352} {P : Fin 512} (hk : t.val % 4 * 1088 + k.val = K.val) (hp : t.val / 4 * 512 + p.val = P.val) :
    iblk m c 0 t (ix2 k p) = Xa m c (ix2 K P) := by
  unfold Xa; rw [← V_main_arg0 m c]
  refine congrArg (V m c main_arg0 : FVec Ideal S4352x512 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k : Fin 1088) (p : Fin 1024) {K : Fin 4352} {P : Fin 1024} (hk : t.val % 4 * 1088 + k.val = K.val) (hp : p.val = P.val) :
    iblk m c 1 t (ix2 k p) = Xb m c (ix2 K P) := by
  unfold Xb; rw [← V_main_arg1 m c]
  refine congrArg (V m c main_arg1 : FVec Ideal S4352x1024 .bf16) (funext fun a => Fin.ext ?_)
  match a with
  | ⟨0, _⟩ | ⟨1, _⟩ => blk_simp [idx1 t] <;> omega

/-- The array the kernel leaves, element by element. -/
theorem G_eq (c : Dev nD) (p : Fin 512) (q : Fin 1024) :
    (Value.G2 m c : FVec Ideal S512x1024 .bf16) (ix2 p q) = ∑ k : Fin 4352, Xa m c (ix2 k p) * Xb m c (ix2 k q) := by
  have e : Value.pt2Of (ix2 p q) = 4 * (1 * (p.val / 512 - 0) + 1 * (q.val / 1024 - 0)) + 3 := rfl
  have ht : Value.pt2Of (ix2 p q) < cfg0.N := by rw [show cfg0.N = 4 from N_0]; omega
  unfold Value.G2
  rw [dif_pos ht, ← Value.outsAt0_sweep m c _ ht]
  have h3 : Value.pt2Of (ix2 p q) % 4 = 3 := by omega
  have h4 : Value.pt2Of (ix2 p q) / 4 = p.val / 512 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1088 + k.val = s.val * 1088 + k.val by omega) (show (4 * (n / 4) + s.val) / 4 * 512 + p.val % 512 = p.val by omega))
    (blk1 m c _ k _ (show (4 * (n / 4) + s.val) % 4 * 1088 + k.val = s.val * 1088 + k.val by omega) (show q.val % 1024 = q.val by omega))

open Cert.Reference30Ideal.Read in
/-- The reference's array is the same product. -/
theorem ref_eq (x0 : FVec Ideal S4352x512 .bf16) (x1 : FVec Ideal S4352x1024 .bf16) (p : Fin 512) (q : Fin 1024) :
    val_main_v6 (F := Ideal) x0 x1 (ix2 p q) = ∑ k : Fin 4352, x0 (ix2 k p) * x1 (ix2 k q) := by
  rw [val_main_v6_apply]
  show val_main_v5 (F := Ideal) x0 x1 (ix2 p q) = _
  rw [val_main_v5_apply, val_main_v4_apply]
  refine Finset.sum_congr rfl fun k _ => (mul_comm _ _).trans (congrArg₂ (fun a b : EReal => a * b) ?_ ?_)
  · exact congrArg x0 (At.same rfl rfl)
  · exact (congrArg x1 (At.same rfl rfl))

/-- The reference leaves its arguments as they were; it has no semaphore at all. -/
theorem frame_ref : @Cert.quiescent_Reference30Ideal Cert.Reference30Ideal.Gen.facts := fun m g _ =>
  (θ_run _ _ _).mono (fun r h => ⟨fun c => (h c).2, sem_eq_zero_of_no_sems (by decide) r.2⟩) (Cert.Reference30Ideal.Value.run m g)

/-- From equal arguments the kernel and the reference end with equal results. -/
theorem algebraic : @Cert.algebraic_Kernel30Ideal_Reference30Ideal Cert.Kernel30Ideal.Gen.facts Cert.Reference30Ideal.Gen.facts := by
  intro m g m' g' hp hm
  refine ⟨Value.G2 m, Value.run m g, ?_⟩
  refine (θ_run _ _ _).mono (fun _ h c => ?_) (Cert.Reference30Ideal.Value.run m' g')
  obtain ⟨h0, ha⟩ := h c
  obtain ⟨a0, a1⟩ := hm c
  refine ⟨h0.trans ?_, ha⟩
  rw [Cert.Reference30Ideal.Read.val_main_v6_eq, a0, a1]
  funext i
  obtain ⟨p, q, rfl⟩ := At.two i
  exact (ref_eq _ _ p q).trans (G_eq m c p q).symm

end Cert.Kernel30Ideal.Prod

end
-- ==== Proof.Prod.K31.lean ====
module

public import proofs.«01_k».proof.Proof.Prod.Base
public import proofs.«01_k».proof.Proof.Gen.Kernel31Ideal.Value
public import proofs.«01_k».proof.Proof.Gen.Reference31Ideal.Run
public import proofs.«01_k».proof.Proof.Gen.Reference31Ideal.Read

@[expose] public section

/-! # Kernel 31: the gradient of the columns of w_ukv that give the keys, or the values

A product summed tile by tile over its long axis. The carried sum after the last of a run's 4 points is the sum of the
4 tiles' products, which is the product of the whole rows and columns. -/

noncomputable section

namespace Cert.Kernel31Ideal.Prod

open Cert.Kernel31Ideal Cert.Kernel31Ideal.Gen
open Idealize.ShloMosaic Idealize.ShloMosaic.TcCoe Idealize.ShloMosaic.Tactic Idealize.SL.Sem

variable (m : (ℓ : Loc nD τ sig) → Buf (Elt Ideal) ℓ)

/-- The first point of a run stores zero. -/
theorem pay1 (j : S256x1024.Idx) : k0_pay1 (F := Ideal) j = 0 := by
  obtain ⟨p, q, rfl⟩ := At.two j
  pointwise [k0_pay1]

/-- What a point adds to the carried sum: the product of its two tiles. -/
def part (x : Vec Ideal S1088x256 .bf16) (y : Vec Ideal S1088x1024 .bf16) (j : S256x1024.Idx) : EReal :=
  ∑ k : Fin 1088, x (ix2 k (j 0)) * y (ix2 k (j 1))

/-- Every point adds its tiles' product. -/
theorem pay2 (s : Vec Ideal S256x1024 .f32) (x : Vec Ideal S1088x256 .bf16) (y : Vec Ideal S1088x1024 .bf16) (j : S256x1024.Idx) :
    k0_pay2 s x y j = s j + part x y j := by
  obtain ⟨p, q, rfl⟩ := At.two j
  pointwise [k0_pay2]
  rfl

/-- After the last point of a run the scratch holds the sum of the run's products. -/
theorem last (c : Dev nD) (t : Fin cfg0.N) (h : t.val % 4 = 3) (j : S256x1024.Idx) :
    (outsAt0 m c t.val t.isLt).2 j = 0 + ∑ s : Fin 4, part (iblk m c 0 ⟨4 * (t.val / 4) + s.val, by have := t.isLt; have hN : cfg0.N = 4 := N_0; omega⟩)
      (iblk m c 1 ⟨4 * (t.val / 4) + s.val, by have := t.isLt; have hN : cfg0.N = 4 := N_0; omega⟩) j := by
  refine Pipeline.eq_sum_fin_of_reset_step_apply_of_flush (fun n h => (outsAt0 m c n h).2) 4 (fun _ => 0)
    (fun t j => part (iblk m c 0 t) (iblk m c 1 t) j) ?_ ?_ t h j
  · intro t h j
    show (outsAt0 m c t.val t.isLt).2 j = _
    rw [outsAt0_A m c t h (by omega)]
    frame_out
    rw [pay2, pay1]
  · intro t h j
    show (outsAt0 m c t.val t.isLt).2 j = _
    by_cases h' : t.val % 4 = 3
    on_goal 1 => rw [outsAt0_C m c t h h']
    on_goal 2 => rw [outsAt0_B m c t h h']
    all_goals
      frame_out
      rw [pay2, read_unread_whole]

/-- The last point of a run stores the scratch. -/
theorem out_last (c : Dev nD) (t : Fin cfg0.N) (h : t.val % 4 = 3) (j : S256x1024.Idx) :
    (outsAt0 m c t.val t.isLt).1 j = (outsAt0 m c t.val t.isLt).2 j := by
  rw [outsAt0_C m c t (by omega) h]
  frame_out
  rfl

/-- The tile of operand 0 a point reads. -/
theorem idx0 : ∀ t : Fin cfg0.N, win0_0.index t = ![t.val % 4, t.val / 4] := (by decide +kernel : ∀ t : Fin grid0.N, _)

/-- The tile of operand 1 a point reads. -/
theorem idx1 : ∀ t : Fin cfg0.N, win0_1.index t = ![t.val % 4, 0] := (by decide +kernel : ∀ t : Fin grid0.N, _)

/-- The first operand. -/
abbrev Xa (c : Dev nD) : FVec Ideal S4352x256 .bf16 := m (c.tc.loc main_arg0)
/-- The second operand. -/
abbrev Xb (c : Dev nD) : FVec Ideal S4352x1024 .bf16 := m (c.tc.loc main_arg1)

/-- The block of operand 0 at a point, read in the whole operand. -/
theorem blk0 (c : Dev nD) (t : Fin cfg0.N) (k : Fin 1088) (p : Fin 256) {K : Fin 4352} {P : Fin 256} (hk : t.val % 4 * 1088 + k.val = K.val) (hp : t.val / 4 * 256 + p.val = P.val) :
    iblk m c 0 t (ix2 k p) = Xa m c (ix2 K P) := by
  unfold Xa; rw [← V_main_arg0 m c]
  refine congrArg (V m c main_arg0 : FVec Ideal S4352x256 .bf16) (funext fun a => Fin.ext ?_)
  match a with
  | ⟨0, _⟩ | ⟨1, _⟩ => blk_simp [idx0 t] <;> omega

/-- The block of operand 1 at a point, read in the whole operand. -/
theorem blk1 (c : Dev nD) (t : Fin cfg0.N) (k : Fin 1088) (p : Fin 1024) {K : Fin 4352} {P : Fin 1024} (hk : t.val % 4 * 1088 + k.val = K.val) (hp : p.val = P.val) :
    iblk m c 1 t (ix2 k p) = Xb m c (ix2 K P) := by
  unfold Xb; rw [← V_main_arg1 m c]
  refine congrArg (V m c main_arg1 : FVec Ideal S4352x1024 .bf16) (funext fun a => Fin.ext ?_)
  match a with
  | ⟨0, _⟩ | ⟨1, _⟩ => blk_simp [idx1 t] <;> omega

/-- The array the kernel leaves, element by element. -/
theorem G_eq (c : Dev nD) (p : Fin 256) (q : Fin 1024) :
    (Value.G2 m c : FVec Ideal S256x1024 .bf16) (ix2 p q) = ∑ k : Fin 4352, Xa m c (ix2 k p) * Xb m c (ix2 k q) := by
  have e : Value.pt2Of (ix2 p q) = 4 * (1 * (p.val / 256 - 0) + 1 * (q.val / 1024 - 0)) + 3 := rfl
  have ht : Value.pt2Of (ix2 p q) < cfg0.N := by rw [show cfg0.N = 4 from N_0]; omega
  unfold Value.G2
  rw [dif_pos ht, ← Value.outsAt0_sweep m c _ ht]
  have h3 : Value.pt2Of (ix2 p q) % 4 = 3 := by omega
  have h4 : Value.pt2Of (ix2 p q) / 4 = p.val / 256 := by omega
  clear e
  generalize Value.pt2Of (ix2 p q) = n at ht h3 h4
  rw [out_last m c ⟨n, ht⟩ h3, last m c ⟨n, ht⟩ h3, zero_add]
  refine Fin.sum_mul_add_congr fun s k hl => ?_
  exact congrArg₂ (fun a b : EReal => a * b)
    (blk0 m c _ k _ (show (4 * (n / 4) + s.val) % 4 * 1088 + k.val = s.val * 1088 + k.val by omega) (show (4 * (n / 4) + s.val) / 4 * 256 + p.val % 256 = p.val by omega))
    (blk1 m c _ k _ (show (4 * (n / 4) + s.val) % 4 * 1088 + k.val = s.val * 1088 + k.val by omega) (show q.val % 1024 = q.val by omega))

open Cert.Reference31Ideal.Read in
/-- The reference's array is the same product. -/
theorem ref_eq (x0 : FVec Ideal S4352x256 .bf16) (x1 : FVec Ideal S4352x1024 .bf16) (p : Fin 256) (q : Fin 1024) :
    val_main_v6 (F := Ideal) x0 x1 (ix2 p q) = ∑ k : Fin 4352, x0 (ix2 k p) * x1 (ix2 k q) := by
  rw [val_main_v6_apply]
  show val_main_v5 (F := Ideal) x0 x1 (ix2 p q) = _
  rw [val_main_v5_apply, val_main_v4_apply]
  refine Finset.sum_congr rfl fun k _ => (mul_comm _ _).trans (congrArg₂ (fun a b : EReal => a * b) ?_ ?_)
  · exact congrArg x0 (At.same rfl rfl)
  · exact (congrArg x1 (At.same rfl rfl))

/-- The reference leaves its arguments as they were; it has no semaphore at all. -/
theorem frame_ref : @Cert.quiescent_Reference31Ideal Cert.Reference31Ideal.Gen.facts := fun m g _ =>
  (θ_run _ _ _).mono (fun r h => ⟨fun c => (h c).2, sem_eq_zero_of_no_sems (by decide) r.2⟩) (Cert.Reference31Ideal.Value.run m g)

/-- From equal arguments the kernel and the reference end with equal results. -/
theorem algebraic : @Cert.algebraic_Kernel31Ideal_Reference31Ideal Cert.Kernel31Ideal.Gen.facts Cert.Reference31Ideal.Gen.facts := by
  intro m g m' g' hp hm
  refine ⟨Value.G2 m, Value.run m g, ?_⟩
  refine (θ_run _ _ _).mono (fun _ h c => ?_) (Cert.Reference31Ideal.Value.run m' g')
  obtain ⟨h0, ha⟩ := h c
  obtain ⟨a0, a1⟩ := hm c
  refine ⟨h0.trans ?_, ha⟩
  rw [Cert.Reference31Ideal.Read.val_main_v6_eq, a0, a1]
  funext i
  obtain ⟨p, q, rfl⟩ := At.two i
  exact (ref_eq _ _ p q).trans (G_eq m c p q).symm

end Cert.Kernel31Ideal.Prod

end
-- ==== Proof.Prod.K32.lean ====
module

public import proofs.«01_k».proof.Proof.Prod.Base
public import proofs.«01_k».proof.Proof.Gen.Kernel32Ideal.Value
public import proofs.«01_k».proof.Proof.Gen.Reference32Ideal.Run
public import proofs.«01_k».proof.Proof.Gen.Reference32Ideal.Read

@[expose] public section

/-! # Kernel 32: the queries without their rotary part

Every point of the grid computes one tile: the product of its rows of the first operand with the columns of the second. -/

noncomputable section

namespace Cert.Kernel32Ideal.Prod

open Cert.Kernel32Ideal Cert.Kernel32Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x512 .bf16) (y : Vec Ideal S512x1024 .bf16) (p : Fin 1088) (q : Fin 1024) : EReal :=
  ∑ k : Fin 512, x (ix2 p k) * y (ix2 k q)

/-- A point sets its sum to zero and adds its tiles' product. -/
theorem pay (x : Vec Ideal S1088x512 .bf16) (y : Vec Ideal S512x1024 .bf16) (p : Fin 1088) (q : Fin 1024) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 1024) :
    outsAt0 m c t (ix2 p q) = tile (iblk m c 0 t) (iblk m c 1 t) p q := by
  unfold outsAt0
  frame_out
  exact pay _ _ p q

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The first operand. -/
abbrev Xa (c : Dev nD) : FVec Ideal S4352x512 .bf16 := m (c.tc.loc main_arg0)
/-- The second operand. -/
abbrev Xb (c : Dev nD) : FVec Ideal S512x1024 .bf16 := m (c.tc.loc main_arg1)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 512) : iblk m c 0 t (ix2 p k) = Xa m c (ix2 (row t p) k) := by
  unfold Xa; rw [← V_main_arg0 m c]
  refine congrArg (V m c main_arg0 : FVec Ideal S4352x512 .bf16) (funext fun a => Fin.ext ?_)
  match a with | ⟨0, _⟩ | ⟨1, _⟩ => blk_simp [idx0 t]

theorem blk1 (c : Dev nD) (t : Fin cfg0.N) (q : Fin 1024) (k : Fin 512) : iblk m c 1 t (ix2 k q) = Xb m c (ix2 k q) := by
  unfold Xb; rw [← V_main_arg1 m c]
  refine congrArg (V m c main_arg1 : FVec Ideal S512x1024 .bf16) (funext fun a => Fin.ext ?_)
  match a with | ⟨0, _⟩ | ⟨1, _⟩ => blk_simp [idx1 t]

theorem emb (t : Fin cfg0.N) (p : Fin 1088) (q : Fin 1024) : (win0_2.blk t).view.emb (ix2 p q) = ix2 (row t p) q :=
  At.same (Fin.ext (by blk_simp [idx2 t])) (Fin.ext (by blk_simp [idx2 t]))

/-- The array the kernel leaves. -/
def G (c : Dev nD) : FVec Ideal S4352x1024 .bf16 := fun i => (∑ k : Fin 512, Xa m c (ix2 (i 0) k) * Xb m c (ix2 k (i 1)) : EReal)

theorem arr_eq (c : Dev nD) : (dats m 0 c).arrAt 2 cfg0.N = G m c := by
  refine (dats m 0 c).arrAt_eq_of_covers 2 (G m c) (by decide +kernel) fun t _ y => ?_
  obtain ⟨p, q, rfl⟩ := At.two y
  show (dats m 0 c).after 2 t (ix2 p q) = G m c ((win0_2.blk t).view.emb (ix2 p q))
  rw [after0_2, emb]
  refine (out_eq m c t p q).trans ?_
  exact Finset.sum_congr rfl fun k _ => congrArg₂ (fun a b : EReal => a * b) (blk0 m c t p k) (blk1 m c t q k)

open Cert.Reference32Ideal.Read in
/-- The reference's array, element by element. -/
theorem ref_eq (x0 : FVec Ideal S4352x512 .bf16) (x1 : FVec Ideal S512x1024 .bf16) (p : Fin 4352) (q : Fin 1024) :
    val_main_v3 (F := Ideal) x0 x1 (ix2 p q) = (∑ k : Fin 512, x0 (ix2 p k) * x1 (ix2 k q) : EReal) := by
  rw [val_main_v3_apply]
  show val_main_v2 (F := Ideal) x0 x1 (ix2 p q) = _
  rw [val_main_v2_apply]
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference32Ideal Cert.Reference32Ideal.Gen.facts := fun m g _ =>
  (θ_run _ _ _).mono (fun r h => ⟨fun c => (h c).2, sem_eq_zero_of_no_sems (by decide) r.2⟩) (Cert.Reference32Ideal.Value.run m g)

/-- From equal arguments the kernel and the reference end with equal results. -/
theorem algebraic : @Cert.algebraic_Kernel32Ideal_Reference32Ideal Cert.Kernel32Ideal.Gen.facts Cert.Reference32Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference32Ideal.Value.run m' g')
  obtain ⟨a0, a1⟩ := hm c
  rw [Cert.Reference32Ideal.Read.val_main_v3_eq, a0, a1]
  funext i
  obtain ⟨p, q, rfl⟩ := At.two i
  exact ref_eq _ _ p q

end Cert.Kernel32Ideal.Prod

end
-- ==== Proof.Prod.K33.lean ====
module

public import proofs.«01_k».proof.Proof.Prod.Base
public import proofs.«01_k».proof.Proof.Gen.Kernel33Ideal.Value
public import proofs.«01_k».proof.Proof.Gen.Reference33Ideal.Run
public import proofs.«01_k».proof.Proof.Gen.Reference33Ideal.Read

@[expose] public section

/-! # Kernel 33: the rotary part of the queries

Every point of the grid computes one tile: the product of its rows of the first operand with the columns of the second. -/

noncomputable section

namespace Cert.Kernel33Ideal.Prod

open Cert.Kernel33Ideal Cert.Kernel33Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x512 .bf16) (y : Vec Ideal S512x1024 .bf16) (p : Fin 1088) (q : Fin 1024) : EReal :=
  ∑ k : Fin 512, x (ix2 p k) * y (ix2 k q)

/-- A point sets its sum to zero and adds its tiles' product. -/
theorem pay (x : Vec Ideal S1088x512 .bf16) (y : Vec Ideal S512x1024 .bf16) (p : Fin 1088) (q : Fin 1024) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 1024) :
    outsAt0 m c t (ix2 p q) = tile (iblk m c 0 t) (iblk m c 1 t) p q := by
  unfold outsAt0
  frame_out
  exact pay _ _ p q

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The first operand. -/
abbrev Xa (c : Dev nD) : FVec Ideal S4352x512 .bf16 := m (c.tc.loc main_arg0)
/-- The second operand. -/
abbrev Xb (c : Dev nD) : FVec Ideal S512x1024 .bf16 := m (c.tc.loc main_arg1)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 512) : iblk m c 0 t (ix2 p k) = Xa m c (ix2 (row t p) k) := by
  unfold Xa; rw [← V_main_arg0 m c]
  refine congrArg (V m c main_arg0 : FVec Ideal S4352x512 .bf16) (funext fun a => Fin.ext ?_)
  match a with | ⟨0, _⟩ | ⟨1, _⟩ => blk_simp [idx0 t]

theorem blk1 (c : Dev nD) (t : Fin cfg0.N) (q : Fin 1024) (k : Fin 512) : iblk m c 1 t (ix2 k q) = Xb m c (ix2 k q) := by
  unfold Xb; rw [← V_main_arg1 m c]
  refine congrArg (V m c main_arg1 : FVec Ideal S512x1024 .bf16) (funext fun a => Fin.ext ?_)
  match a with | ⟨0, _⟩ | ⟨1, _⟩ => blk_simp [idx1 t]

theorem emb (t : Fin cfg0.N) (p : Fin 1088) (q : Fin 1024) : (win0_2.blk t).view.emb (ix2 p q) = ix2 (row t p) q :=
  At.same (Fin.ext (by blk_simp [idx2 t])) (Fin.ext (by blk_simp [idx2 t]))

/-- The array the kernel leaves. -/
def G (c : Dev nD) : FVec Ideal S4352x1024 .f32 := fun i => (∑ k : Fin 512, Xa m c (ix2 (i 0) k) * Xb m c (ix2 k (i 1)) : EReal)

theorem arr_eq (c : Dev nD) : (dats m 0 c).arrAt 2 cfg0.N = G m c := by
  refine (dats m 0 c).arrAt_eq_of_covers 2 (G m c) (by decide +kernel) fun t _ y => ?_
  obtain ⟨p, q, rfl⟩ := At.two y
  show (dats m 0 c).after 2 t (ix2 p q) = G m c ((win0_2.blk t).view.emb (ix2 p q))
  rw [after0_2, emb]
  refine (out_eq m c t p q).trans ?_
  exact Finset.sum_congr rfl fun k _ => congrArg₂ (fun a b : EReal => a * b) (blk0 m c t p k) (blk1 m c t q k)

open Cert.Reference33Ideal.Read in
/-- The reference's array, element by element. -/
theorem ref_eq (x0 : FVec Ideal S4352x512 .bf16) (x1 : FVec Ideal S512x1024 .bf16) (p : Fin 4352) (q : Fin 1024) :
    val_main_v2 (F := Ideal) x0 x1 (ix2 p q) = (∑ k : Fin 512, x0 (ix2 p k) * x1 (ix2 k q) : EReal) := by
  rw [val_main_v2_apply]
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference33Ideal Cert.Reference33Ideal.Gen.facts := fun m g _ =>
  (θ_run _ _ _).mono (fun r h => ⟨fun c => (h c).2, sem_eq_zero_of_no_sems (by decide) r.2⟩) (Cert.Reference33Ideal.Value.run m g)

/-- From equal arguments the kernel and the reference end with equal results. -/
theorem algebraic : @Cert.algebraic_Kernel33Ideal_Reference33Ideal Cert.Kernel33Ideal.Gen.facts Cert.Reference33Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference33Ideal.Value.run m' g')
  obtain ⟨a0, a1⟩ := hm c
  rw [Cert.Reference33Ideal.Read.val_main_v2_eq, a0, a1]
  funext i
  obtain ⟨p, q, rfl⟩ := At.two i
  exact ref_eq _ _ p q

end Cert.Kernel33Ideal.Prod

end
-- ==== Proof.Prod.K34.lean ====
module

public import proofs.«01_k».proof.Proof.Prod.Base
public import proofs.«01_k».proof.Proof.Gen.Kernel34Ideal.Value
public import proofs.«01_k».proof.Proof.Gen.Reference34Ideal.Run
public import proofs.«01_k».proof.Proof.Gen.Reference34Ideal.Read

@[expose] public section

/-! # Kernel 34: the keys, or the values, of the attention

Every point of the grid computes one tile: the product of its rows of the first operand with the columns of the second. -/

noncomputable section

namespace Cert.Kernel34Ideal.Prod

open Cert.Kernel34Ideal Cert.Kernel34Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x256 .bf16) (y : Vec Ideal S256x1024 .bf16) (p : Fin 1088) (q : Fin 1024) : EReal :=
  ∑ k : Fin 256, x (ix2 p k) * y (ix2 k q)

/-- A point sets its sum to zero and adds its tiles' product. -/
theorem pay (x : Vec Ideal S1088x256 .bf16) (y : Vec Ideal S256x1024 .bf16) (p : Fin 1088) (q : Fin 1024) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 1024) :
    outsAt0 m c t (ix2 p q) = tile (iblk m c 0 t) (iblk m c 1 t) p q := by
  unfold outsAt0
  frame_out
  exact pay _ _ p q

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The first operand. -/
abbrev Xa (c : Dev nD) : FVec Ideal S4352x256 .bf16 := m (c.tc.loc main_arg0)
/-- The second operand. -/
abbrev Xb (c : Dev nD) : FVec Ideal S256x1024 .bf16 := m (c.tc.loc main_arg1)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 256) : iblk m c 0 t (ix2 p k) = Xa m c (ix2 (row t p) k) := by
  unfold Xa; rw [← V_main_arg0 m c]
  refine congrArg (V m c main_arg0 : FVec Ideal S4352x256 .bf16) (funext fun a => Fin.ext ?_)
  match a with | ⟨0, _⟩ | ⟨1, _⟩ => blk_simp [idx0 t]

theorem blk1 (c : Dev nD) (t : Fin cfg0.N) (q : Fin 1024) (k : Fin 256) : iblk m c 1 t (ix2 k q) = Xb m c (ix2 k q) := by
  unfold Xb; rw [← V_main_arg1 m c]
  refine congrArg (V m c main_arg1 : FVec Ideal S256x1024 .bf16) (funext fun a => Fin.ext ?_)
  match a with | ⟨0, _⟩ | ⟨1, _⟩ => blk_simp [idx1 t]

theorem emb (t : Fin cfg0.N) (p : Fin 1088) (q : Fin 1024) : (win0_2.blk t).view.emb (ix2 p q) = ix2 (row t p) q :=
  At.same (Fin.ext (by blk_simp [idx2 t])) (Fin.ext (by blk_simp [idx2 t]))

/-- The array the kernel leaves. -/
def G (c : Dev nD) : FVec Ideal S4352x1024 .bf16 := fun i => (∑ k : Fin 256, Xa m c (ix2 (i 0) k) * Xb m c (ix2 k (i 1)) : EReal)

theorem arr_eq (c : Dev nD) : (dats m 0 c).arrAt 2 cfg0.N = G m c := by
  refine (dats m 0 c).arrAt_eq_of_covers 2 (G m c) (by decide +kernel) fun t _ y => ?_
  obtain ⟨p, q, rfl⟩ := At.two y
  show (dats m 0 c).after 2 t (ix2 p q) = G m c ((win0_2.blk t).view.emb (ix2 p q))
  rw [after0_2, emb]
  refine (out_eq m c t p q).trans ?_
  exact Finset.sum_congr rfl fun k _ => congrArg₂ (fun a b : EReal => a * b) (blk0 m c t p k) (blk1 m c t q k)

open Cert.Reference34Ideal.Read in
/-- The reference's array, element by element. -/
theorem ref_eq (x0 : FVec Ideal S4352x256 .bf16) (x1 : FVec Ideal S256x1024 .bf16) (p : Fin 4352) (q : Fin 1024) :
    val_main_v3 (F := Ideal) x0 x1 (ix2 p q) = (∑ k : Fin 256, x0 (ix2 p k) * x1 (ix2 k q) : EReal) := by
  rw [val_main_v3_apply]
  show val_main_v2 (F := Ideal) x0 x1 (ix2 p q) = _
  rw [val_main_v2_apply]
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference34Ideal Cert.Reference34Ideal.Gen.facts := fun m g _ =>
  (θ_run _ _ _).mono (fun r h => ⟨fun c => (h c).2, sem_eq_zero_of_no_sems (by decide) r.2⟩) (Cert.Reference34Ideal.Value.run m g)

/-- From equal arguments the kernel and the reference end with equal results. -/
theorem algebraic : @Cert.algebraic_Kernel34Ideal_Reference34Ideal Cert.Kernel34Ideal.Gen.facts Cert.Reference34Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference34Ideal.Value.run m' g')
  obtain ⟨a0, a1⟩ := hm c
  rw [Cert.Reference34Ideal.Read.val_main_v3_eq, a0, a1]
  funext i
  obtain ⟨p, q, rfl⟩ := At.two i
  exact ref_eq _ _ p q

end Cert.Kernel34Ideal.Prod

end
-- ==== Proof.Prod.K35.lean ====
module

public import proofs.«01_k».proof.Proof.Prod.Base
public import proofs.«01_k».proof.Proof.Gen.Kernel35Ideal.Value
public import proofs.«01_k».proof.Proof.Gen.Reference35Ideal.Run
public import proofs.«01_k».proof.Proof.Gen.Reference35Ideal.Read

@[expose] public section

/-! # Kernel 35: the gradient of the queries' latent, from the unrotated part

Every point of the grid computes one tile: the product of its rows of the first operand with the rows of the second. -/

noncomputable section

namespace Cert.Kernel35Ideal.Prod

open Cert.Kernel35Ideal Cert.Kernel35Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x1024 .f32) (y : Vec Ideal S512x1024 .bf16) (p : Fin 1088) (q : Fin 512) : EReal :=
  ∑ k : Fin 1024, x (ix2 p k) * y (ix2 q k)

/-- A point sets its sum to zero and adds its tiles' product. -/
theorem pay (x : Vec Ideal S1088x1024 .f32) (y : Vec Ideal S512x1024 .bf16) (p : Fin 1088) (q : Fin 512) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 512) :
    outsAt0 m c t (ix2 p q) = tile (iblk m c 0 t) (iblk m c 1 t) p q := by
  unfold outsAt0
  frame_out
  exact pay _ _ p q

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The first operand. -/
abbrev Xa (c : Dev nD) : FVec Ideal S4352x1024 .f32 := m (c.tc.loc main_arg0)
/-- The second operand. -/
abbrev Xb (c : Dev nD) : FVec Ideal S512x1024 .bf16 := m (c.tc.loc main_arg1)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 1024) : iblk m c 0 t (ix2 p k) = Xa m c (ix2 (row t p) k) := by
  unfold Xa; rw [← V_main_arg0 m c]
  refine congrArg (V m c main_arg0 : FVec Ideal S4352x1024 .f32) (funext fun a => Fin.ext ?_)
  match a with | ⟨0, _⟩ | ⟨1, _⟩ => blk_simp [idx0 t]

theorem blk1 (c : Dev nD) (t : Fin cfg0.N) (q : Fin 512) (k : Fin 1024) : iblk m c 1 t (ix2 q k) = Xb m c (ix2 q k) := by
  unfold Xb; rw [← V_main_arg1 m c]
  refine congrArg (V m c main_arg1 : FVec Ideal S512x1024 .bf16) (funext fun a => Fin.ext ?_)
  match a with | ⟨0, _⟩ | ⟨1, _⟩ => blk_simp [idx1 t]

theorem emb (t : Fin cfg0.N) (p : Fin 1088) (q : Fin 512) : (win0_2.blk t).view.emb (ix2 p q) = ix2 (row t p) q :=
  At.same (Fin.ext (by blk_simp [idx2 t])) (Fin.ext (by blk_simp [idx2 t]))

/-- The array the kernel leaves. -/
def G (c : Dev nD) : FVec Ideal S4352x512 .f32 := fun i => (∑ k : Fin 1024, Xa m c (ix2 (i 0) k) * Xb m c (ix2 (i 1) k) : EReal)

theorem arr_eq (c : Dev nD) : (dats m 0 c).arrAt 2 cfg0.N = G m c := by
  refine (dats m 0 c).arrAt_eq_of_covers 2 (G m c) (by decide +kernel) fun t _ y => ?_
  obtain ⟨p, q, rfl⟩ := At.two y
  show (dats m 0 c).after 2 t (ix2 p q) = G m c ((win0_2.blk t).view.emb (ix2 p q))
  rw [after0_2, emb]
  refine (out_eq m c t p q).trans ?_
  exact Finset.sum_congr rfl fun k _ => congrArg₂ (fun a b : EReal => a * b) (blk0 m c t p k) (blk1 m c t q k)

open Cert.Reference35Ideal.Read in
/-- The reference's array, element by element. -/
theorem ref_eq (x0 : FVec Ideal S4352x1024 .f32) (x1 : FVec Ideal S512x1024 .bf16) (p : Fin 4352) (q : Fin 512) :
    val_main_v3 (F := Ideal) x0 x1 (ix2 p q) = (∑ k : Fin 1024, x0 (ix2 p k) * x1 (ix2 q k) : EReal) := by
  rw [val_main_v3_apply]
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference35Ideal Cert.Reference35Ideal.Gen.facts := fun m g _ =>
  (θ_run _ _ _).mono (fun r h => ⟨fun c => (h c).2, sem_eq_zero_of_no_sems (by decide) r.2⟩) (Cert.Reference35Ideal.Value.run m g)

/-- From equal arguments the kernel and the reference end with equal results. -/
theorem algebraic : @Cert.algebraic_Kernel35Ideal_Reference35Ideal Cert.Kernel35Ideal.Gen.facts Cert.Reference35Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference35Ideal.Value.run m' g')
  obtain ⟨a0, a1⟩ := hm c
  rw [Cert.Reference35Ideal.Read.val_main_v3_eq, a0, a1]
  funext i
  obtain ⟨p, q, rfl⟩ := At.two i
  exact ref_eq _ _ p q

end Cert.Kernel35Ideal.Prod

end
-- ==== Proof.Prod.K36.lean ====
module

public import proofs.«01_k».proof.Proof.Prod.Base
public import proofs.«01_k».proof.Proof.Gen.Kernel36Ideal.Value
public import proofs.«01_k».proof.Proof.Gen.Reference36Ideal.Run
public import proofs.«01_k».proof.Proof.Gen.Reference36Ideal.Read

@[expose] public section

/-! # Kernel 36: the gradient of the queries' latent, with the rotary part

Every point of the grid computes one tile: the product of its rows of the first operand with the rows of the second, added to its tile of the third. -/

noncomputable section

namespace Cert.Kernel36Ideal.Prod

open Cert.Kernel36Ideal Cert.Kernel36Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x1024 .bf16) (y : Vec Ideal S512x1024 .bf16) (p : Fin 1088) (q : Fin 512) : EReal :=
  ∑ k : Fin 1024, x (ix2 p k) * y (ix2 q k)

/-- A point sets its sum to zero and adds its tiles' product. -/
theorem pay (x : Vec Ideal S1088x1024 .bf16) (y : Vec Ideal S512x1024 .bf16) (p : Fin 1088) (q : Fin 512) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 512) :
    outsAt0 m c t (ix2 p q) = tile (iblk m c 0 t) (iblk m c 1 t) p q + iblk m c 2 t (ix2 p q) := by
  unfold outsAt0
  frame_out
  rw [← pay]
  pointwise [k0_pay3]

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S512x1024 .bf16 := m (c.tc.loc main_arg1)
/-- What is added. -/
abbrev Xc (c : Dev nD) : FVec Ideal S4352x512 .f32 := m (c.tc.loc main_arg2)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 1024) : iblk m c 0 t (ix2 p k) = Xa m c (ix2 (row t p) k) := by
  unfold Xa; rw [← V_main_arg0 m c]
  refine congrArg (V m c main_arg0 : FVec Ideal S4352x1024 .bf16) (funext fun a => Fin.ext ?_)
  match a with | ⟨0, _⟩ | ⟨1, _⟩ => blk_simp [idx0 t]

theorem blk1 (c : Dev nD) (t : Fin cfg0.N) (q : Fin 512) (k : Fin 1024) : iblk m c 1 t (ix2 q k) = Xb m c (ix2 q k) := by
  unfold Xb; rw [← V_main_arg1 m c]
  refine congrArg (V m c main_arg1 : FVec Ideal S512x1024 .bf16) (funext fun a => Fin.ext ?_)
  match a with | ⟨0, _⟩ | ⟨1, _⟩ => blk_simp [idx1 t]

theorem blk2 (c : Dev nD) (t : Fin cfg0.N) (p : Fin 1088) (q : Fin 512) : iblk m c 2 t (ix2 p q) = Xc m c (ix2 (row t p) q) := by
  unfold Xc; rw [← V_main_arg2 m c]
  refine congrArg (V m c main_arg2 : FVec Ideal S4352x512 .f32) (funext fun a => Fin.ext ?_)
  match a with | ⟨0, _⟩ | ⟨1, _⟩ => blk_simp [idx2 t]

theorem emb (t : Fin cfg0.N) (p : Fin 1088) (q : Fin 512) : (win0_3.blk t).view.emb (ix2 p q) = ix2 (row t p) q :=
  At.same (Fin.ext (by blk_simp [idx3 t])) (Fin.ext (by blk_simp [idx3 t]))

/-- The array the kernel leaves. -/
def G (c : Dev nD) : FVec Ideal S4352x512 .f32 := fun i => (∑ k : Fin 1024, Xa m c (ix2 (i 0) k) * Xb m c (ix2 (i 1) k) : EReal) + Xc m c i

theorem arr_eq (c : Dev nD) : (dats m 0 c).arrAt 3 cfg0.N = G m c := by
  refine (dats m 0 c).arrAt_eq_of_covers 3 (G m c) (by decide +kernel) fun t _ y => ?_
  obtain ⟨p, q, rfl⟩ := At.two y
  show (dats m 0 c).after 3 t (ix2 p q) = G m c ((win0_3.blk t).view.emb (ix2 p q))
  rw [after0_3, emb]
  refine (out_eq m c t p q).trans ?_
  exact congrArg₂ (fun a b : EReal => a + b) (Finset.sum_congr rfl fun k _ => congrArg₂ (fun a b : EReal => a * b) (blk0 m c t p k) (blk1 m c t q k)) (blk2 m c t p q)

open Cert.Reference36Ideal.Read in
/-- The reference's array, element by element. -/
theorem ref_eq (x0 : FVec Ideal S4352x1024 .bf16) (x1 : FVec Ideal S512x1024 .bf16) (x2 : FVec Ideal S4352x512 .f32) (p : Fin 4352) (q : Fin 512) :
    val_main_v5 (F := Ideal) x0 x1 x2 (ix2 p q) = (∑ k : Fin 1024, x0 (ix2 p k) * x1 (ix2 q k) : EReal) + x2 (ix2 p q) := by
  rw [val_main_v5_apply]
  rw [val_main_v4_apply]
  refine congrArg (fun a : EReal => a + x2 (ix2 p q)) ?_
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference36Ideal Cert.Reference36Ideal.Gen.facts := fun m g _ =>
  (θ_run _ _ _).mono (fun r h => ⟨fun c => (h c).2, sem_eq_zero_of_no_sems (by decide) r.2⟩) (Cert.Reference36Ideal.Value.run m g)

/-- From equal arguments the kernel and the reference end with equal results. -/
theorem algebraic : @Cert.algebraic_Kernel36Ideal_Reference36Ideal Cert.Kernel36Ideal.Gen.facts Cert.Reference36Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference36Ideal.Value.run m' g')
  obtain ⟨a0, a1, a2⟩ := hm c
  rw [Cert.Reference36Ideal.Read.val_main_v5_eq, a0, a1, a2]
  funext i
  obtain ⟨p, q, rfl⟩ := At.two i
  exact ref_eq _ _ _ p q

end Cert.Kernel36Ideal.Prod

end
-- ==== Proof.Prod.K37.lean ====
module

public import proofs.«01_k».proof.Proof.Prod.Base
public import proofs.«01_k».proof.Proof.Gen.Kernel37Ideal.Value
public import proofs.«01_k».proof.Proof.Gen.Reference37Ideal.Run
public import proofs.«01_k».proof.Proof.Gen.Reference37Ideal.Read

@[expose] public section

/-! # Kernel 37: the gradient of the keys' and values' latent, from the keys

Every point of the grid computes one tile: the product of its rows of the first operand with the rows of the second. -/

noncomputable section

namespace Cert.Kernel37Ideal.Prod

open Cert.Kernel37Ideal Cert.Kernel37Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x1024 .bf16) (y : Vec Ideal S256x1024 .bf16) (p : Fin 1088) (q : Fin 256) : EReal :=
  ∑ k : Fin 1024, x (ix2 p k) * y (ix2 q k)

/-- A point sets its sum to zero and adds its tiles' product. -/
theorem pay (x : Vec Ideal S1088x1024 .bf16) (y : Vec Ideal S256x1024 .bf16) (p : Fin 1088) (q : Fin 256) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 256) :
    outsAt0 m c t (ix2 p q) = tile (iblk m c 0 t) (iblk m c 1 t) p q := by
  unfold outsAt0
  frame_out
  exact pay _ _ p q

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S256x1024 .bf16 := m (c.tc.loc main_arg1)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 1024) : iblk m c 0 t (ix2 p k) = Xa m c (ix2 (row t p) k) := by
  unfold Xa; rw [← V_main_arg0 m c]
  refine congrArg (V m c main_arg0 : FVec Ideal S4352x1024 .bf16) (funext fun a => Fin.ext ?_)
  match a with | ⟨0, _⟩ | ⟨1, _⟩ => blk_simp [idx0 t]

theorem blk1 (c : Dev nD) (t : Fin cfg0.N) (q : Fin 256) (k : Fin 1024) : iblk m c 1 t (ix2 q k) = Xb m c (ix2 q k) := by
  unfold Xb; rw [← V_main_arg1 m c]
  refine congrArg (V m c main_arg1 : FVec Ideal S256x1024 .bf16) (funext fun a => Fin.ext ?_)
  match a with | ⟨0, _⟩ | ⟨1, _⟩ => blk_simp [idx1 t]

theorem emb (t : Fin cfg0.N) (p : Fin 1088) (q : Fin 256) : (win0_2.blk t).view.emb (ix2 p q) = ix2 (row t p) q :=
  At.same (Fin.ext (by blk_simp [idx2 t])) (Fin.ext (by blk_simp [idx2 t]))

/-- The array the kernel leaves. -/
def G (c : Dev nD) : FVec Ideal S4352x256 .f32 := fun i => (∑ k : Fin 1024, Xa m c (ix2 (i 0) k) * Xb m c (ix2 (i 1) k) : EReal)

theorem arr_eq (c : Dev nD) : (dats m 0 c).arrAt 2 cfg0.N = G m c := by
  refine (dats m 0 c).arrAt_eq_of_covers 2 (G m c) (by decide +kernel) fun t _ y => ?_
  obtain ⟨p, q, rfl⟩ := At.two y
  show (dats m 0 c).after 2 t (ix2 p q) = G m c ((win0_2.blk t).view.emb (ix2 p q))
  rw [after0_2, emb]
  refine (out_eq m c t p q).trans ?_
  exact Finset.sum_congr rfl fun k _ => congrArg₂ (fun a b : EReal => a * b) (blk0 m c t p k) (blk1 m c t q k)

open Cert.Reference37Ideal.Read in
/-- The reference's array, element by element. -/
theorem ref_eq (x0 : FVec Ideal S4352x1024 .bf16) (x1 : FVec Ideal S256x1024 .bf16) (p : Fin 4352) (q : Fin 256) :
    val_main_v4 (F := Ideal) x0 x1 (ix2 p q) = (∑ k : Fin 1024, x0 (ix2 p k) * x1 (ix2 q k) : EReal) := by
  rw [val_main_v4_apply]
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference37Ideal Cert.Reference37Ideal.Gen.facts := fun m g _ =>
  (θ_run _ _ _).mono (fun r h => ⟨fun c => (h c).2, sem_eq_zero_of_no_sems (by decide) r.2⟩) (Cert.Reference37Ideal.Value.run m g)

/-- From equal arguments the kernel and the reference end with equal results. -/
theorem algebraic : @Cert.algebraic_Kernel37Ideal_Reference37Ideal Cert.Kernel37Ideal.Gen.facts Cert.Reference37Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference37Ideal.Value.run m' g')
  obtain ⟨a0, a1⟩ := hm c
  rw [Cert.Reference37Ideal.Read.val_main_v4_eq, a0, a1]
  funext i
  obtain ⟨p, q, rfl⟩ := At.two i
  exact ref_eq _ _ p q

end Cert.Kernel37Ideal.Prod

end
-- ==== Proof.Prod.K38.lean ====
module

public import proofs.«01_k».proof.Proof.Prod.Base
public import proofs.«01_k».proof.Proof.Gen.Kernel38Ideal.Value
public import proofs.«01_k».proof.Proof.Gen.Reference38Ideal.Run
public import proofs.«01_k».proof.Proof.Gen.Reference38Ideal.Read

@[expose] public section

/-! # Kernel 38: the gradient of the keys' and values' latent, with the values

Every point of the grid computes one tile: the product of its rows of the first operand with the rows of the second, added to its tile of the third. -/

noncomputable section

namespace Cert.Kernel38Ideal.Prod

open Cert.Kernel38Ideal Cert.Kernel38Ideal.Gen
open Idealize.ShloMosaic Idealize.ShloMosaic.TcCoe Idealize.ShloMosaic.Tactic Idealize.SL.Sem

variable (m : (ℓ : Loc nD τ sig) → Buf (Elt Ideal) ℓ)

/-- The product of two tiles. -/
def tile (x : Vec Ideal S1088x1024 .bf16) (y : Vec Ideal S256x1024 .bf16) (p : Fin 1088) (q : Fin 256) : EReal :=
  ∑ k : Fin 1024, x (ix2 p k) * y (ix2 q k)

/-- A point sets its sum to zero and adds its tiles' product. -/
theorem pay (x : Vec Ideal S1088x1024 .bf16) (y : Vec Ideal S256x1024 .bf16) (p : Fin 1088) (q : Fin 256) :
    k0_pay2 k0_pay1 x y (ix2 p q) = tile x y p q := by
  pointwise [k0_pay2, k0_pay1]
  rfl

/-- The tile a point leaves. -/
theorem out_eq (c : Dev nD) (t : Fin cfg0.N) (p : Fin 1088) (q : Fin 256) :
    outsAt0 m c t (ix2 p q) = tile (iblk m c 0 t) (iblk m c 1 t) p q + iblk m c 2 t (ix2 p q) := by
  unfold outsAt0
  frame_out
  rw [← pay]
  pointwise [k0_pay3]

/-! The tile of each array a point names. -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- The first operand. -/
abbrev Xa (c : Dev nD) : FVec Ideal S4352x1024 .bf16 := m (c.tc.loc main_arg0)
/-- The second operand. -/
abbrev Xb (c : Dev nD) : FVec Ideal S256x1024 .bf16 := m (c.tc.loc main_arg1)
/-- What is added. -/
abbrev Xc (c : Dev nD) : FVec Ideal S4352x256 .f32 := m (c.tc.loc main_arg2)
/-- The row of the whole array that a row of a point's tile is. -/
abbrev row (t : Fin cfg0.N) (p : Fin 1088) : Fin 4352 := ⟨t.val * 1088 + p.val, by have := lt_of_lt_of_eq t.isLt N_0; omega⟩

theorem blk0 (c : Dev nD) (t : Fin cfg0.N) (p : Fin 1088) (k : Fin 1024) : iblk m c 0 t (ix2 p k) = Xa m c (ix2 (row t p) k) := by
  unfold Xa; rw [← V_main_arg0 m c]
  refine congrArg (V m c main_arg0 : FVec Ideal S4352x1024 .bf16) (funext fun a => Fin.ext ?_)
  match a with | ⟨0, _⟩ | ⟨1, _⟩ => blk_simp [idx0 t]

theorem blk1 (c : Dev nD) (t : Fin cfg0.N) (q : Fin 256) (k : Fin 1024) : iblk m c 1 t (ix2 q k) = Xb m c (ix2 q k) := by
  unfold Xb; rw [← V_main_arg1 m c]
  refine congrArg (V m c main_arg1 : FVec Ideal S256x1024 .bf16) (funext fun a => Fin.ext ?_)
  match a with | ⟨0, _⟩ | ⟨1, _⟩ => blk_simp [idx1 t]

theorem blk2 (c : Dev nD) (t : Fin cfg0.N) (p : Fin 1088) (q : Fin 256) : iblk m c 2 t (ix2 p q) = Xc m c (ix2 (row t p) q) := by
  unfold Xc; rw [← V_main_arg2 m c]
  refine congrArg (V m c main_arg2 : FVec Ideal S4352x256 .f32) (funext fun a => Fin.ext ?_)
  match a with | ⟨0, _⟩ | ⟨1, _⟩ => blk_simp [idx2 t]

theorem emb (t : Fin cfg0.N) (p : Fin 1088) (q : Fin 256) : (win0_3.blk t).view.emb (ix2 p q) = ix2 (row t p) q :=
  At.same (Fin.ext (by blk_simp [idx3 t])) (Fin.ext (by blk_simp [idx3 t]))

/-- The array the kernel leaves. -/
def G (c : Dev nD) : FVec Ideal S4352x256 .f32 := fun i => (∑ k : Fin 1024, Xa m c (ix2 (i 0) k) * Xb m c (ix2 (i 1) k) : EReal) + Xc m c i

theorem arr_eq (c : Dev nD) : (dats m 0 c).arrAt 3 cfg0.N = G m c := by
  refine (dats m 0 c).arrAt_eq_of_covers 3 (G m c) (by decide +kernel) fun t _ y => ?_
  obtain ⟨p, q, rfl⟩ := At.two y
  show (dats m 0 c).after 3 t (ix2 p q) = G m c ((win0_3.blk t).view.emb (ix2 p q))
  rw [after0_3, emb]
  refine (out_eq m c t p q).trans ?_
  exact congrArg₂ (fun a b : EReal => a + b) (Finset.sum_congr rfl fun k _ => congrArg₂ (fun a b : EReal => a * b) (blk0 m c t p k) (blk1 m c t q k)) (blk2 m c t p q)

open Cert.Reference38Ideal.Read in
/-- The reference's array, element by element. -/
theorem ref_eq (x0 : FVec Ideal S4352x1024 .bf16) (x1 : FVec Ideal S256x1024 .bf16) (x2 : FVec Ideal S4352x256 .f32) (p : Fin 4352) (q : Fin 256) :
    val_main_v5 (F := Ideal) x0 x1 x2 (ix2 p q) = (∑ k : Fin 1024, x0 (ix2 p k) * x1 (ix2 q k) : EReal) + x2 (ix2 p q) := by
  rw [val_main_v5_apply]
  rw [val_main_v4_apply]
  refine congrArg (fun a : EReal => a + x2 (ix2 p q)) ?_
  exact Finset.sum_congr rfl fun k _ => congrArg₂ (fun a b : EReal => a * b) (congrArg x0 (At.same rfl rfl)) (congrArg x1 (At.same rfl rfl))

/-- The reference leaves its arguments as they were; it has no semaphore at all. -/
theorem frame_ref : @Cert.quiescent_Reference38Ideal Cert.Reference38Ideal.Gen.facts := fun m g _ =>
  (θ_run _ _ _).mono (fun r h => ⟨fun c => (h c).2, sem_eq_zero_of_no_sems (by decide) r.2⟩) (Cert.Reference38Ideal.Value.run m g)

/-- From equal arguments the kernel and the reference end with equal results. -/
theorem algebraic : @Cert.algebraic_Kernel38Ideal_Reference38Ideal Cert.Kernel38Ideal.Gen.facts Cert.Reference38Ideal.Gen.facts := by
  intro m g m' g' hp hm
  refine ⟨G m, (θ_run _ _ _).mono (fun _ h c => ⟨(h c).1.trans (arr_eq m c), (h c).2⟩) (Value.run_blocks m g), ?_⟩
  refine (θ_run _ _ _).mono (fun _ h c => ⟨(h c).1.trans ?_, (h c).2⟩) (Cert.Reference38Ideal.Value.run m' g')
  obtain ⟨a0, a1, a2⟩ := hm c
  rw [Cert.Reference38Ideal.Read.val_main_v5_eq, a0, a1, a2]
  funext i
  obtain ⟨p, q, rfl⟩ := At.two i
  exact ref_eq _ _ _ p q

end Cert.Kernel38Ideal.Prod

end
-- ==== Proof.lean ====
/- The claims of this directory, put together: five about the backward pass of the attention and five about each product. -/
module

public import proofs.«01_k».proof.Defs
public import proofs.«01_k».proof.Proof.Fr.Run
public import proofs.«01_k».proof.Proof.Gen.KernelIdeal.Frame
public import proofs.«01_k».proof.Proof.Gen.KernelIdeal.Skeleton
public import proofs.«01_k».proof.Proof.Gen.ReferenceIdeal.Run
public import proofs.«01_k».proof.Proof.Gen.ReferenceIdeal.Read
public import proofs.«01_k».proof.Proof.Bwd.Run
public import proofs.«01_k».proof.Proof.Bwd.Value
public import proofs.«01_k».proof.Proof.Gen.Kernel2.Frame
public import proofs.«01_k».proof.Proof.Prod.K2
public import proofs.«01_k».proof.Proof.Gen.Kernel3.Frame
public import proofs.«01_k».proof.Proof.Prod.K3
public import proofs.«01_k».proof.Proof.Gen.Kernel4.Frame
public import proofs.«01_k».proof.Proof.Prod.K4
public import proofs.«01_k».proof.Proof.Gen.Kernel5.Frame
public import proofs.«01_k».proof.Proof.Prod.K5
public import proofs.«01_k».proof.Proof.Gen.Kernel6.Frame
public import proofs.«01_k».proof.Proof.Prod.K6
public import proofs.«01_k».proof.Proof.Gen.Kernel7.Frame
public import proofs.«01_k».proof.Proof.Prod.K7
public import proofs.«01_k».proof.Proof.Gen.Kernel8.Frame
public import proofs.«01_k».proof.Proof.Prod.K8
public import proofs.«01_k».proof.Proof.Gen.Kernel9.Frame
public import proofs.«01_k».proof.Proof.Prod.K9
public import proofs.«01_k».proof.Proof.Gen.Kernel10.Frame
public import proofs.«01_k».proof.Proof.Prod.K10
public import proofs.«01_k».proof.Proof.Gen.Kernel11.Frame
public import proofs.«01_k».proof.Proof.Prod.K11
public import proofs.«01_k».proof.Proof.Gen.Kernel12.Frame
public import proofs.«01_k».proof.Proof.Prod.K12
public import proofs.«01_k».proof.Proof.Gen.Kernel13.Frame
public import proofs.«01_k».proof.Proof.Prod.K13
public import proofs.«01_k».proof.Proof.Gen.Kernel14.Frame
public import proofs.«01_k».proof.Proof.Prod.K14
public import proofs.«01_k».proof.Proof.Gen.Kernel15.Frame
public import proofs.«01_k».proof.Proof.Prod.K15
public import proofs.«01_k».proof.Proof.Gen.Kernel16.Frame
public import proofs.«01_k».proof.Proof.Prod.K16
public import proofs.«01_k».proof.Proof.Gen.Kernel17.Frame
public import proofs.«01_k».proof.Proof.Prod.K17
public import proofs.«01_k».proof.Proof.Gen.Kernel18.Frame
public import proofs.«01_k».proof.Proof.Prod.K18
public import proofs.«01_k».proof.Proof.Gen.Kernel19.Frame
public import proofs.«01_k».proof.Proof.Prod.K19
public import proofs.«01_k».proof.Proof.Gen.Kernel20.Frame
public import proofs.«01_k».proof.Proof.Prod.K20
public import proofs.«01_k».proof.Proof.Gen.Kernel21.Frame
public import proofs.«01_k».proof.Proof.Prod.K21
public import proofs.«01_k».proof.Proof.Gen.Kernel22.Frame
public import proofs.«01_k».proof.Proof.Prod.K22
public import proofs.«01_k».proof.Proof.Gen.Kernel23.Frame
public import proofs.«01_k».proof.Proof.Prod.K23
public import proofs.«01_k».proof.Proof.Gen.Kernel24.Frame
public import proofs.«01_k».proof.Proof.Prod.K24
public import proofs.«01_k».proof.Proof.Gen.Kernel25.Frame
public import proofs.«01_k».proof.Proof.Prod.K25
public import proofs.«01_k».proof.Proof.Gen.Kernel26.Frame
public import proofs.«01_k».proof.Proof.Prod.K26
public import proofs.«01_k».proof.Proof.Gen.Kernel27.Frame
public import proofs.«01_k».proof.Proof.Prod.K27
public import proofs.«01_k».proof.Proof.Gen.Kernel28.Frame
public import proofs.«01_k».proof.Proof.Prod.K28
public import proofs.«01_k».proof.Proof.Gen.Kernel29.Frame
public import proofs.«01_k».proof.Proof.Prod.K29
public import proofs.«01_k».proof.Proof.Gen.Kernel30.Frame
public import proofs.«01_k».proof.Proof.Prod.K30
public import proofs.«01_k».proof.Proof.Gen.Kernel31.Frame
public import proofs.«01_k».proof.Proof.Prod.K31
public import proofs.«01_k».proof.Proof.Gen.Kernel32.Frame
public import proofs.«01_k».proof.Proof.Prod.K32
public import proofs.«01_k».proof.Proof.Gen.Kernel33.Frame
public import proofs.«01_k».proof.Proof.Prod.K33
public import proofs.«01_k».proof.Proof.Gen.Kernel34.Frame
public import proofs.«01_k».proof.Proof.Prod.K34
public import proofs.«01_k».proof.Proof.Gen.Kernel35.Frame
public import proofs.«01_k».proof.Proof.Prod.K35
public import proofs.«01_k».proof.Proof.Gen.Kernel36.Frame
public import proofs.«01_k».proof.Proof.Prod.K36
public import proofs.«01_k».proof.Proof.Gen.Kernel37.Frame
public import proofs.«01_k».proof.Proof.Prod.K37
public import proofs.«01_k».proof.Proof.Gen.Kernel38.Frame
public import proofs.«01_k».proof.Proof.Prod.K38
public import Idealize.ShloMosaic.Lib.Quiescent
public import Idealize.ShloMosaic.Adequacy
public import Idealize.ShloMosaic.Init

@[expose] public section

noncomputable section

namespace Cert.Proof

open Idealize.ShloMosaic Idealize.SL.Sem

/-- The reference of the attention leaves its arguments as they were; it has no semaphore at all. -/
theorem frame_ref : @Cert.quiescent_ReferenceIdeal Cert.ReferenceIdeal.Gen.facts := fun m g _ =>
  (θ_run _ _ _).mono (fun r h => ⟨fun c => (h c).2.2.2.2.2, sem_eq_zero_of_no_sems (by decide) r.2⟩)
    (Cert.ReferenceIdeal.Value.run m g)

/-- Everything that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts,
  Cert.Pre_finite.pre_facts, fun m g _ => Cert.Kernel.Fr.frame m g, fun m g _ => Cert.KernelIdeal.Bwd.frame m g,
  fun m g _ => Cert.KernelIdeal.Bwd.frame m g, frame_ref, fun m g _ => frame_ref m g trivial,
  fun m g _ => Cert.Kernel2.Gen.frame m g, fun m g _ => Cert.Kernel2Ideal.Gen.frame m g, Cert.Kernel2Ideal.Prod.frame_ref,
  fun m g _ => Cert.Kernel3.Gen.frame m g, fun m g _ => Cert.Kernel3Ideal.Gen.frame m g, Cert.Kernel3Ideal.Prod.frame_ref,
  fun m g _ => Cert.Kernel4.Gen.frame m g, fun m g _ => Cert.Kernel4Ideal.Gen.frame m g, Cert.Kernel4Ideal.Prod.frame_ref,
  fun m g _ => Cert.Kernel5.Gen.frame m g, fun m g _ => Cert.Kernel5Ideal.Gen.frame m g, Cert.Kernel5Ideal.Prod.frame_ref,
  fun m g _ => Cert.Kernel6.Gen.frame m g, fun m g _ => Cert.Kernel6Ideal.Gen.frame m g, Cert.Kernel6Ideal.Prod.frame_ref,
  fun m g _ => Cert.Kernel7.Gen.frame m g, fun m g _ => Cert.Kernel7Ideal.Gen.frame m g, Cert.Kernel7Ideal.Prod.frame_ref,
  fun m g _ => Cert.Kernel8.Gen.frame m g, fun m g _ => Cert.Kernel8Ideal.Gen.frame m g, Cert.Kernel8Ideal.Prod.frame_ref,
  fun m g _ => Cert.Kernel9.Gen.frame m g, fun m g _ => Cert.Kernel9Ideal.Gen.frame m g, Cert.Kernel9Ideal.Prod.frame_ref,
  fun m g _ => Cert.Kernel10.Gen.frame m g, fun m g _ => Cert.Kernel10Ideal.Gen.frame m g, Cert.Kernel10Ideal.Prod.frame_ref,
  fun m g _ => Cert.Kernel11.Gen.frame m g, fun m g _ => Cert.Kernel11Ideal.Gen.frame m g, Cert.Kernel11Ideal.Prod.frame_ref,
  fun m g _ => Cert.Kernel12.Gen.frame m g, fun m g _ => Cert.Kernel12Ideal.Gen.frame m g, Cert.Kernel12Ideal.Prod.frame_ref,
  fun m g _ => Cert.Kernel13.Gen.frame m g, fun m g _ => Cert.Kernel13Ideal.Gen.frame m g, Cert.Kernel13Ideal.Prod.frame_ref,
  fun m g _ => Cert.Kernel14.Gen.frame m g, fun m g _ => Cert.Kernel14Ideal.Gen.frame m g, Cert.Kernel14Ideal.Prod.frame_ref,
  fun m g _ => Cert.Kernel15.Gen.frame m g, fun m g _ => Cert.Kernel15Ideal.Gen.frame m g, Cert.Kernel15Ideal.Prod.frame_ref,
  fun m g _ => Cert.Kernel16.Gen.frame m g, fun m g _ => Cert.Kernel16Ideal.Gen.frame m g, Cert.Kernel16Ideal.Prod.frame_ref,
  fun m g _ => Cert.Kernel17.Gen.frame m g, fun m g _ => Cert.Kernel17Ideal.Gen.frame m g, Cert.Kernel17Ideal.Prod.frame_ref,
  fun m g _ => Cert.Kernel18.Gen.frame m g, fun m g _ => Cert.Kernel18Ideal.Gen.frame m g, Cert.Kernel18Ideal.Prod.frame_ref,
  fun m g _ => Cert.Kernel19.Gen.frame m g, fun m g _ => Cert.Kernel19Ideal.Gen.frame m g, Cert.Kernel19Ideal.Prod.frame_ref,
  fun m g _ => Cert.Kernel20.Gen.frame m g, fun m g _ => Cert.Kernel20Ideal.Gen.frame m g, Cert.Kernel20Ideal.Prod.frame_ref,
  fun m g _ => Cert.Kernel21.Gen.frame m g, fun m g _ => Cert.Kernel21Ideal.Gen.frame m g, Cert.Kernel21Ideal.Prod.frame_ref,
  fun m g _ => Cert.Kernel22.Gen.frame m g, fun m g _ => Cert.Kernel22Ideal.Gen.frame m g, Cert.Kernel22Ideal.Prod.frame_ref,
  fun m g _ => Cert.Kernel23.Gen.frame m g, fun m g _ => Cert.Kernel23Ideal.Gen.frame m g, Cert.Kernel23Ideal.Prod.frame_ref,
  fun m g _ => Cert.Kernel24.Gen.frame m g, fun m g _ => Cert.Kernel24Ideal.Gen.frame m g, Cert.Kernel24Ideal.Prod.frame_ref,
  fun m g _ => Cert.Kernel25.Gen.frame m g, fun m g _ => Cert.Kernel25Ideal.Gen.frame m g, Cert.Kernel25Ideal.Prod.frame_ref,
  fun m g _ => Cert.Kernel26.Gen.frame m g, fun m g _ => Cert.Kernel26Ideal.Gen.frame m g, Cert.Kernel26Ideal.Prod.frame_ref,
  fun m g _ => Cert.Kernel27.Gen.frame m g, fun m g _ => Cert.Kernel27Ideal.Gen.frame m g, Cert.Kernel27Ideal.Prod.frame_ref,
  fun m g _ => Cert.Kernel28.Gen.frame m g, fun m g _ => Cert.Kernel28Ideal.Gen.frame m g, Cert.Kernel28Ideal.Prod.frame_ref,
  fun m g _ => Cert.Kernel29.Gen.frame m g, fun m g _ => Cert.Kernel29Ideal.Gen.frame m g, Cert.Kernel29Ideal.Prod.frame_ref,
  fun m g _ => Cert.Kernel30.Gen.frame m g, fun m g _ => Cert.Kernel30Ideal.Gen.frame m g, Cert.Kernel30Ideal.Prod.frame_ref,
  fun m g _ => Cert.Kernel31.Gen.frame m g, fun m g _ => Cert.Kernel31Ideal.Gen.frame m g, Cert.Kernel31Ideal.Prod.frame_ref,
  fun m g _ => Cert.Kernel32.Gen.frame m g, fun m g _ => Cert.Kernel32Ideal.Gen.frame m g, Cert.Kernel32Ideal.Prod.frame_ref,
  fun m g _ => Cert.Kernel33.Gen.frame m g, fun m g _ => Cert.Kernel33Ideal.Gen.frame m g, Cert.Kernel33Ideal.Prod.frame_ref,
  fun m g _ => Cert.Kernel34.Gen.frame m g, fun m g _ => Cert.Kernel34Ideal.Gen.frame m g, Cert.Kernel34Ideal.Prod.frame_ref,
  fun m g _ => Cert.Kernel35.Gen.frame m g, fun m g _ => Cert.Kernel35Ideal.Gen.frame m g, Cert.Kernel35Ideal.Prod.frame_ref,
  fun m g _ => Cert.Kernel36.Gen.frame m g, fun m g _ => Cert.Kernel36Ideal.Gen.frame m g, Cert.Kernel36Ideal.Prod.frame_ref,
  fun m g _ => Cert.Kernel37.Gen.frame m g, fun m g _ => Cert.Kernel37Ideal.Gen.frame m g, Cert.Kernel37Ideal.Prod.frame_ref,
  fun m g _ => Cert.Kernel38.Gen.frame m g, fun m g _ => Cert.Kernel38Ideal.Gen.frame m g, Cert.Kernel38Ideal.Prod.frame_ref,
  trivial, Cert.KernelIdeal.Bwd.algebraic,
  trivial, Cert.Kernel2Ideal.Prod.algebraic,
  trivial, Cert.Kernel3Ideal.Prod.algebraic,
  trivial, Cert.Kernel4Ideal.Prod.algebraic,
  trivial, Cert.Kernel5Ideal.Prod.algebraic,
  trivial, Cert.Kernel6Ideal.Prod.algebraic,
  trivial, Cert.Kernel7Ideal.Prod.algebraic,
  trivial, Cert.Kernel8Ideal.Prod.algebraic,
  trivial, Cert.Kernel9Ideal.Prod.algebraic,
  trivial, Cert.Kernel10Ideal.Prod.algebraic,
  trivial, Cert.Kernel11Ideal.Prod.algebraic,
  trivial, Cert.Kernel12Ideal.Prod.algebraic,
  trivial, Cert.Kernel13Ideal.Prod.algebraic,
  trivial, Cert.Kernel14Ideal.Prod.algebraic,
  trivial, Cert.Kernel15Ideal.Prod.algebraic,
  trivial, Cert.Kernel16Ideal.Prod.algebraic,
  trivial, Cert.Kernel17Ideal.Prod.algebraic,
  trivial, Cert.Kernel18Ideal.Prod.algebraic,
  trivial, Cert.Kernel19Ideal.Prod.algebraic,
  trivial, Cert.Kernel20Ideal.Prod.algebraic,
  trivial, Cert.Kernel21Ideal.Prod.algebraic,
  trivial, Cert.Kernel22Ideal.Prod.algebraic,
  trivial, Cert.Kernel23Ideal.Prod.algebraic,
  trivial, Cert.Kernel24Ideal.Prod.algebraic,
  trivial, Cert.Kernel25Ideal.Prod.algebraic,
  trivial, Cert.Kernel26Ideal.Prod.algebraic,
  trivial, Cert.Kernel27Ideal.Prod.algebraic,
  trivial, Cert.Kernel28Ideal.Prod.algebraic,
  trivial, Cert.Kernel29Ideal.Prod.algebraic,
  trivial, Cert.Kernel30Ideal.Prod.algebraic,
  trivial, Cert.Kernel31Ideal.Prod.algebraic,
  trivial, Cert.Kernel32Ideal.Prod.algebraic,
  trivial, Cert.Kernel33Ideal.Prod.algebraic,
  trivial, Cert.Kernel34Ideal.Prod.algebraic,
  trivial, Cert.Kernel35Ideal.Prod.algebraic,
  trivial, Cert.Kernel36Ideal.Prod.algebraic,
  trivial, Cert.Kernel37Ideal.Prod.algebraic,
  trivial, Cert.Kernel38Ideal.Prod.algebraic⟩

end Cert.Proof

end
